-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "log2e" .f32 0x3FB8AA3B#32 (((Real.log 2)⁻¹ : ℝ) : EReal)
  ∧ IdealRules.named_const.Statement Cert.Kernel4Ideal.κ "scale" .f32 0x3E0293EE#32 ((((Real.sqrt 128) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v44)) (v1 : (c : Dev Cert.Kernel4Ideal.nD) → Buf (Elt Ideal) ((c.tc : Thread Cert.Kernel4Ideal.nD Cert.Kernel4Ideal.τ).loc Cert.Kernel4Ideal.main_v46)) (v2 : (c : Dev Cert.Kernel4Ideal.nD) → Buf (Elt Ideal) ((c.tc : Thread Cert.Kernel4Ideal.nD Cert.Kernel4Ideal.τ).loc Cert.Kernel4Ideal.main_v49)) (v3 : (c : Dev Cert.Kernel4Ideal.nD) → Buf (Elt Ideal) ((c.tc : Thread Cert.Kernel4Ideal.nD Cert.Kernel4Ideal.τ).loc Cert.Kernel4Ideal.main_v42_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44) = v0 c
          ∧ r.2.mem ((c.tc : Thread Cert.Kernel4Ideal.nD Cert.Kernel4Ideal.τ).loc Cert.Kernel4Ideal.main_v46) = v1 c
          ∧ r.2.mem ((c.tc : Thread Cert.Kernel4Ideal.nD Cert.Kernel4Ideal.τ).loc Cert.Kernel4Ideal.main_v49) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v72) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x16384x8x128 : Shape := ⟨4, ![2, 16384, 8, 128]⟩
abbrev S2x8x16384 : Shape := ⟨3, ![2, 8, 16384]⟩
abbrev S_ : Shape := ⟨0, ![]⟩

class Facts : Prop where
  bcast_S_S2x16384x8x128 : S_.BroadcastsInDim S2x16384x8x128 (![] : Fin 0 → Fin S2x16384x8x128.rank)
  reducesTo_S2x16384x8x128_S_d0_1_2_3 : S2x16384x8x128.ReducesTo [0, 1, 2, 3] S_
  h_S_ : 0 < S_.numel
  bcast_S_S2x8x16384 : S_.BroadcastsInDim S2x8x16384 (![] : Fin 0 → Fin S2x8x16384.rank)
  reducesTo_S2x8x16384_S_d0_1_2 : S2x8x16384.ReducesTo [0, 1, 2] S_

variable [Facts]

def fn {F : FTy → Type} [FloatOps F] (main_arg0 : FVec F S2x16384x8x128 .f32) (main_arg1 : FVec F S2x16384x8x128 .f32) (main_arg2 : FVec F S2x16384x8x128 .f32) (main_arg3 : FVec F S2x8x16384 .f32) : IVec S_ 1 :=
  let main_v0 : FVec F S2x16384x8x128 .f32 := Host.absf main_arg0
  let main_cst : FVec F S_ .f32 := constant S_ .f32 0x7F800000#32
  let main_v1 : FVec F S2x16384x8x128 .f32 := broadcastInDim S2x16384x8x128 ![] bcast_S_S2x16384x8x128 main_cst
  let main_v2 : IVec S2x16384x8x128 1 := cmpf .olt main_v0 main_v1
  let main_c : IVec S_ 1 := constantI S_ 1 1#1
  let main_v3 : IVec S_ 1 := (fun x v => Host.reduce IntOp.andi x v reducesTo_S2x16384x8x128_S_d0_1_2_3 h_S_) main_v2 main_c
  let main_v4 : FVec F S2x16384x8x128 .f32 := Host.absf main_arg1
  let main_cst_0 : FVec F S_ .f32 := constant S_ .f32 0x7F800000#32
  let main_v5 : FVec F S2x16384x8x128 .f32 := broadcastInDim S2x16384x8x128 ![] bcast_S_S2x16384x8x128 main_cst_0
  let main_v6 : IVec S2x16384x8x128 1 := cmpf .olt main_v4 main_v5
  let main_c_1 : IVec S_ 1 := constantI S_ 1 1#1
  let main_v7 : IVec S_ 1 := (fun x v => Host.reduce IntOp.andi x v reducesTo_S2x16384x8x128_S_d0_1_2_3 h_S_) main_v6 main_c_1
  let main_v8 : IVec S_ 1 := andi main_v3 main_v7
  let main_v9 : FVec F S2x8x16384 .f32 := Host.absf main_arg3
  let main_cst_2 : FVec F S_ .f32 := constant S_ .f32 0x7F800000#32
  let main_v10 : FVec F S2x8x16384 .f32 := broadcastInDim S2x8x16384 ![] bcast_S_S2x8x16384 main_cst_2
  let main_v11 : IVec S2x8x16384 1 := cmpf .olt main_v9 main_v10
  let main_c_3 : IVec S_ 1 := constantI S_ 1 1#1
  let main_v12 : IVec S_ 1 := (fun x v => Host.reduce IntOp.andi x v reducesTo_S2x8x16384_S_d0_1_2 h_S_) main_v11 main_c_3
  let main_v13 : IVec S_ 1 := andi main_v8 main_v12
  main_v13
-- ==== Kernel.lean ====
abbrev S2x16384x8x128 : Shape := ⟨4, ![2, 16384, 8, 128]⟩
abbrev S2x8x16384 : Shape := ⟨3, ![2, 8, 16384]⟩
abbrev S_ : Shape := ⟨0, ![]⟩
abbrev S2x32x512x8x128 : Shape := ⟨5, ![2, 32, 512, 8, 128]⟩
abbrev S2x8x32x128x512 : Shape := ⟨5, ![2, 8, 32, 128, 512]⟩
abbrev S2x8x16384x3 : Shape := ⟨4, ![2, 8, 16384, 3]⟩
abbrev S2x8x16384x1 : Shape := ⟨4, ![2, 8, 16384, 1]⟩
abbrev S2x8x16384x122 : Shape := ⟨4, ![2, 8, 16384, 122]⟩
abbrev S2x8x16384x128 : Shape := ⟨4, ![2, 8, 16384, 128]⟩
abbrev S2x8x16384x256 : Shape := ⟨4, ![2, 8, 16384, 256]⟩
abbrev S2x8x32x16x512 : Shape := ⟨5, ![2, 8, 32, 16, 512]⟩
abbrev S2x8x32x144x512 : Shape := ⟨5, ![2, 8, 32, 144, 512]⟩
abbrev S2x16384x1024 : Shape := ⟨3, ![2, 16384, 1024]⟩
abbrev S1x1x4x128x512 : Shape := ⟨5, ![1, 1, 4, 128, 512]⟩
abbrev S1x8x2048 : Shape := ⟨3, ![1, 8, 2048]⟩
abbrev S1x1x16384x256 : Shape := ⟨4, ![1, 1, 16384, 256]⟩
abbrev S1x1x32x144x512 : Shape := ⟨5, ![1, 1, 32, 144, 512]⟩
abbrev S1x2048x128 : Shape := ⟨3, ![1, 2048, 128]⟩
abbrev S256x2048 : Shape := ⟨2, ![256, 2048]⟩
abbrev S512x2304 : Shape := ⟨2, ![512, 2304]⟩
abbrev S1x2048 : Shape := ⟨2, ![1, 2048]⟩
abbrev S144x2304 : Shape := ⟨2, ![144, 2304]⟩
abbrev S1x1x1x128x512 : Shape := ⟨5, ![1, 1, 1, 128, 512]⟩
abbrev S128x512 : Shape := ⟨2, ![128, 512]⟩
abbrev S1x1x2048 : Shape := ⟨3, ![1, 1, 2048]⟩
abbrev S8x2048 : Shape := ⟨2, ![8, 2048]⟩
abbrev S120x2048 : Shape := ⟨2, ![120, 2048]⟩
abbrev S128x2048 : Shape := ⟨2, ![128, 2048]⟩
abbrev S1x1x512x256 : Shape := ⟨4, ![1, 1, 512, 256]⟩
abbrev S512x256 : Shape := ⟨2, ![512, 256]⟩
abbrev S512x2048 : Shape := ⟨2, ![512, 2048]⟩
abbrev S2048 : Shape := ⟨1, ![2048]⟩
abbrev S144x2048 : Shape := ⟨2, ![144, 2048]⟩
abbrev S1x1x1x144x512 : Shape := ⟨5, ![1, 1, 1, 144, 512]⟩
abbrev S144x512 : Shape := ⟨2, ![144, 512]⟩
abbrev S256x1536 : Shape := ⟨2, ![256, 1536]⟩
abbrev S512x1536 : Shape := ⟨2, ![512, 1536]⟩
abbrev S256x1024 : Shape := ⟨2, ![256, 1024]⟩
abbrev S512x1024 : Shape := ⟨2, ![512, 1024]⟩
abbrev S1536 : Shape := ⟨1, ![1536]⟩
abbrev S1x1536 : Shape := ⟨2, ![1, 1536]⟩
abbrev S256x512 : Shape := ⟨2, ![256, 512]⟩
abbrev S512x512 : Shape := ⟨2, ![512, 512]⟩
abbrev S1024 : Shape := ⟨1, ![1024]⟩
abbrev S1x1024 : Shape := ⟨2, ![1, 1024]⟩
abbrev S144x1536 : Shape := ⟨2, ![144, 1536]⟩
abbrev S512 : Shape := ⟨1, ![512]⟩
abbrev S1x512 : Shape := ⟨2, ![1, 512]⟩
abbrev S144x1024 : Shape := ⟨2, ![144, 1024]⟩
abbrev S2048x128 : Shape := ⟨2, ![2048, 128]⟩

abbrev nBuf : Space → Nat
  | .hbm => 49
  | .vmem => 21
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x8x128, .f32⟩
  | .hbm, ⟨2, _⟩ => ⟨S2x16384x8x128, .f32⟩
  | .hbm, ⟨3, _⟩ => ⟨S2x8x16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16384x8x128, .f32⟩
  | .hbm, ⟨14, _⟩ => ⟨S2x16384x8x128, .f32⟩
  | .hbm, ⟨15, _⟩ => ⟨S2x32x512x8x128, .f32⟩
  | .hbm, ⟨16, _⟩ => ⟨S2x8x32x128x512, .f32⟩
  | .hbm, ⟨17, _⟩ => ⟨S2x8x32x128x512, .bf16⟩
  | .hbm, ⟨18, _⟩ => ⟨S2x8x16384, .f32⟩
  | .hbm, ⟨19, _⟩ => ⟨S2x8x16384, .f32⟩
  | .hbm, ⟨20, _⟩ => ⟨S2x8x16384, .bf16⟩
  | .hbm, ⟨21, _⟩ => ⟨S2x8x16384, .f32⟩
  | .hbm, ⟨22, _⟩ => ⟨S2x8x16384, .f32⟩
  | .hbm, ⟨23, _⟩ => ⟨S2x8x16384, .bf16⟩
  | .hbm, ⟨24, _⟩ => ⟨S2x8x16384, .f32⟩
  | .hbm, ⟨25, _⟩ => ⟨S2x8x16384, .f32⟩
  | .hbm, ⟨26, _⟩ => ⟨S2x8x16384, .bf16⟩
  | .hbm, ⟨27, _⟩ => ⟨S2x8x16384, .f32⟩
  | .hbm, ⟨28, _⟩ => ⟨S_, .f32⟩
  | .hbm, ⟨29, _⟩ => ⟨S2x8x16384x3, .f32⟩
  | .hbm, ⟨30, _⟩ => ⟨S2x8x16384, .f32⟩
  | .hbm, ⟨31, _⟩ => ⟨S2x8x16384, .f32⟩
  | .hbm, ⟨32, _⟩ => ⟨S2x8x16384, .f32⟩
  | .hbm, ⟨33, _⟩ => ⟨S2x8x16384x1, .f32⟩
  | .hbm, ⟨34, _⟩ => ⟨S2x8x16384x1, .f32⟩
  | .hbm, ⟨35, _⟩ => ⟨S2x8x16384x1, .f32⟩
  | .hbm, ⟨36, _⟩ => ⟨S2x8x16384x3, .f32⟩
  | .hbm, ⟨37, _⟩ => ⟨S_, .f32⟩
  | .hbm, ⟨38, _⟩ => ⟨S2x8x16384x122, .f32⟩
  | .hbm, ⟨39, _⟩ => ⟨S2x8x16384x128, .f32⟩
  | .hbm, ⟨40, _⟩ => ⟨S2x8x16384x256, .f32⟩
  | .hbm, ⟨41, _⟩ => ⟨S2x8x16384x256, .bf16⟩
  | .hbm, ⟨42, _⟩ => ⟨S2x32x512x8x128, .f32⟩
  | .hbm, ⟨43, _⟩ => ⟨S2x8x32x128x512, .f32⟩
  | .hbm, ⟨44, _⟩ => ⟨S_, .f32⟩
  | .hbm, ⟨45, _⟩ => ⟨S2x8x32x16x512, .f32⟩
  | .hbm, ⟨46, _⟩ => ⟨S2x8x32x144x512, .f32⟩
  | .hbm, ⟨47, _⟩ => ⟨S2x8x32x144x512, .bf16⟩
  | .hbm, ⟨48, _⟩ => ⟨S2x16384x1024, .bf16⟩
  | .local _ .vmem, ⟨0, _⟩ => ⟨S1x1x4x128x512, .bf16⟩
  | .local _ .vmem, ⟨1, _⟩ => ⟨S1x1x4x128x512, .bf16⟩
  | .local _ .vmem, ⟨2, _⟩ => ⟨S1x8x2048, .f32⟩
  | .local _ .vmem, ⟨3, _⟩ => ⟨S1x8x2048, .f32⟩
  | .local _ .vmem, ⟨4, _⟩ => ⟨S1x1x16384x256, .bf16⟩
  | .local _ .vmem, ⟨5, _⟩ => ⟨S1x1x16384x256, .bf16⟩
  | .local _ .vmem, ⟨6, _⟩ => ⟨S1x1x32x144x512, .bf16⟩
  | .local _ .vmem, ⟨7, _⟩ => ⟨S1x1x32x144x512, .bf16⟩
  | .local _ .vmem, ⟨8, _⟩ => ⟨S1x2048x128, .bf16⟩
  | .local _ .vmem, ⟨9, _⟩ => ⟨S1x2048x128, .bf16⟩
  | .local _ .vmem, ⟨10, _⟩ => ⟨S256x2048, .bf16⟩
  | .local _ .vmem, ⟨11, _⟩ => ⟨S512x2304, .f32⟩
  | .local _ .vmem, ⟨12, _⟩ => ⟨S512x2304, .f32⟩
  | .local _ .vmem, ⟨13, _⟩ => ⟨S512x2304, .bf16⟩
  | .local _ .vmem, ⟨14, _⟩ => ⟨S512x2304, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S144x2304, .f32⟩
  | _, _ => ⟨S2x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 3 → Nat :=
  let c0_21 : Index := 0#32
  let arg1 : BitVec 32 := BitVec.ofNat 32 (i 1).val
  let v20 : Index := Scalar.indexCast arg1
  let c0_22 : Index := 0#32
  ![0, v20.toNat, 0]
def k0_cond2 (i : grid0.Coords) : BitVec 1 :=
  let arg2 : BitVec 32 := BitVec.ofNat 32 (i 2).val
  let c0_i32_35 : BitVec 32 := 0#32
  let v71 : BitVec 1 := Scalar.cmpi .sgt arg2 c0_i32_35
  let v72 : BitVec 32 := Scalar.extui v71
  let c0_i32_36 : BitVec 32 := 0#32
  let v73 : BitVec 1 := Scalar.cmpi .ne v72 c0_i32_36
  v73

def k0_mult1 : BitVec 32 :=
  let c0_i32_254 : BitVec 32 := 0#32
  let c512_i32_255 : BitVec 32 := 512#32
  let v359 : BitVec 32 := Scalar.muli c0_i32_254 c512_i32_255
  v359
def k0_off2 : Fin 4 → Nat :=
  let c0_256 : Index := 0#32
  let c0_257 : Index := 0#32
  let c0_i32_254 : BitVec 32 := 0#32
  let c512_i32_255 : BitVec 32 := 512#32
  let v359 : BitVec 32 := Scalar.muli c0_i32_254 c512_i32_255
  let v360 : BitVec 32 := v359
  let v361 : Index := Scalar.indexCast v360
  let c0_258 : Index := 0#32
  ![0, 0, v361.toNat, 0]
def k0_mult2 : BitVec 32 :=
  let c0_i32_267 : BitVec 32 := 0#32
  let c1_i32_268 : BitVec 32 := 1#32
  let v374 : BitVec 32 := Scalar.addi c0_i32_267 c1_i32_268
  let c512_i32_269 : BitVec 32 := 512#32
  let v375 : BitVec 32 := Scalar.muli v374 c512_i32_269
  v375
def k0_off3 : Fin 4 → Nat :=
  let c0_270 : Index := 0#32
  let c0_271 : Index := 0#32
  let c0_i32_267 : BitVec 32 := 0#32
  let c1_i32_268 : BitVec 32 := 1#32
  let v374 : BitVec 32 := Scalar.addi c0_i32_267 c1_i32_268
  let c512_i32_269 : BitVec 32 := 512#32
  let v375 : BitVec 32 := Scalar.muli v374 c512_i32_269
  let v376 : BitVec 32 := v375
  let v377 : Index := Scalar.indexCast v376
  let c0_272 : Index := 0#32
  ![0, 0, v377.toNat, 0]
def k0_mult3 : BitVec 32 :=
  let c0_i32_293 : BitVec 32 := 0#32
  let c0_i32_294 : BitVec 32 := 0#32
  let v409 : BitVec 32 := Scalar.addi c0_i32_293 c0_i32_294
  let c2_i32_295 : BitVec 32 := 2#32
  let v410 : BitVec 32 := Scalar.addi v409 c2_i32_295
  let c512_i32_296 : BitVec 32 := 512#32
  let v411 : BitVec 32 := Scalar.muli v410 c512_i32_296
  v411
def k0_off4 (c0_i32_294 : BitVec 32) : Fin 4 → Nat :=
  let c0_297 : Index := 0#32
  let c0_298 : Index := 0#32
  let c0_i32_293 : BitVec 32 := 0#32
  let v409 : BitVec 32 := Scalar.addi c0_i32_293 c0_i32_294
  let c2_i32_295 : BitVec 32 := 2#32
  let v410 : BitVec 32 := Scalar.addi v409 c2_i32_295
  let c512_i32_296 : BitVec 32 := 512#32
  let v411 : BitVec 32 := Scalar.muli v410 c512_i32_296
  let v412 : BitVec 32 := v411
  let v413 : Index := Scalar.indexCast v412
  let c0_299 : Index := 0#32
  ![0, 0, v413.toNat, 0]
def k0_off5 (c1_i32_321 : BitVec 32) : Fin 5 → Nat :=
  let c0_327 : Index := 0#32
  let c0_328 : Index := 0#32
  let c0_i32_320 : BitVec 32 := 0#32
  let v445 : BitVec 32 := Scalar.addi c0_i32_320 c1_i32_321
  let c1_i32_322 : BitVec 32 := 1#32
  let v446 : BitVec 32 := Scalar.subi v445 c1_i32_322
  let v451 : Index := Scalar.indexCast v446
  let c0_329 : Index := 0#32
  let c0_330 : Index := 0#32
  ![0, 0, v451.toNat, 0, 0]
def k0_mult4 : BitVec 32 :=
  let c0_i32_336 : BitVec 32 := 0#32
  let c1_i32_337 : BitVec 32 := 1#32
  let v460 : BitVec 32 := Scalar.addi c0_i32_336 c1_i32_337
  let c2_i32_338 : BitVec 32 := 2#32
  let v461 : BitVec 32 := Scalar.addi v460 c2_i32_338
  let c512_i32_339 : BitVec 32 := 512#32
  let v462 : BitVec 32 := Scalar.muli v461 c512_i32_339
  v462
@[reducible] def k0_t1_loop (i : grid0.Coords) : Scf.Loop 32 :=
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_49 : BitVec 32 := 1#32
  ⟨c0_i32_47, v97, c1_i32_49⟩
def k0_mult5 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c512_i32_255 : BitVec 32 := 512#32
  let v361 : BitVec 32 := Scalar.muli v360 c512_i32_255
  v361
def k0_off6 (i : grid0.Coords) (k0_t1 : Fin (k0_t1_loop i).trips) : Fin 4 → Nat :=
  let c0_256 : Index := 0#32
  let c0_257 : Index := 0#32
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c512_i32_255 : BitVec 32 := 512#32
  let v361 : BitVec 32 := Scalar.muli v360 c512_i32_255
  let v362 : BitVec 32 := v361
  let v363 : Index := Scalar.indexCast v362
  let c0_258 : Index := 0#32
  ![0, 0, v363.toNat, 0]
def k0_mult6 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c1_i32_267 : BitVec 32 := 1#32
  let v376 : BitVec 32 := Scalar.addi v360 c1_i32_267
  let c512_i32_268 : BitVec 32 := 512#32
  let v377 : BitVec 32 := Scalar.muli v376 c512_i32_268
  v377
def k0_off7 (i : grid0.Coords) (k0_t1 : Fin (k0_t1_loop i).trips) : Fin 4 → Nat :=
  let c0_269 : Index := 0#32
  let c0_270 : Index := 0#32
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c1_i32_267 : BitVec 32 := 1#32
  let v376 : BitVec 32 := Scalar.addi v360 c1_i32_267
  let c512_i32_268 : BitVec 32 := 512#32
  let v377 : BitVec 32 := Scalar.muli v376 c512_i32_268
  let v378 : BitVec 32 := v377
  let v379 : Index := Scalar.indexCast v378
  let c0_271 : Index := 0#32
  ![0, 0, v379.toNat, 0]
def k0_off8 (i : grid0.Coords) (k0_t1 : Fin (k0_t1_loop i).trips) (c0_i32_292 : BitVec 32) : Fin 5 → Nat :=
  let c0_298 : Index := 0#32
  let c0_299 : Index := 0#32
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let v411 : BitVec 32 := Scalar.addi v360 c0_i32_292
  let c1_i32_293 : BitVec 32 := 1#32
  let v412 : BitVec 32 := Scalar.subi v411 c1_i32_293
  let v417 : Index := Scalar.indexCast v412
  let c0_300 : Index := 0#32
  let c0_301 : Index := 0#32
  ![0, 0, v417.toNat, 0, 0]
def k0_mult7 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c0_i32_307 : BitVec 32 := 0#32
  let v426 : BitVec 32 := Scalar.addi v360 c0_i32_307
  let c2_i32_308 : BitVec 32 := 2#32
  let v427 : BitVec 32 := Scalar.addi v426 c2_i32_308
  let c512_i32_309 : BitVec 32 := 512#32
  let v428 : BitVec 32 := Scalar.muli v427 c512_i32_309
  v428
def k0_off9 (i : grid0.Coords) (k0_t1 : Fin (k0_t1_loop i).trips) (c0_i32_307 : BitVec 32) : Fin 4 → Nat :=
  let c0_310 : Index := 0#32
  let c0_311 : Index := 0#32
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let v426 : BitVec 32 := Scalar.addi v360 c0_i32_307
  let c2_i32_308 : BitVec 32 := 2#32
  let v427 : BitVec 32 := Scalar.addi v426 c2_i32_308
  let c512_i32_309 : BitVec 32 := 512#32
  let v428 : BitVec 32 := Scalar.muli v427 c512_i32_309
  let v429 : BitVec 32 := v428
  let v430 : Index := Scalar.indexCast v429
  let c0_312 : Index := 0#32
  ![0, 0, v430.toNat, 0]
def k0_mult8 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c1_i32_348 : BitVec 32 := 1#32
  let v477 : BitVec 32 := Scalar.addi v360 c1_i32_348
  let c2_i32_349 : BitVec 32 := 2#32
  let v478 : BitVec 32 := Scalar.addi v477 c2_i32_349
  let c512_i32_350 : BitVec 32 := 512#32
  let v479 : BitVec 32 := Scalar.muli v478 c512_i32_350
  v479
def k0_mult9 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c2_i32_389 : BitVec 32 := 2#32
  let v528 : BitVec 32 := Scalar.addi v360 c2_i32_389
  let c2_i32_390 : BitVec 32 := 2#32
  let v529 : BitVec 32 := Scalar.addi v528 c2_i32_390
  let c512_i32_391 : BitVec 32 := 512#32
  let v530 : BitVec 32 := Scalar.muli v529 c512_i32_391
  v530
def k0_mult10 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c3_i32_430 : BitVec 32 := 3#32
  let v579 : BitVec 32 := Scalar.addi v360 c3_i32_430
  let c2_i32_431 : BitVec 32 := 2#32
  let v580 : BitVec 32 := Scalar.addi v579 c2_i32_431
  let c512_i32_432 : BitVec 32 := 512#32
  let v581 : BitVec 32 := Scalar.muli v580 c512_i32_432
  v581
def k0_mult11 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c4_i32_471 : BitVec 32 := 4#32
  let v630 : BitVec 32 := Scalar.addi v360 c4_i32_471
  let c2_i32_472 : BitVec 32 := 2#32
  let v631 : BitVec 32 := Scalar.addi v630 c2_i32_472
  let c512_i32_473 : BitVec 32 := 512#32
  let v632 : BitVec 32 := Scalar.muli v631 c512_i32_473
  v632
def k0_mult12 (i : grid0.Coords) (k0_t1 : Fin (k0_t1_loop i).trips) : BitVec 32 :=
  let c4_i32_254 : BitVec 32 := 4#32
  let c8_i32 : BitVec 32 := 8#32
  let c0_i32_47 : BitVec 32 := 0#32
  let c1_i32_49 : BitVec 32 := 1#32
  let arg19 : BitVec 32 := Scf.iv c0_i32_47 c1_i32_49 k0_t1
  let v359 : BitVec 32 := Scalar.muli c8_i32 arg19
  let v360 : BitVec 32 := Scalar.addi c4_i32_254 v359
  let c5_i32_511 : BitVec 32 := 5#32
  let v681 : BitVec 32 := Scalar.addi v360 c5_i32_511
  let c2_i32_512 : BitVec 32 := 2#32
  let v682 : BitVec 32 := Scalar.addi v681 c2_i32_512
  let c512_i32_513 : BitVec 32 := 512#32
  let v683 : BitVec 32 := Scalar.muli v682 c512_i32_513
  v683
@[reducible] def k0_t2_loop (i : grid0.Coords) : Scf.Loop 32 :=
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let v94 : BitVec 32 := Scalar.addi c0_i32_47 v93
  let c1_i32_50 : BitVec 32 := 1#32
  ⟨v97, v94, c1_i32_50⟩
def k0_mult13 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c512_i32_255 : BitVec 32 := 512#32
  let v361 : BitVec 32 := Scalar.muli v360 c512_i32_255
  v361
def k0_off10 (i : grid0.Coords) (k0_t2 : Fin (k0_t2_loop i).trips) : Fin 4 → Nat :=
  let c0_256 : Index := 0#32
  let c0_257 : Index := 0#32
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c512_i32_255 : BitVec 32 := 512#32
  let v361 : BitVec 32 := Scalar.muli v360 c512_i32_255
  let v362 : BitVec 32 := v361
  let v363 : Index := Scalar.indexCast v362
  let c0_258 : Index := 0#32
  ![0, 0, v363.toNat, 0]
def k0_mult14 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c1_i32_267 : BitVec 32 := 1#32
  let v376 : BitVec 32 := Scalar.addi v360 c1_i32_267
  let c512_i32_268 : BitVec 32 := 512#32
  let v377 : BitVec 32 := Scalar.muli v376 c512_i32_268
  v377
def k0_off11 (i : grid0.Coords) (k0_t2 : Fin (k0_t2_loop i).trips) : Fin 4 → Nat :=
  let c0_269 : Index := 0#32
  let c0_270 : Index := 0#32
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c1_i32_267 : BitVec 32 := 1#32
  let v376 : BitVec 32 := Scalar.addi v360 c1_i32_267
  let c512_i32_268 : BitVec 32 := 512#32
  let v377 : BitVec 32 := Scalar.muli v376 c512_i32_268
  let v378 : BitVec 32 := v377
  let v379 : Index := Scalar.indexCast v378
  let c0_271 : Index := 0#32
  ![0, 0, v379.toNat, 0]
def k0_off12 (i : grid0.Coords) (k0_t2 : Fin (k0_t2_loop i).trips) (c0_i32_292 : BitVec 32) : Fin 5 → Nat :=
  let c0_298 : Index := 0#32
  let c0_299 : Index := 0#32
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let v411 : BitVec 32 := Scalar.addi v360 c0_i32_292
  let c1_i32_293 : BitVec 32 := 1#32
  let v412 : BitVec 32 := Scalar.subi v411 c1_i32_293
  let v417 : Index := Scalar.indexCast v412
  let c0_300 : Index := 0#32
  let c0_301 : Index := 0#32
  ![0, 0, v417.toNat, 0, 0]
def k0_mult15 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c0_i32_307 : BitVec 32 := 0#32
  let v426 : BitVec 32 := Scalar.addi v360 c0_i32_307
  let c2_i32_308 : BitVec 32 := 2#32
  let v427 : BitVec 32 := Scalar.addi v426 c2_i32_308
  let c512_i32_309 : BitVec 32 := 512#32
  let v428 : BitVec 32 := Scalar.muli v427 c512_i32_309
  v428
def k0_off13 (i : grid0.Coords) (k0_t2 : Fin (k0_t2_loop i).trips) (c0_i32_307 : BitVec 32) : Fin 4 → Nat :=
  let c0_310 : Index := 0#32
  let c0_311 : Index := 0#32
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let v426 : BitVec 32 := Scalar.addi v360 c0_i32_307
  let c2_i32_308 : BitVec 32 := 2#32
  let v427 : BitVec 32 := Scalar.addi v426 c2_i32_308
  let c512_i32_309 : BitVec 32 := 512#32
  let v428 : BitVec 32 := Scalar.muli v427 c512_i32_309
  let v429 : BitVec 32 := v428
  let v430 : Index := Scalar.indexCast v429
  let c0_312 : Index := 0#32
  ![0, 0, v430.toNat, 0]
def k0_mult16 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c1_i32_348 : BitVec 32 := 1#32
  let v477 : BitVec 32 := Scalar.addi v360 c1_i32_348
  let c2_i32_349 : BitVec 32 := 2#32
  let v478 : BitVec 32 := Scalar.addi v477 c2_i32_349
  let c512_i32_350 : BitVec 32 := 512#32
  let v479 : BitVec 32 := Scalar.muli v478 c512_i32_350
  v479
def k0_mult17 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c2_i32_389 : BitVec 32 := 2#32
  let v528 : BitVec 32 := Scalar.addi v360 c2_i32_389
  let c2_i32_390 : BitVec 32 := 2#32
  let v529 : BitVec 32 := Scalar.addi v528 c2_i32_390
  let c512_i32_391 : BitVec 32 := 512#32
  let v530 : BitVec 32 := Scalar.muli v529 c512_i32_391
  v530
def k0_mult18 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c3_i32_430 : BitVec 32 := 3#32
  let v579 : BitVec 32 := Scalar.addi v360 c3_i32_430
  let c2_i32_431 : BitVec 32 := 2#32
  let v580 : BitVec 32 := Scalar.addi v579 c2_i32_431
  let c512_i32_432 : BitVec 32 := 512#32
  let v581 : BitVec 32 := Scalar.muli v580 c512_i32_432
  v581
def k0_mult19 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c4_i32_471 : BitVec 32 := 4#32
  let v630 : BitVec 32 := Scalar.addi v360 c4_i32_471
  let c2_i32_472 : BitVec 32 := 2#32
  let v631 : BitVec 32 := Scalar.addi v630 c2_i32_472
  let c512_i32_473 : BitVec 32 := 512#32
  let v632 : BitVec 32 := Scalar.muli v631 c512_i32_473
  v632
def k0_mult20 (i : grid0.Coords) (k0_t2 : Fin (k0_t2_loop i).trips) : BitVec 32 :=
  let c4_i32_254 : BitVec 32 := 4#32
  let c8_i32 : BitVec 32 := 8#32
  let c0_i32_47 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v93 : BitVec 32 := Scalar.subi v92 c0_i32_47
  let c1_i32_48 : BitVec 32 := 1#32
  let v95 : BitVec 32 := Scalar.divsi v93 c1_i32_48
  let v96 : BitVec 32 := Scalar.muli v95 c1_i32_48
  let v97 : BitVec 32 := Scalar.addi c0_i32_47 v96
  let c1_i32_50 : BitVec 32 := 1#32
  let arg19 : BitVec 32 := Scf.iv v97 c1_i32_50 k0_t2
  let v359 : BitVec 32 := Scalar.muli c8_i32 arg19
  let v360 : BitVec 32 := Scalar.addi c4_i32_254 v359
  let c5_i32_511 : BitVec 32 := 5#32
  let v681 : BitVec 32 := Scalar.addi v360 c5_i32_511
  let c2_i32_512 : BitVec 32 := 2#32
  let v682 : BitVec 32 := Scalar.addi v681 c2_i32_512
  let c512_i32_513 : BitVec 32 := 512#32
  let v683 : BitVec 32 := Scalar.muli v682 c512_i32_513
  v683
@[reducible] def k0_t3_loop (i : grid0.Coords) : Scf.Loop 32 :=
  let c0_i32_53 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c2_i32_51 : BitVec 32 := 2#32
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_55 : BitVec 32 := 1#32
  ⟨c0_i32_53, v104, c1_i32_55⟩
def k0_mult21 (i : grid0.Coords) (k0_t3 : Fin (k0_t3_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let c512_i32_256 : BitVec 32 := 512#32
  let v363 : BitVec 32 := Scalar.muli v362 c512_i32_256
  v363
def k0_off14 (i : grid0.Coords) (k0_t3 : Fin (k0_t3_loop i).trips) : Fin 4 → Nat :=
  let c0_257 : Index := 0#32
  let c0_258 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let c512_i32_256 : BitVec 32 := 512#32
  let v363 : BitVec 32 := Scalar.muli v362 c512_i32_256
  let v364 : BitVec 32 := v363
  let v365 : Index := Scalar.indexCast v364
  let c0_259 : Index := 0#32
  ![0, 0, v365.toNat, 0]
def k0_mult22 (i : grid0.Coords) (k0_t3 : Fin (k0_t3_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let c1_i32_268 : BitVec 32 := 1#32
  let v378 : BitVec 32 := Scalar.addi v362 c1_i32_268
  let c512_i32_269 : BitVec 32 := 512#32
  let v379 : BitVec 32 := Scalar.muli v378 c512_i32_269
  v379
def k0_off15 (i : grid0.Coords) (k0_t3 : Fin (k0_t3_loop i).trips) : Fin 4 → Nat :=
  let c0_270 : Index := 0#32
  let c0_271 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let c1_i32_268 : BitVec 32 := 1#32
  let v378 : BitVec 32 := Scalar.addi v362 c1_i32_268
  let c512_i32_269 : BitVec 32 := 512#32
  let v379 : BitVec 32 := Scalar.muli v378 c512_i32_269
  let v380 : BitVec 32 := v379
  let v381 : Index := Scalar.indexCast v380
  let c0_272 : Index := 0#32
  ![0, 0, v381.toNat, 0]
def k0_off16 (i : grid0.Coords) (k0_t3 : Fin (k0_t3_loop i).trips) (c0_i32_293 : BitVec 32) : Fin 5 → Nat :=
  let c0_299 : Index := 0#32
  let c0_300 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let v413 : BitVec 32 := Scalar.addi v362 c0_i32_293
  let c1_i32_294 : BitVec 32 := 1#32
  let v414 : BitVec 32 := Scalar.subi v413 c1_i32_294
  let v419 : Index := Scalar.indexCast v414
  let c0_301 : Index := 0#32
  let c0_302 : Index := 0#32
  ![0, 0, v419.toNat, 0, 0]
def k0_mult23 (i : grid0.Coords) (k0_t3 : Fin (k0_t3_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let c0_i32_308 : BitVec 32 := 0#32
  let v428 : BitVec 32 := Scalar.addi v362 c0_i32_308
  let c2_i32_309 : BitVec 32 := 2#32
  let v429 : BitVec 32 := Scalar.addi v428 c2_i32_309
  let c512_i32_310 : BitVec 32 := 512#32
  let v430 : BitVec 32 := Scalar.muli v429 c512_i32_310
  v430
def k0_off17 (i : grid0.Coords) (k0_t3 : Fin (k0_t3_loop i).trips) (c0_i32_308 : BitVec 32) : Fin 4 → Nat :=
  let c0_311 : Index := 0#32
  let c0_312 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let v428 : BitVec 32 := Scalar.addi v362 c0_i32_308
  let c2_i32_309 : BitVec 32 := 2#32
  let v429 : BitVec 32 := Scalar.addi v428 c2_i32_309
  let c512_i32_310 : BitVec 32 := 512#32
  let v430 : BitVec 32 := Scalar.muli v429 c512_i32_310
  let v431 : BitVec 32 := v430
  let v432 : Index := Scalar.indexCast v431
  let c0_313 : Index := 0#32
  ![0, 0, v432.toNat, 0]
def k0_mult24 (i : grid0.Coords) (k0_t3 : Fin (k0_t3_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c1_i32_55 : BitVec 32 := 1#32
  let arg19 : BitVec 32 := Scf.iv c0_i32_53 c1_i32_55 k0_t3
  let v361 : BitVec 32 := Scalar.muli c4_i32_255 arg19
  let v362 : BitVec 32 := Scalar.addi v360 v361
  let c1_i32_349 : BitVec 32 := 1#32
  let v479 : BitVec 32 := Scalar.addi v362 c1_i32_349
  let c2_i32_350 : BitVec 32 := 2#32
  let v480 : BitVec 32 := Scalar.addi v479 c2_i32_350
  let c512_i32_351 : BitVec 32 := 512#32
  let v481 : BitVec 32 := Scalar.muli v480 c512_i32_351
  v481
@[reducible] def k0_t4_loop (i : grid0.Coords) : Scf.Loop 32 :=
  let c0_i32_53 : BitVec 32 := 0#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c2_i32_51 : BitVec 32 := 2#32
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let v101 : BitVec 32 := Scalar.addi c0_i32_53 v100
  let c1_i32_56 : BitVec 32 := 1#32
  ⟨v104, v101, c1_i32_56⟩
def k0_mult25 (i : grid0.Coords) (k0_t4 : Fin (k0_t4_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let c512_i32_256 : BitVec 32 := 512#32
  let v363 : BitVec 32 := Scalar.muli v362 c512_i32_256
  v363
def k0_off18 (i : grid0.Coords) (k0_t4 : Fin (k0_t4_loop i).trips) : Fin 4 → Nat :=
  let c0_257 : Index := 0#32
  let c0_258 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let c512_i32_256 : BitVec 32 := 512#32
  let v363 : BitVec 32 := Scalar.muli v362 c512_i32_256
  let v364 : BitVec 32 := v363
  let v365 : Index := Scalar.indexCast v364
  let c0_259 : Index := 0#32
  ![0, 0, v365.toNat, 0]
def k0_mult26 (i : grid0.Coords) (k0_t4 : Fin (k0_t4_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let c1_i32_268 : BitVec 32 := 1#32
  let v378 : BitVec 32 := Scalar.addi v362 c1_i32_268
  let c512_i32_269 : BitVec 32 := 512#32
  let v379 : BitVec 32 := Scalar.muli v378 c512_i32_269
  v379
def k0_off19 (i : grid0.Coords) (k0_t4 : Fin (k0_t4_loop i).trips) : Fin 4 → Nat :=
  let c0_270 : Index := 0#32
  let c0_271 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let c1_i32_268 : BitVec 32 := 1#32
  let v378 : BitVec 32 := Scalar.addi v362 c1_i32_268
  let c512_i32_269 : BitVec 32 := 512#32
  let v379 : BitVec 32 := Scalar.muli v378 c512_i32_269
  let v380 : BitVec 32 := v379
  let v381 : Index := Scalar.indexCast v380
  let c0_272 : Index := 0#32
  ![0, 0, v381.toNat, 0]
def k0_off20 (i : grid0.Coords) (k0_t4 : Fin (k0_t4_loop i).trips) (c0_i32_293 : BitVec 32) : Fin 5 → Nat :=
  let c0_299 : Index := 0#32
  let c0_300 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let v413 : BitVec 32 := Scalar.addi v362 c0_i32_293
  let c1_i32_294 : BitVec 32 := 1#32
  let v414 : BitVec 32 := Scalar.subi v413 c1_i32_294
  let v419 : Index := Scalar.indexCast v414
  let c0_301 : Index := 0#32
  let c0_302 : Index := 0#32
  ![0, 0, v419.toNat, 0, 0]
def k0_mult27 (i : grid0.Coords) (k0_t4 : Fin (k0_t4_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let c0_i32_308 : BitVec 32 := 0#32
  let v428 : BitVec 32 := Scalar.addi v362 c0_i32_308
  let c2_i32_309 : BitVec 32 := 2#32
  let v429 : BitVec 32 := Scalar.addi v428 c2_i32_309
  let c512_i32_310 : BitVec 32 := 512#32
  let v430 : BitVec 32 := Scalar.muli v429 c512_i32_310
  v430
def k0_off21 (i : grid0.Coords) (k0_t4 : Fin (k0_t4_loop i).trips) (c0_i32_308 : BitVec 32) : Fin 4 → Nat :=
  let c0_311 : Index := 0#32
  let c0_312 : Index := 0#32
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let v428 : BitVec 32 := Scalar.addi v362 c0_i32_308
  let c2_i32_309 : BitVec 32 := 2#32
  let v429 : BitVec 32 := Scalar.addi v428 c2_i32_309
  let c512_i32_310 : BitVec 32 := 512#32
  let v430 : BitVec 32 := Scalar.muli v429 c512_i32_310
  let v431 : BitVec 32 := v430
  let v432 : Index := Scalar.indexCast v431
  let c0_313 : Index := 0#32
  ![0, 0, v432.toNat, 0]
def k0_mult28 (i : grid0.Coords) (k0_t4 : Fin (k0_t4_loop i).trips) : BitVec 32 :=
  let c4_i32_254 : BitVec 32 := 4#32
  let c8_i32 : BitVec 32 := 8#32
  let arg2 : BitVec 32 := BitVec.ofNat 32 (i 2).val
  let c1_i32_37 : BitVec 32 := 1#32
  let v74 : BitVec 32 := Scalar.subi arg2 c1_i32_37
  let c0_i32_38 : BitVec 32 := 0#32
  let v75 : BitVec 32 := Scalar.maxsi v74 c0_i32_38
  let c0_i32_40 : BitVec 32 := 0#32
  let v77 : BitVec 1 := Scalar.cmpi .sgt v75 c0_i32_40
  let v78 : BitVec 32 := Scalar.extui v77
  let c0_i32_41 : BitVec 32 := 0#32
  let v79 : BitVec 1 := Scalar.cmpi .slt v75 c0_i32_41
  let v80 : BitVec 32 := Scalar.extui v79
  let v81 : BitVec 32 := Scalar.subi v78 v80
  let c2_i32_39 : BitVec 32 := 2#32
  let c0_i32_42 : BitVec 32 := 0#32
  let v82 : BitVec 1 := Scalar.cmpi .sgt c2_i32_39 c0_i32_42
  let v83 : BitVec 32 := Scalar.extui v82
  let c0_i32_43 : BitVec 32 := 0#32
  let v84 : BitVec 1 := Scalar.cmpi .slt c2_i32_39 c0_i32_43
  let v85 : BitVec 32 := Scalar.extui v84
  let v86 : BitVec 32 := Scalar.subi v83 v85
  let v87 : BitVec 1 := Scalar.cmpi .ne v81 v86
  let v88 : BitVec 32 := Scalar.remsi v75 c2_i32_39
  let c0_i32_44 : BitVec 32 := 0#32
  let v89 : BitVec 1 := Scalar.cmpi .ne v88 c0_i32_44
  let v90 : BitVec 1 := Scalar.andi v87 v89
  let v76 : BitVec 32 := Scalar.divsi v75 c2_i32_39
  let c1_i32_45 : BitVec 32 := 1#32
  let v91 : BitVec 32 := Scalar.subi v76 c1_i32_45
  let v92 : BitVec 32 := Scalar.select v90 v91 v76
  let v359 : BitVec 32 := Scalar.muli c8_i32 v92
  let v360 : BitVec 32 := Scalar.addi c4_i32_254 v359
  let c4_i32_255 : BitVec 32 := 4#32
  let c0_i32_53 : BitVec 32 := 0#32
  let c2_i32_51 : BitVec 32 := 2#32
  let v98 : BitVec 32 := Scalar.muli c2_i32_51 v92
  let v99 : BitVec 32 := Scalar.subi v75 v98
  let v100 : BitVec 32 := Scalar.subi v99 c0_i32_53
  let c1_i32_54 : BitVec 32 := 1#32
  let v102 : BitVec 32 := Scalar.divsi v100 c1_i32_54
  let v103 : BitVec 32 := Scalar.muli v102 c1_i32_54
  let v104 : BitVec 32 := Scalar.addi c0_i32_53 v103
  let c1_i32_56 : BitVec 32 := 1#32
  let arg19 : BitVec 32 := Scf.iv v104 c1_i32_56 k0_t4
  let v361 : BitVec 32 := Scalar.muli c4_i32_255 arg19
  let v362 : BitVec 32 := Scalar.addi v360 v361
  let c1_i32_349 : BitVec 32 := 1#32
  let v479 : BitVec 32 := Scalar.addi v362 c1_i32_349
  let c2_i32_350 : BitVec 32 := 2#32
  let v480 : BitVec 32 := Scalar.addi v479 c2_i32_350
  let c512_i32_351 : BitVec 32 := 512#32
  let v481 : BitVec 32 := Scalar.muli v480 c512_i32_351
  v481
def k0_mult29 (i : grid0.Coords) : BitVec 32 :=
  let c4_i32 : BitVec 32 := 4#32
  let arg2 : BitVec 32 := BitVec.ofNat 32 (i 2).val
  let v105 : BitVec 32 := Scalar.muli c4_i32 arg2
  let c512_i32 : BitVec 32 := 512#32
  let v106 : BitVec 32 := Scalar.muli v105 c512_i32
  v106
def k0_off22 (i : grid0.Coords) : Fin 4 → Nat :=
  let c0_57 : Index := 0#32
  let c0_58 : Index := 0#32
  let c4_i32 : BitVec 32 := 4#32
  let arg2 : BitVec 32 := BitVec.ofNat 32 (i 2).val
  let v105 : BitVec 32 := Scalar.muli c4_i32 arg2
  let c512_i32 : BitVec 32 := 512#32
  let v106 : BitVec 32 := Scalar.muli v105 c512_i32
  let v107 : BitVec 32 := v106
  let v108 : Index := Scalar.indexCast v107
  let c0_59 : Index := 0#32
  ![0, 0, v108.toNat, 0]
def k0_mult30 (i : grid0.Coords) : BitVec 32 :=
  let c4_i32 : BitVec 32 := 4#32
  let arg2 : BitVec 32 := BitVec.ofNat 32 (i 2).val
  let v105 : BitVec 32 := Scalar.muli c4_i32 arg2
  let c1_i32_65 : BitVec 32 := 1#32
  let v116 : BitVec 32 := Scalar.addi v105 c1_i32_65
  let c512_i32_66 : BitVec 32 := 512#32
  let v117 : BitVec 32 := Scalar.muli v116 c512_i32_66
  v117
def k0_off23 (i : grid0.Coords) : Fin 4 → Nat :=
  let c0_67 : Index := 0#32
  let c0_68 : Index := 0#32
  let c4_i32 : BitVec 32 := 4#32
  let arg2 : BitVec 32 := BitVec.ofNat 32 (i 2).val
  let v105 : BitVec 32 := Scalar.muli c4_i32 arg2
  let c1_i32_65 : BitVec 32 := 1#32
  let v116 : BitVec 32 := Scalar.addi v105 c1_i32_65
  let c512_i32_66 : BitVec 32 := 512#32
  let v117 : BitVec 32 := Scalar.muli v116 c512_i32_66
  let v118 : BitVec 32 := v117
  let v119 : Index := Scalar.indexCast v118
  let c0_69 : Index := 0#32
  ![0, 0, v119.toNat, 0]
def k0_off24 (i : grid0.Coords) (c0_i32_93 : BitVec 32) : Fin 5 → Nat :=
  let c0_100 : Index := 0#32
  let c0_101 : Index := 0#32
  let c4_i32 : BitVec 32 := 4#32
  let arg2 : BitVec 32 := BitVec.ofNat 32 (i 2).val
  let v105 : BitVec 32 := Scalar.muli c4_i32 arg2
  let v157 : BitVec 32 := Scalar.addi v105 c0_i32_93
  let c1_i32_94 : BitVec 32 := 1#32
  let v158 : BitVec 32 := Scalar.subi v157 c1_i32_94
  let c0_i32_95 : BitVec 32 := 0#32
  let v159 : BitVec 32 := Scalar.maxsi v158 c0_i32_95
  let v164 : Index := Scalar.indexCast v159
  let c0_102 : Index := 0#32
  let c0_103 : Index := 0#32
  ![0, 0, v164.toNat, 0, 0]
def k0_mult31 (i : grid0.Coords) : BitVec 32 :=
  let c4_i32 : BitVec 32 := 4#32
  let arg2 : BitVec 32 := BitVec.ofNat 32 (i 2).val
  let v105 : BitVec 32 := Scalar.muli c4_i32 arg2
  let c0_i32_109 : BitVec 32 := 0#32
  let v173 : BitVec 32 := Scalar.addi v105 c0_i32_109
  let c2_i32_110 : BitVec 32 := 2#32
  let v174 : BitVec 32 := Scalar.addi v173 c2_i32_110
  let c512_i32_111 : BitVec 32 := 512#32
  let v175 : BitVec 32 := Scalar.muli v174 c512_i32_111
  v175
def k0_off25 (i : grid0.Coords) (c0_i32_109 : BitVec 32) : Fin 4 → Nat :=
  let c0_112 : Index := 0#32
  let c0_113 : Index := 0#32
  let c4_i32 : BitVec 32 := 4#32
  let arg2 : BitVec 32 := BitVec.ofNat 32 (i 2).val
  let v105 : BitVec 32 := Scalar.muli c4_i32 arg2
  let v173 : BitVec 32 := Scalar.addi v105 c0_i32_109
  let c2_i32_110 : BitVec 32 := 2#32
  let v174 : BitVec 32 := Scalar.addi v173 c2_i32_110
  let c512_i32_111 : BitVec 32 := 512#32
  let v175 : BitVec 32 := Scalar.muli v174 c512_i32_111
  let v176 : BitVec 32 := v175
  let v177 : Index := Scalar.indexCast v176
  let c0_114 : Index := 0#32
  ![0, 0, v177.toNat, 0]
def k0_mult32 (i : grid0.Coords) : BitVec 32 :=
  let c4_i32 : BitVec 32 := 4#32
  let arg2 : BitVec 32 := BitVec.ofNat 32 (i 2).val
  let v105 : BitVec 32 := Scalar.muli c4_i32 arg2
  let c1_i32_154 : BitVec 32 := 1#32
  let v231 : BitVec 32 := Scalar.addi v105 c1_i32_154
  let c2_i32_155 : BitVec 32 := 2#32
  let v232 : BitVec 32 := Scalar.addi v231 c2_i32_155
  let c512_i32_156 : BitVec 32 := 512#32
  let v233 : BitVec 32 := Scalar.muli v232 c512_i32_156
  v233
def k0_off26 (i : grid0.Coords) : Fin 5 → Nat :=
  let c0_238 : Index := 0#32
  let c0_239 : Index := 0#32
  let c4_i32 : BitVec 32 := 4#32
  let arg2 : BitVec 32 := BitVec.ofNat 32 (i 2).val
  let v105 : BitVec 32 := Scalar.muli c4_i32 arg2
  let c4_i32_232 : BitVec 32 := 4#32
  let v335 : BitVec 32 := Scalar.addi v105 c4_i32_232
  let c1_i32_233 : BitVec 32 := 1#32
  let v336 : BitVec 32 := Scalar.subi v335 c1_i32_233
  let v341 : Index := Scalar.indexCast v336
  let c0_240 : Index := 0#32
  let c0_241 : Index := 0#32
  ![0, 0, v341.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x32x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2x16384x8x128 : Shape := ⟨4, ![2, 16384, 8, 128]⟩
abbrev S2x8x16384 : Shape := ⟨3, ![2, 8, 16384]⟩
abbrev S_ : Shape := ⟨0, ![]⟩
abbrev S2x8x16384x128 : Shape := ⟨4, ![2, 8, 16384, 128]⟩
abbrev S2x8x16384x16384 : Shape := ⟨4, ![2, 8, 16384, 16384]⟩
abbrev S2x8x16384x1 : Shape := ⟨4, ![2, 8, 16384, 1]⟩
abbrev S2x8x1x16384 : Shape := ⟨4, ![2, 8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x16384x1024 : Shape := ⟨3, ![2, 16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x8x128, .f32⟩
  | .hbm, ⟨2, _⟩ => ⟨S2x16384x8x128, .f32⟩
  | .hbm, ⟨3, _⟩ => ⟨S2x8x16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8x16384x128, .f32⟩
  | .hbm, ⟨9, _⟩ => ⟨S2x8x16384x128, .f32⟩
  | .hbm, ⟨10, _⟩ => ⟨S2x8x16384x128, .f32⟩
  | .hbm, ⟨11, _⟩ => ⟨S2x8x16384x16384, .f32⟩
  | .hbm, ⟨12, _⟩ => ⟨S2x8x16384x16384, .f32⟩
  | .hbm, ⟨13, _⟩ => ⟨S2x8x16384x16384, .f32⟩
  | .hbm, ⟨14, _⟩ => ⟨S2x8x16384x1, .f32⟩
  | .hbm, ⟨15, _⟩ => ⟨S2x8x1x16384, .f32⟩
  | .hbm, ⟨16, _⟩ => ⟨S2x8x16384x16384, .f32⟩
  | .hbm, ⟨17, _⟩ => ⟨S2x8x16384x16384, .f32⟩
  | .hbm, ⟨18, _⟩ => ⟨S2x8x16384x16384, .f32⟩
  | .hbm, ⟨19, _⟩ => ⟨S2x8x16384x16384, .f32⟩
  | .hbm, ⟨20, _⟩ => ⟨S16384, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S2x8x16384x16384, .i1⟩
  | .hbm, ⟨29, _⟩ => ⟨S2x8x16384x16384, .f32⟩
  | .hbm, ⟨30, _⟩ => ⟨S2x8x16384x16384, .f32⟩
  | .hbm, ⟨31, _⟩ => ⟨S_, .f32⟩
  | .hbm, ⟨32, _⟩ => ⟨S2x8x16384, .f32⟩
  | .hbm, ⟨33, _⟩ => ⟨S_, .f32⟩
  | .hbm, ⟨34, _⟩ => ⟨S2x8x16384, .f32⟩
  | .hbm, ⟨35, _⟩ => ⟨S2x8x16384, .f32⟩
  | .hbm, ⟨36, _⟩ => ⟨S2x8x16384x1, .f32⟩
  | .hbm, ⟨37, _⟩ => ⟨S2x8x16384x16384, .f32⟩
  | .hbm, ⟨38, _⟩ => ⟨S2x8x16384x16384, .f32⟩
  | .hbm, ⟨39, _⟩ => ⟨S2x8x16384x16384, .f32⟩
  | .hbm, ⟨40, _⟩ => ⟨S_, .f32⟩
  | .hbm, ⟨41, _⟩ => ⟨S2x8x16384, .f32⟩
  | .hbm, ⟨42, _⟩ => ⟨S2x8x16384x1, .f32⟩
  | .hbm, ⟨43, _⟩ => ⟨S2x8x16384x16384, .f32⟩
  | .hbm, ⟨44, _⟩ => ⟨S2x8x16384x16384, .f32⟩
  | .hbm, ⟨45, _⟩ => ⟨S2x8x16384x128, .f32⟩
  | .hbm, ⟨46, _⟩ => ⟨S2x16384x8x128, .f32⟩
  | .hbm, ⟨47, _⟩ => ⟨S2x16384x1024, .f32⟩
  | .hbm, ⟨48, _⟩ => ⟨S2x16384x1024, .bf16⟩
  | _, _ => ⟨S2x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel2.lean ====
abbrev S2x16384x1024 : Shape := ⟨3, ![2, 16384, 1024]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S4x1x1024 : Shape := ⟨3, ![4, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .f32⟩
  | .hbm, ⟨3, _⟩ => ⟨S2x16384x1024, .f32⟩
  | .hbm, ⟨4, _⟩ => ⟨S4x1024x1024, .f32⟩
  | .hbm, ⟨5, _⟩ => ⟨S4x1024x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S32768x1024, .f32⟩
  | .hbm, ⟨11, _⟩ => ⟨S32768x1024, .bf16⟩
  | .hbm, ⟨12, _⟩ => ⟨S32768x1024, .f32⟩
  | .hbm, ⟨13, _⟩ => ⟨S32768x1024, .f32⟩
  | .hbm, ⟨14, _⟩ => ⟨S4x1024x1024, .bf16⟩
  | .hbm, ⟨15, _⟩ => ⟨S4x1024x1024, .bf16⟩
  | .hbm, ⟨16, _⟩ => ⟨S4x1x1024, .f32⟩
  | .hbm, ⟨17, _⟩ => ⟨S4x1024x2816, .bf16⟩
  | .hbm, ⟨18, _⟩ => ⟨S4x1024x2816, .bf16⟩
  | .hbm, ⟨19, _⟩ => ⟨S4x2816x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S512x1024, .f32⟩
  | .local _ .vmem, ⟨15, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x16384x1024 : Shape := ⟨3, ![2, 16384, 1024]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .bf16⟩
  | .hbm, ⟨2, _⟩ => ⟨S2x16384x1024, .f32⟩
  | .hbm, ⟨3, _⟩ => ⟨S2x16384x1024, .f32⟩
  | .hbm, ⟨4, _⟩ => ⟨S4x1024x1024, .f32⟩
  | .hbm, ⟨5, _⟩ => ⟨S4x1024x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S2x16384x1024, .f32⟩
  | .hbm, ⟨11, _⟩ => ⟨S1x1024x1024, .f32⟩
  | .hbm, ⟨12, _⟩ => ⟨S1024x1024, .f32⟩
  | .hbm, ⟨13, _⟩ => ⟨S2x16384x1024, .f32⟩
  | .hbm, ⟨14, _⟩ => ⟨S2x16384x1024, .f32⟩
  | .hbm, ⟨15, _⟩ => ⟨S2x16384x1024, .f32⟩
  | .hbm, ⟨16, _⟩ => ⟨S1x1024x1024, .f32⟩
  | .hbm, ⟨17, _⟩ => ⟨S1024x1024, .f32⟩
  | .hbm, ⟨18, _⟩ => ⟨S2x16384x1024, .f32⟩
  | .hbm, ⟨19, _⟩ => ⟨S2x16384x1024, .f32⟩
  | .hbm, ⟨20, _⟩ => ⟨S1x1024, .f32⟩
  | .hbm, ⟨21, _⟩ => ⟨S1024, .f32⟩
  | .hbm, ⟨22, _⟩ => ⟨S2x16384x1024, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x1024, .f32⟩
  | .hbm, ⟨34, _⟩ => ⟨S2x16384x1024, .f32⟩
  | .hbm, ⟨35, _⟩ => ⟨S1x1x1024, .f32⟩
  | .hbm, ⟨36, _⟩ => ⟨S2x16384x1024, .f32⟩
  | .hbm, ⟨37, _⟩ => ⟨S2x16384x1024, .f32⟩
  | .hbm, ⟨38, _⟩ => ⟨S1x1024x2816, .f32⟩
  | .hbm, ⟨39, _⟩ => ⟨S1024x2816, .f32⟩
  | .hbm, ⟨40, _⟩ => ⟨S1x1024x2816, .f32⟩
  | .hbm, ⟨41, _⟩ => ⟨S1024x2816, .f32⟩
  | .hbm, ⟨42, _⟩ => ⟨S1x2816x1024, .f32⟩
  | .hbm, ⟨43, _⟩ => ⟨S2816x1024, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S_, .f32⟩
  | .hbm, ⟨48, _⟩ => ⟨S2x16384x2816, .f32⟩
  | .hbm, ⟨49, _⟩ => ⟨S2x16384x2816, .f32⟩
  | .hbm, ⟨50, _⟩ => ⟨S_, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S2x16384x2816, .f32⟩
  | .hbm, ⟨55, _⟩ => ⟨S2x16384x2816, .f32⟩
  | .hbm, ⟨56, _⟩ => ⟨S2x16384x1024, .f32⟩
  | .hbm, ⟨57, _⟩ => ⟨S_, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel3.lean ====
abbrev S2x16384x1024 : Shape := ⟨3, ![2, 16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x1 : Shape := ⟨2, ![1024, 1]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S32768x1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x16384x1024 : Shape := ⟨3, ![2, 16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S_, .f32⟩
  | .hbm, ⟨33, _⟩ => ⟨S2x16384x2816, .f32⟩
  | .hbm, ⟨34, _⟩ => ⟨S2x16384x2816, .f32⟩
  | .hbm, ⟨35, _⟩ => ⟨S_, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x1024, .f32⟩
  | .hbm, ⟨42, _⟩ => ⟨S_, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel4.lean ====
abbrev S2x16384x1024 : Shape := ⟨3, ![2, 16384, 1024]⟩
abbrev S4x1024 : Shape := ⟨2, ![4, 1024]⟩
abbrev S4x1024x7176 : Shape := ⟨3, ![4, 1024, 7176]⟩
abbrev S4x7176 : Shape := ⟨2, ![4, 7176]⟩
abbrev S4x128 : Shape := ⟨2, ![4, 128]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S_ : Shape := ⟨0, ![]⟩
abbrev S128x1024 : Shape := ⟨2, ![128, 1024]⟩
abbrev S4x16x1024 : Shape := ⟨3, ![4, 16, 1024]⟩
abbrev S4x1024x8 : Shape := ⟨3, ![4, 1024, 8]⟩
abbrev S4x8x1024 : Shape := ⟨3, ![4, 8, 1024]⟩
abbrev S1 : Shape := ⟨1, ![1]⟩
abbrev S4x1x1024 : Shape := ⟨3, ![4, 1, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x8 : Shape := ⟨2, ![4, 8]⟩
abbrev S4x8x1 : Shape := ⟨3, ![4, 8, 1]⟩
abbrev S4x1x128 : Shape := ⟨3, ![4, 1, 128]⟩
abbrev S2x8x32x128x512 : Shape := ⟨5, ![2, 8, 32, 128, 512]⟩
abbrev S2x8x16384x256 : Shape := ⟨4, ![2, 8, 16384, 256]⟩
abbrev S2x8x32x144x512 : Shape := ⟨5, ![2, 8, 32, 144, 512]⟩
abbrev S2x8x16384 : Shape := ⟨3, ![2, 8, 16384]⟩
abbrev S1x512x1024 : Shape := ⟨3, ![1, 512, 1024]⟩
abbrev S1x1x1024 : Shape := ⟨3, ![1, 1, 1024]⟩
abbrev S1x1024x3072 : Shape := ⟨3, ![1, 1024, 3072]⟩
abbrev S1x1x3072 : Shape := ⟨3, ![1, 1, 3072]⟩
abbrev S1x16x1024 : Shape := ⟨3, ![1, 16, 1024]⟩
abbrev S1x8x1 : Shape := ⟨3, ![1, 8, 1]⟩
abbrev S1x1x128 : Shape := ⟨3, ![1, 1, 128]⟩
abbrev S1x8x1x128x512 : Shape := ⟨5, ![1, 8, 1, 128, 512]⟩
abbrev S1x8x512x256 : Shape := ⟨4, ![1, 8, 512, 256]⟩
abbrev S1x8x1x144x512 : Shape := ⟨5, ![1, 8, 1, 144, 512]⟩
abbrev S1x8x512 : Shape := ⟨3, ![1, 8, 512]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S16x1024 : Shape := ⟨2, ![16, 1024]⟩
abbrev S16x512 : Shape := ⟨2, ![16, 512]⟩
abbrev S8x512 : Shape := ⟨2, ![8, 512]⟩
abbrev S8x1 : Shape := ⟨2, ![8, 1]⟩
abbrev S96x512 : Shape := ⟨2, ![96, 512]⟩
abbrev S128x512 : Shape := ⟨2, ![128, 512]⟩
abbrev S512x128 : Shape := ⟨2, ![512, 128]⟩
abbrev S1024x3072 : Shape := ⟨2, ![1024, 3072]⟩
abbrev S512x3072 : Shape := ⟨2, ![512, 3072]⟩
abbrev S1x3072 : Shape := ⟨2, ![1, 3072]⟩
abbrev S1x128 : Shape := ⟨2, ![1, 128]⟩
abbrev S1x1x1x128x512 : Shape := ⟨5, ![1, 1, 1, 128, 512]⟩
abbrev S1x1x512x128 : Shape := ⟨4, ![1, 1, 512, 128]⟩
abbrev S1x1x1x16x512 : Shape := ⟨5, ![1, 1, 1, 16, 512]⟩
abbrev S2x32x512x8x128 : Shape := ⟨5, ![2, 32, 512, 8, 128]⟩
abbrev S2x16384x8x128 : Shape := ⟨4, ![2, 16384, 8, 128]⟩
abbrev S2x8x16384x128 : Shape := ⟨4, ![2, 8, 16384, 128]⟩

abbrev nBuf : Space → Nat
  | .hbm => 105
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x7176, .f32⟩
  | .hbm, ⟨3, _⟩ => ⟨S4x7176, .f32⟩
  | .hbm, ⟨4, _⟩ => ⟨S4x128, .f32⟩
  | .hbm, ⟨5, _⟩ => ⟨S4x128, .f32⟩
  | .hbm, ⟨6, _⟩ => ⟨S128, .i32⟩
  | .hbm, ⟨7, _⟩ => ⟨S128x1, .i32⟩
  | .hbm, ⟨8, _⟩ => ⟨S1024, .i32⟩
  | .hbm, ⟨9, _⟩ => ⟨S1x1024, .i32⟩
  | .hbm, ⟨10, _⟩ => ⟨S_, .i32⟩
  | .hbm, ⟨11, _⟩ => ⟨S_, .i32⟩
  | .hbm, ⟨12, _⟩ => ⟨S1x1024, .i32⟩
  | .hbm, ⟨13, _⟩ => ⟨S1x1024, .i32⟩
  | .hbm, ⟨14, _⟩ => ⟨S1x1024, .i32⟩
  | .hbm, ⟨15, _⟩ => ⟨S_, .i32⟩
  | .hbm, ⟨16, _⟩ => ⟨S1x1024, .i32⟩
  | .hbm, ⟨17, _⟩ => ⟨S1x1024, .i1⟩
  | .hbm, ⟨18, _⟩ => ⟨S1x1024, .i32⟩
  | .hbm, ⟨19, _⟩ => ⟨S1x1024, .i32⟩
  | .hbm, ⟨20, _⟩ => ⟨S_, .i32⟩
  | .hbm, ⟨21, _⟩ => ⟨S1x1024, .i32⟩
  | .hbm, ⟨22, _⟩ => ⟨S1x1024, .i1⟩
  | .hbm, ⟨23, _⟩ => ⟨S1x1024, .i1⟩
  | .hbm, ⟨24, _⟩ => ⟨S_, .i32⟩
  | .hbm, ⟨25, _⟩ => ⟨S1x1024, .i32⟩
  | .hbm, ⟨26, _⟩ => ⟨S1x1024, .i32⟩
  | .hbm, ⟨27, _⟩ => ⟨S1x1024, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x1024, .i32⟩
  | .hbm, ⟨35, _⟩ => ⟨S1x1024, .i32⟩
  | .hbm, ⟨36, _⟩ => ⟨S_, .i32⟩
  | .hbm, ⟨37, _⟩ => ⟨S1x1024, .i32⟩
  | .hbm, ⟨38, _⟩ => ⟨S1x1024, .i1⟩
  | .hbm, ⟨39, _⟩ => ⟨S_, .i32⟩
  | .hbm, ⟨40, _⟩ => ⟨S1x1024, .i32⟩
  | .hbm, ⟨41, _⟩ => ⟨S1x1024, .i1⟩
  | .hbm, ⟨42, _⟩ => ⟨S_, .i32⟩
  | .hbm, ⟨43, _⟩ => ⟨S_, .i1⟩
  | .hbm, ⟨44, _⟩ => ⟨S1x1024, .i1⟩
  | .hbm, ⟨45, _⟩ => ⟨S1x1024, .i1⟩
  | .hbm, ⟨46, _⟩ => ⟨S1x1024, .i1⟩
  | .hbm, ⟨47, _⟩ => ⟨S1x1024, .i32⟩
  | .hbm, ⟨48, _⟩ => ⟨S1x1024, .i32⟩
  | .hbm, ⟨49, _⟩ => ⟨S1x1024, .i32⟩
  | .hbm, ⟨50, _⟩ => ⟨S_, .i32⟩
  | .hbm, ⟨51, _⟩ => ⟨S1x1024, .i32⟩
  | .hbm, ⟨52, _⟩ => ⟨S1x1024, .i32⟩
  | .hbm, ⟨53, _⟩ => ⟨S_, .i32⟩
  | .hbm, ⟨54, _⟩ => ⟨S1x1024, .i32⟩
  | .hbm, ⟨55, _⟩ => ⟨S1x1024, .i32⟩
  | .hbm, ⟨56, _⟩ => ⟨S_, .i32⟩
  | .hbm, ⟨57, _⟩ => ⟨S1x1024, .i32⟩
  | .hbm, ⟨58, _⟩ => ⟨S1x1024, .i32⟩
  | .hbm, ⟨59, _⟩ => ⟨S1x1024, .i32⟩
  | .hbm, ⟨60, _⟩ => ⟨S_, .i32⟩
  | .hbm, ⟨61, _⟩ => ⟨S1x1024, .i32⟩
  | .hbm, ⟨62, _⟩ => ⟨S1x1024, .i1⟩
  | .hbm, ⟨63, _⟩ => ⟨S128x1024, .i32⟩
  | .hbm, ⟨64, _⟩ => ⟨S128x1024, .i32⟩
  | .hbm, ⟨65, _⟩ => ⟨S128x1024, .i1⟩
  | .hbm, ⟨66, _⟩ => ⟨S_, .i32⟩
  | .hbm, ⟨67, _⟩ => ⟨S1x1024, .i32⟩
  | .hbm, ⟨68, _⟩ => ⟨S1x1024, .i1⟩
  | .hbm, ⟨69, _⟩ => ⟨S128x1024, .i32⟩
  | .hbm, ⟨70, _⟩ => ⟨S128x1024, .i32⟩
  | .hbm, ⟨71, _⟩ => ⟨S128x1024, .i1⟩
  | .hbm, ⟨72, _⟩ => ⟨S128x1024, .i1⟩
  | .hbm, ⟨73, _⟩ => ⟨S128x1024, .i1⟩
  | .hbm, ⟨74, _⟩ => ⟨S128x1024, .i1⟩
  | .hbm, ⟨75, _⟩ => ⟨S128x1024, .i1⟩
  | .hbm, ⟨76, _⟩ => ⟨S128x1024, .bf16⟩
  | .hbm, ⟨77, _⟩ => ⟨S_, .bf16⟩
  | .hbm, ⟨78, _⟩ => ⟨S4x16x1024, .bf16⟩
  | .hbm, ⟨79, _⟩ => ⟨S4x1024x8, .f32⟩
  | .hbm, ⟨80, _⟩ => ⟨S4x8x1024, .f32⟩
  | .hbm, ⟨81, _⟩ => ⟨S4x8x1024, .bf16⟩
  | .hbm, ⟨82, _⟩ => ⟨S_, .i32⟩
  | .hbm, ⟨83, _⟩ => ⟨S1, .i32⟩
  | .hbm, ⟨84, _⟩ => ⟨S4x16x1024, .bf16⟩
  | .hbm, ⟨85, _⟩ => ⟨S4x1x1024, .f32⟩
  | .hbm, ⟨86, _⟩ => ⟨S4x1024x3072, .f32⟩
  | .hbm, ⟨87, _⟩ => ⟨S4x1024x3072, .bf16⟩
  | .hbm, ⟨88, _⟩ => ⟨S4x3072, .f32⟩
  | .hbm, ⟨89, _⟩ => ⟨S4x1x3072, .f32⟩
  | .hbm, ⟨90, _⟩ => ⟨S4x8, .f32⟩
  | .hbm, ⟨91, _⟩ => ⟨S4x8x1, .f32⟩
  | .hbm, ⟨92, _⟩ => ⟨S4x1x128, .f32⟩
  | .hbm, ⟨93, _⟩ => ⟨S4x1x128, .f32⟩
  | .hbm, ⟨94, _⟩ => ⟨S2x8x32x128x512, .bf16⟩
  | .hbm, ⟨95, _⟩ => ⟨S2x8x16384x256, .bf16⟩
  | .hbm, ⟨96, _⟩ => ⟨S2x8x32x144x512, .bf16⟩
  | .hbm, ⟨97, _⟩ => ⟨S2x8x16384, .f32⟩
  | .hbm, ⟨98, _⟩ => ⟨S2x32x512x8x128, .bf16⟩
  | .hbm, ⟨99, _⟩ => ⟨S2x16384x8x128, .bf16⟩
  | .hbm, ⟨100, _⟩ => ⟨S2x8x16384x128, .bf16⟩
  | .hbm, ⟨101, _⟩ => ⟨S2x16384x8x128, .bf16⟩
  | .hbm, ⟨102, _⟩ => ⟨S2x8x32x128x512, .bf16⟩
  | .hbm, ⟨103, _⟩ => ⟨S2x32x512x8x128, .bf16⟩
  | .hbm, ⟨104, _⟩ => ⟨S2x16384x8x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x3072, .bf16⟩
  | .local _ .vmem, ⟨4, _⟩ => ⟨S1x1x3072, .f32⟩
  | .local _ .vmem, ⟨5, _⟩ => ⟨S1x16x1024, .bf16⟩
  | .local _ .vmem, ⟨6, _⟩ => ⟨S1x8x1, .f32⟩
  | .local _ .vmem, ⟨7, _⟩ => ⟨S1x1x128, .f32⟩
  | .local _ .vmem, ⟨8, _⟩ => ⟨S1x1x128, .f32⟩
  | .local _ .vmem, ⟨9, _⟩ => ⟨S128x1024, .bf16⟩
  | .local _ .vmem, ⟨10, _⟩ => ⟨S1x8x1x128x512, .bf16⟩
  | .local _ .vmem, ⟨11, _⟩ => ⟨S1x8x1x128x512, .bf16⟩
  | .local _ .vmem, ⟨12, _⟩ => ⟨S1x8x512x256, .bf16⟩
  | .local _ .vmem, ⟨13, _⟩ => ⟨S1x8x512x256, .bf16⟩
  | .local _ .vmem, ⟨14, _⟩ => ⟨S1x8x1x144x512, .bf16⟩
  | .local _ .vmem, ⟨15, _⟩ => ⟨S1x8x1x144x512, .bf16⟩
  | .local _ .vmem, ⟨16, _⟩ => ⟨S1x8x512, .f32⟩
  | .local _ .vmem, ⟨17, _⟩ => ⟨S1x8x512, .f32⟩
  | .local _ .vmem, ⟨18, _⟩ => ⟨S8x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v5 : Ref sig .tc := ⟨.hbm, 49, rfl⟩
abbrev main_c_1 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_c_3 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_c_4 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_5 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_call2_v0 : Ref sig .tc := ⟨.hbm, 74, rfl⟩
abbrev main_v25 : Ref sig .tc := ⟨.hbm, 75, rfl⟩
abbrev main_v26 : Ref sig .tc := ⟨.hbm, 76, rfl⟩
abbrev main_cst : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_6 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42_0 : Ref sig .tc := ⟨.hbm, 94, rfl⟩
abbrev main_v42_1 : Ref sig .tc := ⟨.hbm, 95, rfl⟩
abbrev main_v42_2 : Ref sig .tc := ⟨.hbm, 96, rfl⟩
abbrev main_v42_3 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1x144x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel4Ideal.lean ====
variable {F : FTy → Type} [FloatOps F] [Named F]
def κ : String → Option EReal := fun
  | "log2e" => some (((Real.log 2)⁻¹ : ℝ) : EReal)
  | "scale" => some ((((Real.sqrt 128) * (Real.log 2))⁻¹ : ℝ) : EReal)
  | _ => none
-- ==== Reference4Ideal.lean ====
abbrev S2x16384x1024 : Shape := ⟨3, ![2, 16384, 1024]⟩
abbrev S4x1024 : Shape := ⟨2, ![4, 1024]⟩
abbrev S4x1024x7176 : Shape := ⟨3, ![4, 1024, 7176]⟩
abbrev S4x7176 : Shape := ⟨2, ![4, 7176]⟩
abbrev S4x128 : Shape := ⟨2, ![4, 128]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x7176 : Shape := ⟨3, ![1, 1024, 7176]⟩
abbrev S1024x7176 : Shape := ⟨2, ![1024, 7176]⟩
abbrev S2x16384x7176 : Shape := ⟨3, ![2, 16384, 7176]⟩
abbrev S1x7176 : Shape := ⟨2, ![1, 7176]⟩
abbrev S7176 : Shape := ⟨1, ![7176]⟩
abbrev S1x1x7176 : Shape := ⟨3, ![1, 1, 7176]⟩
abbrev S2x16384x3080 : Shape := ⟨3, ![2, 16384, 3080]⟩
abbrev S2x16384x8 : Shape := ⟨3, ![2, 16384, 8]⟩
abbrev S2x16384x8x128 : Shape := ⟨4, ![2, 16384, 8, 128]⟩
abbrev S1x128 : Shape := ⟨2, ![1, 128]⟩
abbrev S128 : Shape := ⟨1, ![128]⟩
abbrev S2x16384x8x1 : Shape := ⟨4, ![2, 16384, 8, 1]⟩
abbrev S1x1x1x128 : Shape := ⟨4, ![1, 1, 1, 128]⟩
abbrev S2x8x16384 : Shape := ⟨3, ![2, 8, 16384]⟩

abbrev nBuf : Space → Nat
  | .hbm => 108
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S4x1024x7176, .f32⟩
  | .hbm, ⟨3, _⟩ => ⟨S4x7176, .f32⟩
  | .hbm, ⟨4, _⟩ => ⟨S4x128, .f32⟩
  | .hbm, ⟨5, _⟩ => ⟨S4x128, .f32⟩
  | .hbm, ⟨6, _⟩ => ⟨S1x1024, .f32⟩
  | .hbm, ⟨7, _⟩ => ⟨S1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S1x1024x7176, .f32⟩
  | .hbm, ⟨25, _⟩ => ⟨S1024x7176, .f32⟩
  | .hbm, ⟨26, _⟩ => ⟨S2x16384x7176, .f32⟩
  | .hbm, ⟨27, _⟩ => ⟨S1x7176, .f32⟩
  | .hbm, ⟨28, _⟩ => ⟨S7176, .f32⟩
  | .hbm, ⟨29, _⟩ => ⟨S1x1x7176, .f32⟩
  | .hbm, ⟨30, _⟩ => ⟨S2x16384x7176, .f32⟩
  | .hbm, ⟨31, _⟩ => ⟨S2x16384x7176, .f32⟩
  | .hbm, ⟨32, _⟩ => ⟨S2x16384x3080, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x8, .f32⟩
  | .hbm, ⟨37, _⟩ => ⟨S2x16384x8x128, .f32⟩
  | .hbm, ⟨38, _⟩ => ⟨S1x128, .f32⟩
  | .hbm, ⟨39, _⟩ => ⟨S128, .f32⟩
  | .hbm, ⟨40, _⟩ => ⟨S2x16384x8x128, .f32⟩
  | .hbm, ⟨41, _⟩ => ⟨S_, .f32⟩
  | .hbm, ⟨42, _⟩ => ⟨S2x16384x8, .f32⟩
  | .hbm, ⟨43, _⟩ => ⟨S2x16384x8x1, .f32⟩
  | .hbm, ⟨44, _⟩ => ⟨S_, .f32⟩
  | .hbm, ⟨45, _⟩ => ⟨S2x16384x8x1, .f32⟩
  | .hbm, ⟨46, _⟩ => ⟨S2x16384x8x1, .f32⟩
  | .hbm, ⟨47, _⟩ => ⟨S_, .f32⟩
  | .hbm, ⟨48, _⟩ => ⟨S2x16384x8x1, .f32⟩
  | .hbm, ⟨49, _⟩ => ⟨S2x16384x8x1, .f32⟩
  | .hbm, ⟨50, _⟩ => ⟨S2x16384x8x1, .f32⟩
  | .hbm, ⟨51, _⟩ => ⟨S2x16384x8x128, .f32⟩
  | .hbm, ⟨52, _⟩ => ⟨S2x16384x8x128, .f32⟩
  | .hbm, ⟨53, _⟩ => ⟨S1x1x1x128, .f32⟩
  | .hbm, ⟨54, _⟩ => ⟨S2x16384x8x128, .f32⟩
  | .hbm, ⟨55, _⟩ => ⟨S2x16384x8x128, .f32⟩
  | .hbm, ⟨56, _⟩ => ⟨S2x16384x8x128, .f32⟩
  | .hbm, ⟨57, _⟩ => ⟨S1x128, .f32⟩
  | .hbm, ⟨58, _⟩ => ⟨S128, .f32⟩
  | .hbm, ⟨59, _⟩ => ⟨S2x16384x8x128, .f32⟩
  | .hbm, ⟨60, _⟩ => ⟨S_, .f32⟩
  | .hbm, ⟨61, _⟩ => ⟨S2x16384x8, .f32⟩
  | .hbm, ⟨62, _⟩ => ⟨S2x16384x8x1, .f32⟩
  | .hbm, ⟨63, _⟩ => ⟨S_, .f32⟩
  | .hbm, ⟨64, _⟩ => ⟨S2x16384x8x1, .f32⟩
  | .hbm, ⟨65, _⟩ => ⟨S2x16384x8x1, .f32⟩
  | .hbm, ⟨66, _⟩ => ⟨S_, .f32⟩
  | .hbm, ⟨67, _⟩ => ⟨S2x16384x8x1, .f32⟩
  | .hbm, ⟨68, _⟩ => ⟨S2x16384x8x1, .f32⟩
  | .hbm, ⟨69, _⟩ => ⟨S2x16384x8x1, .f32⟩
  | .hbm, ⟨70, _⟩ => ⟨S2x16384x8x128, .f32⟩
  | .hbm, ⟨71, _⟩ => ⟨S2x16384x8x128, .f32⟩
  | .hbm, ⟨72, _⟩ => ⟨S1x1x1x128, .f32⟩
  | .hbm, ⟨73, _⟩ => ⟨S2x16384x8x128, .f32⟩
  | .hbm, ⟨74, _⟩ => ⟨S2x16384x8x128, .f32⟩
  | .hbm, ⟨75, _⟩ => ⟨S2x16384x8x128, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S2x16384x8x128, .f32⟩
  | .hbm, ⟨84, _⟩ => ⟨S2x16384x8x128, .f32⟩
  | .hbm, ⟨85, _⟩ => ⟨S2x16384x8x128, .bf16⟩
  | .hbm, ⟨86, _⟩ => ⟨S2x16384x8x128, .bf16⟩
  | .hbm, ⟨87, _⟩ => ⟨S2x16384x8x128, .bf16⟩
  | .hbm, ⟨88, _⟩ => ⟨S2x16384x8, .f32⟩
  | .hbm, ⟨89, _⟩ => ⟨S_, .f32⟩
  | .hbm, ⟨90, _⟩ => ⟨S2x16384x8, .f32⟩
  | .hbm, ⟨91, _⟩ => ⟨S2x16384x8, .f32⟩
  | .hbm, ⟨92, _⟩ => ⟨S2x16384x8, .f32⟩
  | .hbm, ⟨93, _⟩ => ⟨S2x16384x8, .f32⟩
  | .hbm, ⟨94, _⟩ => ⟨S2x16384x8, .i1⟩
  | .hbm, ⟨95, _⟩ => ⟨S2x16384x8, .f32⟩
  | .hbm, ⟨96, _⟩ => ⟨S2x16384x8, .f32⟩
  | .hbm, ⟨97, _⟩ => ⟨S2x16384x8, .f32⟩
  | .hbm, ⟨98, _⟩ => ⟨S2x16384x8, .f32⟩
  | .hbm, ⟨99, _⟩ => ⟨S2x16384x8, .f32⟩
  | .hbm, ⟨100, _⟩ => ⟨S2x16384x8, .f32⟩
  | .hbm, ⟨101, _⟩ => ⟨S2x16384x8, .f32⟩
  | .hbm, ⟨102, _⟩ => ⟨S2x16384x8, .f32⟩
  | .hbm, ⟨103, _⟩ => ⟨S2x16384x8, .f32⟩
  | .hbm, ⟨104, _⟩ => ⟨S_, .f32⟩
  | .hbm, ⟨105, _⟩ => ⟨S_, .f32⟩
  | .hbm, ⟨106, _⟩ => ⟨S2x16384x8, .f32⟩
  | .hbm, ⟨107, _⟩ => ⟨S2x8x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_v0 : Ref sig .tc := ⟨.hbm, 88, rfl⟩
abbrev main_call0_call0_cst : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_call0_v2 : Ref sig .tc := ⟨.hbm, 92, rfl⟩
abbrev main_call0_call0_v3 : Ref sig .tc := ⟨.hbm, 93, rfl⟩
abbrev main_call0_call0_v4 : Ref sig .tc := ⟨.hbm, 94, rfl⟩
abbrev main_call0_call0_v5 : Ref sig .tc := ⟨.hbm, 95, rfl⟩
abbrev main_call0_call0_v6 : Ref sig .tc := ⟨.hbm, 96, rfl⟩
abbrev main_call0_call0_v7 : Ref sig .tc := ⟨.hbm, 97, rfl⟩
abbrev main_call0_call0_v8 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_v1 : Ref sig .tc := ⟨.hbm, 102, rfl⟩
abbrev main_v70 : Ref sig .tc := ⟨.hbm, 103, rfl⟩
abbrev main_call1_call0_cst : Ref sig .tc := ⟨.hbm, 104, rfl⟩
abbrev main_call1_call0_v0 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Proof.Mem.lean ====
/- Loads and stores through a memref owned at known contents: a load continues with the contents
   read at the rectangle, a store leaves the contents overlaid on the rectangle. -/
module

public import Idealize.ShloMosaic.Lib.Tactic
public import Idealize.ShloMosaic.Rules.Step
public import Idealize.ShloMosaic.Lib.Memref

@[expose] public section

noncomputable section

namespace Cert.FoxMem

open Idealize.ShloMosaic Idealize.ShloMosaic.Tactic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy} {α : Type}

/-- A load through an owned memref continues at the contents on the rectangle. -/
theorem wp_ld {cs : CoreSpace} {m : Memref sig c.2.kind cs s e} {r : Rect s} {hl : m.view.LoadsAt r.toLoadRect}
    {k : (r.shape.Idx → Val e) → Prog (TpuEff nD τ sig Val Λ c.2) α} {Q : α → sProp 𝕄} {q : PosShare TreeShare} {X : s.Idx → Val e} :
    (owns c m q X : sProp 𝕄)
      ⊢ iprop((owns c m q X -∗ wp frame (wpE' defs 𝒱 c bd Γ) E (k (fun j => X (r.emb j))) Q)
        -∗ wp frame (wpE' defs 𝒱 c bd Γ) E (.op (.load m r.toLoadRect hl) k) Q) := by
  unfold owns
  iintro H K
  icases H with ⟨%f, %hf, H⟩
  iapply (wp_load 𝒱 c bd E (m := m) (m.view.setOn_subset_set _)) $$ H
  iintro H
  have h : m.view.readAt Val r.toLoadRect f = fun j => X (r.emb j) := by
    subst hf; rfl
  rw [h]
  iapply K
  iexists f
  isplitr; · ipureintro; exact hf
  iexact H

/-- What a memref reads after an unmasked store through one of its rectangles. -/
theorem read_access_write {sp : Space} (m : Memref sig c.2.kind sp s e) (r : Rect s) (f : m.view.ty.Contents Val)
    (w : r.shape.Idx → Val e) :
    m.view.read Val ((m.access r).write Val f w Finset.univ) = r.overlay (m.view.read Val f) w := by
  funext j
  by_cases hj : j ∈ r.set
  · obtain ⟨i, rfl⟩ : ∃ i, r.emb i = j := by
      rw [← Rect.map_emb_univ] at hj
      simpa using hj
    rw [Rect.overlay_emb]
    exact congrFun (View.read_write_univ (v := m.access r) f w) i
  · rw [Rect.overlay_of_not_mem _ _ _ hj, View.read_apply, View.read_apply]
    congr 1
    apply View.write_of_not_mem
    intro hc
    have hc' : m.view.emb j ∈ (m.view.slice r).set := hc
    rw [View.set_slice] at hc'
    exact hj ((m.view.mem_setOn).mp hc')

/-- An unmasked store through a rectangle of an owned memref overlays the contents there. -/
theorem wp_st {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {Q : α → sProp 𝕄} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  unfold owns
  iintro H K
  icases H with ⟨%f, %hf, H⟩
  iapply (wp_store 𝒱 c bd E (m := m) (r := r) (hx := hx) (hm := hm) (S := m.view.set) (f := f) (m.view.set_slice_subset r)) $$ H
  iintro H
  iapply K
  iexists ((m.access r).write Val f w Finset.univ)
  isplitr
  · ipureintro; subst hf; exact read_access_write c m r f w
  iexact H

end Cert.FoxMem
-- ==== Proof.State.lean ====
/- The attention kernel's buffers as one record of contents: what a core owns of them, and the rules for
   one load or one store through one of them. -/
module

public import proofs.«01_k».proof.Proof.Mem
public import proofs.«01_k».proof.Proof.Gen.KernelIdeal.Launch
public import proofs.«01_k».proof.Proof.Gen.KernelIdeal.Points

@[expose] public section

set_option maxRecDepth 65536

noncomputable section

namespace Cert.KernelIdeal.Fox

open Cert.KernelIdeal Cert.KernelIdeal.Gen Cert.FoxMem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The sixteen buffers the body works on. -/
structure Args where
  a3 : Memref sig .tc .vmem S1x1x4x128x512 .bf16
  h3 : a3.IsWhole
  a4 : Memref sig .tc .vmem S1x8x2048 .f32
  h4 : a4.IsWhole
  a5 : Memref sig .tc .vmem S1x1x16384x256 .bf16
  h5 : a5.IsWhole
  a6 : Memref sig .tc .vmem S1x1x32x144x512 .bf16
  h6 : a6.IsWhole
  a7 : Memref sig .tc .vmem S1x2048x128 .bf16
  h7 : a7.IsWhole
  a8 : Memref sig .tc .vmem S256x2048 .bf16
  h8 : a8.IsWhole
  a9 : Memref sig .tc .vmem S512x2304 .f32
  h9 : a9.IsWhole
  a10 : Memref sig .tc .vmem S512x2304 .f32
  h10 : a10.IsWhole
  a11 : Memref sig .tc .vmem S512x2304 .bf16
  h11 : a11.IsWhole
  a12 : Memref sig .tc .vmem S512x2304 .bf16
  h12 : a12.IsWhole
  a13 : Memref sig .tc .vmem S1x2048 .f32
  h13 : a13.IsWhole
  a14 : Memref sig .tc .vmem S1x2048 .f32
  h14 : a14.IsWhole
  a15 : Memref sig .tc .vmem S1x2048 .f32
  h15 : a15.IsWhole
  a16 : Memref sig .tc .vmem S1x2048 .f32
  h16 : a16.IsWhole
  a17 : Memref sig .tc .vmem S1x2048 .f32
  h17 : a17.IsWhole
  a18 : Memref sig .tc .vmem S144x2304 .f32
  h18 : a18.IsWhole

/-- The contents of the sixteen buffers. -/
structure St (F : FTy → Type) where
  x3 : Vec F S1x1x4x128x512 .bf16
  x4 : Vec F S1x8x2048 .f32
  x5 : Vec F S1x1x16384x256 .bf16
  x6 : Vec F S1x1x32x144x512 .bf16
  x7 : Vec F S1x2048x128 .bf16
  x8 : Vec F S256x2048 .bf16
  x9 : Vec F S512x2304 .f32
  x10 : Vec F S512x2304 .f32
  x11 : Vec F S512x2304 .bf16
  x12 : Vec F S512x2304 .bf16
  x13 : Vec F S1x2048 .f32
  x14 : Vec F S1x2048 .f32
  x15 : Vec F S1x2048 .f32
  x16 : Vec F S1x2048 .f32
  x17 : Vec F S1x2048 .f32
  x18 : Vec F S144x2304 .f32

/-- A core owns the sixteen buffers at the contents `σ`. -/
def Own (c : Dev nD) (A : Args) (σ : St F) : sProp 𝕄 :=
  iprop(owns (c : Thread nD τ) A.a3 fullShare σ.x3 ∗ owns (c : Thread nD τ) A.a4 fullShare σ.x4 ∗ owns (c : Thread nD τ) A.a5 fullShare σ.x5 ∗ owns (c : Thread nD τ) A.a6 fullShare σ.x6 ∗ owns (c : Thread nD τ) A.a7 fullShare σ.x7 ∗ owns (c : Thread nD τ) A.a8 fullShare σ.x8 ∗ owns (c : Thread nD τ) A.a9 fullShare σ.x9 ∗ owns (c : Thread nD τ) A.a10 fullShare σ.x10 ∗ owns (c : Thread nD τ) A.a11 fullShare σ.x11 ∗ owns (c : Thread nD τ) A.a12 fullShare σ.x12 ∗ owns (c : Thread nD τ) A.a13 fullShare σ.x13 ∗ owns (c : Thread nD τ) A.a14 fullShare σ.x14 ∗ owns (c : Thread nD τ) A.a15 fullShare σ.x15 ∗ owns (c : Thread nD τ) A.a16 fullShare σ.x16 ∗ owns (c : Thread nD τ) A.a17 fullShare σ.x17 ∗ owns (c : Thread nD τ) A.a18 fullShare σ.x18)

/-- The weakest precondition the body is run under. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable {c : Dev nD} {A : Args} {σ : St F} {α : Type}

theorem ld_3 {r : Rect S1x1x4x128x512} {hl : A.a3.view.LoadsAt r.toLoadRect}
    {k : (r.shape.Idx → Elt F .bf16) → Prog (TpuEff nD τ sig (Elt F) Λ₀ .tc) α} {Q : α → sProp 𝕄}
    (h : Own c A σ ⊢ WP c (k (fun j => σ.x3 (r.emb j))) Q) :
    Own c A σ ⊢ WP c (.op (.load A.a3 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a3) (r := r) (hl := hl)) $$ H3
  iintro H3
  iapply h
  iframe

theorem ld_4 {r : Rect S1x8x2048} {hl : A.a4.view.LoadsAt r.toLoadRect}
    {k : (r.shape.Idx → Elt F .f32) → Prog (TpuEff nD τ sig (Elt F) Λ₀ .tc) α} {Q : α → sProp 𝕄}
    (h : Own c A σ ⊢ WP c (k (fun j => σ.x4 (r.emb j))) Q) :
    Own c A σ ⊢ WP c (.op (.load A.a4 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a4) (r := r) (hl := hl)) $$ H4
  iintro H4
  iapply h
  iframe

theorem ld_5 {r : Rect S1x1x16384x256} {hl : A.a5.view.LoadsAt r.toLoadRect}
    {k : (r.shape.Idx → Elt F .bf16) → Prog (TpuEff nD τ sig (Elt F) Λ₀ .tc) α} {Q : α → sProp 𝕄}
    (h : Own c A σ ⊢ WP c (k (fun j => σ.x5 (r.emb j))) Q) :
    Own c A σ ⊢ WP c (.op (.load A.a5 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a5) (r := r) (hl := hl)) $$ H5
  iintro H5
  iapply h
  iframe

theorem ld_6 {r : Rect S1x1x32x144x512} {hl : A.a6.view.LoadsAt r.toLoadRect}
    {k : (r.shape.Idx → Elt F .bf16) → Prog (TpuEff nD τ sig (Elt F) Λ₀ .tc) α} {Q : α → sProp 𝕄}
    (h : Own c A σ ⊢ WP c (k (fun j => σ.x6 (r.emb j))) Q) :
    Own c A σ ⊢ WP c (.op (.load A.a6 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a6) (r := r) (hl := hl)) $$ H6
  iintro H6
  iapply h
  iframe

theorem ld_7 {r : Rect S1x2048x128} {hl : A.a7.view.LoadsAt r.toLoadRect}
    {k : (r.shape.Idx → Elt F .bf16) → Prog (TpuEff nD τ sig (Elt F) Λ₀ .tc) α} {Q : α → sProp 𝕄}
    (h : Own c A σ ⊢ WP c (k (fun j => σ.x7 (r.emb j))) Q) :
    Own c A σ ⊢ WP c (.op (.load A.a7 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a7) (r := r) (hl := hl)) $$ H7
  iintro H7
  iapply h
  iframe

theorem st_7 {r : Rect S1x2048x128} {w : r.shape.Idx → Elt F .bf16} {hx : (A.a7.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x7 := r.overlay σ.x7 w } ⊢ WP c (k ⟨⟩) Q) :
    Own c A σ ⊢ WP c (.op (.store A.a7 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a7) (r := r) (hx := hx) (hm := hm)) $$ H7
  iintro H7
  iapply h
  iframe

theorem ld_8 {r : Rect S256x2048} {hl : A.a8.view.LoadsAt r.toLoadRect}
    {k : (r.shape.Idx → Elt F .bf16) → Prog (TpuEff nD τ sig (Elt F) Λ₀ .tc) α} {Q : α → sProp 𝕄}
    (h : Own c A σ ⊢ WP c (k (fun j => σ.x8 (r.emb j))) Q) :
    Own c A σ ⊢ WP c (.op (.load A.a8 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a8) (r := r) (hl := hl)) $$ H8
  iintro H8
  iapply h
  iframe

theorem st_8 {r : Rect S256x2048} {w : r.shape.Idx → Elt F .bf16} {hx : (A.a8.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x8 := r.overlay σ.x8 w } ⊢ WP c (k ⟨⟩) Q) :
    Own c A σ ⊢ WP c (.op (.store A.a8 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a8) (r := r) (hx := hx) (hm := hm)) $$ H8
  iintro H8
  iapply h
  iframe

theorem ld_9 {r : Rect S512x2304} {hl : A.a9.view.LoadsAt r.toLoadRect}
    {k : (r.shape.Idx → Elt F .f32) → Prog (TpuEff nD τ sig (Elt F) Λ₀ .tc) α} {Q : α → sProp 𝕄}
    (h : Own c A σ ⊢ WP c (k (fun j => σ.x9 (r.emb j))) Q) :
    Own c A σ ⊢ WP c (.op (.load A.a9 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a9) (r := r) (hl := hl)) $$ H9
  iintro H9
  iapply h
  iframe

theorem st_9 {r : Rect S512x2304} {w : r.shape.Idx → Elt F .f32} {hx : (A.a9.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x9 := r.overlay σ.x9 w } ⊢ WP c (k ⟨⟩) Q) :
    Own c A σ ⊢ WP c (.op (.store A.a9 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a9) (r := r) (hx := hx) (hm := hm)) $$ H9
  iintro H9
  iapply h
  iframe

theorem ld_10 {r : Rect S512x2304} {hl : A.a10.view.LoadsAt r.toLoadRect}
    {k : (r.shape.Idx → Elt F .f32) → Prog (TpuEff nD τ sig (Elt F) Λ₀ .tc) α} {Q : α → sProp 𝕄}
    (h : Own c A σ ⊢ WP c (k (fun j => σ.x10 (r.emb j))) Q) :
    Own c A σ ⊢ WP c (.op (.load A.a10 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a10) (r := r) (hl := hl)) $$ H10
  iintro H10
  iapply h
  iframe

theorem st_10 {r : Rect S512x2304} {w : r.shape.Idx → Elt F .f32} {hx : (A.a10.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x10 := r.overlay σ.x10 w } ⊢ WP c (k ⟨⟩) Q) :
    Own c A σ ⊢ WP c (.op (.store A.a10 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a10) (r := r) (hx := hx) (hm := hm)) $$ H10
  iintro H10
  iapply h
  iframe

theorem ld_11 {r : Rect S512x2304} {hl : A.a11.view.LoadsAt r.toLoadRect}
    {k : (r.shape.Idx → Elt F .bf16) → Prog (TpuEff nD τ sig (Elt F) Λ₀ .tc) α} {Q : α → sProp 𝕄}
    (h : Own c A σ ⊢ WP c (k (fun j => σ.x11 (r.emb j))) Q) :
    Own c A σ ⊢ WP c (.op (.load A.a11 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a11) (r := r) (hl := hl)) $$ H11
  iintro H11
  iapply h
  iframe

theorem st_11 {r : Rect S512x2304} {w : r.shape.Idx → Elt F .bf16} {hx : (A.a11.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x11 := r.overlay σ.x11 w } ⊢ WP c (k ⟨⟩) Q) :
    Own c A σ ⊢ WP c (.op (.store A.a11 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a11) (r := r) (hx := hx) (hm := hm)) $$ H11
  iintro H11
  iapply h
  iframe

theorem ld_12 {r : Rect S512x2304} {hl : A.a12.view.LoadsAt r.toLoadRect}
    {k : (r.shape.Idx → Elt F .bf16) → Prog (TpuEff nD τ sig (Elt F) Λ₀ .tc) α} {Q : α → sProp 𝕄}
    (h : Own c A σ ⊢ WP c (k (fun j => σ.x12 (r.emb j))) Q) :
    Own c A σ ⊢ WP c (.op (.load A.a12 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a12) (r := r) (hl := hl)) $$ H12
  iintro H12
  iapply h
  iframe

theorem st_12 {r : Rect S512x2304} {w : r.shape.Idx → Elt F .bf16} {hx : (A.a12.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x12 := r.overlay σ.x12 w } ⊢ WP c (k ⟨⟩) Q) :
    Own c A σ ⊢ WP c (.op (.store A.a12 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a12) (r := r) (hx := hx) (hm := hm)) $$ H12
  iintro H12
  iapply h
  iframe

theorem ld_13 {r : Rect S1x2048} {hl : A.a13.view.LoadsAt r.toLoadRect}
    {k : (r.shape.Idx → Elt F .f32) → Prog (TpuEff nD τ sig (Elt F) Λ₀ .tc) α} {Q : α → sProp 𝕄}
    (h : Own c A σ ⊢ WP c (k (fun j => σ.x13 (r.emb j))) Q) :
    Own c A σ ⊢ WP c (.op (.load A.a13 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a13) (r := r) (hl := hl)) $$ H13
  iintro H13
  iapply h
  iframe

theorem st_13 {r : Rect S1x2048} {w : r.shape.Idx → Elt F .f32} {hx : (A.a13.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x13 := r.overlay σ.x13 w } ⊢ WP c (k ⟨⟩) Q) :
    Own c A σ ⊢ WP c (.op (.store A.a13 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a13) (r := r) (hx := hx) (hm := hm)) $$ H13
  iintro H13
  iapply h
  iframe

theorem ld_14 {r : Rect S1x2048} {hl : A.a14.view.LoadsAt r.toLoadRect}
    {k : (r.shape.Idx → Elt F .f32) → Prog (TpuEff nD τ sig (Elt F) Λ₀ .tc) α} {Q : α → sProp 𝕄}
    (h : Own c A σ ⊢ WP c (k (fun j => σ.x14 (r.emb j))) Q) :
    Own c A σ ⊢ WP c (.op (.load A.a14 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a14) (r := r) (hl := hl)) $$ H14
  iintro H14
  iapply h
  iframe

theorem st_14 {r : Rect S1x2048} {w : r.shape.Idx → Elt F .f32} {hx : (A.a14.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x14 := r.overlay σ.x14 w } ⊢ WP c (k ⟨⟩) Q) :
    Own c A σ ⊢ WP c (.op (.store A.a14 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a14) (r := r) (hx := hx) (hm := hm)) $$ H14
  iintro H14
  iapply h
  iframe

theorem ld_15 {r : Rect S1x2048} {hl : A.a15.view.LoadsAt r.toLoadRect}
    {k : (r.shape.Idx → Elt F .f32) → Prog (TpuEff nD τ sig (Elt F) Λ₀ .tc) α} {Q : α → sProp 𝕄}
    (h : Own c A σ ⊢ WP c (k (fun j => σ.x15 (r.emb j))) Q) :
    Own c A σ ⊢ WP c (.op (.load A.a15 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a15) (r := r) (hl := hl)) $$ H15
  iintro H15
  iapply h
  iframe

theorem st_15 {r : Rect S1x2048} {w : r.shape.Idx → Elt F .f32} {hx : (A.a15.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x15 := r.overlay σ.x15 w } ⊢ WP c (k ⟨⟩) Q) :
    Own c A σ ⊢ WP c (.op (.store A.a15 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a15) (r := r) (hx := hx) (hm := hm)) $$ H15
  iintro H15
  iapply h
  iframe

theorem ld_16 {r : Rect S1x2048} {hl : A.a16.view.LoadsAt r.toLoadRect}
    {k : (r.shape.Idx → Elt F .f32) → Prog (TpuEff nD τ sig (Elt F) Λ₀ .tc) α} {Q : α → sProp 𝕄}
    (h : Own c A σ ⊢ WP c (k (fun j => σ.x16 (r.emb j))) Q) :
    Own c A σ ⊢ WP c (.op (.load A.a16 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a16) (r := r) (hl := hl)) $$ H16
  iintro H16
  iapply h
  iframe

theorem st_16 {r : Rect S1x2048} {w : r.shape.Idx → Elt F .f32} {hx : (A.a16.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x16 := r.overlay σ.x16 w } ⊢ WP c (k ⟨⟩) Q) :
    Own c A σ ⊢ WP c (.op (.store A.a16 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a16) (r := r) (hx := hx) (hm := hm)) $$ H16
  iintro H16
  iapply h
  iframe

theorem ld_17 {r : Rect S1x2048} {hl : A.a17.view.LoadsAt r.toLoadRect}
    {k : (r.shape.Idx → Elt F .f32) → Prog (TpuEff nD τ sig (Elt F) Λ₀ .tc) α} {Q : α → sProp 𝕄}
    (h : Own c A σ ⊢ WP c (k (fun j => σ.x17 (r.emb j))) Q) :
    Own c A σ ⊢ WP c (.op (.load A.a17 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a17) (r := r) (hl := hl)) $$ H17
  iintro H17
  iapply h
  iframe

theorem st_17 {r : Rect S1x2048} {w : r.shape.Idx → Elt F .f32} {hx : (A.a17.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x17 := r.overlay σ.x17 w } ⊢ WP c (k ⟨⟩) Q) :
    Own c A σ ⊢ WP c (.op (.store A.a17 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a17) (r := r) (hx := hx) (hm := hm)) $$ H17
  iintro H17
  iapply h
  iframe

theorem ld_18 {r : Rect S144x2304} {hl : A.a18.view.LoadsAt r.toLoadRect}
    {k : (r.shape.Idx → Elt F .f32) → Prog (TpuEff nD τ sig (Elt F) Λ₀ .tc) α} {Q : α → sProp 𝕄}
    (h : Own c A σ ⊢ WP c (k (fun j => σ.x18 (r.emb j))) Q) :
    Own c A σ ⊢ WP c (.op (.load A.a18 r.toLoadRect hl) k) Q := by
  unfold Own at h ⊢
  iintro ⟨H3, H4, H5, H6, H7, H8, H9, H10, H11, H12, H13, H14, H15, H16, H17, H18⟩
  iapply (wp_ld Variants.none (c : Thread nD τ) none Set.univ (m := A.a18) (r := r) (hl := hl)) $$ H18
  iintro H18
  iapply h
  iframe

theorem st_18 {r : Rect S144x2304} {w : r.shape.Idx → Elt F .f32} {hx : (A.a18.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    (h : Own c A { σ with x18 := r.overlay σ.x18 w } ⊢ WP c (k ⟨⟩) Q) :
    Own c A σ ⊢ WP c (.op (.store A.a18 r w Finset.univ hx hm) k) Q := by
  unfold Own at h ⊢
  iintro ⟨H3, H4, H5, H6, H7, H8, H9, H10, H11, H12, H13, H14, H15, H16, H17, H18⟩
  iapply (wp_st Variants.none (c : Thread nD τ) none Set.univ (m := A.a18) (r := r) (hx := hx) (hm := hm)) $$ H18
  iintro H18
  iapply h
  iframe

/-- A program returning nothing takes every owned state `σ` to `f σ`. -/
def Triple (c : Dev nD) (A : Args) (p : Prog (TpuEff nD τ sig (Elt F) Λ₀ .tc) PUnit) (f : St F → St F) : Prop :=
  ∀ σ : St F, Own c A σ ⊢ WP c p (fun _ => Own c A (f σ))

theorem Triple.ret : Triple c A (F := F) (.ret ⟨⟩) id := fun σ => by
  simp only [WP, wp_ret]
  exact fupd_intro

theorem Triple.bind {p q : Prog (TpuEff nD τ sig (Elt F) Λ₀ .tc) PUnit} {f g : St F → St F}
    (hp : Triple c A p f) (hq : Triple c A q g) : Triple c A (p >>= fun _ => q) (fun σ => g (f σ)) := fun σ => by
  refine (hp σ).trans ?_
  simp only [WP, wp_bind]
  exact wp_mono _ _ _ fun _ => hq (f σ)

/-- One step, and then the rest. -/
theorem Triple.seq {p : Prog (TpuEff nD τ sig (Elt F) Λ₀ .tc) PUnit} {q : Prog (TpuEff nD τ sig (Elt F) Λ₀ .tc) α} {f : St F → St F}
    {Q : α → sProp 𝕄} (hp : Triple c A p f) (hq : Own c A (f σ) ⊢ WP c q Q) : Own c A σ ⊢ WP c (p >>= fun _ => q) Q := by
  refine (hp σ).trans ?_
  simp only [WP, wp_bind]
  exact wp_mono _ _ _ fun _ => hq

end Cert.KernelIdeal.Fox
-- ==== Proof.Steps.lean ====
/- The attention kernel's steps — a block of scores, its softmax, its product with the values — as programs
   and as functions of the contents. -/
module

public import proofs.«01_k».proof.Proof.State
public import proofs.«01_k».proof.Proof.Gen.KernelIdeal.Skeleton

@[expose] public section

set_option maxRecDepth 65536

noncomputable section

namespace Cert.KernelIdeal.Fox

open Cert.KernelIdeal Cert.KernelIdeal.Gen Cert.FoxMem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (A : Args) (σ : St F)

/-- A block of scores into slot 0, with its column maxima, as a program. -/
def score0P (off : Fin 4 → Nat) (hoff : ∀ a, off a + S1x1x512x256.size a ≤ S1x1x16384x256.size a) : Prog (TpuEff nD τ sig (Elt F) Λ₀ .tc) PUnit := do
  let kb : Vec F S1x1x512x256 .bf16 ← Prog.lift (.load A.a5 (Rect.unit (s := S1x1x16384x256) off S1x1x512x256.size hoff).toLoadRect (View.loadsAt_vmem h_S1x1x512x256))
  let q : Vec F S256x2048 .bf16 ← Prog.lift (.load A.a8 (Rect.unit (s := S256x2048) ![0, 0] S256x2048.size inb_S256x2048_S256x2048_0_0).toLoadRect (View.loadsAt_vmem h_S256x2048))
  let _o : Vec F S512x2048 .f32 ← Prog.lift (.load A.a9 (Rect.unit (s := S512x2304) ![0, 0] S512x2048.size inb_S512x2304_S512x2048_0_0).toLoadRect (View.loadsAt_vmem h_S512x2048))
  Prog.lift (.store A.a9 (Rect.unit (s := S512x2304) ![0, 0] S512x2048.size inb_S512x2304_S512x2048_0_0) (k0_pay36 kb q) Finset.univ (View.stores_vmem_bits_univ h_S512x2048 rfl) (.inl rfl))
  let _m : Vec F S1x2048 .f32 ← Prog.lift (.load A.a15 (Rect.unit (s := S1x2048) ![0, 0] S1x2048.size inb_S1x2048_S1x2048_0_0).toLoadRect (View.loadsAt_vmem h_S1x2048))
  Prog.lift (.store A.a15 (Rect.unit (s := S1x2048) ![0, 0] S1x2048.size inb_S1x2048_S1x2048_0_0) (k0_pay37 kb q) Finset.univ (View.stores_vmem_bits_univ h_S1x2048 rfl) (.inl rfl))
  pure ⟨⟩

/-- A block of scores into slot 0, with its column maxima, on the contents. -/
def score0 (off : Fin 4 → Nat) (hoff : ∀ a, off a + S1x1x512x256.size a ≤ S1x1x16384x256.size a) (σ : St F) : St F :=
  { σ with
    x9 := (Rect.unit (s := S512x2304) ![0, 0] S512x2048.size inb_S512x2304_S512x2048_0_0).overlay σ.x9 (k0_pay36 (fun j => σ.x5 ((Rect.unit (s := S1x1x16384x256) off S1x1x512x256.size hoff).emb j)) (fun j => σ.x8 ((Rect.unit (s := S256x2048) ![0, 0] S256x2048.size inb_S256x2048_S256x2048_0_0).emb j)))
    x15 := (Rect.unit (s := S1x2048) ![0, 0] S1x2048.size inb_S1x2048_S1x2048_0_0).overlay σ.x15 (k0_pay37 (fun j => σ.x5 ((Rect.unit (s := S1x1x16384x256) off S1x1x512x256.size hoff).emb j)) (fun j => σ.x8 ((Rect.unit (s := S256x2048) ![0, 0] S256x2048.size inb_S256x2048_S256x2048_0_0).emb j))) }

theorem score0_triple (c : Dev nD) (off : Fin 4 → Nat) (hoff : ∀ a, off a + S1x1x512x256.size a ≤ S1x1x16384x256.size a) : Triple c A (F := F) (score0P A off hoff) (score0 off hoff) := fun σ => by
  unfold score0P
  refine ld_5 ?_
  refine ld_8 ?_
  refine ld_9 ?_
  refine st_9 ?_
  refine ld_15 ?_
  refine st_15 ?_
  exact Triple.ret _

/-- The softmax of the block in slot 0 against the running maxima, as a program. -/
def soft0P  : Prog (TpuEff nD τ sig (Elt F) Λ₀ .tc) PUnit := do
  let bm : Vec F S1x2048 .f32 ← Prog.lift (.load A.a15 (Rect.unit (s := S1x2048) ![0, 0] S1x2048.size inb_S1x2048_S1x2048_0_0).toLoadRect (View.loadsAt_vmem h_S1x2048))
  let mo : Vec F S1x2048 .f32 ← Prog.lift (.load A.a17 (Rect.unit (s := S1x2048) ![0, 0] S1x2048.size inb_S1x2048_S1x2048_0_0).toLoadRect (View.loadsAt_vmem h_S1x2048))
  let _a : Vec F S1x2048 .f32 ← Prog.lift (.load A.a17 (Rect.unit (s := S1x2048) ![0, 0] S1x2048.size inb_S1x2048_S1x2048_0_0).toLoadRect (View.loadsAt_vmem h_S1x2048))
  Prog.lift (.store A.a17 (Rect.unit (s := S1x2048) ![0, 0] S1x2048.size inb_S1x2048_S1x2048_0_0) (k0_pay43 bm mo) Finset.univ (View.stores_vmem_bits_univ h_S1x2048 rfl) (.inl rfl))
  let _b : Vec F S1x2048 .f32 ← Prog.lift (.load A.a13 (Rect.unit (s := S1x2048) ![0, 0] S1x2048.size inb_S1x2048_S1x2048_0_0).toLoadRect (View.loadsAt_vmem h_S1x2048))
  Prog.lift (.store A.a13 (Rect.unit (s := S1x2048) ![0, 0] S1x2048.size inb_S1x2048_S1x2048_0_0) (k0_pay44 bm mo) Finset.univ (View.stores_vmem_bits_univ h_S1x2048 rfl) (.inl rfl))
  let st : Vec F S512x2048 .f32 ← Prog.lift (.load A.a9 (Rect.unit (s := S512x2304) ![0, 0] S512x2048.size inb_S512x2304_S512x2048_0_0).toLoadRect (View.loadsAt_vmem h_S512x2048))
  let _p : Vec F S512x2048 .bf16 ← Prog.lift (.load A.a11 (Rect.unit (s := S512x2304) ![0, 0] S512x2048.size inb_S512x2304_S512x2048_0_0).toLoadRect (View.loadsAt_vmem h_S512x2048))
  Prog.lift (.store A.a11 (Rect.unit (s := S512x2304) ![0, 0] S512x2048.size inb_S512x2304_S512x2048_0_0) (k0_pay45 bm mo st) Finset.univ (View.stores_vmem h_S512x2048 (A.h11.storeExact_slice rfl _ packedbf16_S512x2304_S512x2048_0_0) (fun _ => rfl)) (.inl rfl))
  pure ⟨⟩

/-- The softmax of the block in slot 0 against the running maxima, on the contents. -/
def soft0  (σ : St F) : St F :=
  { σ with
    x17 := (Rect.unit (s := S1x2048) ![0, 0] S1x2048.size inb_S1x2048_S1x2048_0_0).overlay σ.x17 (k0_pay43 (fun j => σ.x15 ((Rect.unit (s := S1x2048) ![0, 0] S1x2048.size inb_S1x2048_S1x2048_0_0).emb j)) (fun j => σ.x17 ((Rect.unit (s := S1x2048) ![0, 0] S1x2048.size inb_S1x2048_S1x2048_0_0).emb j)))
    x13 := (Rect.unit (s := S1x2048) ![0, 0] S1x2048.size inb_S1x2048_S1x2048_0_0).overlay σ.x13 (k0_pay44 (fun j => σ.x15 ((Rect.unit (s := S1x2048) ![0, 0] S1x2048.size inb_S1x2048_S1x2048_0_0).emb j)) (fun j => σ.x17 ((Rect.unit (s := S1x2048) ![0, 0] S1x2048.size inb_S1x2048_S1x2048_0_0).emb j)))
    x11 := (Rect.unit (s := S512x2304) ![0, 0] S512x2048.size inb_S512x2304_S512x2048_0_0).overlay σ.x11 (k0_pay45 (fun j => σ.x15 ((Rect.unit (s := S1x2048) ![0, 0] S1x2048.size inb_S1x2048_S1x2048_0_0).emb j)) (fun j => σ.x17 ((Rect.unit (s := S1x2048) ![0, 0] S1x2048.size inb_S1x2048_S1x2048_0_0).emb j)) (fun j => σ.x9 ((Rect.unit (s := S512x2304) ![0, 0] S512x2048.size inb_S512x2304_S512x2048_0_0).emb j))) }

theorem soft0_triple (c : Dev nD)  : Triple c A (F := F) (soft0P A ) (soft0 ) := fun σ => by
  unfold soft0P
  refine ld_15 ?_
  refine ld_17 ?_
  refine ld_17 ?_
  refine st_17 ?_
  refine ld_13 ?_
  refine st_13 ?_
  refine ld_9 ?_
  refine ld_11 ?_
  refine st_11 ?_
  exact Triple.ret _

/-- A block of scores into slot 1, with its column maxima, as a program. -/
def score1P (off : Fin 4 → Nat) (hoff : ∀ a, off a + S1x1x512x256.size a ≤ S1x1x16384x256.size a) : Prog (TpuEff nD τ sig (Elt F) Λ₀ .tc) PUnit := do
  let kb : Vec F S1x1x512x256 .bf16 ← Prog.lift (.load A.a5 (Rect.unit (s := S1x1x16384x256) off S1x1x512x256.size hoff).toLoadRect (View.loadsAt_vmem h_S1x1x512x256))
  let q : Vec F S256x2048 .bf16 ← Prog.lift (.load A.a8 (Rect.unit (s := S256x2048) ![0, 0] S256x2048.size inb_S256x2048_S256x2048_0_0).toLoadRect (View.loadsAt_vmem h_S256x2048))
  let _o : Vec F S512x2048 .f32 ← Prog.lift (.load A.a10 (Rect.unit (s := S512x2304) ![0, 0] S512x2048.size inb_S512x2304_S512x2048_0_0).toLoadRect (View.loadsAt_vmem h_S512x2048))
  Prog.lift (.store A.a10 (Rect.unit (s := S512x2304) ![0, 0] S512x2048.size inb_S512x2304_S512x2048_0_0) (k0_pay36 kb q) Finset.univ (View.stores_vmem_bits_univ h_S512x2048 rfl) (.inl rfl))
  let _m : Vec F S1x2048 .f32 ← Prog.lift (.load A.a16 (Rect.unit (s := S1x2048) ![0, 0] S1x2048.size inb_S1x2048_S1x2048_0_0).toLoadRect (View.loadsAt_vmem h_S1x2048))
  Prog.lift (.store A.a16 (Rect.unit (s := S1x2048) ![0, 0] S1x2048.size inb_S1x2048_S1x2048_0_0) (k0_pay37 kb q) Finset.univ (View.stores_vmem_bits_univ h_S1x2048 rfl) (.inl rfl))
  pure ⟨⟩

/-- A block of scores into slot 1, with its column maxima, on the contents. -/
def score1 (off : Fin 4 → Nat) (hoff : ∀ a, off a + S1x1x512x256.size a ≤ S1x1x16384x256.size a) (σ : St F) : St F :=
  { σ with
    x10 := (Rect.unit (s := S512x2304) ![0, 0] S512x2048.size inb_S512x2304_S512x2048_0_0).overlay σ.x10 (k0_pay36 (fun j => σ.x5 ((Rect.unit (s := S1x1x16384x256) off S1x1x512x256.size hoff).emb j)) (fun j => σ.x8 ((Rect.unit (s := S256x2048) ![0, 0] S256x2048.size inb_S256x2048_S256x2048_0_0).emb j)))
    x16 := (Rect.unit (s := S1x2048) ![0, 0] S1x2048.size inb_S1x2048_S1x2048_0_0).overlay σ.x16 (k0_pay37 (fun j => σ.x5 ((Rect.unit (s := S1x1x16384x256) off S1x1x512x256.size hoff).emb j)) (fun j => σ.x8 ((Rect.unit (s := S256x2048) ![0, 0] S256x2048.size inb_S256x2048_S256x2048_0_0).emb j))) }

theorem score1_triple (c : Dev nD) (off : Fin 4 → Nat) (hoff : ∀ a, off a + S1x1x512x256.size a ≤ S1x1x16384x256.size a) : Triple c A (F := F) (score1P A off hoff) (score1 off hoff) := fun σ => by
  unfold score1P
  refine ld_5 ?_
  refine ld_8 ?_
  refine ld_10 ?_
  refine st_10 ?_
  refine ld_16 ?_
  refine st_16 ?_
  exact Triple.ret _

/-- The softmax of the block in slot 1 against the running maxima, as a program. -/
def soft1P  : Prog (TpuEff nD τ sig (Elt F) Λ₀ .tc) PUnit := do
  let bm : Vec F S1x2048 .f32 ← Prog.lift (.load A.a16 (Rect.unit (s := S1x2048) ![0, 0] S1x2048.size inb_S1x2048_S1x2048_0_0).toLoadRect (View.loadsAt_vmem h_S1x2048))
  let mo : Vec F S1x2048 .f32 ← Prog.lift (.load A.a17 (Rect.unit (s := S1x2048) ![0, 0] S1x2048.size inb_S1x2048_S1x2048_0_0).toLoadRect (View.loadsAt_vmem h_S1x2048))
  let _a : Vec F S1x2048 .f32 ← Prog.lift (.load A.a17 (Rect.unit (s := S1x2048) ![0, 0] S1x2048.size inb_S1x2048_S1x2048_0_0).toLoadRect (View.loadsAt_vmem h_S1x2048))
  Prog.lift (.store A.a17 (Rect.unit (s := S1x2048) ![0, 0] S1x2048.size inb_S1x2048_S1x2048_0_0) (k0_pay43 bm mo) Finset.univ (View.stores_vmem_bits_univ h_S1x2048 rfl) (.inl rfl))
  let _b : Vec F S1x2048 .f32 ← Prog.lift (.load A.a14 (Rect.unit (s := S1x2048) ![0, 0] S1x2048.size inb_S1x2048_S1x2048_0_0).toLoadRect (View.loadsAt_vmem h_S1x2048))
  Prog.lift (.store A.a14 (Rect.unit (s := S1x2048) ![0, 0] S1x2048.size inb_S1x2048_S1x2048_0_0) (k0_pay44 bm mo) Finset.univ (View.stores_vmem_bits_univ h_S1x2048 rfl) (.inl rfl))
  let st : Vec F S512x2048 .f32 ← Prog.lift (.load A.a10 (Rect.unit (s := S512x2304) ![0, 0] S512x2048.size inb_S512x2304_S512x2048_0_0).toLoadRect (View.loadsAt_vmem h_S512x2048))
  let _p : Vec F S512x2048 .bf16 ← Prog.lift (.load A.a12 (Rect.unit (s := S512x2304) ![0, 0] S512x2048.size inb_S512x2304_S512x2048_0_0).toLoadRect (View.loadsAt_vmem h_S512x2048))
  Prog.lift (.store A.a12 (Rect.unit (s := S512x2304) ![0, 0] S512x2048.size inb_S512x2304_S512x2048_0_0) (k0_pay45 bm mo st) Finset.univ (View.stores_vmem h_S512x2048 (A.h12.storeExact_slice rfl _ packedbf16_S512x2304_S512x2048_0_0) (fun _ => rfl)) (.inl rfl))
  pure ⟨⟩

/-- The softmax of the block in slot 1 against the running maxima, on the contents. -/
def soft1  (σ : St F) : St F :=
  { σ with
    x17 := (Rect.unit (s := S1x2048) ![0, 0] S1x2048.size inb_S1x2048_S1x2048_0_0).overlay σ.x17 (k0_pay43 (fun j => σ.x16 ((Rect.unit (s := S1x2048) ![0, 0] S1x2048.size inb_S1x2048_S1x2048_0_0).emb j)) (fun j => σ.x17 ((Rect.unit (s := S1x2048) ![0, 0] S1x2048.size inb_S1x2048_S1x2048_0_0).emb j)))
    x14 := (Rect.unit (s := S1x2048) ![0, 0] S1x2048.size inb_S1x2048_S1x2048_0_0).overlay σ.x14 (k0_pay44 (fun j => σ.x16 ((Rect.unit (s := S1x2048) ![0, 0] S1x2048.size inb_S1x2048_S1x2048_0_0).emb j)) (fun j => σ.x17 ((Rect.unit (s := S1x2048) ![0, 0] S1x2048.size inb_S1x2048_S1x2048_0_0).emb j)))
    x12 := (Rect.unit (s := S512x2304) ![0, 0] S512x2048.size inb_S512x2304_S512x2048_0_0).overlay σ.x12 (k0_pay45 (fun j => σ.x16 ((Rect.unit (s := S1x2048) ![0, 0] S1x2048.size inb_S1x2048_S1x2048_0_0).emb j)) (fun j => σ.x17 ((Rect.unit (s := S1x2048) ![0, 0] S1x2048.size inb_S1x2048_S1x2048_0_0).emb j)) (fun j => σ.x10 ((Rect.unit (s := S512x2304) ![0, 0] S512x2048.size inb_S512x2304_S512x2048_0_0).emb j))) }

theorem soft1_triple (c : Dev nD)  : Triple c A (F := F) (soft1P A ) (soft1 ) := fun σ => by
  unfold soft1P
  refine ld_16 ?_
  refine ld_17 ?_
  refine ld_17 ?_
  refine st_17 ?_
  refine ld_14 ?_
  refine st_14 ?_
  refine ld_10 ?_
  refine ld_12 ?_
  refine st_12 ?_
  exact Triple.ret _

/-- The product of the block in slot 0 with the values, onto the last 2048 accumulated columns, as a program. -/
def pv0P (off : Fin 5 → Nat) (hoff : ∀ a, off a + S1x1x1x144x512.size a ≤ S1x1x32x144x512.size a) : Prog (TpuEff nD τ sig (Elt F) Λ₀ .tc) PUnit := do
  let al : Vec F S1x2048 .f32 ← Prog.lift (.load A.a13 (Rect.unit (s := S1x2048) ![0, 0] S1x2048.size inb_S1x2048_S1x2048_0_0).toLoadRect (View.loadsAt_vmem h_S1x2048))
  let ac : Vec F S144x2048 .f32 ← Prog.lift (.load A.a18 (Rect.unit (s := S144x2304) ![0, 0] S144x2048.size inb_S144x2304_S144x2048_0_0).toLoadRect (View.loadsAt_vmem h_S144x2048))
  let vb : Vec F S1x1x1x144x512 .bf16 ← Prog.lift (.load A.a6 (Rect.unit (s := S1x1x32x144x512) off S1x1x1x144x512.size hoff).toLoadRect (View.loadsAt_vmem h_S1x1x1x144x512))
  let p : Vec F S512x2048 .bf16 ← Prog.lift (.load A.a11 (Rect.unit (s := S512x2304) ![0, 0] S512x2048.size inb_S512x2304_S512x2048_0_0).toLoadRect (View.loadsAt_vmem h_S512x2048))
  let _a : Vec F S144x2048 .f32 ← Prog.lift (.load A.a18 (Rect.unit (s := S144x2304) ![0, 0] S144x2048.size inb_S144x2304_S144x2048_0_0).toLoadRect (View.loadsAt_vmem h_S144x2048))
  Prog.lift (.store A.a18 (Rect.unit (s := S144x2304) ![0, 0] S144x2048.size inb_S144x2304_S144x2048_0_0) (k0_pay57 al ac vb p) Finset.univ (View.stores_vmem_bits_univ h_S144x2048 rfl) (.inl rfl))
  pure ⟨⟩

/-- The product of the block in slot 0 with the values, onto the last 2048 accumulated columns, on the contents. -/
def pv0 (off : Fin 5 → Nat) (hoff : ∀ a, off a + S1x1x1x144x512.size a ≤ S1x1x32x144x512.size a) (σ : St F) : St F :=
  { σ with
    x18 := (Rect.unit (s := S144x2304) ![0, 0] S144x2048.size inb_S144x2304_S144x2048_0_0).overlay σ.x18 (k0_pay57 (fun j => σ.x13 ((Rect.unit (s := S1x2048) ![0, 0] S1x2048.size inb_S1x2048_S1x2048_0_0).emb j)) (fun j => σ.x18 ((Rect.unit (s := S144x2304) ![0, 0] S144x2048.size inb_S144x2304_S144x2048_0_0).emb j)) (fun j => σ.x6 ((Rect.unit (s := S1x1x32x144x512) off S1x1x1x144x512.size hoff).emb j)) (fun j => σ.x11 ((Rect.unit (s := S512x2304) ![0, 0] S512x2048.size inb_S512x2304_S512x2048_0_0).emb j))) }

theorem pv0_triple (c : Dev nD) (off : Fin 5 → Nat) (hoff : ∀ a, off a + S1x1x1x144x512.size a ≤ S1x1x32x144x512.size a) : Triple c A (F := F) (pv0P A off hoff) (pv0 off hoff) := fun σ => by
  unfold pv0P
  refine ld_13 ?_
  refine ld_18 ?_
  refine ld_6 ?_
  refine ld_11 ?_
  refine ld_18 ?_
  refine st_18 ?_
  exact Triple.ret _

/-- The product of the block in slot 1 with the values, onto the last 2048 accumulated columns, as a program. -/
def pv1P (off : Fin 5 → Nat) (hoff : ∀ a, off a + S1x1x1x144x512.size a ≤ S1x1x32x144x512.size a) : Prog (TpuEff nD τ sig (Elt F) Λ₀ .tc) PUnit := do
  let al : Vec F S1x2048 .f32 ← Prog.lift (.load A.a14 (Rect.unit (s := S1x2048) ![0, 0] S1x2048.size inb_S1x2048_S1x2048_0_0).toLoadRect (View.loadsAt_vmem h_S1x2048))
  let ac : Vec F S144x2048 .f32 ← Prog.lift (.load A.a18 (Rect.unit (s := S144x2304) ![0, 0] S144x2048.size inb_S144x2304_S144x2048_0_0).toLoadRect (View.loadsAt_vmem h_S144x2048))
  let vb : Vec F S1x1x1x144x512 .bf16 ← Prog.lift (.load A.a6 (Rect.unit (s := S1x1x32x144x512) off S1x1x1x144x512.size hoff).toLoadRect (View.loadsAt_vmem h_S1x1x1x144x512))
  let p : Vec F S512x2048 .bf16 ← Prog.lift (.load A.a12 (Rect.unit (s := S512x2304) ![0, 0] S512x2048.size inb_S512x2304_S512x2048_0_0).toLoadRect (View.loadsAt_vmem h_S512x2048))
  let _a : Vec F S144x2048 .f32 ← Prog.lift (.load A.a18 (Rect.unit (s := S144x2304) ![0, 0] S144x2048.size inb_S144x2304_S144x2048_0_0).toLoadRect (View.loadsAt_vmem h_S144x2048))
  Prog.lift (.store A.a18 (Rect.unit (s := S144x2304) ![0, 0] S144x2048.size inb_S144x2304_S144x2048_0_0) (k0_pay57 al ac vb p) Finset.univ (View.stores_vmem_bits_univ h_S144x2048 rfl) (.inl rfl))
  pure ⟨⟩

/-- The product of the block in slot 1 with the values, onto the last 2048 accumulated columns, on the contents. -/
def pv1 (off : Fin 5 → Nat) (hoff : ∀ a, off a + S1x1x1x144x512.size a ≤ S1x1x32x144x512.size a) (σ : St F) : St F :=
  { σ with
    x18 := (Rect.unit (s := S144x2304) ![0, 0] S144x2048.size inb_S144x2304_S144x2048_0_0).overlay σ.x18 (k0_pay57 (fun j => σ.x14 ((Rect.unit (s := S1x2048) ![0, 0] S1x2048.size inb_S1x2048_S1x2048_0_0).emb j)) (fun j => σ.x18 ((Rect.unit (s := S144x2304) ![0, 0] S144x2048.size inb_S144x2304_S144x2048_0_0).emb j)) (fun j => σ.x6 ((Rect.unit (s := S1x1x32x144x512) off S1x1x1x144x512.size hoff).emb j)) (fun j => σ.x12 ((Rect.unit (s := S512x2304) ![0, 0] S512x2048.size inb_S512x2304_S512x2048_0_0).emb j))) }

theorem pv1_triple (c : Dev nD) (off : Fin 5 → Nat) (hoff : ∀ a, off a + S1x1x1x144x512.size a ≤ S1x1x32x144x512.size a) : Triple c A (F := F) (pv1P A off hoff) (pv1 off hoff) := fun σ => by
  unfold pv1P
  refine ld_14 ?_
  refine ld_18 ?_
  refine ld_6 ?_
  refine ld_12 ?_
  refine ld_18 ?_
  refine st_18 ?_
  exact Triple.ret _

/-- The product of the block in slot 1 with the values, onto the last 1536 accumulated columns, as a program. -/
def pv1_1536P (off : Fin 5 → Nat) (hoff : ∀ a, off a + S1x1x1x144x512.size a ≤ S1x1x32x144x512.size a) : Prog (TpuEff nD τ sig (Elt F) Λ₀ .tc) PUnit := do
  let al : Vec F S1x1536 .f32 ← Prog.lift (.load A.a14 (Rect.unit (s := S1x2048) ![0, 512] S1x1536.size inb_S1x2048_S1x1536_0_512).toLoadRect (View.loadsAt_vmem h_S1x1536))
  let ac : Vec F S144x1536 .f32 ← Prog.lift (.load A.a18 (Rect.unit (s := S144x2304) ![0, 512] S144x1536.size inb_S144x2304_S144x1536_0_512).toLoadRect (View.loadsAt_vmem h_S144x1536))
  let vb : Vec F S1x1x1x144x512 .bf16 ← Prog.lift (.load A.a6 (Rect.unit (s := S1x1x32x144x512) off S1x1x1x144x512.size hoff).toLoadRect (View.loadsAt_vmem h_S1x1x1x144x512))
  let p : Vec F S512x1536 .bf16 ← Prog.lift (.load A.a12 (Rect.unit (s := S512x2304) ![0, 512] S512x1536.size inb_S512x2304_S512x1536_0_512).toLoadRect (View.loadsAt_vmem h_S512x1536))
  let _a : Vec F S144x1536 .f32 ← Prog.lift (.load A.a18 (Rect.unit (s := S144x2304) ![0, 512] S144x1536.size inb_S144x2304_S144x1536_0_512).toLoadRect (View.loadsAt_vmem h_S144x1536))
  Prog.lift (.store A.a18 (Rect.unit (s := S144x2304) ![0, 512] S144x1536.size inb_S144x2304_S144x1536_0_512) (k0_pay284 al ac vb p) Finset.univ (View.stores_vmem_bits_univ h_S144x1536 rfl) (.inl rfl))
  pure ⟨⟩

/-- The product of the block in slot 1 with the values, onto the last 1536 accumulated columns, on the contents. -/
def pv1_1536 (off : Fin 5 → Nat) (hoff : ∀ a, off a + S1x1x1x144x512.size a ≤ S1x1x32x144x512.size a) (σ : St F) : St F :=
  { σ with
    x18 := (Rect.unit (s := S144x2304) ![0, 512] S144x1536.size inb_S144x2304_S144x1536_0_512).overlay σ.x18 (k0_pay284 (fun j => σ.x14 ((Rect.unit (s := S1x2048) ![0, 512] S1x1536.size inb_S1x2048_S1x1536_0_512).emb j)) (fun j => σ.x18 ((Rect.unit (s := S144x2304) ![0, 512] S144x1536.size inb_S144x2304_S144x1536_0_512).emb j)) (fun j => σ.x6 ((Rect.unit (s := S1x1x32x144x512) off S1x1x1x144x512.size hoff).emb j)) (fun j => σ.x12 ((Rect.unit (s := S512x2304) ![0, 512] S512x1536.size inb_S512x2304_S512x1536_0_512).emb j))) }

theorem pv1_1536_triple (c : Dev nD) (off : Fin 5 → Nat) (hoff : ∀ a, off a + S1x1x1x144x512.size a ≤ S1x1x32x144x512.size a) : Triple c A (F := F) (pv1_1536P A off hoff) (pv1_1536 off hoff) := fun σ => by
  unfold pv1_1536P
  refine ld_14 ?_
  refine ld_18 ?_
  refine ld_6 ?_
  refine ld_12 ?_
  refine ld_18 ?_
  refine st_18 ?_
  exact Triple.ret _

/-- The product of the block in slot 0 with the values, onto the last 1024 accumulated columns, as a program. -/
def pv0_1024P (off : Fin 5 → Nat) (hoff : ∀ a, off a + S1x1x1x144x512.size a ≤ S1x1x32x144x512.size a) : Prog (TpuEff nD τ sig (Elt F) Λ₀ .tc) PUnit := do
  let al : Vec F S1x1024 .f32 ← Prog.lift (.load A.a13 (Rect.unit (s := S1x2048) ![0, 1024] S1x1024.size inb_S1x2048_S1x1024_0_1024).toLoadRect (View.loadsAt_vmem h_S1x1024))
  let ac : Vec F S144x1024 .f32 ← Prog.lift (.load A.a18 (Rect.unit (s := S144x2304) ![0, 1024] S144x1024.size inb_S144x2304_S144x1024_0_1024).toLoadRect (View.loadsAt_vmem h_S144x1024))
  let vb : Vec F S1x1x1x144x512 .bf16 ← Prog.lift (.load A.a6 (Rect.unit (s := S1x1x32x144x512) off S1x1x1x144x512.size hoff).toLoadRect (View.loadsAt_vmem h_S1x1x1x144x512))
  let p : Vec F S512x1024 .bf16 ← Prog.lift (.load A.a11 (Rect.unit (s := S512x2304) ![0, 1024] S512x1024.size inb_S512x2304_S512x1024_0_1024).toLoadRect (View.loadsAt_vmem h_S512x1024))
  let _a : Vec F S144x1024 .f32 ← Prog.lift (.load A.a18 (Rect.unit (s := S144x2304) ![0, 1024] S144x1024.size inb_S144x2304_S144x1024_0_1024).toLoadRect (View.loadsAt_vmem h_S144x1024))
  Prog.lift (.store A.a18 (Rect.unit (s := S144x2304) ![0, 1024] S144x1024.size inb_S144x2304_S144x1024_0_1024) (k0_pay290 al ac vb p) Finset.univ (View.stores_vmem_bits_univ h_S144x1024 rfl) (.inl rfl))
  pure ⟨⟩

/-- The product of the block in slot 0 with the values, onto the last 1024 accumulated columns, on the contents. -/
def pv0_1024 (off : Fin 5 → Nat) (hoff : ∀ a, off a + S1x1x1x144x512.size a ≤ S1x1x32x144x512.size a) (σ : St F) : St F :=
  { σ with
    x18 := (Rect.unit (s := S144x2304) ![0, 1024] S144x1024.size inb_S144x2304_S144x1024_0_1024).overlay σ.x18 (k0_pay290 (fun j => σ.x13 ((Rect.unit (s := S1x2048) ![0, 1024] S1x1024.size inb_S1x2048_S1x1024_0_1024).emb j)) (fun j => σ.x18 ((Rect.unit (s := S144x2304) ![0, 1024] S144x1024.size inb_S144x2304_S144x1024_0_1024).emb j)) (fun j => σ.x6 ((Rect.unit (s := S1x1x32x144x512) off S1x1x1x144x512.size hoff).emb j)) (fun j => σ.x11 ((Rect.unit (s := S512x2304) ![0, 1024] S512x1024.size inb_S512x2304_S512x1024_0_1024).emb j))) }

theorem pv0_1024_triple (c : Dev nD) (off : Fin 5 → Nat) (hoff : ∀ a, off a + S1x1x1x144x512.size a ≤ S1x1x32x144x512.size a) : Triple c A (F := F) (pv0_1024P A off hoff) (pv0_1024 off hoff) := fun σ => by
  unfold pv0_1024P
  refine ld_13 ?_
  refine ld_18 ?_
  refine ld_6 ?_
  refine ld_11 ?_
  refine ld_18 ?_
  refine st_18 ?_
  exact Triple.ret _

/-- The product of the block in slot 1 with the values, onto the last 512 accumulated columns, as a program. -/
def pv1_512P (off : Fin 5 → Nat) (hoff : ∀ a, off a + S1x1x1x144x512.size a ≤ S1x1x32x144x512.size a) : Prog (TpuEff nD τ sig (Elt F) Λ₀ .tc) PUnit := do
  let al : Vec F S1x512 .f32 ← Prog.lift (.load A.a14 (Rect.unit (s := S1x2048) ![0, 1536] S1x512.size inb_S1x2048_S1x512_0_1536).toLoadRect (View.loadsAt_vmem h_S1x512))
  let ac : Vec F S144x512 .f32 ← Prog.lift (.load A.a18 (Rect.unit (s := S144x2304) ![0, 1536] S144x512.size inb_S144x2304_S144x512_0_1536).toLoadRect (View.loadsAt_vmem h_S144x512))
  let vb : Vec F S1x1x1x144x512 .bf16 ← Prog.lift (.load A.a6 (Rect.unit (s := S1x1x32x144x512) off S1x1x1x144x512.size hoff).toLoadRect (View.loadsAt_vmem h_S1x1x1x144x512))
  let p : Vec F S512x512 .bf16 ← Prog.lift (.load A.a12 (Rect.unit (s := S512x2304) ![0, 1536] S512x512.size inb_S512x2304_S512x512_0_1536).toLoadRect (View.loadsAt_vmem h_S512x512))
  let _a : Vec F S144x512 .f32 ← Prog.lift (.load A.a18 (Rect.unit (s := S144x2304) ![0, 1536] S144x512.size inb_S144x2304_S144x512_0_1536).toLoadRect (View.loadsAt_vmem h_S144x512))
  Prog.lift (.store A.a18 (Rect.unit (s := S144x2304) ![0, 1536] S144x512.size inb_S144x2304_S144x512_0_1536) (k0_pay291 al ac vb p) Finset.univ (View.stores_vmem_bits_univ h_S144x512 rfl) (.inl rfl))
  pure ⟨⟩

/-- The product of the block in slot 1 with the values, onto the last 512 accumulated columns, on the contents. -/
def pv1_512 (off : Fin 5 → Nat) (hoff : ∀ a, off a + S1x1x1x144x512.size a ≤ S1x1x32x144x512.size a) (σ : St F) : St F :=
  { σ with
    x18 := (Rect.unit (s := S144x2304) ![0, 1536] S144x512.size inb_S144x2304_S144x512_0_1536).overlay σ.x18 (k0_pay291 (fun j => σ.x14 ((Rect.unit (s := S1x2048) ![0, 1536] S1x512.size inb_S1x2048_S1x512_0_1536).emb j)) (fun j => σ.x18 ((Rect.unit (s := S144x2304) ![0, 1536] S144x512.size inb_S144x2304_S144x512_0_1536).emb j)) (fun j => σ.x6 ((Rect.unit (s := S1x1x32x144x512) off S1x1x1x144x512.size hoff).emb j)) (fun j => σ.x12 ((Rect.unit (s := S512x2304) ![0, 1536] S512x512.size inb_S512x2304_S512x512_0_1536).emb j))) }

theorem pv1_512_triple (c : Dev nD) (off : Fin 5 → Nat) (hoff : ∀ a, off a + S1x1x1x144x512.size a ≤ S1x1x32x144x512.size a) : Triple c A (F := F) (pv1_512P A off hoff) (pv1_512 off hoff) := fun σ => by
  unfold pv1_512P
  refine ld_14 ?_
  refine ld_18 ?_
  refine ld_6 ?_
  refine ld_12 ?_
  refine ld_18 ?_
  refine st_18 ?_
  exact Triple.ret _

/-- A diagonal block of scores into slot 0, for the last 2048 columns, as a program. -/
def scoreD0P (off : Fin 4 → Nat) (hoff : ∀ a, off a + S1x1x512x256.size a ≤ S1x1x16384x256.size a) : Prog (TpuEff nD τ sig (Elt F) Λ₀ .tc) PUnit := do
  let kb : Vec F S1x1x512x256 .bf16 ← Prog.lift (.load A.a5 (Rect.unit (s := S1x1x16384x256) off S1x1x512x256.size hoff).toLoadRect (View.loadsAt_vmem h_S1x1x512x256))
  let q : Vec F S256x2048 .bf16 ← Prog.lift (.load A.a8 (Rect.unit (s := S256x2048) ![0, 0] S256x2048.size inb_S256x2048_S256x2048_0_0).toLoadRect (View.loadsAt_vmem h_S256x2048))
  let _o : Vec F S512x2048 .f32 ← Prog.lift (.load A.a9 (Rect.unit (s := S512x2304) ![0, 0] S512x2048.size inb_S512x2304_S512x2048_0_0).toLoadRect (View.loadsAt_vmem h_S512x2048))
  Prog.lift (.store A.a9 (Rect.unit (s := S512x2304) ![0, 0] S512x2048.size inb_S512x2304_S512x2048_0_0) (k0_pay259 kb q) Finset.univ (View.stores_vmem_bits_univ h_S512x2048 rfl) (.inl rfl))
  pure ⟨⟩

/-- A diagonal block of scores into slot 0, for the last 2048 columns, on the contents. -/
def scoreD0 (off : Fin 4 → Nat) (hoff : ∀ a, off a + S1x1x512x256.size a ≤ S1x1x16384x256.size a) (σ : St F) : St F :=
  { σ with
    x9 := (Rect.unit (s := S512x2304) ![0, 0] S512x2048.size inb_S512x2304_S512x2048_0_0).overlay σ.x9 (k0_pay259 (fun j => σ.x5 ((Rect.unit (s := S1x1x16384x256) off S1x1x512x256.size hoff).emb j)) (fun j => σ.x8 ((Rect.unit (s := S256x2048) ![0, 0] S256x2048.size inb_S256x2048_S256x2048_0_0).emb j))) }

theorem scoreD0_triple (c : Dev nD) (off : Fin 4 → Nat) (hoff : ∀ a, off a + S1x1x512x256.size a ≤ S1x1x16384x256.size a) : Triple c A (F := F) (scoreD0P A off hoff) (scoreD0 off hoff) := fun σ => by
  unfold scoreD0P
  refine ld_5 ?_
  refine ld_8 ?_
  refine ld_9 ?_
  refine st_9 ?_
  exact Triple.ret _

/-- A diagonal block of scores into slot 1, for the last 1536 columns, as a program. -/
def scoreD1P (off : Fin 4 → Nat) (hoff : ∀ a, off a + S1x1x512x256.size a ≤ S1x1x16384x256.size a) : Prog (TpuEff nD τ sig (Elt F) Λ₀ .tc) PUnit := do
  let kb : Vec F S1x1x512x256 .bf16 ← Prog.lift (.load A.a5 (Rect.unit (s := S1x1x16384x256) off S1x1x512x256.size hoff).toLoadRect (View.loadsAt_vmem h_S1x1x512x256))
  let q : Vec F S256x1536 .bf16 ← Prog.lift (.load A.a8 (Rect.unit (s := S256x2048) ![0, 512] S256x1536.size inb_S256x2048_S256x1536_0_512).toLoadRect (View.loadsAt_vmem h_S256x1536))
  let _o : Vec F S512x1536 .f32 ← Prog.lift (.load A.a10 (Rect.unit (s := S512x2304) ![0, 512] S512x1536.size inb_S512x2304_S512x1536_0_512).toLoadRect (View.loadsAt_vmem h_S512x1536))
  Prog.lift (.store A.a10 (Rect.unit (s := S512x2304) ![0, 512] S512x1536.size inb_S512x2304_S512x1536_0_512) (k0_pay260 kb q) Finset.univ (View.stores_vmem_bits_univ h_S512x1536 rfl) (.inl rfl))
  pure ⟨⟩

/-- A diagonal block of scores into slot 1, for the last 1536 columns, on the contents. -/
def scoreD1 (off : Fin 4 → Nat) (hoff : ∀ a, off a + S1x1x512x256.size a ≤ S1x1x16384x256.size a) (σ : St F) : St F :=
  { σ with
    x10 := (Rect.unit (s := S512x2304) ![0, 512] S512x1536.size inb_S512x2304_S512x1536_0_512).overlay σ.x10 (k0_pay260 (fun j => σ.x5 ((Rect.unit (s := S1x1x16384x256) off S1x1x512x256.size hoff).emb j)) (fun j => σ.x8 ((Rect.unit (s := S256x2048) ![0, 512] S256x1536.size inb_S256x2048_S256x1536_0_512).emb j))) }

theorem scoreD1_triple (c : Dev nD) (off : Fin 4 → Nat) (hoff : ∀ a, off a + S1x1x512x256.size a ≤ S1x1x16384x256.size a) : Triple c A (F := F) (scoreD1P A off hoff) (scoreD1 off hoff) := fun σ => by
  unfold scoreD1P
  refine ld_5 ?_
  refine ld_8 ?_
  refine ld_10 ?_
  refine st_10 ?_
  exact Triple.ret _

/-- A diagonal block of scores into slot 0, for the last 1024 columns, as a program. -/
def scoreD2P (off : Fin 4 → Nat) (hoff : ∀ a, off a + S1x1x512x256.size a ≤ S1x1x16384x256.size a) : Prog (TpuEff nD τ sig (Elt F) Λ₀ .tc) PUnit := do
  let kb : Vec F S1x1x512x256 .bf16 ← Prog.lift (.load A.a5 (Rect.unit (s := S1x1x16384x256) off S1x1x512x256.size hoff).toLoadRect (View.loadsAt_vmem h_S1x1x512x256))
  let q : Vec F S256x1024 .bf16 ← Prog.lift (.load A.a8 (Rect.unit (s := S256x2048) ![0, 1024] S256x1024.size inb_S256x2048_S256x1024_0_1024).toLoadRect (View.loadsAt_vmem h_S256x1024))
  let _o : Vec F S512x1024 .f32 ← Prog.lift (.load A.a9 (Rect.unit (s := S512x2304) ![0, 1024] S512x1024.size inb_S512x2304_S512x1024_0_1024).toLoadRect (View.loadsAt_vmem h_S512x1024))
  Prog.lift (.store A.a9 (Rect.unit (s := S512x2304) ![0, 1024] S512x1024.size inb_S512x2304_S512x1024_0_1024) (k0_pay269 kb q) Finset.univ (View.stores_vmem_bits_univ h_S512x1024 rfl) (.inl rfl))
  pure ⟨⟩

/-- A diagonal block of scores into slot 0, for the last 1024 columns, on the contents. -/
def scoreD2 (off : Fin 4 → Nat) (hoff : ∀ a, off a + S1x1x512x256.size a ≤ S1x1x16384x256.size a) (σ : St F) : St F :=
  { σ with
    x9 := (Rect.unit (s := S512x2304) ![0, 1024] S512x1024.size inb_S512x2304_S512x1024_0_1024).overlay σ.x9 (k0_pay269 (fun j => σ.x5 ((Rect.unit (s := S1x1x16384x256) off S1x1x512x256.size hoff).emb j)) (fun j => σ.x8 ((Rect.unit (s := S256x2048) ![0, 1024] S256x1024.size inb_S256x2048_S256x1024_0_1024).emb j))) }

theorem scoreD2_triple (c : Dev nD) (off : Fin 4 → Nat) (hoff : ∀ a, off a + S1x1x512x256.size a ≤ S1x1x16384x256.size a) : Triple c A (F := F) (scoreD2P A off hoff) (scoreD2 off hoff) := fun σ => by
  unfold scoreD2P
  refine ld_5 ?_
  refine ld_8 ?_
  refine ld_9 ?_
  refine st_9 ?_
  exact Triple.ret _

/-- A diagonal block of scores into slot 1, for the last 512 columns, as a program. -/
def scoreD3P (off : Fin 4 → Nat) (hoff : ∀ a, off a + S1x1x512x256.size a ≤ S1x1x16384x256.size a) : Prog (TpuEff nD τ sig (Elt F) Λ₀ .tc) PUnit := do
  let kb : Vec F S1x1x512x256 .bf16 ← Prog.lift (.load A.a5 (Rect.unit (s := S1x1x16384x256) off S1x1x512x256.size hoff).toLoadRect (View.loadsAt_vmem h_S1x1x512x256))
  let q : Vec F S256x512 .bf16 ← Prog.lift (.load A.a8 (Rect.unit (s := S256x2048) ![0, 1536] S256x512.size inb_S256x2048_S256x512_0_1536).toLoadRect (View.loadsAt_vmem h_S256x512))
  let _o : Vec F S512x512 .f32 ← Prog.lift (.load A.a10 (Rect.unit (s := S512x2304) ![0, 1536] S512x512.size inb_S512x2304_S512x512_0_1536).toLoadRect (View.loadsAt_vmem h_S512x512))
  Prog.lift (.store A.a10 (Rect.unit (s := S512x2304) ![0, 1536] S512x512.size inb_S512x2304_S512x512_0_1536) (k0_pay278 kb q) Finset.univ (View.stores_vmem_bits_univ h_S512x512 rfl) (.inl rfl))
  pure ⟨⟩

/-- A diagonal block of scores into slot 1, for the last 512 columns, on the contents. -/
def scoreD3 (off : Fin 4 → Nat) (hoff : ∀ a, off a + S1x1x512x256.size a ≤ S1x1x16384x256.size a) (σ : St F) : St F :=
  { σ with
    x10 := (Rect.unit (s := S512x2304) ![0, 1536] S512x512.size inb_S512x2304_S512x512_0_1536).overlay σ.x10 (k0_pay278 (fun j => σ.x5 ((Rect.unit (s := S1x1x16384x256) off S1x1x512x256.size hoff).emb j)) (fun j => σ.x8 ((Rect.unit (s := S256x2048) ![0, 1536] S256x512.size inb_S256x2048_S256x512_0_1536).emb j))) }

theorem scoreD3_triple (c : Dev nD) (off : Fin 4 → Nat) (hoff : ∀ a, off a + S1x1x512x256.size a ≤ S1x1x16384x256.size a) : Triple c A (F := F) (scoreD3P A off hoff) (scoreD3 off hoff) := fun σ => by
  unfold scoreD3P
  refine ld_5 ?_
  refine ld_8 ?_
  refine ld_10 ?_
  refine st_10 ?_
  exact Triple.ret _

/-- The causal mask on the diagonal block in slot 0, as a program. -/
def softD0mP  : Prog (TpuEff nD τ sig (Elt F) Λ₀ .tc) PUnit := do
  let s : Vec F S512x2048 .f32 ← Prog.lift (.load A.a9 (Rect.unit (s := S512x2304) ![0, 0] S512x2048.size inb_S512x2304_S512x2048_0_0).toLoadRect (View.loadsAt_vmem h_S512x2048))
  let _o : Vec F S512x2048 .f32 ← Prog.lift (.load A.a9 (Rect.unit (s := S512x2304) ![0, 0] S512x2048.size inb_S512x2304_S512x2048_0_0).toLoadRect (View.loadsAt_vmem h_S512x2048))
  Prog.lift (.store A.a9 (Rect.unit (s := S512x2304) ![0, 0] S512x2048.size inb_S512x2304_S512x2048_0_0) (k0_pay262 k0_pay261 (s)) Finset.univ (View.stores_vmem_bits_univ h_S512x2048 rfl) (.inl rfl))
  pure ⟨⟩

/-- The causal mask on the diagonal block in slot 0, on the contents. -/
def softD0m  (σ : St F) : St F :=
  { σ with
    x9 := (Rect.unit (s := S512x2304) ![0, 0] S512x2048.size inb_S512x2304_S512x2048_0_0).overlay σ.x9 (k0_pay262 k0_pay261 ((fun j => σ.x9 ((Rect.unit (s := S512x2304) ![0, 0] S512x2048.size inb_S512x2304_S512x2048_0_0).emb j)))) }

theorem softD0m_triple (c : Dev nD)  : Triple c A (F := F) (softD0mP A ) (softD0m ) := fun σ => by
  unfold softD0mP
  refine ld_9 ?_
  refine ld_9 ?_
  refine st_9 ?_
  exact Triple.ret _

/-- The softmax of the diagonal block in slot 0 against the running maxima of the last 2048 columns, as a program. -/
def softD0P  : Prog (TpuEff nD τ sig (Elt F) Λ₀ .tc) PUnit := do
  let s : Vec F S512x2048 .f32 ← Prog.lift (.load A.a9 (Rect.unit (s := S512x2304) ![0, 0] S512x2048.size inb_S512x2304_S512x2048_0_0).toLoadRect (View.loadsAt_vmem h_S512x2048))
  let mo : Vec F S1x2048 .f32 ← Prog.lift (.load A.a17 (Rect.unit (s := S1x2048) ![0, 0] S1x2048.size inb_S1x2048_S1x2048_0_0).toLoadRect (View.loadsAt_vmem h_S1x2048))
  let _a : Vec F S1x2048 .f32 ← Prog.lift (.load A.a17 (Rect.unit (s := S1x2048) ![0, 0] S1x2048.size inb_S1x2048_S1x2048_0_0).toLoadRect (View.loadsAt_vmem h_S1x2048))
  Prog.lift (.store A.a17 (Rect.unit (s := S1x2048) ![0, 0] S1x2048.size inb_S1x2048_S1x2048_0_0) (k0_pay264 s mo) Finset.univ (View.stores_vmem_bits_univ h_S1x2048 rfl) (.inl rfl))
  let _b : Vec F S1x2048 .f32 ← Prog.lift (.load A.a13 (Rect.unit (s := S1x2048) ![0, 0] S1x2048.size inb_S1x2048_S1x2048_0_0).toLoadRect (View.loadsAt_vmem h_S1x2048))
  Prog.lift (.store A.a13 (Rect.unit (s := S1x2048) ![0, 0] S1x2048.size inb_S1x2048_S1x2048_0_0) (k0_pay265 s mo) Finset.univ (View.stores_vmem_bits_univ h_S1x2048 rfl) (.inl rfl))
  let s2 : Vec F S512x2048 .f32 ← Prog.lift (.load A.a9 (Rect.unit (s := S512x2304) ![0, 0] S512x2048.size inb_S512x2304_S512x2048_0_0).toLoadRect (View.loadsAt_vmem h_S512x2048))
  let _p : Vec F S512x2048 .bf16 ← Prog.lift (.load A.a11 (Rect.unit (s := S512x2304) ![0, 0] S512x2048.size inb_S512x2304_S512x2048_0_0).toLoadRect (View.loadsAt_vmem h_S512x2048))
  Prog.lift (.store A.a11 (Rect.unit (s := S512x2304) ![0, 0] S512x2048.size inb_S512x2304_S512x2048_0_0) (k0_pay266 s mo s2) Finset.univ (View.stores_vmem h_S512x2048 (A.h11.storeExact_slice rfl _ packedbf16_S512x2304_S512x2048_0_0) (fun _ => rfl)) (.inl rfl))
  pure ⟨⟩

/-- The softmax of the diagonal block in slot 0 against the running maxima of the last 2048 columns, on the contents. -/
def softD0  (σ : St F) : St F :=
  { σ with
    x17 := (Rect.unit (s := S1x2048) ![0, 0] S1x2048.size inb_S1x2048_S1x2048_0_0).overlay σ.x17 (k0_pay264 (fun j => σ.x9 ((Rect.unit (s := S512x2304) ![0, 0] S512x2048.size inb_S512x2304_S512x2048_0_0).emb j)) (fun j => σ.x17 ((Rect.unit (s := S1x2048) ![0, 0] S1x2048.size inb_S1x2048_S1x2048_0_0).emb j)))
    x13 := (Rect.unit (s := S1x2048) ![0, 0] S1x2048.size inb_S1x2048_S1x2048_0_0).overlay σ.x13 (k0_pay265 (fun j => σ.x9 ((Rect.unit (s := S512x2304) ![0, 0] S512x2048.size inb_S512x2304_S512x2048_0_0).emb j)) (fun j => σ.x17 ((Rect.unit (s := S1x2048) ![0, 0] S1x2048.size inb_S1x2048_S1x2048_0_0).emb j)))
    x11 := (Rect.unit (s := S512x2304) ![0, 0] S512x2048.size inb_S512x2304_S512x2048_0_0).overlay σ.x11 (k0_pay266 (fun j => σ.x9 ((Rect.unit (s := S512x2304) ![0, 0] S512x2048.size inb_S512x2304_S512x2048_0_0).emb j)) (fun j => σ.x17 ((Rect.unit (s := S1x2048) ![0, 0] S1x2048.size inb_S1x2048_S1x2048_0_0).emb j)) (fun j => σ.x9 ((Rect.unit (s := S512x2304) ![0, 0] S512x2048.size inb_S512x2304_S512x2048_0_0).emb j))) }

theorem softD0_triple (c : Dev nD)  : Triple c A (F := F) (softD0P A ) (softD0 ) := fun σ => by
  unfold softD0P
  refine ld_9 ?_
  refine ld_17 ?_
  refine ld_17 ?_
  refine st_17 ?_
  refine ld_13 ?_
  refine st_13 ?_
  refine ld_9 ?_
  refine ld_11 ?_
  refine st_11 ?_
  exact Triple.ret _

/-- The causal mask on the diagonal block in slot 1, as a program. -/
def softD1mP  : Prog (TpuEff nD τ sig (Elt F) Λ₀ .tc) PUnit := do
  let s : Vec F S512x1536 .f32 ← Prog.lift (.load A.a10 (Rect.unit (s := S512x2304) ![0, 512] S512x1536.size inb_S512x2304_S512x1536_0_512).toLoadRect (View.loadsAt_vmem h_S512x1536))
  let _o : Vec F S512x1536 .f32 ← Prog.lift (.load A.a10 (Rect.unit (s := S512x2304) ![0, 512] S512x1536.size inb_S512x2304_S512x1536_0_512).toLoadRect (View.loadsAt_vmem h_S512x1536))
  Prog.lift (.store A.a10 (Rect.unit (s := S512x2304) ![0, 512] S512x1536.size inb_S512x2304_S512x1536_0_512) (k0_pay270 (s)) Finset.univ (View.stores_vmem_bits_univ h_S512x1536 rfl) (.inl rfl))
  pure ⟨⟩

/-- The causal mask on the diagonal block in slot 1, on the contents. -/
def softD1m  (σ : St F) : St F :=
  { σ with
    x10 := (Rect.unit (s := S512x2304) ![0, 512] S512x1536.size inb_S512x2304_S512x1536_0_512).overlay σ.x10 (k0_pay270 ((fun j => σ.x10 ((Rect.unit (s := S512x2304) ![0, 512] S512x1536.size inb_S512x2304_S512x1536_0_512).emb j)))) }

theorem softD1m_triple (c : Dev nD)  : Triple c A (F := F) (softD1mP A ) (softD1m ) := fun σ => by
  unfold softD1mP
  refine ld_10 ?_
  refine ld_10 ?_
  refine st_10 ?_
  exact Triple.ret _

/-- The softmax of the diagonal block in slot 1 against the running maxima of the last 1536 columns, as a program. -/
def softD1P  : Prog (TpuEff nD τ sig (Elt F) Λ₀ .tc) PUnit := do
  let s : Vec F S512x1536 .f32 ← Prog.lift (.load A.a10 (Rect.unit (s := S512x2304) ![0, 512] S512x1536.size inb_S512x2304_S512x1536_0_512).toLoadRect (View.loadsAt_vmem h_S512x1536))
  let mo : Vec F S1x1536 .f32 ← Prog.lift (.load A.a17 (Rect.unit (s := S1x2048) ![0, 512] S1x1536.size inb_S1x2048_S1x1536_0_512).toLoadRect (View.loadsAt_vmem h_S1x1536))
  let _a : Vec F S1x1536 .f32 ← Prog.lift (.load A.a17 (Rect.unit (s := S1x2048) ![0, 512] S1x1536.size inb_S1x2048_S1x1536_0_512).toLoadRect (View.loadsAt_vmem h_S1x1536))
  Prog.lift (.store A.a17 (Rect.unit (s := S1x2048) ![0, 512] S1x1536.size inb_S1x2048_S1x1536_0_512) (k0_pay272 s mo) Finset.univ (View.stores_vmem_bits_univ h_S1x1536 rfl) (.inl rfl))
  let _b : Vec F S1x1536 .f32 ← Prog.lift (.load A.a14 (Rect.unit (s := S1x2048) ![0, 512] S1x1536.size inb_S1x2048_S1x1536_0_512).toLoadRect (View.loadsAt_vmem h_S1x1536))
  Prog.lift (.store A.a14 (Rect.unit (s := S1x2048) ![0, 512] S1x1536.size inb_S1x2048_S1x1536_0_512) (k0_pay273 s mo) Finset.univ (View.stores_vmem_bits_univ h_S1x1536 rfl) (.inl rfl))
  let s2 : Vec F S512x1536 .f32 ← Prog.lift (.load A.a10 (Rect.unit (s := S512x2304) ![0, 512] S512x1536.size inb_S512x2304_S512x1536_0_512).toLoadRect (View.loadsAt_vmem h_S512x1536))
  let _p : Vec F S512x1536 .bf16 ← Prog.lift (.load A.a12 (Rect.unit (s := S512x2304) ![0, 512] S512x1536.size inb_S512x2304_S512x1536_0_512).toLoadRect (View.loadsAt_vmem h_S512x1536))
  Prog.lift (.store A.a12 (Rect.unit (s := S512x2304) ![0, 512] S512x1536.size inb_S512x2304_S512x1536_0_512) (k0_pay274 s mo s2) Finset.univ (View.stores_vmem h_S512x1536 (A.h12.storeExact_slice rfl _ packedbf16_S512x2304_S512x1536_0_512) (fun _ => rfl)) (.inl rfl))
  pure ⟨⟩

/-- The softmax of the diagonal block in slot 1 against the running maxima of the last 1536 columns, on the contents. -/
def softD1  (σ : St F) : St F :=
  { σ with
    x17 := (Rect.unit (s := S1x2048) ![0, 512] S1x1536.size inb_S1x2048_S1x1536_0_512).overlay σ.x17 (k0_pay272 (fun j => σ.x10 ((Rect.unit (s := S512x2304) ![0, 512] S512x1536.size inb_S512x2304_S512x1536_0_512).emb j)) (fun j => σ.x17 ((Rect.unit (s := S1x2048) ![0, 512] S1x1536.size inb_S1x2048_S1x1536_0_512).emb j)))
    x14 := (Rect.unit (s := S1x2048) ![0, 512] S1x1536.size inb_S1x2048_S1x1536_0_512).overlay σ.x14 (k0_pay273 (fun j => σ.x10 ((Rect.unit (s := S512x2304) ![0, 512] S512x1536.size inb_S512x2304_S512x1536_0_512).emb j)) (fun j => σ.x17 ((Rect.unit (s := S1x2048) ![0, 512] S1x1536.size inb_S1x2048_S1x1536_0_512).emb j)))
    x12 := (Rect.unit (s := S512x2304) ![0, 512] S512x1536.size inb_S512x2304_S512x1536_0_512).overlay σ.x12 (k0_pay274 (fun j => σ.x10 ((Rect.unit (s := S512x2304) ![0, 512] S512x1536.size inb_S512x2304_S512x1536_0_512).emb j)) (fun j => σ.x17 ((Rect.unit (s := S1x2048) ![0, 512] S1x1536.size inb_S1x2048_S1x1536_0_512).emb j)) (fun j => σ.x10 ((Rect.unit (s := S512x2304) ![0, 512] S512x1536.size inb_S512x2304_S512x1536_0_512).emb j))) }

theorem softD1_triple (c : Dev nD)  : Triple c A (F := F) (softD1P A ) (softD1 ) := fun σ => by
  unfold softD1P
  refine ld_10 ?_
  refine ld_17 ?_
  refine ld_17 ?_
  refine st_17 ?_
  refine ld_14 ?_
  refine st_14 ?_
  refine ld_10 ?_
  refine ld_12 ?_
  refine st_12 ?_
  exact Triple.ret _

/-- The causal mask on the diagonal block in slot 0, as a program. -/
def softD2mP  : Prog (TpuEff nD τ sig (Elt F) Λ₀ .tc) PUnit := do
  let s : Vec F S512x1024 .f32 ← Prog.lift (.load A.a9 (Rect.unit (s := S512x2304) ![0, 1024] S512x1024.size inb_S512x2304_S512x1024_0_1024).toLoadRect (View.loadsAt_vmem h_S512x1024))
  let _o : Vec F S512x1024 .f32 ← Prog.lift (.load A.a9 (Rect.unit (s := S512x2304) ![0, 1024] S512x1024.size inb_S512x2304_S512x1024_0_1024).toLoadRect (View.loadsAt_vmem h_S512x1024))
  Prog.lift (.store A.a9 (Rect.unit (s := S512x2304) ![0, 1024] S512x1024.size inb_S512x2304_S512x1024_0_1024) (k0_pay279 (s)) Finset.univ (View.stores_vmem_bits_univ h_S512x1024 rfl) (.inl rfl))
  pure ⟨⟩

/-- The causal mask on the diagonal block in slot 0, on the contents. -/
def softD2m  (σ : St F) : St F :=
  { σ with
    x9 := (Rect.unit (s := S512x2304) ![0, 1024] S512x1024.size inb_S512x2304_S512x1024_0_1024).overlay σ.x9 (k0_pay279 ((fun j => σ.x9 ((Rect.unit (s := S512x2304) ![0, 1024] S512x1024.size inb_S512x2304_S512x1024_0_1024).emb j)))) }

theorem softD2m_triple (c : Dev nD)  : Triple c A (F := F) (softD2mP A ) (softD2m ) := fun σ => by
  unfold softD2mP
  refine ld_9 ?_
  refine ld_9 ?_
  refine st_9 ?_
  exact Triple.ret _

/-- The softmax of the diagonal block in slot 0 against the running maxima of the last 1024 columns, as a program. -/
def softD2P  : Prog (TpuEff nD τ sig (Elt F) Λ₀ .tc) PUnit := do
  let s : Vec F S512x1024 .f32 ← Prog.lift (.load A.a9 (Rect.unit (s := S512x2304) ![0, 1024] S512x1024.size inb_S512x2304_S512x1024_0_1024).toLoadRect (View.loadsAt_vmem h_S512x1024))
  let mo : Vec F S1x1024 .f32 ← Prog.lift (.load A.a17 (Rect.unit (s := S1x2048) ![0, 1024] S1x1024.size inb_S1x2048_S1x1024_0_1024).toLoadRect (View.loadsAt_vmem h_S1x1024))
  let _a : Vec F S1x1024 .f32 ← Prog.lift (.load A.a17 (Rect.unit (s := S1x2048) ![0, 1024] S1x1024.size inb_S1x2048_S1x1024_0_1024).toLoadRect (View.loadsAt_vmem h_S1x1024))
  Prog.lift (.store A.a17 (Rect.unit (s := S1x2048) ![0, 1024] S1x1024.size inb_S1x2048_S1x1024_0_1024) (k0_pay281 (k0_pay280 s mo)) Finset.univ (View.stores_vmem_bits_univ h_S1x1024 rfl) (.inl rfl))
  let _b : Vec F S1x1024 .f32 ← Prog.lift (.load A.a13 (Rect.unit (s := S1x2048) ![0, 1024] S1x1024.size inb_S1x2048_S1x1024_0_1024).toLoadRect (View.loadsAt_vmem h_S1x1024))
  Prog.lift (.store A.a13 (Rect.unit (s := S1x2048) ![0, 1024] S1x1024.size inb_S1x2048_S1x1024_0_1024) (k0_pay282 mo (k0_pay280 s mo)) Finset.univ (View.stores_vmem_bits_univ h_S1x1024 rfl) (.inl rfl))
  let s2 : Vec F S512x1024 .f32 ← Prog.lift (.load A.a9 (Rect.unit (s := S512x2304) ![0, 1024] S512x1024.size inb_S512x2304_S512x1024_0_1024).toLoadRect (View.loadsAt_vmem h_S512x1024))
  let _p : Vec F S512x1024 .bf16 ← Prog.lift (.load A.a11 (Rect.unit (s := S512x2304) ![0, 1024] S512x1024.size inb_S512x2304_S512x1024_0_1024).toLoadRect (View.loadsAt_vmem h_S512x1024))
  Prog.lift (.store A.a11 (Rect.unit (s := S512x2304) ![0, 1024] S512x1024.size inb_S512x2304_S512x1024_0_1024) (k0_pay283 (k0_pay280 s mo) s2) Finset.univ (View.stores_vmem h_S512x1024 (A.h11.storeExact_slice rfl _ packedbf16_S512x2304_S512x1024_0_1024) (fun _ => rfl)) (.inl rfl))
  pure ⟨⟩

/-- The softmax of the diagonal block in slot 0 against the running maxima of the last 1024 columns, on the contents. -/
def softD2  (σ : St F) : St F :=
  { σ with
    x17 := (Rect.unit (s := S1x2048) ![0, 1024] S1x1024.size inb_S1x2048_S1x1024_0_1024).overlay σ.x17 (k0_pay281 (k0_pay280 (fun j => σ.x9 ((Rect.unit (s := S512x2304) ![0, 1024] S512x1024.size inb_S512x2304_S512x1024_0_1024).emb j)) (fun j => σ.x17 ((Rect.unit (s := S1x2048) ![0, 1024] S1x1024.size inb_S1x2048_S1x1024_0_1024).emb j))))
    x13 := (Rect.unit (s := S1x2048) ![0, 1024] S1x1024.size inb_S1x2048_S1x1024_0_1024).overlay σ.x13 (k0_pay282 (fun j => σ.x17 ((Rect.unit (s := S1x2048) ![0, 1024] S1x1024.size inb_S1x2048_S1x1024_0_1024).emb j)) (k0_pay280 (fun j => σ.x9 ((Rect.unit (s := S512x2304) ![0, 1024] S512x1024.size inb_S512x2304_S512x1024_0_1024).emb j)) (fun j => σ.x17 ((Rect.unit (s := S1x2048) ![0, 1024] S1x1024.size inb_S1x2048_S1x1024_0_1024).emb j))))
    x11 := (Rect.unit (s := S512x2304) ![0, 1024] S512x1024.size inb_S512x2304_S512x1024_0_1024).overlay σ.x11 (k0_pay283 (k0_pay280 (fun j => σ.x9 ((Rect.unit (s := S512x2304) ![0, 1024] S512x1024.size inb_S512x2304_S512x1024_0_1024).emb j)) (fun j => σ.x17 ((Rect.unit (s := S1x2048) ![0, 1024] S1x1024.size inb_S1x2048_S1x1024_0_1024).emb j))) (fun j => σ.x9 ((Rect.unit (s := S512x2304) ![0, 1024] S512x1024.size inb_S512x2304_S512x1024_0_1024).emb j))) }

theorem softD2_triple (c : Dev nD)  : Triple c A (F := F) (softD2P A ) (softD2 ) := fun σ => by
  unfold softD2P
  refine ld_9 ?_
  refine ld_17 ?_
  refine ld_17 ?_
  refine st_17 ?_
  refine ld_13 ?_
  refine st_13 ?_
  refine ld_9 ?_
  refine ld_11 ?_
  refine st_11 ?_
  exact Triple.ret _

/-- The causal mask on the diagonal block in slot 1, as a program. -/
def softD3mP  : Prog (TpuEff nD τ sig (Elt F) Λ₀ .tc) PUnit := do
  let s : Vec F S512x512 .f32 ← Prog.lift (.load A.a10 (Rect.unit (s := S512x2304) ![0, 1536] S512x512.size inb_S512x2304_S512x512_0_1536).toLoadRect (View.loadsAt_vmem h_S512x512))
  let _o : Vec F S512x512 .f32 ← Prog.lift (.load A.a10 (Rect.unit (s := S512x2304) ![0, 1536] S512x512.size inb_S512x2304_S512x512_0_1536).toLoadRect (View.loadsAt_vmem h_S512x512))
  Prog.lift (.store A.a10 (Rect.unit (s := S512x2304) ![0, 1536] S512x512.size inb_S512x2304_S512x512_0_1536) (k0_pay285 (iota .tc S512x512 32 [0] iota_S512x512_d0_w32) (iota .tc S512x512 32 [1] iota_S512x512_d1_w32) (s)) Finset.univ (View.stores_vmem_bits_univ h_S512x512 rfl) (.inl rfl))
  pure ⟨⟩

/-- The causal mask on the diagonal block in slot 1, on the contents. -/
def softD3m  (σ : St F) : St F :=
  { σ with
    x10 := (Rect.unit (s := S512x2304) ![0, 1536] S512x512.size inb_S512x2304_S512x512_0_1536).overlay σ.x10 (k0_pay285 (iota .tc S512x512 32 [0] iota_S512x512_d0_w32) (iota .tc S512x512 32 [1] iota_S512x512_d1_w32) ((fun j => σ.x10 ((Rect.unit (s := S512x2304) ![0, 1536] S512x512.size inb_S512x2304_S512x512_0_1536).emb j)))) }

theorem softD3m_triple (c : Dev nD)  : Triple c A (F := F) (softD3mP A ) (softD3m ) := fun σ => by
  unfold softD3mP
  refine ld_10 ?_
  refine ld_10 ?_
  refine st_10 ?_
  exact Triple.ret _

/-- The softmax of the diagonal block in slot 1 against the running maxima of the last 512 columns, as a program. -/
def softD3P  : Prog (TpuEff nD τ sig (Elt F) Λ₀ .tc) PUnit := do
  let s : Vec F S512x512 .f32 ← Prog.lift (.load A.a10 (Rect.unit (s := S512x2304) ![0, 1536] S512x512.size inb_S512x2304_S512x512_0_1536).toLoadRect (View.loadsAt_vmem h_S512x512))
  let mo : Vec F S1x512 .f32 ← Prog.lift (.load A.a17 (Rect.unit (s := S1x2048) ![0, 1536] S1x512.size inb_S1x2048_S1x512_0_1536).toLoadRect (View.loadsAt_vmem h_S1x512))
  let _a : Vec F S1x512 .f32 ← Prog.lift (.load A.a17 (Rect.unit (s := S1x2048) ![0, 1536] S1x512.size inb_S1x2048_S1x512_0_1536).toLoadRect (View.loadsAt_vmem h_S1x512))
  Prog.lift (.store A.a17 (Rect.unit (s := S1x2048) ![0, 1536] S1x512.size inb_S1x2048_S1x512_0_1536) (k0_pay287 s mo) Finset.univ (View.stores_vmem_bits_univ h_S1x512 rfl) (.inl rfl))
  let _b : Vec F S1x512 .f32 ← Prog.lift (.load A.a14 (Rect.unit (s := S1x2048) ![0, 1536] S1x512.size inb_S1x2048_S1x512_0_1536).toLoadRect (View.loadsAt_vmem h_S1x512))
  Prog.lift (.store A.a14 (Rect.unit (s := S1x2048) ![0, 1536] S1x512.size inb_S1x2048_S1x512_0_1536) (k0_pay288 s mo) Finset.univ (View.stores_vmem_bits_univ h_S1x512 rfl) (.inl rfl))
  let s2 : Vec F S512x512 .f32 ← Prog.lift (.load A.a10 (Rect.unit (s := S512x2304) ![0, 1536] S512x512.size inb_S512x2304_S512x512_0_1536).toLoadRect (View.loadsAt_vmem h_S512x512))
  let _p : Vec F S512x512 .bf16 ← Prog.lift (.load A.a12 (Rect.unit (s := S512x2304) ![0, 1536] S512x512.size inb_S512x2304_S512x512_0_1536).toLoadRect (View.loadsAt_vmem h_S512x512))
  Prog.lift (.store A.a12 (Rect.unit (s := S512x2304) ![0, 1536] S512x512.size inb_S512x2304_S512x512_0_1536) (k0_pay289 s mo s2) Finset.univ (View.stores_vmem h_S512x512 (A.h12.storeExact_slice rfl _ packedbf16_S512x2304_S512x512_0_1536) (fun _ => rfl)) (.inl rfl))
  pure ⟨⟩

/-- The softmax of the diagonal block in slot 1 against the running maxima of the last 512 columns, on the contents. -/
def softD3  (σ : St F) : St F :=
  { σ with
    x17 := (Rect.unit (s := S1x2048) ![0, 1536] S1x512.size inb_S1x2048_S1x512_0_1536).overlay σ.x17 (k0_pay287 (fun j => σ.x10 ((Rect.unit (s := S512x2304) ![0, 1536] S512x512.size inb_S512x2304_S512x512_0_1536).emb j)) (fun j => σ.x17 ((Rect.unit (s := S1x2048) ![0, 1536] S1x512.size inb_S1x2048_S1x512_0_1536).emb j)))
    x14 := (Rect.unit (s := S1x2048) ![0, 1536] S1x512.size inb_S1x2048_S1x512_0_1536).overlay σ.x14 (k0_pay288 (fun j => σ.x10 ((Rect.unit (s := S512x2304) ![0, 1536] S512x512.size inb_S512x2304_S512x512_0_1536).emb j)) (fun j => σ.x17 ((Rect.unit (s := S1x2048) ![0, 1536] S1x512.size inb_S1x2048_S1x512_0_1536).emb j)))
    x12 := (Rect.unit (s := S512x2304) ![0, 1536] S512x512.size inb_S512x2304_S512x512_0_1536).overlay σ.x12 (k0_pay289 (fun j => σ.x10 ((Rect.unit (s := S512x2304) ![0, 1536] S512x512.size inb_S512x2304_S512x512_0_1536).emb j)) (fun j => σ.x17 ((Rect.unit (s := S1x2048) ![0, 1536] S1x512.size inb_S1x2048_S1x512_0_1536).emb j)) (fun j => σ.x10 ((Rect.unit (s := S512x2304) ![0, 1536] S512x512.size inb_S512x2304_S512x512_0_1536).emb j))) }

theorem softD3_triple (c : Dev nD)  : Triple c A (F := F) (softD3P A ) (softD3 ) := fun σ => by
  unfold softD3P
  refine ld_10 ?_
  refine ld_17 ?_
  refine ld_17 ?_
  refine st_17 ?_
  refine ld_14 ?_
  refine st_14 ?_
  refine ld_10 ?_
  refine ld_12 ?_
  refine st_12 ?_
  exact Triple.ret _

end Cert.KernelIdeal.Fox
-- ==== Proof.Trips.lean ====
/- The attention kernel's loop bodies and straight-line stretches as sequences of steps, and what each takes
   the contents to. -/
module

public import proofs.«01_k».proof.Proof.Steps

@[expose] public section

set_option maxRecDepth 65536

noncomputable section

namespace Cert.KernelIdeal.Fox

open Cert.KernelIdeal Cert.KernelIdeal.Gen Cert.FoxMem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (A : Args)

/-- A trip of eight visible blocks: the steps as a program. -/
def longP (i : grid0.Coords) (t : Fin (k0_t1_loop i).trips) : Prog (TpuEff nD τ sig (Elt F) Λ₀ .tc) PUnit := do
  score0P A (k0_off6 i t) (k0_off6_inb i t)
  score1P A (k0_off7 i t) (k0_off7_inb i t)
  soft0P A
  pv1P A (k0_off8 i t 0#32) (k0_off8_inb i t 0)
  score0P A (k0_off9 i t 0#32) (k0_off9_inb i t 0)
  soft1P A
  pv0P A (k0_off8 i t 1#32) (k0_off8_inb i t 1)
  score1P A (k0_off9 i t 1#32) (k0_off9_inb i t 1)
  soft0P A
  pv1P A (k0_off8 i t 2#32) (k0_off8_inb i t 2)
  score0P A (k0_off9 i t 2#32) (k0_off9_inb i t 2)
  soft1P A
  pv0P A (k0_off8 i t 3#32) (k0_off8_inb i t 3)
  score1P A (k0_off9 i t 3#32) (k0_off9_inb i t 3)
  soft0P A
  pv1P A (k0_off8 i t 4#32) (k0_off8_inb i t 4)
  score0P A (k0_off9 i t 4#32) (k0_off9_inb i t 4)
  soft1P A
  pv0P A (k0_off8 i t 5#32) (k0_off8_inb i t 5)
  score1P A (k0_off9 i t 5#32) (k0_off9_inb i t 5)
  soft0P A
  pv1P A (k0_off8 i t 6#32) (k0_off8_inb i t 6)
  soft1P A
  pv0P A (k0_off8 i t 7#32) (k0_off8_inb i t 7)

/-- A trip of eight visible blocks: the steps on the contents. -/
def long (i : grid0.Coords) (t : Fin (k0_t1_loop i).trips) (σ : St F) : St F :=
  let σ1 := score0 (k0_off6 i t) (k0_off6_inb i t) σ
  let σ2 := score1 (k0_off7 i t) (k0_off7_inb i t) σ1
  let σ3 := soft0  σ2
  let σ4 := pv1 (k0_off8 i t 0#32) (k0_off8_inb i t 0) σ3
  let σ5 := score0 (k0_off9 i t 0#32) (k0_off9_inb i t 0) σ4
  let σ6 := soft1  σ5
  let σ7 := pv0 (k0_off8 i t 1#32) (k0_off8_inb i t 1) σ6
  let σ8 := score1 (k0_off9 i t 1#32) (k0_off9_inb i t 1) σ7
  let σ9 := soft0  σ8
  let σ10 := pv1 (k0_off8 i t 2#32) (k0_off8_inb i t 2) σ9
  let σ11 := score0 (k0_off9 i t 2#32) (k0_off9_inb i t 2) σ10
  let σ12 := soft1  σ11
  let σ13 := pv0 (k0_off8 i t 3#32) (k0_off8_inb i t 3) σ12
  let σ14 := score1 (k0_off9 i t 3#32) (k0_off9_inb i t 3) σ13
  let σ15 := soft0  σ14
  let σ16 := pv1 (k0_off8 i t 4#32) (k0_off8_inb i t 4) σ15
  let σ17 := score0 (k0_off9 i t 4#32) (k0_off9_inb i t 4) σ16
  let σ18 := soft1  σ17
  let σ19 := pv0 (k0_off8 i t 5#32) (k0_off8_inb i t 5) σ18
  let σ20 := score1 (k0_off9 i t 5#32) (k0_off9_inb i t 5) σ19
  let σ21 := soft0  σ20
  let σ22 := pv1 (k0_off8 i t 6#32) (k0_off8_inb i t 6) σ21
  let σ23 := soft1  σ22
  let σ24 := pv0 (k0_off8 i t 7#32) (k0_off8_inb i t 7) σ23
  σ24

theorem long_triple (c : Dev nD) (i : grid0.Coords) (t : Fin (k0_t1_loop i).trips) : Triple c A (F := F) (longP A i t) (long i t) := fun σ => by
  unfold longP long
  refine Triple.seq (score0_triple A c (k0_off6 i t) (k0_off6_inb i t)) ?_
  refine Triple.seq (score1_triple A c (k0_off7 i t) (k0_off7_inb i t)) ?_
  refine Triple.seq (soft0_triple A c ) ?_
  refine Triple.seq (pv1_triple A c (k0_off8 i t 0#32) (k0_off8_inb i t 0)) ?_
  refine Triple.seq (score0_triple A c (k0_off9 i t 0#32) (k0_off9_inb i t 0)) ?_
  refine Triple.seq (soft1_triple A c ) ?_
  refine Triple.seq (pv0_triple A c (k0_off8 i t 1#32) (k0_off8_inb i t 1)) ?_
  refine Triple.seq (score1_triple A c (k0_off9 i t 1#32) (k0_off9_inb i t 1)) ?_
  refine Triple.seq (soft0_triple A c ) ?_
  refine Triple.seq (pv1_triple A c (k0_off8 i t 2#32) (k0_off8_inb i t 2)) ?_
  refine Triple.seq (score0_triple A c (k0_off9 i t 2#32) (k0_off9_inb i t 2)) ?_
  refine Triple.seq (soft1_triple A c ) ?_
  refine Triple.seq (pv0_triple A c (k0_off8 i t 3#32) (k0_off8_inb i t 3)) ?_
  refine Triple.seq (score1_triple A c (k0_off9 i t 3#32) (k0_off9_inb i t 3)) ?_
  refine Triple.seq (soft0_triple A c ) ?_
  refine Triple.seq (pv1_triple A c (k0_off8 i t 4#32) (k0_off8_inb i t 4)) ?_
  refine Triple.seq (score0_triple A c (k0_off9 i t 4#32) (k0_off9_inb i t 4)) ?_
  refine Triple.seq (soft1_triple A c ) ?_
  refine Triple.seq (pv0_triple A c (k0_off8 i t 5#32) (k0_off8_inb i t 5)) ?_
  refine Triple.seq (score1_triple A c (k0_off9 i t 5#32) (k0_off9_inb i t 5)) ?_
  refine Triple.seq (soft0_triple A c ) ?_
  refine Triple.seq (pv1_triple A c (k0_off8 i t 6#32) (k0_off8_inb i t 6)) ?_
  refine Triple.seq (soft1_triple A c ) ?_
  exact (pv0_triple A c (k0_off8 i t 7#32) (k0_off8_inb i t 7)) _

/-- A trip of four visible blocks: the steps as a program. -/
def shortP (i : grid0.Coords) (t : Fin (k0_t3_loop i).trips) : Prog (TpuEff nD τ sig (Elt F) Λ₀ .tc) PUnit := do
  score0P A (k0_off14 i t) (k0_off14_inb i t)
  score1P A (k0_off15 i t) (k0_off15_inb i t)
  soft0P A
  pv1P A (k0_off16 i t 0#32) (k0_off16_inb i t 0)
  score0P A (k0_off17 i t 0#32) (k0_off17_inb i t 0)
  soft1P A
  pv0P A (k0_off16 i t 1#32) (k0_off16_inb i t 1)
  score1P A (k0_off17 i t 1#32) (k0_off17_inb i t 1)
  soft0P A
  pv1P A (k0_off16 i t 2#32) (k0_off16_inb i t 2)
  soft1P A
  pv0P A (k0_off16 i t 3#32) (k0_off16_inb i t 3)

/-- A trip of four visible blocks: the steps on the contents. -/
def short (i : grid0.Coords) (t : Fin (k0_t3_loop i).trips) (σ : St F) : St F :=
  let σ1 := score0 (k0_off14 i t) (k0_off14_inb i t) σ
  let σ2 := score1 (k0_off15 i t) (k0_off15_inb i t) σ1
  let σ3 := soft0  σ2
  let σ4 := pv1 (k0_off16 i t 0#32) (k0_off16_inb i t 0) σ3
  let σ5 := score0 (k0_off17 i t 0#32) (k0_off17_inb i t 0) σ4
  let σ6 := soft1  σ5
  let σ7 := pv0 (k0_off16 i t 1#32) (k0_off16_inb i t 1) σ6
  let σ8 := score1 (k0_off17 i t 1#32) (k0_off17_inb i t 1) σ7
  let σ9 := soft0  σ8
  let σ10 := pv1 (k0_off16 i t 2#32) (k0_off16_inb i t 2) σ9
  let σ11 := soft1  σ10
  let σ12 := pv0 (k0_off16 i t 3#32) (k0_off16_inb i t 3) σ11
  σ12

theorem short_triple (c : Dev nD) (i : grid0.Coords) (t : Fin (k0_t3_loop i).trips) : Triple c A (F := F) (shortP A i t) (short i t) := fun σ => by
  unfold shortP short
  refine Triple.seq (score0_triple A c (k0_off14 i t) (k0_off14_inb i t)) ?_
  refine Triple.seq (score1_triple A c (k0_off15 i t) (k0_off15_inb i t)) ?_
  refine Triple.seq (soft0_triple A c ) ?_
  refine Triple.seq (pv1_triple A c (k0_off16 i t 0#32) (k0_off16_inb i t 0)) ?_
  refine Triple.seq (score0_triple A c (k0_off17 i t 0#32) (k0_off17_inb i t 0)) ?_
  refine Triple.seq (soft1_triple A c ) ?_
  refine Triple.seq (pv0_triple A c (k0_off16 i t 1#32) (k0_off16_inb i t 1)) ?_
  refine Triple.seq (score1_triple A c (k0_off17 i t 1#32) (k0_off17_inb i t 1)) ?_
  refine Triple.seq (soft0_triple A c ) ?_
  refine Triple.seq (pv1_triple A c (k0_off16 i t 2#32) (k0_off16_inb i t 2)) ?_
  refine Triple.seq (soft1_triple A c ) ?_
  exact (pv0_triple A c (k0_off16 i t 3#32) (k0_off16_inb i t 3)) _

/-- The first four visible blocks: the steps as a program. -/
def firstP (i : grid0.Coords) (h : k0_cond2 i = 1#1) : Prog (TpuEff nD τ sig (Elt F) Λ₀ .tc) PUnit := do
  score0P A k0_off2 (k0_off2_inb i h)
  score1P A k0_off3 (k0_off3_inb i h)
  soft0P A
  score0P A (k0_off4 0#32) (k0_off4_inb i h 0)
  soft1P A
  pv0P A (k0_off5 1#32) (k0_off5_inb i h 0)
  score1P A (k0_off4 1#32) (k0_off4_inb i h 1)
  soft0P A
  pv1P A (k0_off5 2#32) (k0_off5_inb i h 1)
  soft1P A
  pv0P A (k0_off5 3#32) (k0_off5_inb i h 2)

/-- The first four visible blocks: the steps on the contents. -/
def first (i : grid0.Coords) (h : k0_cond2 i = 1#1) (σ : St F) : St F :=
  let σ1 := score0 k0_off2 (k0_off2_inb i h) σ
  let σ2 := score1 k0_off3 (k0_off3_inb i h) σ1
  let σ3 := soft0  σ2
  let σ4 := score0 (k0_off4 0#32) (k0_off4_inb i h 0) σ3
  let σ5 := soft1  σ4
  let σ6 := pv0 (k0_off5 1#32) (k0_off5_inb i h 0) σ5
  let σ7 := score1 (k0_off4 1#32) (k0_off4_inb i h 1) σ6
  let σ8 := soft0  σ7
  let σ9 := pv1 (k0_off5 2#32) (k0_off5_inb i h 1) σ8
  let σ10 := soft1  σ9
  let σ11 := pv0 (k0_off5 3#32) (k0_off5_inb i h 2) σ10
  σ11

theorem first_triple (c : Dev nD) (i : grid0.Coords) (h : k0_cond2 i = 1#1) : Triple c A (F := F) (firstP A i h) (first i h) := fun σ => by
  unfold firstP first
  refine Triple.seq (score0_triple A c k0_off2 (k0_off2_inb i h)) ?_
  refine Triple.seq (score1_triple A c k0_off3 (k0_off3_inb i h)) ?_
  refine Triple.seq (soft0_triple A c ) ?_
  refine Triple.seq (score0_triple A c (k0_off4 0#32) (k0_off4_inb i h 0)) ?_
  refine Triple.seq (soft1_triple A c ) ?_
  refine Triple.seq (pv0_triple A c (k0_off5 1#32) (k0_off5_inb i h 0)) ?_
  refine Triple.seq (score1_triple A c (k0_off4 1#32) (k0_off4_inb i h 1)) ?_
  refine Triple.seq (soft0_triple A c ) ?_
  refine Triple.seq (pv1_triple A c (k0_off5 2#32) (k0_off5_inb i h 1)) ?_
  refine Triple.seq (soft1_triple A c ) ?_
  exact (pv0_triple A c (k0_off5 3#32) (k0_off5_inb i h 2)) _

/-- The four diagonal blocks: the steps as a program. -/
def diagP (i : grid0.Coords) : Prog (TpuEff nD τ sig (Elt F) Λ₀ .tc) PUnit := do
  scoreD0P A (k0_off22 i) (k0_off22_inb i)
  scoreD1P A (k0_off23 i) (k0_off23_inb i)
  softD0mP A
  softD0P A
  pv1P A (k0_off24 i 0#32) (k0_off24_inb i 0)
  scoreD2P A (k0_off25 i 0#32) (k0_off25_inb i 0)
  softD1mP A
  softD1P A
  pv0P A (k0_off24 i 1#32) (k0_off24_inb i 1)
  scoreD3P A (k0_off25 i 1#32) (k0_off25_inb i 1)
  softD2mP A
  softD2P A
  pv1_1536P A (k0_off24 i 2#32) (k0_off24_inb i 2)
  softD3mP A
  softD3P A
  pv0_1024P A (k0_off24 i 3#32) (k0_off24_inb i 3)
  pv1_512P A (k0_off26 i) (k0_off26_inb i)

/-- The four diagonal blocks: the steps on the contents. -/
def diag (i : grid0.Coords) (σ : St F) : St F :=
  let σ1 := scoreD0 (k0_off22 i) (k0_off22_inb i) σ
  let σ2 := scoreD1 (k0_off23 i) (k0_off23_inb i) σ1
  let σ3 := softD0m  σ2
  let σ4 := softD0  σ3
  let σ5 := pv1 (k0_off24 i 0#32) (k0_off24_inb i 0) σ4
  let σ6 := scoreD2 (k0_off25 i 0#32) (k0_off25_inb i 0) σ5
  let σ7 := softD1m  σ6
  let σ8 := softD1  σ7
  let σ9 := pv0 (k0_off24 i 1#32) (k0_off24_inb i 1) σ8
  let σ10 := scoreD3 (k0_off25 i 1#32) (k0_off25_inb i 1) σ9
  let σ11 := softD2m  σ10
  let σ12 := softD2  σ11
  let σ13 := pv1_1536 (k0_off24 i 2#32) (k0_off24_inb i 2) σ12
  let σ14 := softD3m  σ13
  let σ15 := softD3  σ14
  let σ16 := pv0_1024 (k0_off24 i 3#32) (k0_off24_inb i 3) σ15
  let σ17 := pv1_512 (k0_off26 i) (k0_off26_inb i) σ16
  σ17

theorem diag_triple (c : Dev nD) (i : grid0.Coords) : Triple c A (F := F) (diagP A i) (diag i) := fun σ => by
  unfold diagP diag
  refine Triple.seq (scoreD0_triple A c (k0_off22 i) (k0_off22_inb i)) ?_
  refine Triple.seq (scoreD1_triple A c (k0_off23 i) (k0_off23_inb i)) ?_
  refine Triple.seq (softD0m_triple A c ) ?_
  refine Triple.seq (softD0_triple A c ) ?_
  refine Triple.seq (pv1_triple A c (k0_off24 i 0#32) (k0_off24_inb i 0)) ?_
  refine Triple.seq (scoreD2_triple A c (k0_off25 i 0#32) (k0_off25_inb i 0)) ?_
  refine Triple.seq (softD1m_triple A c ) ?_
  refine Triple.seq (softD1_triple A c ) ?_
  refine Triple.seq (pv0_triple A c (k0_off24 i 1#32) (k0_off24_inb i 1)) ?_
  refine Triple.seq (scoreD3_triple A c (k0_off25 i 1#32) (k0_off25_inb i 1)) ?_
  refine Triple.seq (softD2m_triple A c ) ?_
  refine Triple.seq (softD2_triple A c ) ?_
  refine Triple.seq (pv1_1536_triple A c (k0_off24 i 2#32) (k0_off24_inb i 2)) ?_
  refine Triple.seq (softD3m_triple A c ) ?_
  refine Triple.seq (softD3_triple A c ) ?_
  refine Triple.seq (pv0_1024_triple A c (k0_off24 i 3#32) (k0_off24_inb i 3)) ?_
  exact (pv1_512_triple A c (k0_off26 i) (k0_off26_inb i)) _

theorem long_eq (i : grid0.Coords) (arg2 : BitVec 32) (v : FVec F S144x2304 .f32) (t : Fin (k0_t1_loop i).trips) :
    k0_t1_body i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg2 v t ⟨⟩ = longP (F := F) A i t := rfl

theorem short_eq (i : grid0.Coords) (arg2 v92 v99 : BitVec 32) (t : Fin (k0_t3_loop i).trips) :
    k0_t3_body i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 arg2 v92 v99 t ⟨⟩ = shortP (F := F) A i t := rfl

end Cert.KernelIdeal.Fox
-- ==== Proof.Body.lean ====
/- The attention kernel's body as one function of the contents: the operands laid out, the visible blocks'
   loops, the diagonal blocks, the quotient. -/
module

public import proofs.«01_k».proof.Proof.Trips

@[expose] public section

set_option maxRecDepth 65536

noncomputable section

namespace Cert.KernelIdeal.Fox

open Cert.KernelIdeal Cert.KernelIdeal.Gen Cert.FoxMem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (A : Args)

/-- The operands laid out in scratch, the running maxima and the accumulator at their starts, as a program. -/
def initP (i : grid0.Coords) : Prog (TpuEff nD τ sig (Elt F) Λ₀ .tc) PUnit := do
  let _arg2 : BitVec 32 := BitVec.ofNat 32 (i 2).val
  let v0 : Vec F S1x1x1x128x512 .bf16 ← Prog.lift (.load A.a3 (Rect.unit (s := S1x1x4x128x512) ![0, 0, 0, 0, 0] S1x1x1x128x512.size inb_S1x1x4x128x512_S1x1x1x128x512_0_0_0_0_0).toLoadRect (View.loadsAt_vmem h_S1x1x1x128x512))
  let v2 : Vec F S128x512 .bf16 ← Prog.lift (.load A.a8 (Rect.unit (s := S256x2048) ![0, 0] S128x512.size inb_S256x2048_S128x512_0_0).toLoadRect (View.loadsAt_vmem h_S128x512))
  Prog.lift (.store A.a8 (Rect.unit (s := S256x2048) ![0, 0] S128x512.size inb_S256x2048_S128x512_0_0) (k0_pay241 v0) Finset.univ (View.stores_vmem h_S128x512 (A.h8.storeExact_slice rfl _ packedbf16_S256x2048_S128x512_0_0) (fun _ => rfl)) (.inl rfl))
  let v5 : Vec F S1x1x1x128x512 .bf16 ← Prog.lift (.load A.a3 (Rect.unit (s := S1x1x4x128x512) ![0, 0, 1, 0, 0] S1x1x1x128x512.size inb_S1x1x4x128x512_S1x1x1x128x512_0_0_1_0_0).toLoadRect (View.loadsAt_vmem h_S1x1x1x128x512))
  let v7 : Vec F S128x512 .bf16 ← Prog.lift (.load A.a8 (Rect.unit (s := S256x2048) ![0, 512] S128x512.size inb_S256x2048_S128x512_0_512).toLoadRect (View.loadsAt_vmem h_S128x512))
  Prog.lift (.store A.a8 (Rect.unit (s := S256x2048) ![0, 512] S128x512.size inb_S256x2048_S128x512_0_512) (k0_pay242 v5) Finset.univ (View.stores_vmem h_S128x512 (A.h8.storeExact_slice rfl _ packedbf16_S256x2048_S128x512_0_512) (fun _ => rfl)) (.inl rfl))
  let v10 : Vec F S1x1x1x128x512 .bf16 ← Prog.lift (.load A.a3 (Rect.unit (s := S1x1x4x128x512) ![0, 0, 2, 0, 0] S1x1x1x128x512.size inb_S1x1x4x128x512_S1x1x1x128x512_0_0_2_0_0).toLoadRect (View.loadsAt_vmem h_S1x1x1x128x512))
  let v12 : Vec F S128x512 .bf16 ← Prog.lift (.load A.a8 (Rect.unit (s := S256x2048) ![0, 1024] S128x512.size inb_S256x2048_S128x512_0_1024).toLoadRect (View.loadsAt_vmem h_S128x512))
  Prog.lift (.store A.a8 (Rect.unit (s := S256x2048) ![0, 1024] S128x512.size inb_S256x2048_S128x512_0_1024) (k0_pay243 v10) Finset.univ (View.stores_vmem h_S128x512 (A.h8.storeExact_slice rfl _ packedbf16_S256x2048_S128x512_0_1024) (fun _ => rfl)) (.inl rfl))
  let v15 : Vec F S1x1x1x128x512 .bf16 ← Prog.lift (.load A.a3 (Rect.unit (s := S1x1x4x128x512) ![0, 0, 3, 0, 0] S1x1x1x128x512.size inb_S1x1x4x128x512_S1x1x1x128x512_0_0_3_0_0).toLoadRect (View.loadsAt_vmem h_S1x1x1x128x512))
  let v17 : Vec F S128x512 .bf16 ← Prog.lift (.load A.a8 (Rect.unit (s := S256x2048) ![0, 1536] S128x512.size inb_S256x2048_S128x512_0_1536).toLoadRect (View.loadsAt_vmem h_S128x512))
  Prog.lift (.store A.a8 (Rect.unit (s := S256x2048) ![0, 1536] S128x512.size inb_S256x2048_S128x512_0_1536) (k0_pay244 v15) Finset.univ (View.stores_vmem h_S128x512 (A.h8.storeExact_slice rfl _ packedbf16_S256x2048_S128x512_0_1536) (fun _ => rfl)) (.inl rfl))
  let v21 : Vec F S1x1x2048 .f32 ← Prog.lift (.load A.a4 (Rect.unit (s := S1x8x2048) (k0_off1 i) S1x1x2048.size (k0_off1_inb i)).toLoadRect (View.loadsAt_vmem h_S1x1x2048))
  let v57 : Vec F S128x2048 .bf16 ← Prog.lift (.load A.a8 (Rect.unit (s := S256x2048) ![128, 0] S128x2048.size inb_S256x2048_S128x2048_128_0).toLoadRect (View.loadsAt_vmem h_S128x2048))
  Prog.lift (.store A.a8 (Rect.unit (s := S256x2048) ![128, 0] S128x2048.size inb_S256x2048_S128x2048_128_0) (k0_pay246 (k0_pay245 v21)) Finset.univ (View.stores_vmem h_S128x2048 (A.h8.storeExact_slice rfl _ packedbf16_S256x2048_S128x2048_128_0) (fun _ => rfl)) (.inl rfl))
  let v61 : Vec F S1x2048 .f32 ← Prog.lift (.load A.a17 (Rect.unit (s := S1x2048) ![0, 0] S1x2048.size inb_S1x2048_S1x2048_0_0).toLoadRect (View.loadsAt_vmem h_S1x2048))
  Prog.lift (.store A.a17 (Rect.unit (s := S1x2048) ![0, 0] S1x2048.size inb_S1x2048_S1x2048_0_0) (k0_pay247 (F := F)) Finset.univ (View.stores_vmem_bits_univ h_S1x2048 rfl) (.inl rfl))
  let v65 : Vec F S144x2304 .f32 ← Prog.lift (.load A.a18 (Rect.unit (s := S144x2304) ![0, 0] S144x2304.size inb_S144x2304_S144x2304_0_0).toLoadRect (View.loadsAt_vmem h_S144x2304))
  Prog.lift (.store A.a18 (Rect.unit (s := S144x2304) ![0, 0] S144x2304.size inb_S144x2304_S144x2304_0_0) (k0_pay249 (k0_pay248 (F := F))) Finset.univ (View.stores_vmem_bits_univ h_S144x2304 rfl) (.inl rfl))
  pure ⟨⟩

/-- The operands laid out in scratch, the running maxima and the accumulator at their starts, on the contents. -/
def init (i : grid0.Coords) (σ : St F) : St F :=
  { σ with
    x8 := (Rect.unit (s := S256x2048) ![128, 0] S128x2048.size inb_S256x2048_S128x2048_128_0).overlay
      ((Rect.unit (s := S256x2048) ![0, 1536] S128x512.size inb_S256x2048_S128x512_0_1536).overlay ((Rect.unit (s := S256x2048) ![0, 1024] S128x512.size inb_S256x2048_S128x512_0_1024).overlay ((Rect.unit (s := S256x2048) ![0, 512] S128x512.size inb_S256x2048_S128x512_0_512).overlay ((Rect.unit (s := S256x2048) ![0, 0] S128x512.size inb_S256x2048_S128x512_0_0).overlay σ.x8 (k0_pay241 (fun j => σ.x3 ((Rect.unit (s := S1x1x4x128x512) ![0, 0, 0, 0, 0] S1x1x1x128x512.size inb_S1x1x4x128x512_S1x1x1x128x512_0_0_0_0_0).emb j)))) (k0_pay242 (fun j => σ.x3 ((Rect.unit (s := S1x1x4x128x512) ![0, 0, 1, 0, 0] S1x1x1x128x512.size inb_S1x1x4x128x512_S1x1x1x128x512_0_0_1_0_0).emb j)))) (k0_pay243 (fun j => σ.x3 ((Rect.unit (s := S1x1x4x128x512) ![0, 0, 2, 0, 0] S1x1x1x128x512.size inb_S1x1x4x128x512_S1x1x1x128x512_0_0_2_0_0).emb j)))) (k0_pay244 (fun j => σ.x3 ((Rect.unit (s := S1x1x4x128x512) ![0, 0, 3, 0, 0] S1x1x1x128x512.size inb_S1x1x4x128x512_S1x1x1x128x512_0_0_3_0_0).emb j))))
      (k0_pay246 (k0_pay245 (fun j => σ.x4 ((Rect.unit (s := S1x8x2048) (k0_off1 i) S1x1x2048.size (k0_off1_inb i)).emb j))))
    x17 := (Rect.unit (s := S1x2048) ![0, 0] S1x2048.size inb_S1x2048_S1x2048_0_0).overlay σ.x17 (k0_pay247 (F := F))
    x18 := (Rect.unit (s := S144x2304) ![0, 0] S144x2304.size inb_S144x2304_S144x2304_0_0).overlay σ.x18 (k0_pay249 (k0_pay248 (F := F))) }

theorem init_triple (c : Dev nD) (i : grid0.Coords) : Triple c A (F := F) (initP A i) (init i) := fun σ => by
  unfold initP
  refine ld_3 ?_
  refine ld_8 ?_
  refine st_8 ?_
  refine ld_3 ?_
  refine ld_8 ?_
  refine st_8 ?_
  refine ld_3 ?_
  refine ld_8 ?_
  refine st_8 ?_
  refine ld_3 ?_
  refine ld_8 ?_
  refine st_8 ?_
  refine ld_4 ?_
  refine ld_8 ?_
  refine st_8 ?_
  refine ld_17 ?_
  refine st_17 ?_
  refine ld_18 ?_
  refine st_18 ?_
  exact Triple.ret _

/-- The second slot emptied: probabilities nought and a factor of one, as a program. -/
def zeroP : Prog (TpuEff nD τ sig (Elt F) Λ₀ .tc) PUnit := do
  let v360 : Vec F S512x2304 .bf16 ← Prog.lift (.load A.a12 (Rect.unit (s := S512x2304) ![0, 0] S512x2304.size inb_S512x2304_S512x2304_0_0).toLoadRect (View.loadsAt_vmem h_S512x2304))
  Prog.lift (.store A.a12 (Rect.unit (s := S512x2304) ![0, 0] S512x2304.size inb_S512x2304_S512x2304_0_0) (k0_pay250 (F := F)) Finset.univ (View.stores_vmem h_S512x2304 (A.h12.storeExact_slice rfl _ packedbf16_S512x2304_S512x2304_0_0) (fun _ => rfl)) (.inl rfl))
  let v364 : Vec F S1x2048 .f32 ← Prog.lift (.load A.a14 (Rect.unit (s := S1x2048) ![0, 0] S1x2048.size inb_S1x2048_S1x2048_0_0).toLoadRect (View.loadsAt_vmem h_S1x2048))
  Prog.lift (.store A.a14 (Rect.unit (s := S1x2048) ![0, 0] S1x2048.size inb_S1x2048_S1x2048_0_0) (k0_pay251 (F := F)) Finset.univ (View.stores_vmem_bits_univ h_S1x2048 rfl) (.inl rfl))
  pure ⟨⟩

/-- The second slot emptied, on the contents. -/
def zero (σ : St F) : St F :=
  { σ with
    x12 := (Rect.unit (s := S512x2304) ![0, 0] S512x2304.size inb_S512x2304_S512x2304_0_0).overlay σ.x12 (k0_pay250 (F := F))
    x14 := (Rect.unit (s := S1x2048) ![0, 0] S1x2048.size inb_S1x2048_S1x2048_0_0).overlay σ.x14 (k0_pay251 (F := F)) }

theorem zero_triple (c : Dev nD) : Triple c A (F := F) (zeroP A) zero := fun σ => by
  unfold zeroP
  refine ld_12 ?_
  refine st_12 ?_
  refine ld_14 ?_
  refine st_14 ?_
  exact Triple.ret _

/-- The accumulated values over the accumulated weights, written out, as a program. -/
def outP : Prog (TpuEff nD τ sig (Elt F) Λ₀ .tc) PUnit := do
  let n : Vec F S128x2048 .f32 ← Prog.lift (.load A.a18 (Rect.unit (s := S144x2304) ![0, 0] S128x2048.size inb_S144x2304_S128x2048_0_0).toLoadRect (View.loadsAt_vmem h_S128x2048))
  let l : Vec F S1x2048 .f32 ← Prog.lift (.load A.a18 (Rect.unit (s := S144x2304) ![128, 0] S1x2048.size inb_S144x2304_S1x2048_128_0).toLoadRect (View.loadsAt_vmem h_S1x2048))
  let v356 : Vec F S1x2048x128 .bf16 ← Prog.lift (.load A.a7 (Rect.unit (s := S1x2048x128) ![0, 0, 0] S1x2048x128.size inb_S1x2048x128_S1x2048x128_0_0_0).toLoadRect (View.loadsAt_vmem h_S1x2048x128))
  Prog.lift (.store A.a7 (Rect.unit (s := S1x2048x128) ![0, 0, 0] S1x2048x128.size inb_S1x2048x128_S1x2048x128_0_0_0) (k0_pay1 n l) Finset.univ (View.stores_vmem h_S1x2048x128 (A.h7.storeExact_slice rfl _ packedbf16_S1x2048x128_S1x2048x128_0_0_0) (fun _ => rfl)) (.inl rfl))
  pure ⟨⟩

/-- The accumulated values over the accumulated weights, written out, on the contents. -/
def out (σ : St F) : St F :=
  { σ with
    x7 := (Rect.unit (s := S1x2048x128) ![0, 0, 0] S1x2048x128.size inb_S1x2048x128_S1x2048x128_0_0_0).overlay σ.x7
      (k0_pay1 (fun j => σ.x18 ((Rect.unit (s := S144x2304) ![0, 0] S128x2048.size inb_S144x2304_S128x2048_0_0).emb j))
        (fun j => σ.x18 ((Rect.unit (s := S144x2304) ![128, 0] S1x2048.size inb_S144x2304_S1x2048_128_0).emb j))) }

theorem out_triple (c : Dev nD) : Triple c A (F := F) (outP A) out := fun σ => by
  unfold outP
  refine ld_18 ?_
  refine ld_18 ?_
  refine ld_7 ?_
  refine st_7 ?_
  exact Triple.ret _

/-- Whether the point's queries are the first. -/
def atFirst (i : grid0.Coords) : BitVec 1 :=
  Scalar.cmpi .ne ((Scalar.extui (Scalar.cmpi .eq (BitVec.ofNat 32 (i 2).val) 0#32) : BitVec 32)) 0#32

/-- The visible blocks up to the loop of eight. -/
def midP (i : grid0.Coords) : Prog (TpuEff nD τ sig (Elt F) Λ₀ .tc) (Σ' (v92 : BitVec 32), BitVec 32) := do
  let v68 : BitVec 1 := Scalar.cmpi .eq (BitVec.ofNat 32 (i 2).val) 0#32
  let v69 : BitVec 32 := Scalar.extui v68
  let v70 : BitVec 1 := Scalar.cmpi .ne v69 0#32
  if k0_h1 : v70 = 1#1 then do
    zeroP A
  else do
    pure ⟨⟩
  if k0_h2 : k0_cond2 i = 1#1 then do
    firstP A i k0_h2
  else do
    pure ⟨⟩
  let v74 : BitVec 32 := Scalar.subi (BitVec.ofNat 32 (i 2).val) 1#32
  let v75 : BitVec 32 := Scalar.maxsi v74 0#32
  let v76 : BitVec 32 := Scalar.divsi v75 2#32
  let v77 : BitVec 1 := Scalar.cmpi .sgt v75 0#32
  let v78 : BitVec 32 := Scalar.extui v77
  let v79 : BitVec 1 := Scalar.cmpi .slt v75 0#32
  let v80 : BitVec 32 := Scalar.extui v79
  let v81 : BitVec 32 := Scalar.subi v78 v80
  let v82 : BitVec 1 := Scalar.cmpi .sgt 2#32 0#32
  let v83 : BitVec 32 := Scalar.extui v82
  let v84 : BitVec 1 := Scalar.cmpi .slt 2#32 0#32
  let v85 : BitVec 32 := Scalar.extui v84
  let v86 : BitVec 32 := Scalar.subi v83 v85
  let v87 : BitVec 1 := Scalar.cmpi .ne v81 v86
  let v88 : BitVec 32 := Scalar.remsi v75 2#32
  let v89 : BitVec 1 := Scalar.cmpi .ne v88 0#32
  let v90 : BitVec 1 := Scalar.andi v87 v89
  let v91 : BitVec 32 := Scalar.subi v76 1#32
  let v92 : BitVec 32 := Scalar.select v90 v91 v76
  let v93 : BitVec 32 := Scalar.subi v92 0#32
  let v95 : BitVec 32 := Scalar.divsi v93 1#32
  let v96 : BitVec 32 := Scalar.muli v95 1#32
  let v97 : BitVec 32 := Scalar.addi 0#32 v96
  Scf.Loop.for (k0_t1_loop i) (k0_t1_ok i) ⟨⟩ (fun t _ => longP A i t)
  Scf.Loop.for (k0_t2_loop i) (k0_t2_ok i) ⟨⟩ (k0_t2_body i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 (BitVec.ofNat 32 (i 2).val) (k0_pay248 (F := F)) v97)
  let v98 : BitVec 32 := Scalar.muli 2#32 v92
  let v99 : BitVec 32 := Scalar.subi v75 v98
  pure ⟨v92, v99⟩

/-- The diagonal stretch after its first two blocks of scores. -/
def restP (i : grid0.Coords) (v105 : BitVec 32) (v129 : IVec S512x2048 1) : Prog (TpuEff nD τ sig (Elt F) Λ₀ .tc) PUnit := do
  let ⟨v159, v161, v162⟩ : Σ' (v159 : BitVec 32) (v161 : Vec F S144x2048 .f32), FVec F S144x2048 .f32 ← k0_part49 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105 v129
  k0_part50 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105 v159 v161 v162
  let ⟨v221, v224, v225⟩ : Σ' (v221 : FVec F S144x2048 .f32) (v224 : FVec F S144x512 .bf16), Vec F S512x2048 .bf16 ← k0_part51 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105
  let ⟨v255, v256⟩ : Σ' (v255 : Vec F S1x1024 .f32), FVec F S1x1024 .f32 ← k0_part52 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105 v221 v224 v225
  let ⟨v289, v290⟩ : Σ' (v289 : IVec S512x512 32), IVec S512x512 32 ← k0_part53 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105 v255 v256
  let ⟨v321, v322⟩ : Σ' (v321 : BitVec 32), Vec F S1x1024 .f32 ← k0_part54 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105 v289 v290
  let ⟨v350, v351⟩ : Σ' (v350 : Vec F S128x2048 .f32), Vec F S1x2048 .f32 ← k0_part55 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 v105 v321 v322
  let v356 : Vec F S1x2048x128 .bf16 ← Prog.lift (.load A.a7 (Rect.unit (s := S1x2048x128) ![0, 0, 0] S1x2048x128.size inb_S1x2048x128_S1x2048x128_0_0_0).toLoadRect (View.loadsAt_vmem h_S1x2048x128))
  Prog.lift (.store A.a7 (Rect.unit (s := S1x2048x128) ![0, 0, 0] S1x2048x128.size inb_S1x2048x128_S1x2048x128_0_0_0) (k0_pay1 v350 v351) Finset.univ (View.stores_vmem h_S1x2048x128 (A.h7.storeExact_slice rfl _ packedbf16_S1x2048x128_S1x2048x128_0_0_0) (fun _ => rfl)) (.inl rfl))
  pure ⟨⟩

/-- The body with its straight-line stretches as steps. -/
def bodyP (i : grid0.Coords) : Prog (TpuEff nD τ sig (Elt F) Λ₀ .tc) PUnit := do
  initP A i
  let ⟨v92, v99⟩ : Σ' (v92 : BitVec 32), BitVec 32 ← midP A i
  let ⟨v105, v129⟩ : Σ' (v105 : BitVec 32), IVec S512x2048 1 ← k0_part48 i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 (BitVec.ofNat 32 (i 2).val) v92 v99
  restP A i v105 v129

theorem body_eq (i : grid0.Coords) : cc0_fox_attn (F := F) i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 = bodyP A i := rfl

/-- The function `f` of the trip, over the first `k` of `n` trips. -/
def iter {n : Nat} (f : Fin n → St F → St F) : Nat → St F → St F
  | 0, σ => σ
  | k + 1, σ => if h : k < n then f ⟨k, h⟩ (iter f k σ) else iter f k σ

theorem iter_succ {n : Nat} (f : Fin n → St F → St F) (k : Fin n) (σ : St F) : iter f (k.val + 1) σ = f k (iter f k.val σ) := by
  simp [iter, k.isLt]

/-- The visible blocks on the contents. -/
def mid (i : grid0.Coords) (σ : St F) : St F :=
  let σ1 := if atFirst i = 1#1 then zero σ else σ
  let σ2 := if h : k0_cond2 i = 1#1 then first i h σ1 else σ1
  iter (long i) (k0_t1_loop i).trips σ2

/-- The body on the contents. -/
def bodyF (i : grid0.Coords) (σ : St F) : St F :=
  out (diag i (iter (short i) (k0_t3_loop i).trips (mid i (init i σ))))

theorem t2_trips (i : grid0.Coords) : (k0_t2_loop i).trips = 0 := by
  have h : ∀ x : Fin 8, ∀ y : grid0.Coords, y 2 = x → (k0_t2_loop y).trips = 0 := by
    intro x y hy
    unfold k0_t2_loop
    rw [hy]
    clear hy
    revert x; decide
  exact h _ i rfl

theorem t4_trips (i : grid0.Coords) : (k0_t4_loop i).trips = 0 := by
  have h : ∀ x : Fin 8, ∀ y : grid0.Coords, y 2 = x → (k0_t4_loop y).trips = 0 := by
    intro x y hy
    unfold k0_t4_loop
    rw [hy]
    clear hy
    revert x; decide
  exact h _ i rfl

/-- A loop of trips each of which takes every owned state to a function of it. -/
theorem loop_seq {c : Dev nD} (l : Scf.Loop 32) (ok : l.OK) (b : Fin l.trips → Unit → Prog (TpuEff nD τ sig (Elt F) Λ₀ .tc) PUnit) (f : Fin l.trips → St F → St F)
    (hb : ∀ t, Triple c A (b t ⟨⟩) (f t)) {α : Type} {k : Unit → Prog (TpuEff nD τ sig (Elt F) Λ₀ .tc) α} {Q : α → sProp 𝕄} {σ : St F}
    (hk : Own c A (iter f l.trips σ) ⊢ WP c (k ⟨⟩) Q) :
    Own c A σ ⊢ WP c (l.for ok ⟨⟩ b >>= k) Q := by
  show Own c A (iter f 0 σ) ⊢ _
  iintro H
  iapply (Scf.wp_for_bind _ _ _ l.lb l.ub l.st ok ⟨⟩ b (fun k _ => Own c A (iter f k σ)) (fun k acc => by
    rw [iter_succ]; exact hb k _)) $$ H
  iintro %acc H
  iapply hk
  iexact H

theorem loops_mid (c : Dev nD) (i : grid0.Coords) (σ : St F) (v : FVec F S144x2304 .f32) (w : BitVec 32) (r : Σ' (v92 : BitVec 32), BitVec 32) :
    Own c A σ ⊢ WP c (do
      Scf.Loop.for (k0_t1_loop i) (k0_t1_ok i) ⟨⟩ (fun t _ => longP A i t)
      Scf.Loop.for (k0_t2_loop i) (k0_t2_ok i) ⟨⟩ (k0_t2_body i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 (BitVec.ofNat 32 (i 2).val) v w)
      pure r)
      (fun _ => Own c A (iter (long i) (k0_t1_loop i).trips σ)) := by
  refine loop_seq A _ _ _ (long i) (fun t => long_triple A c i t) ?_
  refine Scf.wp_for0_bind _ _ _ _ _ _ _ _ (t2_trips i) _ _ _ ?_
  simp only [wp_pure]
  exact fupd_intro

theorem mid_triple (c : Dev nD) (i : grid0.Coords) (σ : St F) :
    Own c A σ ⊢ WP c (midP A i) (fun _ => Own c A (mid i σ)) := by
  by_cases h1 : atFirst i = 1#1 <;> by_cases h2 : k0_cond2 i = 1#1
  · have h1' := h1
    unfold atFirst at h1'
    unfold midP mid
    dsimp only
    simp only [h1, h1', h2, dite_true, dite_false, if_true, if_false]
    refine (zero_triple (F := F) A c).seq ?_
    refine (first_triple (F := F) A c i h2).seq ?_
    exact loops_mid A c i _ _ _ _
  · have h1' := h1
    unfold atFirst at h1'
    unfold midP mid
    dsimp only
    simp only [h1, h1', h2, dite_true, dite_false, if_true, if_false]
    refine (zero_triple (F := F) A c).seq ?_
    exact loops_mid A c i _ _ _ _
  · have h1' := h1
    unfold atFirst at h1'
    unfold midP mid
    dsimp only
    simp only [h1, h1', h2, dite_true, dite_false, if_true, if_false]
    refine (first_triple (F := F) A c i h2).seq ?_
    exact loops_mid A c i _ _ _ _
  · have h1' := h1
    unfold atFirst at h1'
    unfold midP mid
    dsimp only
    simp only [h1, h1', h2, dite_true, dite_false, if_true, if_false]
    exact loops_mid A c i _ _ _ _

theorem body_triple (c : Dev nD) (i : grid0.Coords) : Triple c A (F := F) (cc0_fox_attn i A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18) (bodyF i) := fun σ => by
  rw [body_eq]
  unfold bodyP bodyF
  refine (init_triple A c i).seq ?_
  simp only [WP, wp_bind]
  refine (mid_triple A c i _).trans (wp_mono _ _ _ fun r => ?_)
  rw [k0_part48_eq_skeleton]
  unfold k0_part48_skel
  simp only [← wp_bind, Prog.bind_assoc]
  refine loop_seq A _ _ _ (short i) (fun t => short_eq (F := F) A i _ _ _ t ▸ short_triple A c i t) ?_
  refine Scf.wp_for0_bind _ _ _ _ _ _ _ _ (t4_trips i) _ _ _ ?_
  exact (diag_triple A c i).seq (out_triple A c _)

end Cert.KernelIdeal.Fox
-- ==== Proof.FoxFrame.lean ====
/- The frame of the attention kernel's launch: its body on the staging buffers and the scratch buffers, the run
   with the output's contents left unnamed, and the argument arrays unchanged at the end. -/
module

public import proofs.«01_k».proof.Proof.Body
public import proofs.«01_k».proof.Proof.Gen.KernelIdeal.Frame

@[expose] public section

set_option maxRecDepth 65536

noncomputable section

namespace Cert.KernelIdeal.Fox

open Cert.KernelIdeal Cert.KernelIdeal.Gen Cert.FoxMem
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The inputs stay as they are -/

/-- The four inputs of one state are those of another. -/
def SameIn (σ' σ : St F) : Prop := σ'.x3 = σ.x3 ∧ σ'.x4 = σ.x4 ∧ σ'.x5 = σ.x5 ∧ σ'.x6 = σ.x6

theorem SameIn.rfl' (σ : St F) : SameIn σ σ := ⟨rfl, rfl, rfl, rfl⟩

theorem SameIn.trans {σ₁ σ₂ σ₃ : St F} (h : SameIn σ₁ σ₂) (h' : SameIn σ₂ σ₃) : SameIn σ₁ σ₃ :=
  ⟨h.1.trans h'.1, h.2.1.trans h'.2.1, h.2.2.1.trans h'.2.2.1, h.2.2.2.trans h'.2.2.2⟩

theorem iter_same {n : Nat} (f : Fin n → St F → St F) (hf : ∀ t σ, SameIn (f t σ) σ) (k : Nat) (σ : St F) : SameIn (iter f k σ) σ := by
  induction k with
  | zero => exact SameIn.rfl' σ
  | succ k ih =>
    simp only [iter]
    split
    · exact (hf _ _).trans ih
    · exact ih

theorem init_same (i : grid0.Coords) (σ : St F) : SameIn (init i σ) σ := ⟨rfl, rfl, rfl, rfl⟩
theorem score0_same (off : Fin 4 → Nat) (hoff : ∀ a, off a + S1x1x512x256.size a ≤ S1x1x16384x256.size a) (σ : St F) : SameIn (score0 off hoff σ) σ := ⟨rfl, rfl, rfl, rfl⟩
theorem soft0_same  (σ : St F) : SameIn (soft0 σ) σ := ⟨rfl, rfl, rfl, rfl⟩
theorem score1_same (off : Fin 4 → Nat) (hoff : ∀ a, off a + S1x1x512x256.size a ≤ S1x1x16384x256.size a) (σ : St F) : SameIn (score1 off hoff σ) σ := ⟨rfl, rfl, rfl, rfl⟩
theorem soft1_same  (σ : St F) : SameIn (soft1 σ) σ := ⟨rfl, rfl, rfl, rfl⟩
theorem pv0_same (off : Fin 5 → Nat) (hoff : ∀ a, off a + S1x1x1x144x512.size a ≤ S1x1x32x144x512.size a) (σ : St F) : SameIn (pv0 off hoff σ) σ := ⟨rfl, rfl, rfl, rfl⟩
theorem pv1_same (off : Fin 5 → Nat) (hoff : ∀ a, off a + S1x1x1x144x512.size a ≤ S1x1x32x144x512.size a) (σ : St F) : SameIn (pv1 off hoff σ) σ := ⟨rfl, rfl, rfl, rfl⟩
theorem pv1_1536_same (off : Fin 5 → Nat) (hoff : ∀ a, off a + S1x1x1x144x512.size a ≤ S1x1x32x144x512.size a) (σ : St F) : SameIn (pv1_1536 off hoff σ) σ := ⟨rfl, rfl, rfl, rfl⟩
theorem pv0_1024_same (off : Fin 5 → Nat) (hoff : ∀ a, off a + S1x1x1x144x512.size a ≤ S1x1x32x144x512.size a) (σ : St F) : SameIn (pv0_1024 off hoff σ) σ := ⟨rfl, rfl, rfl, rfl⟩
theorem pv1_512_same (off : Fin 5 → Nat) (hoff : ∀ a, off a + S1x1x1x144x512.size a ≤ S1x1x32x144x512.size a) (σ : St F) : SameIn (pv1_512 off hoff σ) σ := ⟨rfl, rfl, rfl, rfl⟩
theorem scoreD0_same (off : Fin 4 → Nat) (hoff : ∀ a, off a + S1x1x512x256.size a ≤ S1x1x16384x256.size a) (σ : St F) : SameIn (scoreD0 off hoff σ) σ := ⟨rfl, rfl, rfl, rfl⟩
theorem scoreD1_same (off : Fin 4 → Nat) (hoff : ∀ a, off a + S1x1x512x256.size a ≤ S1x1x16384x256.size a) (σ : St F) : SameIn (scoreD1 off hoff σ) σ := ⟨rfl, rfl, rfl, rfl⟩
theorem scoreD2_same (off : Fin 4 → Nat) (hoff : ∀ a, off a + S1x1x512x256.size a ≤ S1x1x16384x256.size a) (σ : St F) : SameIn (scoreD2 off hoff σ) σ := ⟨rfl, rfl, rfl, rfl⟩
theorem scoreD3_same (off : Fin 4 → Nat) (hoff : ∀ a, off a + S1x1x512x256.size a ≤ S1x1x16384x256.size a) (σ : St F) : SameIn (scoreD3 off hoff σ) σ := ⟨rfl, rfl, rfl, rfl⟩
theorem softD0m_same  (σ : St F) : SameIn (softD0m σ) σ := ⟨rfl, rfl, rfl, rfl⟩
theorem softD0_same  (σ : St F) : SameIn (softD0 σ) σ := ⟨rfl, rfl, rfl, rfl⟩
theorem softD1m_same  (σ : St F) : SameIn (softD1m σ) σ := ⟨rfl, rfl, rfl, rfl⟩
theorem softD1_same  (σ : St F) : SameIn (softD1 σ) σ := ⟨rfl, rfl, rfl, rfl⟩
theorem softD2m_same  (σ : St F) : SameIn (softD2m σ) σ := ⟨rfl, rfl, rfl, rfl⟩
theorem softD2_same  (σ : St F) : SameIn (softD2 σ) σ := ⟨rfl, rfl, rfl, rfl⟩
theorem softD3m_same  (σ : St F) : SameIn (softD3m σ) σ := ⟨rfl, rfl, rfl, rfl⟩
theorem softD3_same  (σ : St F) : SameIn (softD3 σ) σ := ⟨rfl, rfl, rfl, rfl⟩
theorem long_same (i : grid0.Coords) (t : Fin (k0_t1_loop i).trips) (σ : St F) : SameIn (long i t σ) σ := by
  unfold long
  dsimp only
  refine (pv0_same _ _ _).trans ?_
  refine (soft1_same _).trans ?_
  refine (pv1_same _ _ _).trans ?_
  refine (soft0_same _).trans ?_
  refine (score1_same _ _ _).trans ?_
  refine (pv0_same _ _ _).trans ?_
  refine (soft1_same _).trans ?_
  refine (score0_same _ _ _).trans ?_
  refine (pv1_same _ _ _).trans ?_
  refine (soft0_same _).trans ?_
  refine (score1_same _ _ _).trans ?_
  refine (pv0_same _ _ _).trans ?_
  refine (soft1_same _).trans ?_
  refine (score0_same _ _ _).trans ?_
  refine (pv1_same _ _ _).trans ?_
  refine (soft0_same _).trans ?_
  refine (score1_same _ _ _).trans ?_
  refine (pv0_same _ _ _).trans ?_
  refine (soft1_same _).trans ?_
  refine (score0_same _ _ _).trans ?_
  refine (pv1_same _ _ _).trans ?_
  refine (soft0_same _).trans ?_
  refine (score1_same _ _ _).trans ?_
  refine (score0_same _ _ _).trans ?_
  exact SameIn.rfl' _
theorem short_same (i : grid0.Coords) (t : Fin (k0_t3_loop i).trips) (σ : St F) : SameIn (short i t σ) σ := by
  unfold short
  dsimp only
  refine (pv0_same _ _ _).trans ?_
  refine (soft1_same _).trans ?_
  refine (pv1_same _ _ _).trans ?_
  refine (soft0_same _).trans ?_
  refine (score1_same _ _ _).trans ?_
  refine (pv0_same _ _ _).trans ?_
  refine (soft1_same _).trans ?_
  refine (score0_same _ _ _).trans ?_
  refine (pv1_same _ _ _).trans ?_
  refine (soft0_same _).trans ?_
  refine (score1_same _ _ _).trans ?_
  refine (score0_same _ _ _).trans ?_
  exact SameIn.rfl' _
theorem first_same (i : grid0.Coords) (h : k0_cond2 i = 1#1) (σ : St F) : SameIn (first i h σ) σ := by
  unfold first
  dsimp only
  refine (pv0_same _ _ _).trans ?_
  refine (soft1_same _).trans ?_
  refine (pv1_same _ _ _).trans ?_
  refine (soft0_same _).trans ?_
  refine (score1_same _ _ _).trans ?_
  refine (pv0_same _ _ _).trans ?_
  refine (soft1_same _).trans ?_
  refine (score0_same _ _ _).trans ?_
  refine (soft0_same _).trans ?_
  refine (score1_same _ _ _).trans ?_
  refine (score0_same _ _ _).trans ?_
  exact SameIn.rfl' _
theorem diag_same (i : grid0.Coords) (σ : St F) : SameIn (diag i σ) σ := by
  unfold diag
  dsimp only
  refine (pv1_512_same _ _ _).trans ?_
  refine (pv0_1024_same _ _ _).trans ?_
  refine (softD3_same _).trans ?_
  refine (softD3m_same _).trans ?_
  refine (pv1_1536_same _ _ _).trans ?_
  refine (softD2_same _).trans ?_
  refine (softD2m_same _).trans ?_
  refine (scoreD3_same _ _ _).trans ?_
  refine (pv0_same _ _ _).trans ?_
  refine (softD1_same _).trans ?_
  refine (softD1m_same _).trans ?_
  refine (scoreD2_same _ _ _).trans ?_
  refine (pv1_same _ _ _).trans ?_
  refine (softD0_same _).trans ?_
  refine (softD0m_same _).trans ?_
  refine (scoreD1_same _ _ _).trans ?_
  refine (scoreD0_same _ _ _).trans ?_
  exact SameIn.rfl' _

theorem zero_same (σ : St F) : SameIn (zero σ) σ := ⟨rfl, rfl, rfl, rfl⟩
theorem out_same (σ : St F) : SameIn (out σ) σ := ⟨rfl, rfl, rfl, rfl⟩

theorem mid_same (i : grid0.Coords) (σ : St F) : SameIn (mid i σ) σ := by
  unfold mid
  dsimp only
  refine (iter_same _ (long_same i) _ _).trans ?_
  have h1 : SameIn (if atFirst i = 1#1 then zero σ else σ) σ := by
    split
    · exact zero_same σ
    · exact SameIn.rfl' σ
  split
  · exact (first_same i _ _).trans h1
  · exact h1

theorem bodyF_same (i : grid0.Coords) (σ : St F) : SameIn (bodyF i σ) σ := by
  unfold bodyF
  exact (out_same _).trans ((diag_same i _).trans ((iter_same _ (short_same i) _ _).trans ((mid_same i _).trans (init_same i σ))))

/-! ## The body on the staging and the scratch buffers -/

/-- The buffers of grid point `t`. -/
def argsAt (t : Fin cfg0.N) : Args where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := win0_2.stage (cfg0.slots t 2)
  h5 := hstage0_2 ((cfg0.slots t 2).cast nbuf0_2)
  a6 := win0_3.stage (cfg0.slots t 3)
  h6 := hstage0_3 ((cfg0.slots t 3).cast nbuf0_3)
  a7 := win0_4.stage (cfg0.slots t 4)
  h7 := hstage0_4 ((cfg0.slots t 4).cast nbuf0_4)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _
  a14 := Memref.whole cc0_scratch6
  h14 := Memref.isWhole_whole _
  a15 := Memref.whole cc0_scratch7
  h15 := Memref.isWhole_whole _
  a16 := Memref.whole cc0_scratch8
  h16 := Memref.isWhole_whole _
  a17 := Memref.whole cc0_scratch9
  h17 := Memref.isWhole_whole _
  a18 := Memref.whole cc0_scratch10
  h18 := Memref.isWhole_whole _

/-- What the body leaves in the output, from the four inputs' blocks: some state with those inputs, run through. -/
def Leaves (i : grid0.Coords) (v3 : Vec F S1x1x4x128x512 .bf16) (v4 : Vec F S1x8x2048 .f32) (v5 : Vec F S1x1x16384x256 .bf16)
    (v6 : Vec F S1x1x32x144x512 .bf16) (X : Vec F S1x2048x128 .bf16) : Prop :=
  ∃ σ : St F, σ.x3 = v3 ∧ σ.x4 = v4 ∧ σ.x5 = v5 ∧ σ.x6 = v6 ∧ X = (bodyF i σ).x7

theorem body_run (c : Dev nD) (t : Fin cfg0.N) (v3 : Vec F S1x1x4x128x512 .bf16) (v4 : Vec F S1x8x2048 .f32) (v5 : Vec F S1x1x16384x256 .bf16)
    (v6 : Vec F S1x1x32x144x512 .bf16) :
    iprop(ΦA spec0 c ∗ owns (c : Thread nD τ) (st0_0 t) fullShare v3 ∗ owns (c : Thread nD τ) (st0_1 t) fullShare v4 ∗ owns (c : Thread nD τ) (st0_2 t) fullShare v5 ∗ owns (c : Thread nD τ) (st0_3 t) fullShare v6 ∗ ∃ X, owns (c : Thread nD τ) (st0_4 t) fullShare X)
      ⊢ WP (F := F) c (bodyAt0 t) (fun _ => iprop(ΦA spec0 c ∗ owns (c : Thread nD τ) (st0_0 t) fullShare v3 ∗ owns (c : Thread nD τ) (st0_1 t) fullShare v4 ∗ owns (c : Thread nD τ) (st0_2 t) fullShare v5 ∗ owns (c : Thread nD τ) (st0_3 t) fullShare v6
        ∗ ∃ X, ⌜Leaves (cfg0.grid.coords t) v3 v4 v5 v6 X⌝ ∗ owns (c : Thread nD τ) (st0_4 t) fullShare X)) := by
  unfold ΦA
  rw [scopedRest0_eq]
  simp only [← owns_whole (Val := Elt F) (c : Thread nD τ) cc0_scratch0 fullShare, ← owns_whole (Val := Elt F) (c : Thread nD τ) cc0_scratch1 fullShare, ← owns_whole (Val := Elt F) (c : Thread nD τ) cc0_scratch2 fullShare, ← owns_whole (Val := Elt F) (c : Thread nD τ) cc0_scratch3 fullShare, ← owns_whole (Val := Elt F) (c : Thread nD τ) cc0_scratch4 fullShare, ← owns_whole (Val := Elt F) (c : Thread nD τ) cc0_scratch5 fullShare, ← owns_whole (Val := Elt F) (c : Thread nD τ) cc0_scratch6 fullShare, ← owns_whole (Val := Elt F) (c : Thread nD τ) cc0_scratch7 fullShare, ← owns_whole (Val := Elt F) (c : Thread nD τ) cc0_scratch8 fullShare, ← owns_whole (Val := Elt F) (c : Thread nD τ) cc0_scratch9 fullShare, ← owns_whole (Val := Elt F) (c : Thread nD τ) cc0_scratch10 fullShare]
  iintro ⟨⟨⟨⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩, Hr⟩, H3, H4, H5, H6, ⟨%X, H7⟩⟩
  have hb := body_triple (F := F) (argsAt t) c (cfg0.grid.coords t) ⟨v3, v4, v5, v6, X, f8, f9, f10, f11, f12, f13, f14, f15, f16, f17, f18⟩
  have hs := bodyF_same (F := F) (cfg0.grid.coords t) ⟨v3, v4, v5, v6, X, f8, f9, f10, f11, f12, f13, f14, f15, f16, f17, f18⟩
  have hL : Leaves (F := F) (cfg0.grid.coords t) v3 v4 v5 v6 (bodyF (F := F) (cfg0.grid.coords t) ⟨v3, v4, v5, v6, X, f8, f9, f10, f11, f12, f13, f14, f15, f16, f17, f18⟩).x7 := ⟨_, rfl, rfl, rfl, rfl, rfl⟩
  generalize bodyF (F := F) (cfg0.grid.coords t) ⟨v3, v4, v5, v6, X, f8, f9, f10, f11, f12, f13, f14, f15, f16, f17, f18⟩ = σ' at hb hs hL
  obtain ⟨h3, h4, h5, h6⟩ := hs
  dsimp only at h3 h4 h5 h6
  subst h3 h4 h5 h6
  unfold Own at hb
  ihave Hw := hb $$ [H3 H4 H5 H6 H7 H8 H9 H10 H11 H12 H13 H14 H15 H16 H17 H18]
  · unfold argsAt
    iframe
  iapply (wp_wand_r (Q := fun _ => _) frame (wpE (defs₀ (F := F)) Variants.none (c : Thread nD τ) none) Set.univ)
  isplitl [Hw]
  · iexact Hw
  iintro %a ⟨H3, H4, H5, H6, H7, H8, H9, H10, H11, H12, H13, H14, H15, H16, H17, H18⟩
  isplitl [Hr H8 H9 H10 H11 H12 H13 H14 H15 H16 H17 H18]
  · isplitl [H8 H9 H10 H11 H12 H13 H14 H15 H16 H17 H18]
    · isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      iexists _; iexact H18
    · iexact Hr
  isplitl [H3]; · iexact H3
  isplitl [H4]; · iexact H4
  isplitl [H5]; · iexact H5
  isplitl [H6]; · iexact H6
  iexists _
  isplitr
  · ipureintro; exact hL
  iexact H7

/-! ## The proof data, with the output's contents a parameter -/

variable (m : (ℓ : Loc nD τ sig) → Buf (Elt F) ℓ) (ρ : Dev nD → PrngReg)
variable (aft : Dev nD → Fin cfg0.N → Vec F S1x2048x128 .bf16)

/-- The proof data of the one pipeline on core `c`: the arrays as the region finds them, each input's buffer at its
    block after the body, the output's at `aft`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => aft c t
  Φ _ := Pipeline.ΦA spec0 c
  q _ := fullShare
  owed _ := 0

theorem A_eq (c : Dev nD) (w : Fin cfg0.W) : (dats m aft 0 c).A w = V m c (Pipeline.arrRef spec0 w) := by
  dsimp only [dats]
theorem after0_0 (c : Dev nD) (t : Fin cfg0.N) : (dats m aft 0 c).after 0 t = iblk m c 0 t := by dsimp only [dats]
theorem after0_1 (c : Dev nD) (t : Fin cfg0.N) : (dats m aft 0 c).after 1 t = iblk m c 1 t := by dsimp only [dats]
theorem after0_2 (c : Dev nD) (t : Fin cfg0.N) : (dats m aft 0 c).after 2 t = iblk m c 2 t := by dsimp only [dats]
theorem after0_3 (c : Dev nD) (t : Fin cfg0.N) : (dats m aft 0 c).after 3 t = iblk m c 3 t := by dsimp only [dats]
theorem after0_4 (c : Dev nD) (t : Fin cfg0.N) : (dats m aft 0 c).after 4 t = aft c t := by dsimp only [dats]
theorem before0_0 (c : Dev nD) (t : Fin cfg0.N) (d) : (dats m aft 0 c).before 0 t d = iblk m c 0 t :=
  before0_0_of m (dats m aft 0 c) (A_eq m aft c 0) (after0_0 m aft c) t d
theorem before0_1 (c : Dev nD) (t : Fin cfg0.N) (d) : (dats m aft 0 c).before 1 t d = iblk m c 1 t :=
  before0_1_of m (dats m aft 0 c) (A_eq m aft c 1) (after0_1 m aft c) t d
theorem before0_2 (c : Dev nD) (t : Fin cfg0.N) (d) : (dats m aft 0 c).before 2 t d = iblk m c 2 t :=
  before0_2_of m (dats m aft 0 c) (A_eq m aft c 2) (after0_2 m aft c) t d
theorem before0_3 (c : Dev nD) (t : Fin cfg0.N) (d) : (dats m aft 0 c).before 3 t d = iblk m c 3 t :=
  before0_3_of m (dats m aft 0 c) (A_eq m aft c 3) (after0_3 m aft c) t d
/-- What the body finds in the output's buffer is of no matter; the window is the one forgotten for the frame. -/
def forgets0 : Fin 5 → Bool := fun w => decide (w = 4)

/-- What the body is called with at point `t`, -/
def bodyPre (c : Dev nD) (t : Fin cfg0.N) : sProp 𝕄 :=
  iprop((dats m aft 0 c).Φ t.castSucc ∗ (dats m aft 0 c).owesAt () t.castSucc
    ∗ (∃ d, owns (c : Thread nD τ) (st0_0 t) fullShare ((dats m aft 0 c).before 0 t d))
    ∗ (∃ d, owns (c : Thread nD τ) (st0_1 t) fullShare ((dats m aft 0 c).before 1 t d))
    ∗ (∃ d, owns (c : Thread nD τ) (st0_2 t) fullShare ((dats m aft 0 c).before 2 t d))
    ∗ (∃ d, owns (c : Thread nD τ) (st0_3 t) fullShare ((dats m aft 0 c).before 3 t d))
    ∗ (∃ X, owns (c : Thread nD τ) (st0_4 t) fullShare X))

/-- and what it returns, the output at contents that meet `R`. -/
def bodyPost (R : Vec F S1x2048x128 .bf16 → Prop) (c : Dev nD) (t : Fin cfg0.N) : sProp 𝕄 :=
  iprop((dats m aft 0 c).Φ t.succ ∗ (dats m aft 0 c).owesAt () t.succ
    ∗ owns (c : Thread nD τ) (st0_0 t) fullShare ((dats m aft 0 c).after 0 t)
    ∗ owns (c : Thread nD τ) (st0_1 t) fullShare ((dats m aft 0 c).after 1 t)
    ∗ owns (c : Thread nD τ) (st0_2 t) fullShare ((dats m aft 0 c).after 2 t)
    ∗ owns (c : Thread nD τ) (st0_3 t) fullShare ((dats m aft 0 c).after 3 t)
    ∗ (∃ X, ⌜R X⌝ ∗ owns (c : Thread nD τ) (st0_4 t) fullShare X))

theorem sound_body (c : Dev nD) (t : Fin cfg0.N) :
    bodyPre m aft c t ⊢ wp frame (wpE (defs₀ (F := F)) Variants.none c none) Set.univ (bodyAt0 t)
      (fun _ => bodyPost m aft (Leaves (cfg0.grid.coords t) (iblk m c 0 t) (iblk m c 1 t) (iblk m c 2 t) (iblk m c 3 t)) c t) := by
  unfold bodyPre bodyPost
  simp only [before0_0, before0_1, before0_2, before0_3]
  rw [show (dats m aft 0 c).Φ t.succ = (dats m aft 0 c).Φ t.castSucc from rfl,
    show (dats m aft 0 c).owesAt () t.succ = (dats m aft 0 c).owesAt () t.castSucc from rfl,
    after0_0, after0_1, after0_2, after0_3, show (dats m aft 0 c).Φ t.castSucc = Pipeline.ΦA spec0 c from rfl]
  iintro ⟨HΦ, Ho, ⟨%d0, H0⟩, ⟨%d1, H1⟩, ⟨%d2, H2⟩, ⟨%d3, H3⟩, H4⟩
  ihave Hw := (body_run (F := F) c t (iblk m c 0 t) (iblk m c 1 t) (iblk m c 2 t) (iblk m c 3 t)) $$ [HΦ H0 H1 H2 H3 H4]
  · isplitl [HΦ]; · iexact HΦ
    isplitl [H0]; · iexact H0
    isplitl [H1]; · iexact H1
    isplitl [H2]; · iexact H2
    isplitl [H3]; · iexact H3
    iexact H4
  iapply (wp_wand_r (Q := fun _ => _) frame (wpE (defs₀ (F := F)) Variants.none (c : Thread nD τ) none) Set.univ)
  isplitl [Hw]
  · iexact Hw
  iintro %a ⟨HΦ, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- The post with the output's contents left unnamed. -/
theorem post_forget (R : Vec F S1x2048x128 .bf16 → Prop) (c : Dev nD) (t : Fin cfg0.N) :
    bodyPost m aft R c t ⊢ iprop((dats m aft 0 c).Φ t.succ ∗ (dats m aft 0 c).owesAt () t.succ
    ∗ owns (c : Thread nD τ) (st0_0 t) fullShare ((dats m aft 0 c).after 0 t)
    ∗ owns (c : Thread nD τ) (st0_1 t) fullShare ((dats m aft 0 c).after 1 t)
    ∗ owns (c : Thread nD τ) (st0_2 t) fullShare ((dats m aft 0 c).after 2 t)
    ∗ owns (c : Thread nD τ) (st0_3 t) fullShare ((dats m aft 0 c).after 3 t)
    ∗ (∃ X, owns (c : Thread nD τ) (st0_4 t) fullShare X)) := by
  unfold bodyPost
  iintro ⟨HΦ, Ho, H0, H1, H2, H3, ⟨%X, -, H4⟩⟩
  isplitl [HΦ]; · iexact HΦ
  isplitl [Ho]; · iexact Ho
  isplitl [H0]; · iexact H0
  isplitl [H1]; · iexact H1
  isplitl [H2]; · iexact H2
  isplitl [H3]; · iexact H3
  iexists X; iexact H4

/-- The body obligation with the output forgotten. -/
theorem body_obligation_forget (c : Dev nD) : BodyObligation (dats (F := F) m aft 0 c) (defs₀ (F := F)) Variants.none () Set.univ forgets0 := fun t => by
  rw [bigSep_W0, bigSep_W0, defs₀_row]
  exact triple_restated ((sound_body m aft c t).trans (wp_mono _ _ _ fun _ => post_forget m aft _ c t)) rfl .rfl fun _ => .rfl

/-- What the body is called with, the output's buffer at what the proof data says it holds, -/
theorem pre_exact (c : Dev nD) (t : Fin cfg0.N) :
    iprop((dats m aft 0 c).Φ t.castSucc ∗ (dats m aft 0 c).owesAt () t.castSucc
    ∗ (∃ d, owns (c : Thread nD τ) (st0_0 t) fullShare ((dats m aft 0 c).before 0 t d))
    ∗ (∃ d, owns (c : Thread nD τ) (st0_1 t) fullShare ((dats m aft 0 c).before 1 t d))
    ∗ (∃ d, owns (c : Thread nD τ) (st0_2 t) fullShare ((dats m aft 0 c).before 2 t d))
    ∗ (∃ d, owns (c : Thread nD τ) (st0_3 t) fullShare ((dats m aft 0 c).before 3 t d))
    ∗ (∃ d, owns (c : Thread nD τ) (st0_4 t) fullShare ((dats m aft 0 c).before 4 t d))) ⊢ bodyPre m aft c t := by
  unfold bodyPre
  iintro ⟨HΦ, Ho, H0, H1, H2, H3, ⟨%d, H4⟩⟩
  isplitl [HΦ]; · iexact HΦ
  isplitl [Ho]; · iexact Ho
  isplitl [H0]; · iexact H0
  isplitl [H1]; · iexact H1
  isplitl [H2]; · iexact H2
  isplitl [H3]; · iexact H3
  iexists _; iexact H4

/-- and what it returns, the output named when whatever the body leaves there is `aft`. -/
theorem post_exact (R : Vec F S1x2048x128 .bf16 → Prop) (c : Dev nD) (t : Fin cfg0.N) (hR : ∀ X, R X → X = aft c t) :
    bodyPost m aft R c t ⊢ iprop((dats m aft 0 c).Φ t.succ ∗ (dats m aft 0 c).owesAt () t.succ
    ∗ owns (c : Thread nD τ) (st0_0 t) fullShare ((dats m aft 0 c).after 0 t)
    ∗ owns (c : Thread nD τ) (st0_1 t) fullShare ((dats m aft 0 c).after 1 t)
    ∗ owns (c : Thread nD τ) (st0_2 t) fullShare ((dats m aft 0 c).after 2 t)
    ∗ owns (c : Thread nD τ) (st0_3 t) fullShare ((dats m aft 0 c).after 3 t)
    ∗ owns (c : Thread nD τ) (st0_4 t) fullShare ((dats m aft 0 c).after 4 t)) := by
  unfold bodyPost
  rw [after0_4]
  iintro ⟨HΦ, Ho, H0, H1, H2, H3, ⟨%X, %hX, H4⟩⟩
  have hX' := hR X hX
  subst hX'
  isplitl [HΦ]; · iexact HΦ
  isplitl [Ho]; · iexact Ho
  isplitl [H0]; · iexact H0
  isplitl [H1]; · iexact H1
  isplitl [H2]; · iexact H2
  isplitl [H3]; · iexact H3
  iexact H4

/-- The body obligation with the output named, when whatever the body leaves there is `aft`. -/
theorem body_obligation (haft : ∀ c t X, Leaves (cfg0.grid.coords t) (iblk m c 0 t) (iblk m c 1 t) (iblk m c 2 t) (iblk m c 3 t) X → X = aft c t)
    (c : Dev nD) : BodyObligation (dats (F := F) m aft 0 c) (defs₀ (F := F)) Variants.none () Set.univ := fun t => by
  rw [bigSep_W0, bigSep_W0, defs₀_row]
  exact triple_restated ((pre_exact m aft c t).trans ((sound_body m aft c t).trans (wp_mono _ _ _ fun _ => post_exact m aft _ c t (haft c t)))) rfl .rfl fun _ => .rfl

/-! ## The runs -/

set_option backward.isDefEq.respectTransparency.types false in
theorem run_forget : θ_run defs (onTc (τ := τ) (main (F := F))) (s₀ m ρ)
    (fun r => Pipeline.RDat.FramePost (cfgs 0) (fun c => (dats m aft 0 c).toRForget forgets0) (V m) r ∧ r.2.sem = fun _ => 0) :=
  Pipeline.θ_run_frame_track_forget (Q' := _) cfgs (dats m aft) (0 : Fin 1) launch0 defs₀ Variants.none forgets0 m ρ main
    (hbody := fun c => (body_obligation_forget m aft c).loose) (hshare := fun c => (dats m aft 0 c).share_full fun _ => rfl)
    (howed := fun _ _ => rfl) (V := V m) (hmain := hmain m Variants.none) (hA := A_eq m aft)
    (hin := fun _ => .rfl) (hout := fun _ => .rfl) (hQ' := fun _ h => h)

set_option backward.isDefEq.respectTransparency.types false in
theorem run_exact (haft : ∀ c t X, Leaves (cfg0.grid.coords t) (iblk m c 0 t) (iblk m c 1 t) (iblk m c 2 t) (iblk m c 3 t) X → X = aft c t) :
    θ_run defs (onTc (τ := τ) (main (F := F))) (s₀ m ρ) (fun r => (Pipeline.FramePost cfgs (dats m aft) 0 (V m)) r ∧ r.2.sem = fun _ => 0) :=
  Pipeline.θ_run_frame (Q' := _) cfgs (dats m aft) (0 : Fin 1) launch0 defs₀ Variants.none m ρ main
    (hbody := fun c => (body_obligation m aft haft c).loose) (hshare := fun c => (dats m aft 0 c).share_full fun _ => rfl)
    (howed := fun _ _ => rfl) (V := V m) (hmain := hmain m Variants.none) (hA := A_eq m aft) (hΦ := fun _ _ => rfl)

/-- The arguments end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 1 rfl).trans ((A_eq m (fun _ _ => constant S1x2048x128 .bf16 0x0000#16) c 1).trans (V_main_arg3 m c))⟩, h.2⟩) (run_forget m ρ (fun _ _ => constant S1x2048x128 .bf16 0x0000#16))

end Cert.KernelIdeal.Fox
-- ==== Proof.Online.lean ====
/- The softmax kept block by block, with a running maximum, on extended reals: what the accumulated sums are
   after any number of blocks, and that their quotient is the softmax's weighted sum. -/
module

public import Idealize.ShloMosaic.PureOps.Ideal.Laws
public import Idealize.ShloMosaic.Lib.IdealHost

@[expose] public section

noncomputable section

namespace Cert.Online

open Idealize.ShloMosaic

/-- The maximum of a block of scores. -/
def top (s : Fin 512 → EReal) : EReal := (Finset.univ : Finset (Fin 512)).fold max ⊥ s

/-- The running maximum before block `n`. -/
def Mx (s : ℕ → Fin 512 → EReal) : ℕ → EReal
  | 0 => ⊥
  | n + 1 => max (Mx s n) (top (s n))

/-- The factor block `n` puts on what was accumulated. -/
def fac (s : ℕ → Fin 512 → EReal) (n : ℕ) : EReal := Ideal.exp2 (Mx s n - Mx s (n + 1))

/-- The weights of block `n`. -/
def prob (s : ℕ → Fin 512 → EReal) (n : ℕ) (r : Fin 512) : EReal := Ideal.exp2 (s n r - Mx s (n + 1))

/-- The weighted sum accumulated before block `n`. -/
def Ac (s w : ℕ → Fin 512 → EReal) : ℕ → EReal
  | 0 => 0
  | n + 1 => fac s n * Ac s w n + ∑ r : Fin 512, w n r * prob s n r

/-- A finite factor that is not negative goes under a sum. -/
theorem mul_sum_of_nonneg {ι : Type} (f : Finset ι) (g : ι → EReal) (c : ℝ) (hc : 0 ≤ c) :
    (c : EReal) * ∑ i ∈ f, g i = ∑ i ∈ f, (c : EReal) * g i := by
  classical
  induction f using Finset.induction_on with
  | empty => simp
  | insert a f ha ih =>
    rw [Finset.sum_insert ha, Finset.sum_insert ha, ← ih]
    exact EReal.left_distrib_of_nonneg_of_ne_top (by exact_mod_cast hc) (EReal.coe_ne_top c) _ _

theorem le_top (s : Fin 512 → EReal) (r : Fin 512) : s r ≤ top s :=
  (Finset.le_fold_max (s r)).mpr (.inr ⟨r, Finset.mem_univ r, le_rfl⟩)

theorem top_lt {s : Fin 512 → EReal} (h : ∀ r, s r < ⊤) : top s < ⊤ :=
  (Finset.fold_max_lt ⊤).mpr ⟨bot_lt_top, fun r _ => h r⟩

/-- The scores are those of a row of which the first `t + 1` positions are seen, with real scores `x` there. -/
def score (x : ℕ → ℝ) (t n : ℕ) (r : Fin 512) : EReal :=
  if 512 * n + r.val ≤ t then ((x (512 * n + r.val) * (Real.log 2)⁻¹ : ℝ) : EReal) else ⊥

theorem score_lt (x : ℕ → ℝ) (t n : ℕ) (r : Fin 512) : score x t n r < ⊤ := by
  unfold score; split
  · exact EReal.coe_lt_top _
  · exact bot_lt_top

/-- The running maximum is finite from the first block on. -/
theorem Mx_real (x : ℕ → ℝ) (t n : ℕ) : ∃ μ : ℝ, Mx (score x t) (n + 1) = μ := by
  have h1 : Mx (score x t) (n + 1) < ⊤ := by
    induction n with
    | zero => exact max_lt bot_lt_top (top_lt (score_lt x t 0))
    | succ n ih => exact max_lt ih (top_lt (score_lt x t (n + 1)))
  have h2 : ⊥ < Mx (score x t) (n + 1) := by
    induction n with
    | zero =>
      refine lt_of_lt_of_le ?_ (le_max_right _ _)
      refine lt_of_lt_of_le ?_ (le_top _ 0)
      rw [score, if_pos (by simp)]
      exact EReal.bot_lt_coe _
    | succ n ih =>
      exact lt_of_lt_of_le (ih (lt_of_le_of_lt (le_max_left _ _) h1)) (le_max_left _ _)
  exact ⟨_, (EReal.coe_toReal h1.ne h2.ne').symm⟩

theorem exp2_sub (y μ : ℝ) : Ideal.exp2 ((y * (Real.log 2)⁻¹ : ℝ) - (μ : EReal)) = ((Real.exp y * Real.exp (-(μ * Real.log 2)) : ℝ) : EReal) := by
  rw [← EReal.coe_sub, Ideal.exp2_coe]
  congr 1
  show (2 : ℝ) ^ (y * (Real.log 2)⁻¹ - μ) = _
  have h2 : Real.log 2 ≠ 0 := (Real.log_pos (by norm_num)).ne'
  rw [Real.rpow_def_of_pos (by norm_num), ← Real.exp_add]
  congr 1
  field_simp
  ring

/-- The weight of position `s`, before any shift: nought where it is not seen. -/
def wt (x : ℕ → ℝ) (t s : ℕ) : ℝ := if s ≤ t then Real.exp (x s) else 0

theorem exp2_score (x : ℕ → ℝ) (t n : ℕ) (r : Fin 512) (μ : ℝ) :
    Ideal.exp2 (score x t n r - (μ : EReal)) = ((wt x t (512 * n + r.val) * Real.exp (-(μ * Real.log 2)) : ℝ) : EReal) := by
  unfold score wt
  split
  · rw [exp2_sub]
  · simp

/-- The weighted sum over the positions of the first `n` blocks. -/
def part (x : ℕ → ℝ) (t : ℕ) (w : ℕ → EReal) (n : ℕ) : EReal :=
  ∑ s ∈ Finset.range (512 * n), (wt x t s : EReal) * w s

theorem part_succ (x : ℕ → ℝ) (t : ℕ) (w : ℕ → EReal) (n : ℕ) :
    part x t w (n + 1) = part x t w n + ∑ r : Fin 512, (wt x t (512 * n + r.val) : EReal) * w (512 * n + r.val) := by
  unfold part
  rw [show 512 * (n + 1) = 512 * n + 512 by ring, Finset.sum_range_add,
    Finset.sum_range (fun r => (wt x t (512 * n + r) : EReal) * w (512 * n + r))]

/-- What is accumulated before block `n + 1` is the weighted sum so far, scaled by the running maximum. -/
theorem Ac_eq (x : ℕ → ℝ) (t : ℕ) (w : ℕ → EReal) (n : ℕ) (μ : ℝ) (hμ : Mx (score x t) (n + 1) = μ) :
    Ac (score x t) (fun n r => w (512 * n + r.val)) (n + 1) = ((Real.exp (-(μ * Real.log 2)) : ℝ) : EReal) * part x t w (n + 1) := by
  induction n generalizing μ with
  | zero =>
    rw [Ac, Ac, mul_zero, zero_add, part_succ]
    have : part x t w 0 = 0 := by simp [part]
    rw [this, zero_add, mul_sum_of_nonneg _ _ _ (Real.exp_pos _).le]
    refine Finset.sum_congr rfl fun r _ => ?_
    rw [prob, hμ, exp2_score, EReal.coe_mul, mul_comm (w _), mul_comm (wt x t _ : EReal), mul_assoc]
  | succ n ih =>
    obtain ⟨ν, hν⟩ := Mx_real x t n
    rw [Ac, ih ν hν, part_succ x t w (n + 1), fac, hν, hμ]
    have e : Ideal.exp2 ((ν : EReal) - (μ : EReal)) * ((Real.exp (-(ν * Real.log 2)) : ℝ) : EReal) = ((Real.exp (-(μ * Real.log 2)) : ℝ) : EReal) := by
      have h := exp2_sub (ν * Real.log 2) μ
      have h2 : Real.log 2 ≠ 0 := (Real.log_pos (by norm_num)).ne'
      rw [mul_assoc, mul_inv_cancel₀ h2, mul_one] at h
      rw [h, ← EReal.coe_mul]
      congr 1
      rw [mul_assoc, mul_comm, mul_assoc, ← Real.exp_add]
      simp
    rw [← mul_assoc, e, EReal.left_distrib_of_nonneg_of_ne_top (by exact_mod_cast (Real.exp_pos _).le) (EReal.coe_ne_top _)]
    congr 1
    rw [mul_sum_of_nonneg _ _ _ (Real.exp_pos _).le]
    refine Finset.sum_congr rfl fun r _ => ?_
    rw [prob, hμ, exp2_score, EReal.coe_mul, mul_comm (w _), mul_comm (wt x t _ : EReal), mul_assoc]

/-- The sum of the weights. -/
def total (x : ℕ → ℝ) (t : ℕ) : ℝ := ∑ s ∈ Finset.range 16384, wt x t s

theorem wt_nonneg (x : ℕ → ℝ) (t s : ℕ) : 0 ≤ wt x t s := by
  unfold wt; split
  · exact (Real.exp_pos _).le
  · exact le_rfl

theorem total_pos (x : ℕ → ℝ) (t : ℕ) : 0 < total x t := by
  refine Finset.sum_pos' (fun s _ => wt_nonneg x t s) ⟨0, by simp, ?_⟩
  simp [wt, Real.exp_pos]

theorem part_all (x : ℕ → ℝ) (t : ℕ) (w : ℕ → EReal) (n : ℕ) (ht : t < 512 * n) (hn : n ≤ 32) :
    part x t w n = ∑ s ∈ Finset.range 16384, (wt x t s : EReal) * w s := by
  unfold part
  refine Finset.sum_subset (Finset.range_subset_range.mpr (by omega)) fun s _ hs => ?_
  have : ¬ s ≤ t := by rw [Finset.mem_range] at hs; omega
  simp [wt, this]

theorem coe_sum {ι : Type} (f : Finset ι) (g : ι → ℝ) : ((∑ i ∈ f, g i : ℝ) : EReal) = ∑ i ∈ f, (g i : EReal) := by
  classical
  induction f using Finset.induction_on with
  | empty => simp
  | insert a f ha ih => rw [Finset.sum_insert ha, Finset.sum_insert ha, EReal.coe_add, ih]

/-- The softmax's weighted sum. -/
def attn (x : ℕ → ℝ) (t : ℕ) (w : ℕ → EReal) : EReal :=
  ((total x t)⁻¹ : ℝ) * ∑ s ∈ Finset.range 16384, (wt x t s : EReal) * w s

/-- The quotient of the accumulated sums is the softmax's weighted sum. -/
theorem online (x : ℕ → ℝ) (t n : ℕ) (w : ℕ → EReal) (ht : t < 512 * (n + 1)) (hn : n + 1 ≤ 32) :
    Ideal.div (Ac (score x t) (fun n r => w (512 * n + r.val)) (n + 1)) (Ac (score x t) (fun _ _ => 1) (n + 1)) = attn x t w := by
  obtain ⟨μ, hμ⟩ := Mx_real x t n
  rw [Ac_eq x t w n μ hμ, Ac_eq x t (fun _ => 1) n μ hμ, part_all x t w _ ht hn, part_all x t _ _ ht hn]
  simp only [mul_one]
  rw [← coe_sum]
  show Ideal.div _ (_ * ((total x t : ℝ) : EReal)) = _
  have hk := Real.exp_pos (-(μ * Real.log 2))
  generalize Real.exp (-(μ * Real.log 2)) = κ at hk
  have hz := total_pos x t
  rw [← EReal.coe_mul, Ideal.div_coe (mul_pos hk hz).ne', attn]
  rw [mul_comm (κ : EReal), mul_assoc, ← EReal.coe_mul, mul_comm]
  congr 2
  field_simp

/-- The reference's order: each weight over the sum of weights, shifted by any real, then the weighted sum. -/
theorem softmax (x : ℕ → ℝ) (t : ℕ) (w : ℕ → EReal) (μ : ℝ) :
    (∑ s : Fin 16384, Ideal.div (Ideal.exp ((if s.val ≤ t then (x s.val : EReal) else ⊥) - (μ : EReal)))
      (∑ s : Fin 16384, Ideal.exp ((if s.val ≤ t then (x s.val : EReal) else ⊥) - (μ : EReal))) * w s.val) = attn x t w := by
  have e : ∀ s : ℕ, Ideal.exp ((if s ≤ t then (x s : EReal) else ⊥) - (μ : EReal)) = ((wt x t s * Real.exp (-μ) : ℝ) : EReal) := by
    intro s
    unfold wt
    split
    · rw [← EReal.coe_sub, ← Real.exp_add]; rfl
    · simp
  simp only [e]
  rw [← coe_sum, ← Finset.sum_mul, ← Finset.sum_range (fun s => wt x t s)]
  have hk := Real.exp_pos (-μ)
  generalize Real.exp (-μ) = κ at hk
  have hz := total_pos x t
  change (∑ s : Fin 16384, Ideal.div _ ((total x t * κ : ℝ) : EReal) * w s.val) = _
  rw [attn, mul_sum_of_nonneg _ _ _ (inv_pos.mpr hz).le,
    Finset.sum_range (fun s => (((total x t)⁻¹ : ℝ) : EReal) * ((wt x t s : EReal) * w s))]
  refine Finset.sum_congr rfl fun s _ => ?_
  rw [Ideal.div_coe (mul_pos hz hk).ne', ← mul_assoc, ← EReal.coe_mul, ← EReal.coe_mul]
  congr 2
  field_simp

end Cert.Online
-- ==== Proof.Column.lean ====
/- One column of the attention kernel's buffers, and what each step of the body does to it: every column
   (one query position) is worked on by itself. -/
module

public import proofs.«01_k».proof.Proof.Body
public import proofs.«01_k».proof.Proof.Online
public import Idealize.ShloMosaic.Lib.Pointwise
public import Idealize.ShloMosaic.Lib.IdealHost

@[expose] public section

set_option maxRecDepth 65536

noncomputable section

namespace Cert.KernelIdeal.Fox

open Cert.KernelIdeal Cert.KernelIdeal.Gen Cert.FoxMem Cert.Online
open Idealize.ShloMosaic Idealize.ShloMosaic.TcCoe

/-- The contents one query position's column holds: the two slots of scores, weights, factors and block maxima,
    the running maximum and the accumulated values. -/
@[ext] structure Col where
  s0 : Fin 512 → EReal
  s1 : Fin 512 → EReal
  p0 : Fin 512 → EReal
  p1 : Fin 512 → EReal
  al0 : EReal
  al1 : EReal
  b0 : EReal
  b1 : EReal
  m : EReal
  acc : Fin 144 → EReal

/-- A query position's column among the scratch buffers' columns. -/
abbrev wide (q : Fin 2048) : Fin 2304 := ⟨q.val, by omega⟩

/-- Column `q` of the contents. -/
def col (σ : St Ideal) (q : Fin 2048) : Col where
  s0 r := σ.x9 (ix2 r (wide q))
  s1 r := σ.x10 (ix2 r (wide q))
  p0 r := σ.x11 (ix2 r (wide q))
  p1 r := σ.x12 (ix2 r (wide q))
  al0 := σ.x13 (ix2 0 q)
  al1 := σ.x14 (ix2 0 q)
  b0 := σ.x15 (ix2 0 q)
  b1 := σ.x16 (ix2 0 q)
  m := σ.x17 (ix2 0 q)
  acc a := σ.x18 (ix2 a (wide q))

/-- The scores of the keys from row `n` against column `q`. -/
def dots (x5 : Vec Ideal S1x1x16384x256 .bf16) (x8 : Vec Ideal S256x2048 .bf16) (n : ℕ) (hn : n + 512 ≤ 16384) (q : Fin 2048)
    (r : Fin 512) : EReal :=
  ∑ k : Fin 256, x5 (ix4 0 0 ⟨n + r.val, by omega⟩ k) * x8 (ix2 k q)

/-- The values of block `n` weighted by `p`. -/
def vals (x6 : Vec Ideal S1x1x32x144x512 .bf16) (n : Fin 32) (p : Fin 512 → EReal) (a : Fin 144) : EReal :=
  ∑ r : Fin 512, x6 (ix5 0 0 n a r) * p r

theorem emb2 {n0 n1 m0 m1 o0 o1 : ℕ} {inb : ∀ a, ![o0, o1] a + (⟨2, ![m0, m1]⟩ : Shape).size a ≤ (⟨2, ![n0, n1]⟩ : Shape).size a}
    (r : Fin n0) (q : Fin n1) (a : Fin m0) (b : Fin m1) (hr : r.val = o0 + a.val) (hq : q.val = o1 + b.val) :
    (Rect.unit (s := ⟨2, ![n0, n1]⟩) ![o0, o1] (⟨2, ![m0, m1]⟩ : Shape).size inb).emb (ix2 a b) = ix2 r q := by
  refine funext fun x => Fin.ext ?_
  match x with
  | ⟨0, _⟩ => show o0 + 1 * a.val = r.val; omega
  | ⟨1, _⟩ => show o1 + 1 * b.val = q.val; omega

theorem ov2 {α : Type} {n0 n1 m0 m1 o0 o1 : ℕ} {inb : ∀ a, ![o0, o1] a + (⟨2, ![m0, m1]⟩ : Shape).size a ≤ (⟨2, ![n0, n1]⟩ : Shape).size a}
    (X : (⟨2, ![n0, n1]⟩ : Shape).Idx → α) (w : (⟨2, ![m0, m1]⟩ : Shape).Idx → α)
    (r : Fin n0) (q : Fin n1) (a : Fin m0) (b : Fin m1) (hr : r.val = o0 + a.val) (hq : q.val = o1 + b.val) :
    (Rect.unit (s := ⟨2, ![n0, n1]⟩) ![o0, o1] (⟨2, ![m0, m1]⟩ : Shape).size inb).overlay X w (ix2 r q) = w (ix2 a b) := by
  rw [← emb2 (inb := inb) r q a b hr hq]
  exact Rect.overlay_emb _ _ _ _

theorem ov2_miss {α : Type} {n0 n1 m0 m1 o0 o1 : ℕ} {inb : ∀ a, ![o0, o1] a + (⟨2, ![m0, m1]⟩ : Shape).size a ≤ (⟨2, ![n0, n1]⟩ : Shape).size a}
    (X : (⟨2, ![n0, n1]⟩ : Shape).Idx → α) (w : (⟨2, ![m0, m1]⟩ : Shape).Idx → α)
    (r : Fin n0) (q : Fin n1) (h : q.val < o1 ∨ o1 + m1 ≤ q.val ∨ r.val < o0 ∨ o0 + m0 ≤ r.val) :
    (Rect.unit (s := ⟨2, ![n0, n1]⟩) ![o0, o1] (⟨2, ![m0, m1]⟩ : Shape).size inb).overlay X w (ix2 r q) = X (ix2 r q) := by
  refine Rect.overlay_of_not_mem _ _ _ fun hm => ?_
  rw [← Rect.map_emb_univ] at hm
  obtain ⟨i, -, hi⟩ := Finset.mem_map.mp hm
  have h0 : o0 + 1 * (i 0).val = r.val := congrArg (fun j : (⟨2, ![n0, n1]⟩ : Shape).Idx => (j 0).val) hi
  have h1 : o1 + 1 * (i 1).val = q.val := congrArg (fun j : (⟨2, ![n0, n1]⟩ : Shape).Idx => (j 1).val) hi
  have hb0 : (i 0).val < m0 := (i 0).isLt
  have hb1 : (i 1).val < m1 := (i 1).isLt
  omega

/-- The keys' rows from row `off 2`, read. -/
theorem emb5 (off : Fin 4 → ℕ) (hoff : ∀ a, off a + S1x1x512x256.size a ≤ S1x1x16384x256.size a) (r : Fin 512) (k : Fin 256) (n : ℕ) (hn : n + 512 ≤ 16384) (h : off 2 = n) :
    (Rect.unit (s := S1x1x16384x256) off S1x1x512x256.size hoff).emb (ix4 0 0 r k) = ix4 0 0 ⟨n + r.val, by omega⟩ k := by
  have h0 : off 0 = 0 := by have : off 0 + 1 ≤ 1 := hoff 0; omega
  have h1 : off 1 = 0 := by have : off 1 + 1 ≤ 1 := hoff 1; omega
  have h3 : off 3 = 0 := by have : off 3 + 256 ≤ 256 := hoff 3; omega
  refine funext fun x => Fin.ext ?_
  match x with
  | ⟨0, _⟩ => show off 0 + 1 * 0 = 0; omega
  | ⟨1, _⟩ => show off 1 + 1 * 0 = 0; omega
  | ⟨2, _⟩ => show off 2 + 1 * r.val = n + r.val; omega
  | ⟨3, _⟩ => show off 3 + 1 * k.val = k.val; omega

/-- The values of block `off 2`, read. -/
theorem emb6 (off : Fin 5 → ℕ) (hoff : ∀ a, off a + S1x1x1x144x512.size a ≤ S1x1x32x144x512.size a) (n : Fin 32) (a : Fin 144) (r : Fin 512) (h : off 2 = n.val) :
    (Rect.unit (s := S1x1x32x144x512) off S1x1x1x144x512.size hoff).emb (ix5 0 0 0 a r) = ix5 0 0 n a r := by
  have h0 : off 0 = 0 := by have : off 0 + 1 ≤ 1 := hoff 0; omega
  have h1 : off 1 = 0 := by have : off 1 + 1 ≤ 1 := hoff 1; omega
  have h3 : off 3 = 0 := by have : off 3 + 144 ≤ 144 := hoff 3; omega
  have h4 : off 4 = 0 := by have : off 4 + 512 ≤ 512 := hoff 4; omega
  refine funext fun x => Fin.ext ?_
  match x with
  | ⟨0, _⟩ => show off 0 + 1 * 0 = 0; omega
  | ⟨1, _⟩ => show off 1 + 1 * 0 = 0; omega
  | ⟨2, _⟩ => show off 2 + 1 * 0 = n.val; omega
  | ⟨3, _⟩ => show off 3 + 1 * a.val = a.val; omega
  | ⟨4, _⟩ => show off 4 + 1 * r.val = r.val; omega

theorem ofBits_bot_f32 : Ideal.ofBits .f32 0xFF800000#32 = ⊥ := by
  simp [Ideal.ofBits, Ideal.ieee]

theorem vals_of {x6 : Vec Ideal S1x1x32x144x512 .bf16} {n : Fin 32} {p : Fin 512 → EReal} {a : Fin 144} :
    (∑ r : Fin 512, x6 (ix5 0 0 n a r) * p r) = vals x6 n p a := rfl

theorem top_of {s : Fin 512 → EReal} : (Finset.univ : Finset (Fin 512)).fold max (Ideal.ofBits .f32 0xFF800000#32) s = top s := by
  rw [ofBits_bot_f32]; rfl

theorem sle_of (a b : ℕ) (ha : a < 2048) (hb : b < 2048) :
    IntOp.cmpi .sle (BitVec.ofNat 32 a) (BitVec.ofNat 32 b) = if a ≤ b then 1#1 else 0#1 := by
  show BitVec.ofBool ((BitVec.ofNat 32 a).sle (BitVec.ofNat 32 b)) = _
  have ea : (BitVec.ofNat 32 a).toInt = a := by rw [BitVec.toInt_ofNat', Int.bmod_def]; split <;> omega
  have eb : (BitVec.ofNat 32 b).toInt = b := by rw [BitVec.toInt_ofNat', Int.bmod_def]; split <;> omega
  rw [BitVec.sle, ea, eb]
  by_cases h : a ≤ b
  · simp [h]
  · simp [h]

section Steps

variable (q : Fin 2048) (σ : St Ideal)

theorem col_score0 (off : Fin 4 → ℕ) (hoff : ∀ a, off a + S1x1x512x256.size a ≤ S1x1x16384x256.size a) (n : ℕ) (hn : n + 512 ≤ 16384) (h : off 2 = n) :
    col (score0 off hoff σ) q = { col σ q with s0 := dots σ.x5 σ.x8 n hn q, b0 := top (dots σ.x5 σ.x8 n hn q) } := by
  have hx8 : ∀ k : Fin 256, (Rect.unit (s := S256x2048) ![0, 0] ![256, 2048] inb_S256x2048_S256x2048_0_0).emb (ix2 k q) = ix2 k q :=
    fun k => emb2 k q k q (by omega) (by first | omega | (simp only; omega))
  unfold score0 col
  ext
  all_goals dsimp only
  · rename_i r
    rw [ov2 _ _ r (wide q) r q (by omega) (by first | omega | (simp only; omega))]
    pointwise [k0_pay36, k0_pay35]
    simp only [emb5 off hoff _ _ n hn h, hx8]
    rfl
  · rw [ov2 _ _ 0 q 0 q (by simp) (by first | omega | (simp only; omega))]
    pointwise [k0_pay37, k0_pay35]
    simp only [emb5 off hoff _ _ n hn h, hx8, top_of]
    rfl

theorem col_score1 (off : Fin 4 → ℕ) (hoff : ∀ a, off a + S1x1x512x256.size a ≤ S1x1x16384x256.size a) (n : ℕ) (hn : n + 512 ≤ 16384) (h : off 2 = n) :
    col (score1 off hoff σ) q = { col σ q with s1 := dots σ.x5 σ.x8 n hn q, b1 := top (dots σ.x5 σ.x8 n hn q) } := by
  have hx8 : ∀ k : Fin 256, (Rect.unit (s := S256x2048) ![0, 0] ![256, 2048] inb_S256x2048_S256x2048_0_0).emb (ix2 k q) = ix2 k q :=
    fun k => emb2 k q k q (by omega) (by first | omega | (simp only; omega))
  unfold score1 col
  ext
  all_goals dsimp only
  · rename_i r
    rw [ov2 _ _ r (wide q) r q (by omega) (by first | omega | (simp only; omega))]
    pointwise [k0_pay36, k0_pay35]
    simp only [emb5 off hoff _ _ n hn h, hx8]
    rfl
  · rw [ov2 _ _ 0 q 0 q (by simp) (by first | omega | (simp only; omega))]
    pointwise [k0_pay37, k0_pay35]
    simp only [emb5 off hoff _ _ n hn h, hx8, top_of]
    rfl

theorem col_scoreD0 (off : Fin 4 → ℕ) (hoff : ∀ a, off a + S1x1x512x256.size a ≤ S1x1x16384x256.size a) (n : ℕ) (hn : n + 512 ≤ 16384) (h : off 2 = n) :
    col (scoreD0 off hoff σ) q = { col σ q with s0 := dots σ.x5 σ.x8 n hn q } := by
  have hx8 : ∀ k : Fin 256, (Rect.unit (s := S256x2048) ![0, 0] ![256, 2048] inb_S256x2048_S256x2048_0_0).emb (ix2 k q) = ix2 k q :=
    fun k => emb2 k q k q (by omega) (by first | omega | (simp only; omega))
  unfold scoreD0 col
  ext
  all_goals dsimp only
  · rename_i r
    rw [ov2 _ _ r (wide q) r q (by omega) (by first | omega | (simp only; omega))]
    pointwise [k0_pay259]
    simp only [emb5 off hoff _ _ n hn h, hx8]
    rfl

theorem col_scoreD1 (off : Fin 4 → ℕ) (hoff : ∀ a, off a + S1x1x512x256.size a ≤ S1x1x16384x256.size a) (n : ℕ) (hn : n + 512 ≤ 16384) (h : off 2 = n) (hq : 512 ≤ q.val) :
    col (scoreD1 off hoff σ) q = { col σ q with s1 := dots σ.x5 σ.x8 n hn q } := by
  have hx8 : ∀ k : Fin 256, (Rect.unit (s := S256x2048) ![0, 512] ![256, 1536] inb_S256x2048_S256x1536_0_512).emb (ix2 k ⟨q.val - 512, by omega⟩) = ix2 k q :=
    fun k => emb2 k q k ⟨q.val - 512, by omega⟩ (by omega) (by first | omega | (simp only; omega))
  unfold scoreD1 col
  ext
  all_goals dsimp only
  · rename_i r
    rw [ov2 _ _ r (wide q) r ⟨q.val - 512, by omega⟩ (by omega) (by first | omega | (simp only; omega))]
    pointwise [k0_pay260]
    simp only [emb5 off hoff _ _ n hn h, hx8]
    rfl

theorem col_scoreD1_miss (off : Fin 4 → ℕ) (hoff : ∀ a, off a + S1x1x512x256.size a ≤ S1x1x16384x256.size a) (hq : q.val < 512) :
    col (scoreD1 off hoff σ) q = col σ q := by
  unfold scoreD1 col
  ext
  all_goals dsimp only
  all_goals rw [ov2_miss _ _ _ _ (.inl (by simpa using hq))]

theorem col_scoreD2 (off : Fin 4 → ℕ) (hoff : ∀ a, off a + S1x1x512x256.size a ≤ S1x1x16384x256.size a) (n : ℕ) (hn : n + 512 ≤ 16384) (h : off 2 = n) (hq : 1024 ≤ q.val) :
    col (scoreD2 off hoff σ) q = { col σ q with s0 := dots σ.x5 σ.x8 n hn q } := by
  have hx8 : ∀ k : Fin 256, (Rect.unit (s := S256x2048) ![0, 1024] ![256, 1024] inb_S256x2048_S256x1024_0_1024).emb (ix2 k ⟨q.val - 1024, by omega⟩) = ix2 k q :=
    fun k => emb2 k q k ⟨q.val - 1024, by omega⟩ (by omega) (by first | omega | (simp only; omega))
  unfold scoreD2 col
  ext
  all_goals dsimp only
  · rename_i r
    rw [ov2 _ _ r (wide q) r ⟨q.val - 1024, by omega⟩ (by omega) (by first | omega | (simp only; omega))]
    pointwise [k0_pay269]
    simp only [emb5 off hoff _ _ n hn h, hx8]
    rfl

theorem col_scoreD2_miss (off : Fin 4 → ℕ) (hoff : ∀ a, off a + S1x1x512x256.size a ≤ S1x1x16384x256.size a) (hq : q.val < 1024) :
    col (scoreD2 off hoff σ) q = col σ q := by
  unfold scoreD2 col
  ext
  all_goals dsimp only
  all_goals rw [ov2_miss _ _ _ _ (.inl (by simpa using hq))]

theorem col_scoreD3 (off : Fin 4 → ℕ) (hoff : ∀ a, off a + S1x1x512x256.size a ≤ S1x1x16384x256.size a) (n : ℕ) (hn : n + 512 ≤ 16384) (h : off 2 = n) (hq : 1536 ≤ q.val) :
    col (scoreD3 off hoff σ) q = { col σ q with s1 := dots σ.x5 σ.x8 n hn q } := by
  have hx8 : ∀ k : Fin 256, (Rect.unit (s := S256x2048) ![0, 1536] ![256, 512] inb_S256x2048_S256x512_0_1536).emb (ix2 k ⟨q.val - 1536, by omega⟩) = ix2 k q :=
    fun k => emb2 k q k ⟨q.val - 1536, by omega⟩ (by omega) (by first | omega | (simp only; omega))
  unfold scoreD3 col
  ext
  all_goals dsimp only
  · rename_i r
    rw [ov2 _ _ r (wide q) r ⟨q.val - 1536, by omega⟩ (by omega) (by first | omega | (simp only; omega))]
    pointwise [k0_pay278]
    simp only [emb5 off hoff _ _ n hn h, hx8]
    rfl

theorem col_scoreD3_miss (off : Fin 4 → ℕ) (hoff : ∀ a, off a + S1x1x512x256.size a ≤ S1x1x16384x256.size a) (hq : q.val < 1536) :
    col (scoreD3 off hoff σ) q = col σ q := by
  unfold scoreD3 col
  ext
  all_goals dsimp only
  all_goals rw [ov2_miss _ _ _ _ (.inl (by simpa using hq))]

theorem col_soft0 :
    col (soft0 σ) q = { col σ q with
      m := (max (col σ q).m ((col σ q).b0))
      al0 := Ideal.exp2 ((col σ q).m - (max (col σ q).m ((col σ q).b0)))
      p0 := fun r => Ideal.exp2 ((col σ q).s0 r - (max (col σ q).m ((col σ q).b0))) } := by
  have hrow : (Rect.unit (s := S1x2048) ![0, 0] ![1, 2048] inb_S1x2048_S1x2048_0_0).emb (ix2 0 q) = ix2 0 q :=
    emb2 0 q 0 q (by simp) (by first | omega | (simp only; omega))
  have hsc : ∀ r : Fin 512, (Rect.unit (s := S512x2304) ![0, 0] ![512, 2048] inb_S512x2304_S512x2048_0_0).emb (ix2 r q) = ix2 r (wide q) :=
    fun r => emb2 r (wide q) r q (by omega) (by first | omega | (simp only; omega))
  unfold soft0 col
  ext
  all_goals dsimp only
  · rename_i r
    rw [ov2 _ _ r (wide q) r q (by omega) (by first | omega | (simp only; omega))]
    pointwise [k0_pay42, k0_pay43, k0_pay44, k0_pay45]
    simp only [hrow, hsc, top_of]
    try rfl
  · rw [ov2 _ _ 0 q 0 q (by simp) (by first | omega | (simp only; omega))]
    pointwise [k0_pay42, k0_pay43, k0_pay44, k0_pay45]
    simp only [hrow, hsc, top_of]
    try rfl
  · rw [ov2 _ _ 0 q 0 q (by simp) (by first | omega | (simp only; omega))]
    pointwise [k0_pay42, k0_pay43, k0_pay44, k0_pay45]
    simp only [hrow, hsc, top_of]
    try rfl

theorem col_soft1 :
    col (soft1 σ) q = { col σ q with
      m := (max (col σ q).m ((col σ q).b1))
      al1 := Ideal.exp2 ((col σ q).m - (max (col σ q).m ((col σ q).b1)))
      p1 := fun r => Ideal.exp2 ((col σ q).s1 r - (max (col σ q).m ((col σ q).b1))) } := by
  have hrow : (Rect.unit (s := S1x2048) ![0, 0] ![1, 2048] inb_S1x2048_S1x2048_0_0).emb (ix2 0 q) = ix2 0 q :=
    emb2 0 q 0 q (by simp) (by first | omega | (simp only; omega))
  have hsc : ∀ r : Fin 512, (Rect.unit (s := S512x2304) ![0, 0] ![512, 2048] inb_S512x2304_S512x2048_0_0).emb (ix2 r q) = ix2 r (wide q) :=
    fun r => emb2 r (wide q) r q (by omega) (by first | omega | (simp only; omega))
  unfold soft1 col
  ext
  all_goals dsimp only
  · rename_i r
    rw [ov2 _ _ r (wide q) r q (by omega) (by first | omega | (simp only; omega))]
    pointwise [k0_pay42, k0_pay43, k0_pay44, k0_pay45]
    simp only [hrow, hsc, top_of]
    try rfl
  · rw [ov2 _ _ 0 q 0 q (by simp) (by first | omega | (simp only; omega))]
    pointwise [k0_pay42, k0_pay43, k0_pay44, k0_pay45]
    simp only [hrow, hsc, top_of]
    try rfl
  · rw [ov2 _ _ 0 q 0 q (by simp) (by first | omega | (simp only; omega))]
    pointwise [k0_pay42, k0_pay43, k0_pay44, k0_pay45]
    simp only [hrow, hsc, top_of]
    try rfl

theorem col_softD0 :
    col (softD0 σ) q = { col σ q with
      m := (max (col σ q).m (top (col σ q).s0))
      al0 := Ideal.exp2 ((col σ q).m - (max (col σ q).m (top (col σ q).s0)))
      p0 := fun r => Ideal.exp2 ((col σ q).s0 r - (max (col σ q).m (top (col σ q).s0))) } := by
  have hrow : (Rect.unit (s := S1x2048) ![0, 0] ![1, 2048] inb_S1x2048_S1x2048_0_0).emb (ix2 0 q) = ix2 0 q :=
    emb2 0 q 0 q (by simp) (by first | omega | (simp only; omega))
  have hsc : ∀ r : Fin 512, (Rect.unit (s := S512x2304) ![0, 0] ![512, 2048] inb_S512x2304_S512x2048_0_0).emb (ix2 r q) = ix2 r (wide q) :=
    fun r => emb2 r (wide q) r q (by omega) (by first | omega | (simp only; omega))
  unfold softD0 col
  ext
  all_goals dsimp only
  · rename_i r
    rw [ov2 _ _ r (wide q) r q (by omega) (by first | omega | (simp only; omega))]
    pointwise [k0_pay263, k0_pay264, k0_pay265, k0_pay266]
    simp only [hrow, hsc, top_of]
    try rfl
  · rw [ov2 _ _ 0 q 0 q (by simp) (by first | omega | (simp only; omega))]
    pointwise [k0_pay263, k0_pay264, k0_pay265, k0_pay266]
    simp only [hrow, hsc, top_of]
    try rfl
  · rw [ov2 _ _ 0 q 0 q (by simp) (by first | omega | (simp only; omega))]
    pointwise [k0_pay263, k0_pay264, k0_pay265, k0_pay266]
    simp only [hrow, hsc, top_of]
    try rfl

theorem col_softD1 (hq : 512 ≤ q.val) :
    col (softD1 σ) q = { col σ q with
      m := (max (col σ q).m (top (col σ q).s1))
      al1 := Ideal.exp2 ((col σ q).m - (max (col σ q).m (top (col σ q).s1)))
      p1 := fun r => Ideal.exp2 ((col σ q).s1 r - (max (col σ q).m (top (col σ q).s1))) } := by
  have hrow : (Rect.unit (s := S1x2048) ![0, 512] ![1, 1536] inb_S1x2048_S1x1536_0_512).emb (ix2 0 ⟨q.val - 512, by omega⟩) = ix2 0 q :=
    emb2 0 q 0 ⟨q.val - 512, by omega⟩ (by simp) (by first | omega | (simp only; omega))
  have hsc : ∀ r : Fin 512, (Rect.unit (s := S512x2304) ![0, 512] ![512, 1536] inb_S512x2304_S512x1536_0_512).emb (ix2 r ⟨q.val - 512, by omega⟩) = ix2 r (wide q) :=
    fun r => emb2 r (wide q) r ⟨q.val - 512, by omega⟩ (by omega) (by first | omega | (simp only; omega))
  unfold softD1 col
  ext
  all_goals dsimp only
  · rename_i r
    rw [ov2 _ _ r (wide q) r ⟨q.val - 512, by omega⟩ (by omega) (by first | omega | (simp only; omega))]
    pointwise [k0_pay271, k0_pay272, k0_pay273, k0_pay274]
    simp only [hrow, hsc, top_of]
    try rfl
  · rw [ov2 _ _ 0 q 0 ⟨q.val - 512, by omega⟩ (by simp) (by first | omega | (simp only; omega))]
    pointwise [k0_pay271, k0_pay272, k0_pay273, k0_pay274]
    simp only [hrow, hsc, top_of]
    try rfl
  · rw [ov2 _ _ 0 q 0 ⟨q.val - 512, by omega⟩ (by simp) (by first | omega | (simp only; omega))]
    pointwise [k0_pay271, k0_pay272, k0_pay273, k0_pay274]
    simp only [hrow, hsc, top_of]
    try rfl

theorem col_softD1_miss  (hq : q.val < 512) :
    col (softD1  σ) q = col σ q := by
  unfold softD1 col
  ext
  all_goals dsimp only
  all_goals rw [ov2_miss _ _ _ _ (.inl (by simpa using hq))]

theorem col_softD2 (hq : 1024 ≤ q.val) :
    col (softD2 σ) q = { col σ q with
      m := (max (col σ q).m (top (col σ q).s0))
      al0 := Ideal.exp2 ((col σ q).m - (max (col σ q).m (top (col σ q).s0)))
      p0 := fun r => Ideal.exp2 ((col σ q).s0 r - (max (col σ q).m (top (col σ q).s0))) } := by
  have hrow : (Rect.unit (s := S1x2048) ![0, 1024] ![1, 1024] inb_S1x2048_S1x1024_0_1024).emb (ix2 0 ⟨q.val - 1024, by omega⟩) = ix2 0 q :=
    emb2 0 q 0 ⟨q.val - 1024, by omega⟩ (by simp) (by first | omega | (simp only; omega))
  have hsc : ∀ r : Fin 512, (Rect.unit (s := S512x2304) ![0, 1024] ![512, 1024] inb_S512x2304_S512x1024_0_1024).emb (ix2 r ⟨q.val - 1024, by omega⟩) = ix2 r (wide q) :=
    fun r => emb2 r (wide q) r ⟨q.val - 1024, by omega⟩ (by omega) (by first | omega | (simp only; omega))
  unfold softD2 col
  ext
  all_goals dsimp only
  · rename_i r
    rw [ov2 _ _ r (wide q) r ⟨q.val - 1024, by omega⟩ (by omega) (by first | omega | (simp only; omega))]
    pointwise [k0_pay280, k0_pay281, k0_pay282, k0_pay283]
    simp only [hrow, hsc, top_of]
    try rfl
  · rw [ov2 _ _ 0 q 0 ⟨q.val - 1024, by omega⟩ (by simp) (by first | omega | (simp only; omega))]
    pointwise [k0_pay280, k0_pay281, k0_pay282, k0_pay283]
    simp only [hrow, hsc, top_of]
    try rfl
  · rw [ov2 _ _ 0 q 0 ⟨q.val - 1024, by omega⟩ (by simp) (by first | omega | (simp only; omega))]
    pointwise [k0_pay280, k0_pay281, k0_pay282, k0_pay283]
    simp only [hrow, hsc, top_of]
    try rfl

theorem col_softD2_miss  (hq : q.val < 1024) :
    col (softD2  σ) q = col σ q := by
  unfold softD2 col
  ext
  all_goals dsimp only
  all_goals rw [ov2_miss _ _ _ _ (.inl (by simpa using hq))]

theorem col_softD3 (hq : 1536 ≤ q.val) :
    col (softD3 σ) q = { col σ q with
      m := (max (col σ q).m (top (col σ q).s1))
      al1 := Ideal.exp2 ((col σ q).m - (max (col σ q).m (top (col σ q).s1)))
      p1 := fun r => Ideal.exp2 ((col σ q).s1 r - (max (col σ q).m (top (col σ q).s1))) } := by
  have hrow : (Rect.unit (s := S1x2048) ![0, 1536] ![1, 512] inb_S1x2048_S1x512_0_1536).emb (ix2 0 ⟨q.val - 1536, by omega⟩) = ix2 0 q :=
    emb2 0 q 0 ⟨q.val - 1536, by omega⟩ (by simp) (by first | omega | (simp only; omega))
  have hsc : ∀ r : Fin 512, (Rect.unit (s := S512x2304) ![0, 1536] ![512, 512] inb_S512x2304_S512x512_0_1536).emb (ix2 r ⟨q.val - 1536, by omega⟩) = ix2 r (wide q) :=
    fun r => emb2 r (wide q) r ⟨q.val - 1536, by omega⟩ (by omega) (by first | omega | (simp only; omega))
  unfold softD3 col
  ext
  all_goals dsimp only
  · rename_i r
    rw [ov2 _ _ r (wide q) r ⟨q.val - 1536, by omega⟩ (by omega) (by first | omega | (simp only; omega))]
    pointwise [k0_pay286, k0_pay287, k0_pay288, k0_pay289]
    simp only [hrow, hsc, top_of]
    try rfl
  · rw [ov2 _ _ 0 q 0 ⟨q.val - 1536, by omega⟩ (by simp) (by first | omega | (simp only; omega))]
    pointwise [k0_pay286, k0_pay287, k0_pay288, k0_pay289]
    simp only [hrow, hsc, top_of]
    try rfl
  · rw [ov2 _ _ 0 q 0 ⟨q.val - 1536, by omega⟩ (by simp) (by first | omega | (simp only; omega))]
    pointwise [k0_pay286, k0_pay287, k0_pay288, k0_pay289]
    simp only [hrow, hsc, top_of]
    try rfl

theorem col_softD3_miss  (hq : q.val < 1536) :
    col (softD3  σ) q = col σ q := by
  unfold softD3 col
  ext
  all_goals dsimp only
  all_goals rw [ov2_miss _ _ _ _ (.inl (by simpa using hq))]

theorem col_softD0m :
    col (softD0m σ) q = { col σ q with s0 := fun r => if r.val ≤ q.val - 0 then (col σ q).s0 r else ⊥ } := by
  have hsc : ∀ r : Fin 512, (Rect.unit (s := S512x2304) ![0, 0] ![512, 2048] inb_S512x2304_S512x2048_0_0).emb (ix2 r q) = ix2 r (wide q) :=
    fun r => emb2 r (wide q) r q (by omega) (by first | omega | (simp only; omega))
  unfold softD0m col
  ext
  all_goals dsimp only
  · rename_i r
    rw [ov2 _ _ r (wide q) r q (by omega) (by first | omega | (simp only; omega))]
    pointwise [k0_pay261, k0_pay262]
    simp only [hsc]
    rw [sle_of _ _ (by omega) (by omega)]
    split <;> rfl

theorem col_softD1m (hq : 512 ≤ q.val) :
    col (softD1m σ) q = { col σ q with s1 := fun r => if r.val ≤ q.val - 512 then (col σ q).s1 r else ⊥ } := by
  have hsc : ∀ r : Fin 512, (Rect.unit (s := S512x2304) ![0, 512] ![512, 1536] inb_S512x2304_S512x1536_0_512).emb (ix2 r ⟨q.val - 512, by omega⟩) = ix2 r (wide q) :=
    fun r => emb2 r (wide q) r ⟨q.val - 512, by omega⟩ (by omega) (by first | omega | (simp only; omega))
  unfold softD1m col
  ext
  all_goals dsimp only
  · rename_i r
    rw [ov2 _ _ r (wide q) r ⟨q.val - 512, by omega⟩ (by omega) (by first | omega | (simp only; omega))]
    pointwise [k0_pay270]
    simp only [hsc]
    rw [sle_of _ _ (by omega) (by omega)]
    split <;> rfl

theorem col_softD1m_miss  (hq : q.val < 512) :
    col (softD1m  σ) q = col σ q := by
  unfold softD1m col
  ext
  all_goals dsimp only
  all_goals rw [ov2_miss _ _ _ _ (.inl (by simpa using hq))]

theorem col_softD2m (hq : 1024 ≤ q.val) :
    col (softD2m σ) q = { col σ q with s0 := fun r => if r.val ≤ q.val - 1024 then (col σ q).s0 r else ⊥ } := by
  have hsc : ∀ r : Fin 512, (Rect.unit (s := S512x2304) ![0, 1024] ![512, 1024] inb_S512x2304_S512x1024_0_1024).emb (ix2 r ⟨q.val - 1024, by omega⟩) = ix2 r (wide q) :=
    fun r => emb2 r (wide q) r ⟨q.val - 1024, by omega⟩ (by omega) (by first | omega | (simp only; omega))
  unfold softD2m col
  ext
  all_goals dsimp only
  · rename_i r
    rw [ov2 _ _ r (wide q) r ⟨q.val - 1024, by omega⟩ (by omega) (by first | omega | (simp only; omega))]
    pointwise [k0_pay279]
    simp only [hsc]
    rw [sle_of _ _ (by omega) (by omega)]
    split <;> rfl

theorem col_softD2m_miss  (hq : q.val < 1024) :
    col (softD2m  σ) q = col σ q := by
  unfold softD2m col
  ext
  all_goals dsimp only
  all_goals rw [ov2_miss _ _ _ _ (.inl (by simpa using hq))]

theorem col_softD3m (hq : 1536 ≤ q.val) :
    col (softD3m σ) q = { col σ q with s1 := fun r => if r.val ≤ q.val - 1536 then (col σ q).s1 r else ⊥ } := by
  have hsc : ∀ r : Fin 512, (Rect.unit (s := S512x2304) ![0, 1536] ![512, 512] inb_S512x2304_S512x512_0_1536).emb (ix2 r ⟨q.val - 1536, by omega⟩) = ix2 r (wide q) :=
    fun r => emb2 r (wide q) r ⟨q.val - 1536, by omega⟩ (by omega) (by first | omega | (simp only; omega))
  unfold softD3m col
  ext
  all_goals dsimp only
  · rename_i r
    rw [ov2 _ _ r (wide q) r ⟨q.val - 1536, by omega⟩ (by omega) (by first | omega | (simp only; omega))]
    pointwise [k0_pay285]
    simp only [hsc]
    rw [sle_of _ _ (by omega) (by omega)]
    split <;> rfl

theorem col_softD3m_miss  (hq : q.val < 1536) :
    col (softD3m  σ) q = col σ q := by
  unfold softD3m col
  ext
  all_goals dsimp only
  all_goals rw [ov2_miss _ _ _ _ (.inl (by simpa using hq))]

theorem col_pv0 (off : Fin 5 → ℕ) (hoff : ∀ a, off a + S1x1x1x144x512.size a ≤ S1x1x32x144x512.size a) (n : Fin 32) (h : off 2 = n.val) :
    col (pv0 off hoff σ) q = { col σ q with acc := fun a => (col σ q).al0 * (col σ q).acc a + vals σ.x6 n (col σ q).p0 a } := by
  have hrow : (Rect.unit (s := S1x2048) ![0, 0] ![1, 2048] inb_S1x2048_S1x2048_0_0).emb (ix2 0 q) = ix2 0 q :=
    emb2 0 q 0 q (by simp) (by first | omega | (simp only; omega))
  have hsc : ∀ r : Fin 512, (Rect.unit (s := S512x2304) ![0, 0] ![512, 2048] inb_S512x2304_S512x2048_0_0).emb (ix2 r q) = ix2 r (wide q) :=
    fun r => emb2 r (wide q) r q (by omega) (by first | omega | (simp only; omega))
  have hacc : ∀ r : Fin 144, (Rect.unit (s := S144x2304) ![0, 0] ![144, 2048] inb_S144x2304_S144x2048_0_0).emb (ix2 r q) = ix2 r (wide q) :=
    fun r => emb2 r (wide q) r q (by omega) (by first | omega | (simp only; omega))
  unfold pv0 col
  ext
  all_goals dsimp only
  · rename_i a
    rw [ov2 _ _ a (wide q) a q (by omega) (by first | omega | (simp only; omega))]
    pointwise [k0_pay57]
    simp only [hrow, hsc, hacc, emb6 off hoff n _ _ h]
    rfl

theorem col_pv1 (off : Fin 5 → ℕ) (hoff : ∀ a, off a + S1x1x1x144x512.size a ≤ S1x1x32x144x512.size a) (n : Fin 32) (h : off 2 = n.val) :
    col (pv1 off hoff σ) q = { col σ q with acc := fun a => (col σ q).al1 * (col σ q).acc a + vals σ.x6 n (col σ q).p1 a } := by
  have hrow : (Rect.unit (s := S1x2048) ![0, 0] ![1, 2048] inb_S1x2048_S1x2048_0_0).emb (ix2 0 q) = ix2 0 q :=
    emb2 0 q 0 q (by simp) (by first | omega | (simp only; omega))
  have hsc : ∀ r : Fin 512, (Rect.unit (s := S512x2304) ![0, 0] ![512, 2048] inb_S512x2304_S512x2048_0_0).emb (ix2 r q) = ix2 r (wide q) :=
    fun r => emb2 r (wide q) r q (by omega) (by first | omega | (simp only; omega))
  have hacc : ∀ r : Fin 144, (Rect.unit (s := S144x2304) ![0, 0] ![144, 2048] inb_S144x2304_S144x2048_0_0).emb (ix2 r q) = ix2 r (wide q) :=
    fun r => emb2 r (wide q) r q (by omega) (by first | omega | (simp only; omega))
  unfold pv1 col
  ext
  all_goals dsimp only
  · rename_i a
    rw [ov2 _ _ a (wide q) a q (by omega) (by first | omega | (simp only; omega))]
    pointwise [k0_pay57]
    simp only [hrow, hsc, hacc, emb6 off hoff n _ _ h]
    rfl

theorem col_pv1_1536 (off : Fin 5 → ℕ) (hoff : ∀ a, off a + S1x1x1x144x512.size a ≤ S1x1x32x144x512.size a) (n : Fin 32) (h : off 2 = n.val) (hq : 512 ≤ q.val) :
    col (pv1_1536 off hoff σ) q = { col σ q with acc := fun a => (col σ q).al1 * (col σ q).acc a + vals σ.x6 n (col σ q).p1 a } := by
  have hrow : (Rect.unit (s := S1x2048) ![0, 512] ![1, 1536] inb_S1x2048_S1x1536_0_512).emb (ix2 0 ⟨q.val - 512, by omega⟩) = ix2 0 q :=
    emb2 0 q 0 ⟨q.val - 512, by omega⟩ (by simp) (by first | omega | (simp only; omega))
  have hsc : ∀ r : Fin 512, (Rect.unit (s := S512x2304) ![0, 512] ![512, 1536] inb_S512x2304_S512x1536_0_512).emb (ix2 r ⟨q.val - 512, by omega⟩) = ix2 r (wide q) :=
    fun r => emb2 r (wide q) r ⟨q.val - 512, by omega⟩ (by omega) (by first | omega | (simp only; omega))
  have hacc : ∀ r : Fin 144, (Rect.unit (s := S144x2304) ![0, 512] ![144, 1536] inb_S144x2304_S144x1536_0_512).emb (ix2 r ⟨q.val - 512, by omega⟩) = ix2 r (wide q) :=
    fun r => emb2 r (wide q) r ⟨q.val - 512, by omega⟩ (by omega) (by first | omega | (simp only; omega))
  unfold pv1_1536 col
  ext
  all_goals dsimp only
  · rename_i a
    rw [ov2 _ _ a (wide q) a ⟨q.val - 512, by omega⟩ (by omega) (by first | omega | (simp only; omega))]
    pointwise [k0_pay284]
    simp only [hrow, hsc, hacc, emb6 off hoff n _ _ h]
    rfl

theorem col_pv1_1536_miss (off : Fin 5 → ℕ) (hoff : ∀ a, off a + S1x1x1x144x512.size a ≤ S1x1x32x144x512.size a) (hq : q.val < 512) :
    col (pv1_1536 off hoff σ) q = col σ q := by
  unfold pv1_1536 col
  ext
  all_goals dsimp only
  all_goals rw [ov2_miss _ _ _ _ (.inl (by simpa using hq))]

theorem col_pv0_1024 (off : Fin 5 → ℕ) (hoff : ∀ a, off a + S1x1x1x144x512.size a ≤ S1x1x32x144x512.size a) (n : Fin 32) (h : off 2 = n.val) (hq : 1024 ≤ q.val) :
    col (pv0_1024 off hoff σ) q = { col σ q with acc := fun a => (col σ q).al0 * (col σ q).acc a + vals σ.x6 n (col σ q).p0 a } := by
  have hrow : (Rect.unit (s := S1x2048) ![0, 1024] ![1, 1024] inb_S1x2048_S1x1024_0_1024).emb (ix2 0 ⟨q.val - 1024, by omega⟩) = ix2 0 q :=
    emb2 0 q 0 ⟨q.val - 1024, by omega⟩ (by simp) (by first | omega | (simp only; omega))
  have hsc : ∀ r : Fin 512, (Rect.unit (s := S512x2304) ![0, 1024] ![512, 1024] inb_S512x2304_S512x1024_0_1024).emb (ix2 r ⟨q.val - 1024, by omega⟩) = ix2 r (wide q) :=
    fun r => emb2 r (wide q) r ⟨q.val - 1024, by omega⟩ (by omega) (by first | omega | (simp only; omega))
  have hacc : ∀ r : Fin 144, (Rect.unit (s := S144x2304) ![0, 1024] ![144, 1024] inb_S144x2304_S144x1024_0_1024).emb (ix2 r ⟨q.val - 1024, by omega⟩) = ix2 r (wide q) :=
    fun r => emb2 r (wide q) r ⟨q.val - 1024, by omega⟩ (by omega) (by first | omega | (simp only; omega))
  unfold pv0_1024 col
  ext
  all_goals dsimp only
  · rename_i a
    rw [ov2 _ _ a (wide q) a ⟨q.val - 1024, by omega⟩ (by omega) (by first | omega | (simp only; omega))]
    pointwise [k0_pay290]
    simp only [hrow, hsc, hacc, emb6 off hoff n _ _ h]
    rfl

theorem col_pv0_1024_miss (off : Fin 5 → ℕ) (hoff : ∀ a, off a + S1x1x1x144x512.size a ≤ S1x1x32x144x512.size a) (hq : q.val < 1024) :
    col (pv0_1024 off hoff σ) q = col σ q := by
  unfold pv0_1024 col
  ext
  all_goals dsimp only
  all_goals rw [ov2_miss _ _ _ _ (.inl (by simpa using hq))]

theorem col_pv1_512 (off : Fin 5 → ℕ) (hoff : ∀ a, off a + S1x1x1x144x512.size a ≤ S1x1x32x144x512.size a) (n : Fin 32) (h : off 2 = n.val) (hq : 1536 ≤ q.val) :
    col (pv1_512 off hoff σ) q = { col σ q with acc := fun a => (col σ q).al1 * (col σ q).acc a + vals σ.x6 n (col σ q).p1 a } := by
  have hrow : (Rect.unit (s := S1x2048) ![0, 1536] ![1, 512] inb_S1x2048_S1x512_0_1536).emb (ix2 0 ⟨q.val - 1536, by omega⟩) = ix2 0 q :=
    emb2 0 q 0 ⟨q.val - 1536, by omega⟩ (by simp) (by first | omega | (simp only; omega))
  have hsc : ∀ r : Fin 512, (Rect.unit (s := S512x2304) ![0, 1536] ![512, 512] inb_S512x2304_S512x512_0_1536).emb (ix2 r ⟨q.val - 1536, by omega⟩) = ix2 r (wide q) :=
    fun r => emb2 r (wide q) r ⟨q.val - 1536, by omega⟩ (by omega) (by first | omega | (simp only; omega))
  have hacc : ∀ r : Fin 144, (Rect.unit (s := S144x2304) ![0, 1536] ![144, 512] inb_S144x2304_S144x512_0_1536).emb (ix2 r ⟨q.val - 1536, by omega⟩) = ix2 r (wide q) :=
    fun r => emb2 r (wide q) r ⟨q.val - 1536, by omega⟩ (by omega) (by first | omega | (simp only; omega))
  unfold pv1_512 col
  ext
  all_goals dsimp only
  · rename_i a
    rw [ov2 _ _ a (wide q) a ⟨q.val - 1536, by omega⟩ (by omega) (by first | omega | (simp only; omega))]
    pointwise [k0_pay291]
    simp only [hrow, hsc, hacc, emb6 off hoff n _ _ h]
    rfl

theorem col_pv1_512_miss (off : Fin 5 → ℕ) (hoff : ∀ a, off a + S1x1x1x144x512.size a ≤ S1x1x32x144x512.size a) (hq : q.val < 1536) :
    col (pv1_512 off hoff σ) q = col σ q := by
  unfold pv1_512 col
  ext
  all_goals dsimp only
  all_goals rw [ov2_miss _ _ _ _ (.inl (by simpa using hq))]

end Steps

end Cert.KernelIdeal.Fox
-- ==== Proof.Offsets.lean ====
/- The offsets the attention kernel's body works at, as numbers: the rows of the keys and the blocks of the
   values each step reads. -/
module

public import proofs.«01_k».proof.Proof.Body

@[expose] public section

set_option maxRecDepth 65536

noncomputable section

namespace Cert.KernelIdeal.Fox

open Cert.KernelIdeal Cert.KernelIdeal.Gen
open Idealize.ShloMosaic

theorem t1_trips (i : grid0.Coords) : (k0_t1_loop i).trips = ((i 2).val - 1) / 2 := by
  have h : ∀ x : Fin 8, ∀ y : grid0.Coords, y 2 = x → (k0_t1_loop y).trips = (x.val - 1) / 2 := by
    intro x y hy
    unfold k0_t1_loop
    rw [hy]
    clear hy
    revert x; decide
  exact h _ i rfl

theorem t3_trips (i : grid0.Coords) : (k0_t3_loop i).trips = ((i 2).val - 1) % 2 := by
  have h : ∀ x : Fin 8, ∀ y : grid0.Coords, y 2 = x → (k0_t3_loop y).trips = (x.val - 1) % 2 := by
    intro x y hy
    unfold k0_t3_loop
    rw [hy]
    clear hy
    revert x; decide
  exact h _ i rfl

theorem coord_lt (i : grid0.Coords) : (i 2).val < 8 := (i 2).isLt

theorem t1_lt (i : grid0.Coords) (t : Fin (k0_t1_loop i).trips) : 4 + 8 * t.val + 8 ≤ 4 * (i 2).val := by
  have h := t.isLt
  have h := lt_of_lt_of_eq h (t1_trips i)
  omega

theorem t3_lt (i : grid0.Coords) (t : Fin (k0_t3_loop i).trips) : t.val = 0 ∧ 4 + 8 * (((i 2).val - 1) / 2) + 4 = 4 * (i 2).val := by
  have h := t.isLt
  have h := lt_of_lt_of_eq h (t3_trips i)
  omega

theorem off6_eq (i : grid0.Coords) (t : Fin (k0_t1_loop i).trips) : k0_off6 i t 2 = 512 * (4 + 8 * t.val) := by
  have h := t1_lt i t
  have h8 := coord_lt i
  unfold k0_off6
  generalize t.val = n at h ⊢
  have hn : n < 3 := by omega
  clear h h8 t
  interval_cases n <;> rfl

theorem off7_eq (i : grid0.Coords) (t : Fin (k0_t1_loop i).trips) : k0_off7 i t 2 = 512 * (4 + 8 * t.val + 1) := by
  have h := t1_lt i t
  have h8 := coord_lt i
  unfold k0_off7
  generalize t.val = n at h ⊢
  have hn : n < 3 := by omega
  clear h h8 t
  interval_cases n <;> rfl

theorem off8_eq (i : grid0.Coords) (t : Fin (k0_t1_loop i).trips) (d : Fin 8) : k0_off8 i t (BitVec.ofNat 32 d.val) 2 = 3 + 8 * t.val + d.val := by
  have h := t1_lt i t
  have h8 := coord_lt i
  unfold k0_off8
  generalize t.val = n at h ⊢
  have hn : n < 3 := by omega
  clear h h8 t
  interval_cases n <;> revert d <;> decide

theorem off9_eq (i : grid0.Coords) (t : Fin (k0_t1_loop i).trips) (d : Fin 6) : k0_off9 i t (BitVec.ofNat 32 d.val) 2 = 512 * (4 + 8 * t.val + d.val + 2) := by
  have h := t1_lt i t
  have h8 := coord_lt i
  unfold k0_off9
  generalize t.val = n at h ⊢
  have hn : n < 3 := by omega
  clear h h8 t
  interval_cases n <;> revert d <;> decide

theorem off14_eq (i : grid0.Coords) (t : Fin (k0_t3_loop i).trips) : k0_off14 i t 2 = 512 * (4 * (i 2).val - 4) := by
  have h : ∀ x : Fin 8, ∀ y : grid0.Coords, y 2 = x → ∀ s : Fin (k0_t3_loop y).trips, k0_off14 y s 2 = 512 * (4 * x.val - 4) := by
    intro x y hy s
    obtain ⟨h0, h1⟩ := t3_lt y s
    rw [hy] at h1
    unfold k0_off14
    rw [hy, h0]
    clear hy h0 s
    revert x; decide
  exact h _ i rfl t

theorem off15_eq (i : grid0.Coords) (t : Fin (k0_t3_loop i).trips) : k0_off15 i t 2 = 512 * (4 * (i 2).val - 3) := by
  have h : ∀ x : Fin 8, ∀ y : grid0.Coords, y 2 = x → ∀ s : Fin (k0_t3_loop y).trips, k0_off15 y s 2 = 512 * (4 * x.val - 3) := by
    intro x y hy s
    obtain ⟨h0, h1⟩ := t3_lt y s
    rw [hy] at h1
    unfold k0_off15
    rw [hy, h0]
    clear hy h0 s
    revert x; decide
  exact h _ i rfl t

theorem off16_eq (i : grid0.Coords) (t : Fin (k0_t3_loop i).trips) (d : Fin 4) : k0_off16 i t (BitVec.ofNat 32 d.val) 2 = 4 * (i 2).val - 5 + d.val := by
  have h : ∀ x : Fin 8, ∀ y : grid0.Coords, y 2 = x → ∀ s : Fin (k0_t3_loop y).trips, k0_off16 y s (BitVec.ofNat 32 d.val) 2 = 4 * x.val - 5 + d.val := by
    intro x y hy s
    obtain ⟨h0, h1⟩ := t3_lt y s
    rw [hy] at h1
    unfold k0_off16
    rw [hy, h0]
    clear hy h0 s
    revert d; revert x; decide
  exact h _ i rfl t

theorem off17_eq (i : grid0.Coords) (t : Fin (k0_t3_loop i).trips) (d : Fin 2) : k0_off17 i t (BitVec.ofNat 32 d.val) 2 = 512 * (4 * (i 2).val - 2 + d.val) := by
  have h : ∀ x : Fin 8, ∀ y : grid0.Coords, y 2 = x → ∀ s : Fin (k0_t3_loop y).trips, k0_off17 y s (BitVec.ofNat 32 d.val) 2 = 512 * (4 * x.val - 2 + d.val) := by
    intro x y hy s
    obtain ⟨h0, h1⟩ := t3_lt y s
    rw [hy] at h1
    unfold k0_off17
    rw [hy, h0]
    clear hy h0 s
    revert d; revert x; decide
  exact h _ i rfl t

theorem off22_eq (i : grid0.Coords) : k0_off22 i 2 = 512 * (4 * (i 2).val) := by
  have h : ∀ x : Fin 8, ∀ y : grid0.Coords, y 2 = x → k0_off22 y 2 = 512 * (4 * x.val) := by
    intro x y hy
    unfold k0_off22
    rw [hy]
    clear hy
    revert x; decide
  exact h _ i rfl

theorem off23_eq (i : grid0.Coords) : k0_off23 i 2 = 512 * (4 * (i 2).val + 1) := by
  have h : ∀ x : Fin 8, ∀ y : grid0.Coords, y 2 = x → k0_off23 y 2 = 512 * (4 * x.val + 1) := by
    intro x y hy
    unfold k0_off23
    rw [hy]
    clear hy
    revert x; decide
  exact h _ i rfl

theorem off24_eq (i : grid0.Coords) (d : Fin 4) : k0_off24 i (BitVec.ofNat 32 d.val) 2 = 4 * (i 2).val + d.val - 1 := by
  have h : ∀ x : Fin 8, ∀ y : grid0.Coords, y 2 = x → k0_off24 y (BitVec.ofNat 32 d.val) 2 = 4 * x.val + d.val - 1 := by
    intro x y hy
    unfold k0_off24
    rw [hy]
    clear hy
    revert d; revert x; decide
  exact h _ i rfl

theorem off25_eq (i : grid0.Coords) (d : Fin 2) : k0_off25 i (BitVec.ofNat 32 d.val) 2 = 512 * (4 * (i 2).val + 2 + d.val) := by
  have h : ∀ x : Fin 8, ∀ y : grid0.Coords, y 2 = x → k0_off25 y (BitVec.ofNat 32 d.val) 2 = 512 * (4 * x.val + 2 + d.val) := by
    intro x y hy
    unfold k0_off25
    rw [hy]
    clear hy
    revert d; revert x; decide
  exact h _ i rfl

theorem off26_eq (i : grid0.Coords) : k0_off26 i 2 = 4 * (i 2).val + 3 := by
  have h : ∀ x : Fin 8, ∀ y : grid0.Coords, y 2 = x → k0_off26 y 2 = 4 * x.val + 3 := by
    intro x y hy
    unfold k0_off26
    rw [hy]
    clear hy
    revert x; decide
  exact h _ i rfl

theorem off1_eq (i : grid0.Coords) : k0_off1 i 1 = (i 1).val := by
  have h : ∀ x : Fin 8, ∀ y : grid0.Coords, y 1 = x → k0_off1 y 1 = x.val := by
    intro x y hy
    unfold k0_off1
    rw [hy]
    clear hy
    revert x; decide
  exact h _ i rfl

theorem atFirst_iff (i : grid0.Coords) : atFirst i = 1#1 ↔ (i 2).val = 0 := by
  have h : ∀ x : Fin 8, ∀ y : grid0.Coords, y 2 = x → (atFirst y = 1#1 ↔ x.val = 0) := by
    intro x y hy
    unfold atFirst
    rw [hy]
    clear hy
    revert x; decide
  exact h _ i rfl

theorem cond2_iff (i : grid0.Coords) : k0_cond2 i = 1#1 ↔ (i 2).val ≠ 0 := by
  have h : ∀ x : Fin 8, ∀ y : grid0.Coords, y 2 = x → (k0_cond2 y = 1#1 ↔ x.val ≠ 0) := by
    intro x y hy
    unfold k0_cond2
    rw [hy]
    clear hy
    revert x; decide
  exact h _ i rfl

end Cert.KernelIdeal.Fox
-- ==== Proof.Blocks.lean ====
/- One column of the attention kernel through the body: the blocks of keys taken one after the other, each
   step in terms of the running maximum and the sums accumulated so far. -/
module

public import proofs.«01_k».proof.Proof.Column
public import proofs.«01_k».proof.Proof.Offsets

@[expose] public section

set_option maxRecDepth 65536

noncomputable section

namespace Cert.KernelIdeal.Fox

open Cert.KernelIdeal Cert.KernelIdeal.Gen Cert.Online
open Idealize.ShloMosaic Idealize.ShloMosaic.TcCoe

/-- The scores of block `n`. -/
def raw (x5 : Vec Ideal S1x1x16384x256 .bf16) (x8 : Vec Ideal S256x2048 .bf16) (q : Fin 2048) (n : ℕ) : Fin 512 → EReal :=
  if h : 512 * n + 512 ≤ 16384 then dots x5 x8 (512 * n) h q else fun _ => ⊥

/-- Row `a` of the values of block `n`. -/
def row (x6 : Vec Ideal S1x1x32x144x512 .bf16) (a : Fin 144) (n : ℕ) (r : Fin 512) : EReal :=
  if h : n < 32 then x6 (ix5 0 0 ⟨n, h⟩ a r) else 0

/-- The keys, the values and the queries are `x5`, `x6`, `x8`, and column `q` is `c`. -/
def At (x5 : Vec Ideal S1x1x16384x256 .bf16) (x6 : Vec Ideal S1x1x32x144x512 .bf16) (x8 : Vec Ideal S256x2048 .bf16) (q : Fin 2048)
    (σ : St Ideal) (c : Col) : Prop := σ.x5 = x5 ∧ σ.x6 = x6 ∧ σ.x8 = x8 ∧ col σ q = c

section Spec

variable {x5 : Vec Ideal S1x1x16384x256 .bf16} {x6 : Vec Ideal S1x1x32x144x512 .bf16} {x8 : Vec Ideal S256x2048 .bf16} {q : Fin 2048}
  {s : ℕ → Fin 512 → EReal} {σ : St Ideal} {s0 s1 p0 p1 : Fin 512 → EReal} {al0 al1 b0 b1 m : EReal} {acc : Fin 144 → EReal}

local notation "A" => At x5 x6 x8 q

theorem acc_step (n : ℕ) (hn : n < 32) :
    (fun a => fac s n * Ac s (row x6 a) n + vals x6 ⟨n, hn⟩ (prob s n) a) = fun a => Ac s (row x6 a) (n + 1) := by
  funext a
  rw [Ac]
  congr 1
  refine Finset.sum_congr rfl fun r _ => ?_
  rw [row, dif_pos hn]

theorem at_score0 (off : Fin 4 → ℕ) (hoff : ∀ a, off a + S1x1x512x256.size a ≤ S1x1x16384x256.size a) (n : ℕ) (hn : n < 32) (ho : off 2 = 512 * n) (h : A σ ⟨s0, s1, p0, p1, al0, al1, b0, b1, m, acc⟩) :
    A (score0 off hoff σ) ⟨(raw x5 x8 q n), s1, p0, p1, al0, al1, (top (raw x5 x8 q n)), b1, m, acc⟩ := by
  obtain ⟨rfl, rfl, rfl, h⟩ := h
  refine ⟨rfl, rfl, rfl, ?_⟩
  rw [col_score0 q σ off hoff (512 * n) (by omega) ho, h, raw, dif_pos]

theorem at_score1 (off : Fin 4 → ℕ) (hoff : ∀ a, off a + S1x1x512x256.size a ≤ S1x1x16384x256.size a) (n : ℕ) (hn : n < 32) (ho : off 2 = 512 * n) (h : A σ ⟨s0, s1, p0, p1, al0, al1, b0, b1, m, acc⟩) :
    A (score1 off hoff σ) ⟨s0, (raw x5 x8 q n), p0, p1, al0, al1, b0, (top (raw x5 x8 q n)), m, acc⟩ := by
  obtain ⟨rfl, rfl, rfl, h⟩ := h
  refine ⟨rfl, rfl, rfl, ?_⟩
  rw [col_score1 q σ off hoff (512 * n) (by omega) ho, h, raw, dif_pos]

theorem at_soft0 (n : ℕ) (h : A σ ⟨(s n), s1, p0, p1, al0, al1, (top (s n)), b1, (Mx s n), acc⟩) :
    A (soft0 σ) ⟨(s n), s1, (prob s n), p1, (fac s n), al1, (top (s n)), b1, (Mx s (n + 1)), acc⟩ := by
  obtain ⟨rfl, rfl, rfl, h⟩ := h
  refine ⟨rfl, rfl, rfl, ?_⟩
  rw [col_soft0 q σ, h]
  rfl

theorem at_soft1 (n : ℕ) (h : A σ ⟨s0, (s n), p0, p1, al0, al1, b0, (top (s n)), (Mx s n), acc⟩) :
    A (soft1 σ) ⟨s0, (s n), p0, (prob s n), al0, (fac s n), b0, (top (s n)), (Mx s (n + 1)), acc⟩ := by
  obtain ⟨rfl, rfl, rfl, h⟩ := h
  refine ⟨rfl, rfl, rfl, ?_⟩
  rw [col_soft1 q σ, h]
  rfl

theorem at_scoreD0 (off : Fin 4 → ℕ) (hoff : ∀ a, off a + S1x1x512x256.size a ≤ S1x1x16384x256.size a) (n : ℕ) (hn : n < 32) (ho : off 2 = 512 * n) (h : A σ ⟨s0, s1, p0, p1, al0, al1, b0, b1, m, acc⟩) :
    A (scoreD0 off hoff σ) ⟨(raw x5 x8 q n), s1, p0, p1, al0, al1, b0, b1, m, acc⟩ := by
  obtain ⟨rfl, rfl, rfl, h⟩ := h
  refine ⟨rfl, rfl, rfl, ?_⟩
  rw [col_scoreD0 q σ off hoff (512 * n) (by omega) ho, h, raw, dif_pos]

theorem at_scoreD1 (off : Fin 4 → ℕ) (hoff : ∀ a, off a + S1x1x512x256.size a ≤ S1x1x16384x256.size a) (n : ℕ) (hn : n < 32) (ho : off 2 = 512 * n) (hq : 512 ≤ q.val) (h : A σ ⟨s0, s1, p0, p1, al0, al1, b0, b1, m, acc⟩) :
    A (scoreD1 off hoff σ) ⟨s0, (raw x5 x8 q n), p0, p1, al0, al1, b0, b1, m, acc⟩ := by
  obtain ⟨rfl, rfl, rfl, h⟩ := h
  refine ⟨rfl, rfl, rfl, ?_⟩
  rw [col_scoreD1 q σ off hoff (512 * n) (by omega) ho hq, h, raw, dif_pos]

theorem at_scoreD1_miss (off : Fin 4 → ℕ) (hoff : ∀ a, off a + S1x1x512x256.size a ≤ S1x1x16384x256.size a) (hq : q.val < 512) {c : Col} (h : A σ c) : A (scoreD1 off hoff σ) c := by
  obtain ⟨rfl, rfl, rfl, h⟩ := h
  exact ⟨rfl, rfl, rfl, (col_scoreD1_miss q σ off hoff hq).trans h⟩

theorem at_scoreD2 (off : Fin 4 → ℕ) (hoff : ∀ a, off a + S1x1x512x256.size a ≤ S1x1x16384x256.size a) (n : ℕ) (hn : n < 32) (ho : off 2 = 512 * n) (hq : 1024 ≤ q.val) (h : A σ ⟨s0, s1, p0, p1, al0, al1, b0, b1, m, acc⟩) :
    A (scoreD2 off hoff σ) ⟨(raw x5 x8 q n), s1, p0, p1, al0, al1, b0, b1, m, acc⟩ := by
  obtain ⟨rfl, rfl, rfl, h⟩ := h
  refine ⟨rfl, rfl, rfl, ?_⟩
  rw [col_scoreD2 q σ off hoff (512 * n) (by omega) ho hq, h, raw, dif_pos]

theorem at_scoreD2_miss (off : Fin 4 → ℕ) (hoff : ∀ a, off a + S1x1x512x256.size a ≤ S1x1x16384x256.size a) (hq : q.val < 1024) {c : Col} (h : A σ c) : A (scoreD2 off hoff σ) c := by
  obtain ⟨rfl, rfl, rfl, h⟩ := h
  exact ⟨rfl, rfl, rfl, (col_scoreD2_miss q σ off hoff hq).trans h⟩

theorem at_scoreD3 (off : Fin 4 → ℕ) (hoff : ∀ a, off a + S1x1x512x256.size a ≤ S1x1x16384x256.size a) (n : ℕ) (hn : n < 32) (ho : off 2 = 512 * n) (hq : 1536 ≤ q.val) (h : A σ ⟨s0, s1, p0, p1, al0, al1, b0, b1, m, acc⟩) :
    A (scoreD3 off hoff σ) ⟨s0, (raw x5 x8 q n), p0, p1, al0, al1, b0, b1, m, acc⟩ := by
  obtain ⟨rfl, rfl, rfl, h⟩ := h
  refine ⟨rfl, rfl, rfl, ?_⟩
  rw [col_scoreD3 q σ off hoff (512 * n) (by omega) ho hq, h, raw, dif_pos]

theorem at_scoreD3_miss (off : Fin 4 → ℕ) (hoff : ∀ a, off a + S1x1x512x256.size a ≤ S1x1x16384x256.size a) (hq : q.val < 1536) {c : Col} (h : A σ c) : A (scoreD3 off hoff σ) c := by
  obtain ⟨rfl, rfl, rfl, h⟩ := h
  exact ⟨rfl, rfl, rfl, (col_scoreD3_miss q σ off hoff hq).trans h⟩

theorem at_softD0m (n : ℕ) (hs : ∀ r : Fin 512, s n r = if r.val ≤ q.val - 0 then s0 r else ⊥) (h : A σ ⟨s0, s1, p0, p1, al0, al1, b0, b1, m, acc⟩) :
    A (softD0m σ) ⟨(s n), s1, p0, p1, al0, al1, b0, b1, m, acc⟩ := by
  obtain ⟨rfl, rfl, rfl, h⟩ := h
  refine ⟨rfl, rfl, rfl, ?_⟩
  rw [col_softD0m q σ, h, show s n = _ from funext hs]

theorem at_softD1m (n : ℕ) (hs : ∀ r : Fin 512, s n r = if r.val ≤ q.val - 512 then s1 r else ⊥) (hq : 512 ≤ q.val) (h : A σ ⟨s0, s1, p0, p1, al0, al1, b0, b1, m, acc⟩) :
    A (softD1m σ) ⟨s0, (s n), p0, p1, al0, al1, b0, b1, m, acc⟩ := by
  obtain ⟨rfl, rfl, rfl, h⟩ := h
  refine ⟨rfl, rfl, rfl, ?_⟩
  rw [col_softD1m q σ hq, h, show s n = _ from funext hs]

theorem at_softD1m_miss (hq : q.val < 512) {c : Col} (h : A σ c) : A (softD1m σ) c := by
  obtain ⟨rfl, rfl, rfl, h⟩ := h
  exact ⟨rfl, rfl, rfl, (col_softD1m_miss q σ hq).trans h⟩

theorem at_softD2m (n : ℕ) (hs : ∀ r : Fin 512, s n r = if r.val ≤ q.val - 1024 then s0 r else ⊥) (hq : 1024 ≤ q.val) (h : A σ ⟨s0, s1, p0, p1, al0, al1, b0, b1, m, acc⟩) :
    A (softD2m σ) ⟨(s n), s1, p0, p1, al0, al1, b0, b1, m, acc⟩ := by
  obtain ⟨rfl, rfl, rfl, h⟩ := h
  refine ⟨rfl, rfl, rfl, ?_⟩
  rw [col_softD2m q σ hq, h, show s n = _ from funext hs]

theorem at_softD2m_miss (hq : q.val < 1024) {c : Col} (h : A σ c) : A (softD2m σ) c := by
  obtain ⟨rfl, rfl, rfl, h⟩ := h
  exact ⟨rfl, rfl, rfl, (col_softD2m_miss q σ hq).trans h⟩

theorem at_softD3m (n : ℕ) (hs : ∀ r : Fin 512, s n r = if r.val ≤ q.val - 1536 then s1 r else ⊥) (hq : 1536 ≤ q.val) (h : A σ ⟨s0, s1, p0, p1, al0, al1, b0, b1, m, acc⟩) :
    A (softD3m σ) ⟨s0, (s n), p0, p1, al0, al1, b0, b1, m, acc⟩ := by
  obtain ⟨rfl, rfl, rfl, h⟩ := h
  refine ⟨rfl, rfl, rfl, ?_⟩
  rw [col_softD3m q σ hq, h, show s n = _ from funext hs]

theorem at_softD3m_miss (hq : q.val < 1536) {c : Col} (h : A σ c) : A (softD3m σ) c := by
  obtain ⟨rfl, rfl, rfl, h⟩ := h
  exact ⟨rfl, rfl, rfl, (col_softD3m_miss q σ hq).trans h⟩

theorem at_softD0 (n : ℕ) (h : A σ ⟨(s n), s1, p0, p1, al0, al1, b0, b1, (Mx s n), acc⟩) :
    A (softD0 σ) ⟨(s n), s1, (prob s n), p1, (fac s n), al1, b0, b1, (Mx s (n + 1)), acc⟩ := by
  obtain ⟨rfl, rfl, rfl, h⟩ := h
  refine ⟨rfl, rfl, rfl, ?_⟩
  rw [col_softD0 q σ, h]
  rfl

theorem at_softD1 (n : ℕ) (hq : 512 ≤ q.val) (h : A σ ⟨s0, (s n), p0, p1, al0, al1, b0, b1, (Mx s n), acc⟩) :
    A (softD1 σ) ⟨s0, (s n), p0, (prob s n), al0, (fac s n), b0, b1, (Mx s (n + 1)), acc⟩ := by
  obtain ⟨rfl, rfl, rfl, h⟩ := h
  refine ⟨rfl, rfl, rfl, ?_⟩
  rw [col_softD1 q σ hq, h]
  rfl

theorem at_softD1_miss (hq : q.val < 512) {c : Col} (h : A σ c) : A (softD1 σ) c := by
  obtain ⟨rfl, rfl, rfl, h⟩ := h
  exact ⟨rfl, rfl, rfl, (col_softD1_miss q σ hq).trans h⟩

theorem at_softD2 (n : ℕ) (hq : 1024 ≤ q.val) (h : A σ ⟨(s n), s1, p0, p1, al0, al1, b0, b1, (Mx s n), acc⟩) :
    A (softD2 σ) ⟨(s n), s1, (prob s n), p1, (fac s n), al1, b0, b1, (Mx s (n + 1)), acc⟩ := by
  obtain ⟨rfl, rfl, rfl, h⟩ := h
  refine ⟨rfl, rfl, rfl, ?_⟩
  rw [col_softD2 q σ hq, h]
  rfl

theorem at_softD2_miss (hq : q.val < 1024) {c : Col} (h : A σ c) : A (softD2 σ) c := by
  obtain ⟨rfl, rfl, rfl, h⟩ := h
  exact ⟨rfl, rfl, rfl, (col_softD2_miss q σ hq).trans h⟩

theorem at_softD3 (n : ℕ) (hq : 1536 ≤ q.val) (h : A σ ⟨s0, (s n), p0, p1, al0, al1, b0, b1, (Mx s n), acc⟩) :
    A (softD3 σ) ⟨s0, (s n), p0, (prob s n), al0, (fac s n), b0, b1, (Mx s (n + 1)), acc⟩ := by
  obtain ⟨rfl, rfl, rfl, h⟩ := h
  refine ⟨rfl, rfl, rfl, ?_⟩
  rw [col_softD3 q σ hq, h]
  rfl

theorem at_softD3_miss (hq : q.val < 1536) {c : Col} (h : A σ c) : A (softD3 σ) c := by
  obtain ⟨rfl, rfl, rfl, h⟩ := h
  exact ⟨rfl, rfl, rfl, (col_softD3_miss q σ hq).trans h⟩

theorem at_pv0 (off : Fin 5 → ℕ) (hoff : ∀ a, off a + S1x1x1x144x512.size a ≤ S1x1x32x144x512.size a) (n : ℕ) (hn : n < 32) (ho : off 2 = n) (h : A σ ⟨s0, s1, (prob s n), p1, (fac s n), al1, b0, b1, m, (fun a => Ac s (row x6 a) n)⟩) :
    A (pv0 off hoff σ) ⟨s0, s1, (prob s n), p1, (fac s n), al1, b0, b1, m, (fun a => Ac s (row x6 a) (n + 1))⟩ := by
  obtain ⟨rfl, rfl, rfl, h⟩ := h
  refine ⟨rfl, rfl, rfl, ?_⟩
  rw [col_pv0 q σ off hoff ⟨n, hn⟩ ho, h]
  simp only [acc_step]

theorem at_pv1 (off : Fin 5 → ℕ) (hoff : ∀ a, off a + S1x1x1x144x512.size a ≤ S1x1x32x144x512.size a) (n : ℕ) (hn : n < 32) (ho : off 2 = n) (h : A σ ⟨s0, s1, p0, (prob s n), al0, (fac s n), b0, b1, m, (fun a => Ac s (row x6 a) n)⟩) :
    A (pv1 off hoff σ) ⟨s0, s1, p0, (prob s n), al0, (fac s n), b0, b1, m, (fun a => Ac s (row x6 a) (n + 1))⟩ := by
  obtain ⟨rfl, rfl, rfl, h⟩ := h
  refine ⟨rfl, rfl, rfl, ?_⟩
  rw [col_pv1 q σ off hoff ⟨n, hn⟩ ho, h]
  simp only [acc_step]

theorem at_pv1_1536 (off : Fin 5 → ℕ) (hoff : ∀ a, off a + S1x1x1x144x512.size a ≤ S1x1x32x144x512.size a) (n : ℕ) (hn : n < 32) (ho : off 2 = n) (hq : 512 ≤ q.val) (h : A σ ⟨s0, s1, p0, (prob s n), al0, (fac s n), b0, b1, m, (fun a => Ac s (row x6 a) n)⟩) :
    A (pv1_1536 off hoff σ) ⟨s0, s1, p0, (prob s n), al0, (fac s n), b0, b1, m, (fun a => Ac s (row x6 a) (n + 1))⟩ := by
  obtain ⟨rfl, rfl, rfl, h⟩ := h
  refine ⟨rfl, rfl, rfl, ?_⟩
  rw [col_pv1_1536 q σ off hoff ⟨n, hn⟩ ho hq, h]
  simp only [acc_step]

theorem at_pv1_1536_miss (off : Fin 5 → ℕ) (hoff : ∀ a, off a + S1x1x1x144x512.size a ≤ S1x1x32x144x512.size a) (hq : q.val < 512) {c : Col} (h : A σ c) : A (pv1_1536 off hoff σ) c := by
  obtain ⟨rfl, rfl, rfl, h⟩ := h
  exact ⟨rfl, rfl, rfl, (col_pv1_1536_miss q σ off hoff hq).trans h⟩

theorem at_pv0_1024 (off : Fin 5 → ℕ) (hoff : ∀ a, off a + S1x1x1x144x512.size a ≤ S1x1x32x144x512.size a) (n : ℕ) (hn : n < 32) (ho : off 2 = n) (hq : 1024 ≤ q.val) (h : A σ ⟨s0, s1, (prob s n), p1, (fac s n), al1, b0, b1, m, (fun a => Ac s (row x6 a) n)⟩) :
    A (pv0_1024 off hoff σ) ⟨s0, s1, (prob s n), p1, (fac s n), al1, b0, b1, m, (fun a => Ac s (row x6 a) (n + 1))⟩ := by
  obtain ⟨rfl, rfl, rfl, h⟩ := h
  refine ⟨rfl, rfl, rfl, ?_⟩
  rw [col_pv0_1024 q σ off hoff ⟨n, hn⟩ ho hq, h]
  simp only [acc_step]

theorem at_pv0_1024_miss (off : Fin 5 → ℕ) (hoff : ∀ a, off a + S1x1x1x144x512.size a ≤ S1x1x32x144x512.size a) (hq : q.val < 1024) {c : Col} (h : A σ c) : A (pv0_1024 off hoff σ) c := by
  obtain ⟨rfl, rfl, rfl, h⟩ := h
  exact ⟨rfl, rfl, rfl, (col_pv0_1024_miss q σ off hoff hq).trans h⟩

theorem at_pv1_512 (off : Fin 5 → ℕ) (hoff : ∀ a, off a + S1x1x1x144x512.size a ≤ S1x1x32x144x512.size a) (n : ℕ) (hn : n < 32) (ho : off 2 = n) (hq : 1536 ≤ q.val) (h : A σ ⟨s0, s1, p0, (prob s n), al0, (fac s n), b0, b1, m, (fun a => Ac s (row x6 a) n)⟩) :
    A (pv1_512 off hoff σ) ⟨s0, s1, p0, (prob s n), al0, (fac s n), b0, b1, m, (fun a => Ac s (row x6 a) (n + 1))⟩ := by
  obtain ⟨rfl, rfl, rfl, h⟩ := h
  refine ⟨rfl, rfl, rfl, ?_⟩
  rw [col_pv1_512 q σ off hoff ⟨n, hn⟩ ho hq, h]
  simp only [acc_step]

theorem at_pv1_512_miss (off : Fin 5 → ℕ) (hoff : ∀ a, off a + S1x1x1x144x512.size a ≤ S1x1x32x144x512.size a) (hq : q.val < 1536) {c : Col} (h : A σ c) : A (pv1_512 off hoff σ) c := by
  obtain ⟨rfl, rfl, rfl, h⟩ := h
  exact ⟨rfl, rfl, rfl, (col_pv1_512_miss q σ off hoff hq).trans h⟩

/-- The first step on the diagonal's values where nothing is pending. -/
theorem at_pv1_zero (off : Fin 5 → ℕ) (hoff : ∀ a, off a + S1x1x1x144x512.size a ≤ S1x1x32x144x512.size a) (n : ℕ) (hn : n < 32) (ho : off 2 = n)
    (h : A σ ⟨s0, s1, p0, fun _ => 0, al0, 1, b0, b1, m, fun a => Ac s (row x6 a) 0⟩) :
    A (pv1 off hoff σ) ⟨s0, s1, p0, fun _ => 0, al0, 1, b0, b1, m, fun a => Ac s (row x6 a) 0⟩ := by
  obtain ⟨rfl, rfl, rfl, h⟩ := h
  refine ⟨rfl, rfl, rfl, ?_⟩
  rw [col_pv1 q σ off hoff ⟨n, hn⟩ ho, h]
  simp [vals, Ac]

/-- Blocks up to and with block `n` taken, block `n` waiting in the second slot. -/
def Pend (x5 : Vec Ideal S1x1x16384x256 .bf16) (x6 : Vec Ideal S1x1x32x144x512 .bf16) (x8 : Vec Ideal S256x2048 .bf16) (q : Fin 2048)
    (s : ℕ → Fin 512 → EReal) (n : ℕ) (σ : St Ideal) : Prop :=
  ∃ s0 s1 p0 al0 b0 b1, At x5 x6 x8 q σ ⟨s0, s1, p0, prob s n, al0, fac s n, b0, b1, Mx s (n + 1), fun a => Ac s (row x6 a) n⟩

/-- The first four blocks. -/
theorem at_first (i : grid0.Coords) (hi : k0_cond2 i = 1#1) (hs : ∀ n, n < 4 * (i 2).val → raw x5 x8 q n = s n)
    (h : A σ ⟨s0, s1, p0, p1, al0, al1, b0, b1, Mx s 0, fun a => Ac s (row x6 a) 0⟩) : Pend x5 x6 x8 q s 3 (first i hi σ) := by
  have h0 := (cond2_iff i).mp hi
  replace h := at_score0 (k0_off2) (k0_off2_inb i hi) (0) (by omega) (rfl) h
  rw [hs (0) (by omega)] at h
  replace h := at_score1 (k0_off3) (k0_off3_inb i hi) (1) (by omega) (rfl) h
  rw [hs (1) (by omega)] at h
  replace h := at_soft0 (0) h
  replace h := at_score0 (k0_off4 0#32) (k0_off4_inb i hi 0) (2) (by omega) (rfl) h
  rw [hs (2) (by omega)] at h
  replace h := at_soft1 (1) h
  replace h := at_pv0 (k0_off5 1#32) (k0_off5_inb i hi 0) (0) (by omega) (rfl) h
  replace h := at_score1 (k0_off4 1#32) (k0_off4_inb i hi 1) (3) (by omega) (rfl) h
  rw [hs (3) (by omega)] at h
  replace h := at_soft0 (2) h
  replace h := at_pv1 (k0_off5 2#32) (k0_off5_inb i hi 1) (1) (by omega) (rfl) h
  replace h := at_soft1 (3) h
  replace h := at_pv0 (k0_off5 3#32) (k0_off5_inb i hi 2) (2) (by omega) (rfl) h
  exact ⟨_, _, _, _, _, _, h⟩

/-- Eight blocks. -/
theorem at_long (i : grid0.Coords) (t : Fin (k0_t1_loop i).trips) (hs : ∀ n, n < 4 * (i 2).val → raw x5 x8 q n = s n)
    (h : Pend x5 x6 x8 q s (3 + 8 * t.val) σ) : Pend x5 x6 x8 q s (3 + 8 * (t.val + 1)) (long i t σ) := by
  have ht := t1_lt i t
  have h8 := coord_lt i
  obtain ⟨s0, s1, p0, al0, b0, b1, h⟩ := h
  replace h := at_score0 (k0_off6 i t) (k0_off6_inb i t) (3 + 8 * t.val + 1) (by omega) ((off6_eq i t).trans (by omega)) h
  rw [hs (3 + 8 * t.val + 1) (by omega)] at h
  replace h := at_score1 (k0_off7 i t) (k0_off7_inb i t) (3 + 8 * t.val + 2) (by omega) ((off7_eq i t).trans (by omega)) h
  rw [hs (3 + 8 * t.val + 2) (by omega)] at h
  replace h := at_soft0 (3 + 8 * t.val + 1) h
  replace h := at_pv1 (k0_off8 i t 0#32) (k0_off8_inb i t 0) (3 + 8 * t.val) (by omega) ((off8_eq i t 0).trans (by simp)) h
  replace h := at_score0 (k0_off9 i t 0#32) (k0_off9_inb i t 0) (3 + 8 * t.val + 3) (by omega) ((off9_eq i t 0).trans (by simp only [Fin.isValue, Fin.coe_ofNat_eq_mod]; omega)) h
  rw [hs (3 + 8 * t.val + 3) (by omega)] at h
  replace h := at_soft1 (3 + 8 * t.val + 2) h
  replace h := at_pv0 (k0_off8 i t 1#32) (k0_off8_inb i t 1) (3 + 8 * t.val + 1) (by omega) ((off8_eq i t 1).trans (by simp)) h
  replace h := at_score1 (k0_off9 i t 1#32) (k0_off9_inb i t 1) (3 + 8 * t.val + 4) (by omega) ((off9_eq i t 1).trans (by simp only [Fin.isValue, Fin.coe_ofNat_eq_mod]; omega)) h
  rw [hs (3 + 8 * t.val + 4) (by omega)] at h
  replace h := at_soft0 (3 + 8 * t.val + 3) h
  replace h := at_pv1 (k0_off8 i t 2#32) (k0_off8_inb i t 2) (3 + 8 * t.val + 2) (by omega) ((off8_eq i t 2).trans (by simp)) h
  replace h := at_score0 (k0_off9 i t 2#32) (k0_off9_inb i t 2) (3 + 8 * t.val + 5) (by omega) ((off9_eq i t 2).trans (by simp only [Fin.isValue, Fin.coe_ofNat_eq_mod]; omega)) h
  rw [hs (3 + 8 * t.val + 5) (by omega)] at h
  replace h := at_soft1 (3 + 8 * t.val + 4) h
  replace h := at_pv0 (k0_off8 i t 3#32) (k0_off8_inb i t 3) (3 + 8 * t.val + 3) (by omega) ((off8_eq i t 3).trans (by simp)) h
  replace h := at_score1 (k0_off9 i t 3#32) (k0_off9_inb i t 3) (3 + 8 * t.val + 6) (by omega) ((off9_eq i t 3).trans (by simp only [Fin.isValue, Fin.coe_ofNat_eq_mod]; omega)) h
  rw [hs (3 + 8 * t.val + 6) (by omega)] at h
  replace h := at_soft0 (3 + 8 * t.val + 5) h
  replace h := at_pv1 (k0_off8 i t 4#32) (k0_off8_inb i t 4) (3 + 8 * t.val + 4) (by omega) ((off8_eq i t 4).trans (by simp)) h
  replace h := at_score0 (k0_off9 i t 4#32) (k0_off9_inb i t 4) (3 + 8 * t.val + 7) (by omega) ((off9_eq i t 4).trans (by simp only [Fin.isValue, Fin.coe_ofNat_eq_mod]; omega)) h
  rw [hs (3 + 8 * t.val + 7) (by omega)] at h
  replace h := at_soft1 (3 + 8 * t.val + 6) h
  replace h := at_pv0 (k0_off8 i t 5#32) (k0_off8_inb i t 5) (3 + 8 * t.val + 5) (by omega) ((off8_eq i t 5).trans (by simp)) h
  replace h := at_score1 (k0_off9 i t 5#32) (k0_off9_inb i t 5) (3 + 8 * t.val + 8) (by omega) ((off9_eq i t 5).trans (by simp only [Fin.isValue, Fin.coe_ofNat_eq_mod]; omega)) h
  rw [hs (3 + 8 * t.val + 8) (by omega)] at h
  replace h := at_soft0 (3 + 8 * t.val + 7) h
  replace h := at_pv1 (k0_off8 i t 6#32) (k0_off8_inb i t 6) (3 + 8 * t.val + 6) (by omega) ((off8_eq i t 6).trans (by simp)) h
  replace h := at_soft1 (3 + 8 * t.val + 8) h
  replace h := at_pv0 (k0_off8 i t 7#32) (k0_off8_inb i t 7) (3 + 8 * t.val + 7) (by omega) ((off8_eq i t 7).trans (by simp)) h
  exact ⟨_, _, _, _, _, _, h⟩

/-- Four blocks. -/
theorem at_short (i : grid0.Coords) (t : Fin (k0_t3_loop i).trips) (hs : ∀ n, n < 4 * (i 2).val → raw x5 x8 q n = s n) (N : ℕ) (hN : N + 5 = 4 * (i 2).val)
    (h : Pend x5 x6 x8 q s N σ) : Pend x5 x6 x8 q s (N + 4) (short i t σ) := by
  have h8 := coord_lt i
  obtain ⟨s0, s1, p0, al0, b0, b1, h⟩ := h
  replace h := at_score0 (k0_off14 i t) (k0_off14_inb i t) (N + 1) (by omega) ((off14_eq i t).trans (by omega)) h
  rw [hs (N + 1) (by omega)] at h
  replace h := at_score1 (k0_off15 i t) (k0_off15_inb i t) (N + 2) (by omega) ((off15_eq i t).trans (by omega)) h
  rw [hs (N + 2) (by omega)] at h
  replace h := at_soft0 (N + 1) h
  replace h := at_pv1 (k0_off16 i t 0#32) (k0_off16_inb i t 0) (N) (by omega) ((off16_eq i t 0).trans (by simp only [Fin.isValue, Fin.coe_ofNat_eq_mod]; omega)) h
  replace h := at_score0 (k0_off17 i t 0#32) (k0_off17_inb i t 0) (N + 3) (by omega) ((off17_eq i t 0).trans (by simp only [Fin.isValue, Fin.coe_ofNat_eq_mod]; omega)) h
  rw [hs (N + 3) (by omega)] at h
  replace h := at_soft1 (N + 2) h
  replace h := at_pv0 (k0_off16 i t 1#32) (k0_off16_inb i t 1) (N + 1) (by omega) ((off16_eq i t 1).trans (by simp only [Fin.isValue, Fin.coe_ofNat_eq_mod]; omega)) h
  replace h := at_score1 (k0_off17 i t 1#32) (k0_off17_inb i t 1) (N + 4) (by omega) ((off17_eq i t 1).trans (by simp only [Fin.isValue, Fin.coe_ofNat_eq_mod]; omega)) h
  rw [hs (N + 4) (by omega)] at h
  replace h := at_soft0 (N + 3) h
  replace h := at_pv1 (k0_off16 i t 2#32) (k0_off16_inb i t 2) (N + 2) (by omega) ((off16_eq i t 2).trans (by simp only [Fin.isValue, Fin.coe_ofNat_eq_mod]; omega)) h
  replace h := at_soft1 (N + 4) h
  replace h := at_pv0 (k0_off16 i t 3#32) (k0_off16_inb i t 3) (N + 3) (by omega) ((off16_eq i t 3).trans (by simp only [Fin.isValue, Fin.coe_ofNat_eq_mod]; omega)) h
  exact ⟨_, _, _, _, _, _, h⟩

/-- Ready for the diagonal's blocks: the next block is `n`, and one step on the values settles what waits in the second slot. -/
def Start (x5 : Vec Ideal S1x1x16384x256 .bf16) (x6 : Vec Ideal S1x1x32x144x512 .bf16) (x8 : Vec Ideal S256x2048 .bf16) (q : Fin 2048)
    (s : ℕ → Fin 512 → EReal) (n : ℕ) (σ : St Ideal) : Prop :=
  ∃ s0 s1 p0 p1 al0 al1 b0 b1 acc, At x5 x6 x8 q σ ⟨s0, s1, p0, p1, al0, al1, b0, b1, Mx s n, acc⟩ ∧
    ∀ (off : Fin 5 → ℕ) (hoff : ∀ a, off a + S1x1x1x144x512.size a ≤ S1x1x32x144x512.size a) (σ : St Ideal) (s0 s1 p0 : Fin 512 → EReal) (al0 b0 b1 m : EReal),
      off 2 = n - 1 → At x5 x6 x8 q σ ⟨s0, s1, p0, p1, al0, al1, b0, b1, m, acc⟩ →
      At x5 x6 x8 q (pv1 off hoff σ) ⟨s0, s1, p0, p1, al0, al1, b0, b1, m, fun a => Ac s (row x6 a) n⟩

theorem Pend.start {n : ℕ} (hn : n < 32) (h : Pend x5 x6 x8 q s n σ) : Start x5 x6 x8 q s (n + 1) σ := by
  obtain ⟨s0, s1, p0, al0, b0, b1, h⟩ := h
  exact ⟨_, _, _, _, _, _, _, _, _, h, fun off hoff σ s0 s1 p0 al0 b0 b1 m ho h => at_pv1 off hoff n hn ho h⟩

theorem start_zero (h : A σ ⟨s0, s1, p0, fun _ => 0, al0, 1, b0, b1, Mx s 0, fun a => Ac s (row x6 a) 0⟩) : Start x5 x6 x8 q s 0 σ :=
  ⟨_, _, _, _, _, _, _, _, _, h, fun off hoff σ s0 s1 p0 al0 b0 b1 m ho h => at_pv1_zero off hoff 0 (by omega) ho h⟩

/-- The diagonal's four blocks: the column takes those up to its own. -/
theorem at_diag (i : grid0.Coords) (hs : ∀ d, 512 * d ≤ q.val → ∀ r : Fin 512, s (4 * (i 2).val + d) r = if r.val ≤ q.val - 512 * d then raw x5 x8 q (4 * (i 2).val + d) r else ⊥)
    (h : Start x5 x6 x8 q s (4 * (i 2).val) σ) : ∃ c, A (diag i σ) c ∧ c.acc = fun a => Ac s (row x6 a) (4 * (i 2).val + q.val / 512 + 1) := by
  have h8 := coord_lt i
  have hq2 := q.isLt
  obtain ⟨s0, s1, p0, p1, al0, al1, b0, b1, acc, h, hpv⟩ := h
  unfold diag
  dsimp only
  replace h := at_scoreD0 (k0_off22 i) (k0_off22_inb i) (4 * (i 2).val) (by omega) (off22_eq i) h
  rcases (show q.val < 512 ∨ (512 ≤ q.val ∧ q.val < 1024) ∨ (1024 ≤ q.val ∧ q.val < 1536) ∨ 1536 ≤ q.val by omega) with hd | hd | hd | hd
  · replace h := at_scoreD1_miss (k0_off23 i) (k0_off23_inb i) (by omega) h
    replace h := at_softD0m (4 * (i 2).val) (hs 0 (by omega)) h
    replace h := at_softD0 (4 * (i 2).val) h
    replace h := hpv (k0_off24 i 0#32) (k0_off24_inb i 0) _ _ _ _ _ _ _ _ ((off24_eq i 0).trans (by simp)) h
    replace h := at_scoreD2_miss (k0_off25 i 0#32) (k0_off25_inb i 0) (by omega) h
    replace h := at_softD1m_miss  (by omega) h
    replace h := at_softD1_miss  (by omega) h
    replace h := at_pv0 (k0_off24 i 1#32) (k0_off24_inb i 1) (4 * (i 2).val) (by omega) ((off24_eq i 1).trans (by simp)) h
    replace h := at_scoreD3_miss (k0_off25 i 1#32) (k0_off25_inb i 1) (by omega) h
    replace h := at_softD2m_miss  (by omega) h
    replace h := at_softD2_miss  (by omega) h
    replace h := at_pv1_1536_miss (k0_off24 i 2#32) (k0_off24_inb i 2) (by omega) h
    replace h := at_softD3m_miss  (by omega) h
    replace h := at_softD3_miss  (by omega) h
    replace h := at_pv0_1024_miss (k0_off24 i 3#32) (k0_off24_inb i 3) (by omega) h
    replace h := at_pv1_512_miss (k0_off26 i) (k0_off26_inb i) (by omega) h
    rw [show q.val / 512 = 0 by omega]
    exact ⟨_, h, rfl⟩
  · replace h := at_scoreD1 (k0_off23 i) (k0_off23_inb i) (4 * (i 2).val + 1) (by omega) (off23_eq i) (by omega) h
    replace h := at_softD0m (4 * (i 2).val) (hs 0 (by omega)) h
    replace h := at_softD0 (4 * (i 2).val) h
    replace h := hpv (k0_off24 i 0#32) (k0_off24_inb i 0) _ _ _ _ _ _ _ _ ((off24_eq i 0).trans (by simp)) h
    replace h := at_scoreD2_miss (k0_off25 i 0#32) (k0_off25_inb i 0) (by omega) h
    replace h := at_softD1m (4 * (i 2).val + 1) (hs 1 (by omega)) (by omega) h
    replace h := at_softD1 (4 * (i 2).val + 1) (by omega) h
    replace h := at_pv0 (k0_off24 i 1#32) (k0_off24_inb i 1) (4 * (i 2).val) (by omega) ((off24_eq i 1).trans (by simp)) h
    replace h := at_scoreD3_miss (k0_off25 i 1#32) (k0_off25_inb i 1) (by omega) h
    replace h := at_softD2m_miss  (by omega) h
    replace h := at_softD2_miss  (by omega) h
    replace h := at_pv1_1536 (k0_off24 i 2#32) (k0_off24_inb i 2) (4 * (i 2).val + 1) (by omega) ((off24_eq i 2).trans (by simp only [Fin.isValue, Fin.coe_ofNat_eq_mod]; omega)) (by omega) h
    replace h := at_softD3m_miss  (by omega) h
    replace h := at_softD3_miss  (by omega) h
    replace h := at_pv0_1024_miss (k0_off24 i 3#32) (k0_off24_inb i 3) (by omega) h
    replace h := at_pv1_512_miss (k0_off26 i) (k0_off26_inb i) (by omega) h
    rw [show q.val / 512 = 1 by omega]
    exact ⟨_, h, rfl⟩
  · replace h := at_scoreD1 (k0_off23 i) (k0_off23_inb i) (4 * (i 2).val + 1) (by omega) (off23_eq i) (by omega) h
    replace h := at_softD0m (4 * (i 2).val) (hs 0 (by omega)) h
    replace h := at_softD0 (4 * (i 2).val) h
    replace h := hpv (k0_off24 i 0#32) (k0_off24_inb i 0) _ _ _ _ _ _ _ _ ((off24_eq i 0).trans (by simp)) h
    replace h := at_scoreD2 (k0_off25 i 0#32) (k0_off25_inb i 0) (4 * (i 2).val + 2) (by omega) ((off25_eq i 0).trans (by simp)) (by omega) h
    replace h := at_softD1m (4 * (i 2).val + 1) (hs 1 (by omega)) (by omega) h
    replace h := at_softD1 (4 * (i 2).val + 1) (by omega) h
    replace h := at_pv0 (k0_off24 i 1#32) (k0_off24_inb i 1) (4 * (i 2).val) (by omega) ((off24_eq i 1).trans (by simp)) h
    replace h := at_scoreD3_miss (k0_off25 i 1#32) (k0_off25_inb i 1) (by omega) h
    replace h := at_softD2m (4 * (i 2).val + 2) (hs 2 (by omega)) (by omega) h
    replace h := at_softD2 (4 * (i 2).val + 2) (by omega) h
    replace h := at_pv1_1536 (k0_off24 i 2#32) (k0_off24_inb i 2) (4 * (i 2).val + 1) (by omega) ((off24_eq i 2).trans (by simp only [Fin.isValue, Fin.coe_ofNat_eq_mod]; omega)) (by omega) h
    replace h := at_softD3m_miss  (by omega) h
    replace h := at_softD3_miss  (by omega) h
    replace h := at_pv0_1024 (k0_off24 i 3#32) (k0_off24_inb i 3) (4 * (i 2).val + 2) (by omega) ((off24_eq i 3).trans (by simp only [Fin.isValue, Fin.coe_ofNat_eq_mod]; omega)) (by omega) h
    replace h := at_pv1_512_miss (k0_off26 i) (k0_off26_inb i) (by omega) h
    rw [show q.val / 512 = 2 by omega]
    exact ⟨_, h, rfl⟩
  · replace h := at_scoreD1 (k0_off23 i) (k0_off23_inb i) (4 * (i 2).val + 1) (by omega) (off23_eq i) (by omega) h
    replace h := at_softD0m (4 * (i 2).val) (hs 0 (by omega)) h
    replace h := at_softD0 (4 * (i 2).val) h
    replace h := hpv (k0_off24 i 0#32) (k0_off24_inb i 0) _ _ _ _ _ _ _ _ ((off24_eq i 0).trans (by simp)) h
    replace h := at_scoreD2 (k0_off25 i 0#32) (k0_off25_inb i 0) (4 * (i 2).val + 2) (by omega) ((off25_eq i 0).trans (by simp)) (by omega) h
    replace h := at_softD1m (4 * (i 2).val + 1) (hs 1 (by omega)) (by omega) h
    replace h := at_softD1 (4 * (i 2).val + 1) (by omega) h
    replace h := at_pv0 (k0_off24 i 1#32) (k0_off24_inb i 1) (4 * (i 2).val) (by omega) ((off24_eq i 1).trans (by simp)) h
    replace h := at_scoreD3 (k0_off25 i 1#32) (k0_off25_inb i 1) (4 * (i 2).val + 3) (by omega) ((off25_eq i 1).trans (by simp only [Fin.isValue, Fin.coe_ofNat_eq_mod])) (by omega) h
    replace h := at_softD2m (4 * (i 2).val + 2) (hs 2 (by omega)) (by omega) h
    replace h := at_softD2 (4 * (i 2).val + 2) (by omega) h
    replace h := at_pv1_1536 (k0_off24 i 2#32) (k0_off24_inb i 2) (4 * (i 2).val + 1) (by omega) ((off24_eq i 2).trans (by simp only [Fin.isValue, Fin.coe_ofNat_eq_mod]; omega)) (by omega) h
    replace h := at_softD3m (4 * (i 2).val + 3) (hs 3 (by omega)) (by omega) h
    replace h := at_softD3 (4 * (i 2).val + 3) (by omega) h
    replace h := at_pv0_1024 (k0_off24 i 3#32) (k0_off24_inb i 3) (4 * (i 2).val + 2) (by omega) ((off24_eq i 3).trans (by simp only [Fin.isValue, Fin.coe_ofNat_eq_mod]; omega)) (by omega) h
    replace h := at_pv1_512 (k0_off26 i) (k0_off26_inb i) (4 * (i 2).val + 3) (by omega) (off26_eq i) (by omega) h
    rw [show q.val / 512 = 3 by omega]
    exact ⟨_, h, rfl⟩

end Spec

end Cert.KernelIdeal.Fox
-- ==== Proof.Point.lean ====
/- A grid point of the attention kernel on extended reals: the queries it sets up, and what it leaves in the
   output block, column by column. -/
module

public import proofs.«01_k».proof.Proof.Blocks

@[expose] public section

set_option maxRecDepth 65536

noncomputable section

namespace Cert.KernelIdeal.Fox

open Cert.KernelIdeal Cert.KernelIdeal.Gen Cert.Online
open Idealize.ShloMosaic Idealize.ShloMosaic.TcCoe

/-- The logarithm's factor. -/
def l2e : EReal := (((Real.log 2)⁻¹ : ℝ) : EReal)

theorem emb3 (n : Fin 4) (x : ℕ) (hx : n.val = x) {inb : ∀ a, ![0, 0, x, 0, 0] a + S1x1x1x128x512.size a ≤ S1x1x4x128x512.size a} (k : Fin 128) (l : Fin 512) :
    (Rect.unit (s := S1x1x4x128x512) ![0, 0, x, 0, 0] S1x1x1x128x512.size inb).emb (ix5 0 0 0 k l) = ix5 0 0 n k l := by
  refine funext fun e => Fin.ext ?_
  match e with
  | ⟨0, _⟩ => show 0 + 1 * 0 = 0; omega
  | ⟨1, _⟩ => show 0 + 1 * 0 = 0; omega
  | ⟨2, _⟩ => show x + 1 * 0 = n.val; omega
  | ⟨3, _⟩ => show 0 + 1 * k.val = k.val; omega
  | ⟨4, _⟩ => show 0 + 1 * l.val = l.val; omega

theorem emb4 (i : grid0.Coords) (q : Fin 2048) :
    (Rect.unit (s := S1x8x2048) (k0_off1 i) S1x1x2048.size (k0_off1_inb i)).emb (ix3 0 0 q) = ix3 0 (i 1) q := by
  have h1 := off1_eq i
  have h2 : k0_off1 i 2 + 2048 ≤ 2048 := k0_off1_inb i 2
  have h0 : k0_off1 i 0 + 1 ≤ 1 := k0_off1_inb i 0
  refine funext fun x => Fin.ext ?_
  match x with
  | ⟨0, _⟩ => show k0_off1 i 0 + 1 * 0 = 0; omega
  | ⟨1, _⟩ => show k0_off1 i 1 + 1 * 0 = (i 1).val; omega
  | ⟨2, _⟩ => show k0_off1 i 2 + 1 * q.val = q.val; omega

/-- The queries' rows. -/
theorem init_x8 (i : grid0.Coords) (σ : St Ideal) (k : Fin 128) (q : Fin 2048) :
    (init i σ).x8 (ix2 ⟨k.val, by omega⟩ q) = σ.x3 (ix5 0 0 ⟨q.val / 512, by omega⟩ k ⟨q.val % 512, by omega⟩) := by
  have hk := k.isLt
  have hq := q.isLt
  unfold init
  dsimp only
  rw [ov2_miss _ _ _ _ (.inr (.inr (.inl (by omega))))]
  by_cases h3 : 1536 ≤ q.val
  · rw [ov2 _ _ _ _ k ⟨q.val - 1536, by omega⟩ (by simp) (show q.val = 1536 + (q.val - 1536) by omega)]
    pointwise [k0_pay244]
    rw [emb3 3 3 rfl]
    exact congrArg σ.x3 (congrArg₂ (fun a b => ix5 0 0 a k b) (Fin.ext (by show _ = q.val / 512; omega)) (Fin.ext (by show q.val - 1536 = q.val % 512; omega)))
  rw [ov2_miss _ _ _ _ (.inl (by omega))]
  by_cases h2 : 1024 ≤ q.val
  · rw [ov2 _ _ _ _ k ⟨q.val - 1024, by omega⟩ (by simp) (show q.val = 1024 + (q.val - 1024) by omega)]
    pointwise [k0_pay243]
    rw [emb3 2 2 rfl]
    exact congrArg σ.x3 (congrArg₂ (fun a b => ix5 0 0 a k b) (Fin.ext (by show _ = q.val / 512; omega)) (Fin.ext (by show q.val - 1024 = q.val % 512; omega)))
  rw [ov2_miss _ _ _ _ (.inl (by omega))]
  by_cases h1 : 512 ≤ q.val
  · rw [ov2 _ _ _ _ k ⟨q.val - 512, by omega⟩ (by simp) (show q.val = 512 + (q.val - 512) by omega)]
    pointwise [k0_pay242]
    rw [emb3 1 1 rfl]
    exact congrArg σ.x3 (congrArg₂ (fun a b => ix5 0 0 a k b) (Fin.ext (by show _ = q.val / 512; omega)) (Fin.ext (by show q.val - 512 = q.val % 512; omega)))
  rw [ov2_miss _ _ _ _ (.inl (by omega)), ov2 _ _ _ _ k ⟨q.val, by omega⟩ (by simp) (by simp)]
  pointwise [k0_pay241]
  rw [emb3 0 0 rfl]
  exact congrArg σ.x3 (congrArg₂ (fun a b => ix5 0 0 a k b) (Fin.ext (by show _ = q.val / 512; omega)) (Fin.ext (by show q.val = q.val % 512; omega)))

/-- The rows under the queries: the query's cumulative log-forget in three parts, three ones, and noughts. -/
def extra (h : EReal) (k : ℕ) : EReal :=
  if k = 0 then h else if k = 1 then h - h else if k = 2 then h - h - (h - h) else if k < 6 then 1 else 0

theorem init_x8_extra (i : grid0.Coords) (σ : St Ideal) (k : Fin 128) (q : Fin 2048) :
    (init i σ).x8 (ix2 ⟨128 + k.val, by omega⟩ q) = extra (σ.x4 (ix3 0 (i 1) q) * l2e) k.val := by
  have hk := k.isLt
  unfold init
  dsimp only
  rw [ov2 _ _ _ _ k q (by simp) (by simp)]
  pointwise [k0_pay246, k0_pay245]
  rw [emb4, show (Named.named κ "log2e" 1069066811#32 : Ideal .f32) = l2e from rfl]
  split
  · rename_i h8
    obtain ⟨k, hk⟩ := k
    dsimp only at h8 ⊢
    interval_cases k <;> rfl
  · unfold extra
    rw [if_neg (by omega), if_neg (by omega), if_neg (by omega), if_neg (by omega)]

/-- The start: no score seen, nothing accumulated. -/
theorem at_init (i : grid0.Coords) (σ : St Ideal) (q : Fin 2048) (s : ℕ → Fin 512 → EReal) : ∃ s0 s1 p0 p1 al0 al1 b0 b1,
    At σ.x5 σ.x6 (init i σ).x8 q (init i σ) ⟨s0, s1, p0, p1, al0, al1, b0, b1, Mx s 0, fun a => Ac s (row σ.x6 a) 0⟩ := by
  refine ⟨(col σ q).s0, (col σ q).s1, (col σ q).p0, (col σ q).p1, (col σ q).al0, (col σ q).al1, (col σ q).b0, (col σ q).b1, rfl, rfl, rfl, ?_⟩
  unfold col init
  ext
  all_goals dsimp only
  · rw [ov2 _ _ 0 q 0 q (by simp) (by simp)]
    pointwise [k0_pay247]
    rfl
  · rename_i a
    rw [ov2 _ _ a (wide q) a (wide q) (by simp) (by simp)]
    pointwise [k0_pay249, k0_pay248]
    rfl

section Body

variable {x5 : Vec Ideal S1x1x16384x256 .bf16} {x6 : Vec Ideal S1x1x32x144x512 .bf16} {x8 : Vec Ideal S256x2048 .bf16} {q : Fin 2048}
  {s : ℕ → Fin 512 → EReal} {σ : St Ideal} {s0 s1 p0 p1 : Fin 512 → EReal} {al0 al1 b0 b1 m : EReal} {acc : Fin 144 → EReal}

theorem at_zero (h : At x5 x6 x8 q σ ⟨s0, s1, p0, p1, al0, al1, b0, b1, m, acc⟩) :
    At x5 x6 x8 q (zero σ) ⟨s0, s1, p0, fun _ => 0, al0, 1, b0, b1, m, acc⟩ := by
  obtain ⟨rfl, rfl, rfl, h⟩ := h
  refine ⟨rfl, rfl, rfl, ?_⟩
  have e : col (zero σ) q = { col σ q with p1 := fun _ => 0, al1 := 1 } := by
    unfold col zero
    ext
    all_goals dsimp only
    · rename_i r
      rw [ov2 _ _ r (wide q) r (wide q) (by simp) (by simp)]
      pointwise [k0_pay250]
    · rw [ov2 _ _ 0 q 0 q (by simp) (by simp)]
      pointwise [k0_pay251]
  rw [e, h]

theorem iter_of {n k l : ℕ} (f : Fin n → St Ideal → St Ideal) (h : k = l) (σ : St Ideal) : iter f k σ = iter f l σ := h ▸ rfl

theorem at_longs (i : grid0.Coords) (hs : ∀ n, n < 4 * (i 2).val → raw x5 x8 q n = s n) (h : Pend x5 x6 x8 q s 3 σ) (k : ℕ) (hk : k ≤ (k0_t1_loop i).trips) :
    Pend x5 x6 x8 q s (3 + 8 * k) (iter (long i) k σ) := by
  induction k with
  | zero => exact h
  | succ k ih =>
    rw [iter_succ (long i) ⟨k, hk⟩]
    exact at_long i ⟨k, hk⟩ hs (ih (by omega))

/-- A column through the body up to the quotient. -/
theorem at_body (i : grid0.Coords) (hs : ∀ n, n < 4 * (i 2).val → raw x5 x8 q n = s n)
    (hd : ∀ d, 512 * d ≤ q.val → ∀ r : Fin 512, s (4 * (i 2).val + d) r = if r.val ≤ q.val - 512 * d then raw x5 x8 q (4 * (i 2).val + d) r else ⊥)
    (h : At x5 x6 x8 q σ ⟨s0, s1, p0, p1, al0, al1, b0, b1, Mx s 0, fun a => Ac s (row x6 a) 0⟩) :
    ∃ c, At x5 x6 x8 q (diag i (iter (short i) (k0_t3_loop i).trips (mid i σ))) c ∧ c.acc = fun a => Ac s (row x6 a) (4 * (i 2).val + q.val / 512 + 1) := by
  have h8 := coord_lt i
  have h1 := t1_trips i
  have h3 := t3_trips i
  refine at_diag i hd ?_
  unfold mid
  dsimp only
  by_cases hi : (i 2).val = 0
  · rw [if_pos ((atFirst_iff i).mpr hi), dif_neg (fun hc => (cond2_iff i).mp hc hi), iter_of (long (F := Ideal) i) (l := 0) (by omega) _, iter_of (short (F := Ideal) i) (l := 0) (by omega) _, hi]
    exact start_zero (at_zero h)
  · rw [if_neg (fun hc => hi ((atFirst_iff i).mp hc)), dif_pos ((cond2_iff i).mpr hi)]
    have hl := at_longs i hs (at_first i ((cond2_iff i).mpr hi) hs h) _ le_rfl
    generalize iter (long i) (k0_t1_loop i).trips (first i ((cond2_iff i).mpr hi) σ) = τ at hl ⊢
    replace hl : Pend x5 x6 x8 q s (3 + 8 * (((i 2).val - 1) / 2)) τ := by rwa [← h1]
    by_cases hodd : (k0_t3_loop i).trips = 0
    · rw [iter_of (short (F := Ideal) i) hodd τ]
      have := Pend.start (by omega) hl
      rwa [show 3 + 8 * (((i 2).val - 1) / 2) + 1 = 4 * (i 2).val by omega] at this
    · have ho : (k0_t3_loop i).trips = 1 := by omega
      have := at_short i ⟨0, by omega⟩ hs _ (by omega) hl
      rw [iter_of (short (F := Ideal) i) (l := (⟨0, by omega⟩ : Fin (k0_t3_loop i).trips).val + 1) ho, iter_succ]
      replace this := Pend.start (by omega) this
      rwa [show 3 + 8 * (((i 2).val - 1) / 2) + 4 + 1 = 4 * (i 2).val by omega] at this

end Body

theorem out_x7 (τ : St Ideal) (q : Fin 2048) (d : Fin 128) :
    (out τ).x7 (ix3 0 q d) = Ideal.div (τ.x18 (ix2 ⟨d.val, by omega⟩ (wide q))) (τ.x18 (ix2 128 (wide q))) := by
  have e3 : (Rect.unit (s := S1x2048x128) ![0, 0, 0] S1x2048x128.size inb_S1x2048x128_S1x2048x128_0_0_0).emb (ix3 0 q d) = ix3 0 q d := by
    refine funext fun x => Fin.ext ?_
    match x with
    | ⟨0, _⟩ => show 0 + 1 * 0 = 0; omega
    | ⟨1, _⟩ => show 0 + 1 * q.val = q.val; omega
    | ⟨2, _⟩ => show 0 + 1 * d.val = d.val; omega
  unfold out
  dsimp only
  rw [← e3, Rect.overlay_emb]
  pointwise [k0_pay1]
  rw [emb2 ⟨d.val, by omega⟩ (wide q) d q (by simp) (by simp [wide]), emb2 128 (wide q) 0 q (by simp) (by simp [wide])]

/-- What a grid point writes out in column `q`. -/
theorem body_x7 (i : grid0.Coords) (σ : St Ideal) (q : Fin 2048) (s : ℕ → Fin 512 → EReal)
    (hs : ∀ n, n < 4 * (i 2).val → raw σ.x5 (init i σ).x8 q n = s n)
    (hd : ∀ d, 512 * d ≤ q.val → ∀ r : Fin 512, s (4 * (i 2).val + d) r = if r.val ≤ q.val - 512 * d then raw σ.x5 (init i σ).x8 q (4 * (i 2).val + d) r else ⊥)
    (d : Fin 128) : (bodyF i σ).x7 (ix3 0 q d) = Ideal.div (Ac s (row σ.x6 ⟨d.val, by omega⟩) (4 * (i 2).val + q.val / 512 + 1))
      (Ac s (row σ.x6 128) (4 * (i 2).val + q.val / 512 + 1)) := by
  obtain ⟨s0, s1, p0, p1, al0, al1, b0, b1, h⟩ := at_init i σ q s
  obtain ⟨c, ⟨-, -, -, hc⟩, ha⟩ := at_body i hs hd h
  have e : ∀ a, (diag i (iter (short i) (k0_t3_loop i).trips (mid i (init i σ)))).x18 (ix2 a (wide q)) = Ac s (row σ.x6 a) (4 * (i 2).val + q.val / 512 + 1) :=
    fun a => congrFun ((congrArg Col.acc hc).trans ha) a
  unfold bodyF
  rw [out_x7, e, e]

end Cert.KernelIdeal.Fox
-- ==== Proof.Spec.lean ====
/- What the attention computes, as a formula of its argument arrays: the score of a key for a query, and the
   weighted sum of the values. -/
module

public import proofs.«01_k».proof.Proof.Online
public import Idealize.ShloMosaic.Lib.Pointwise

@[expose] public section

noncomputable section

namespace Cert.Online

open Idealize.ShloMosaic

abbrev SQ : Shape := ⟨4, ![2, 16384, 8, 128]⟩
abbrev SC : Shape := ⟨3, ![2, 8, 16384]⟩
abbrev SO : Shape := ⟨3, ![2, 16384, 1024]⟩

/-- Every entry is a real. -/
def Real' {s : Shape} (x : Vec Ideal s .f32) : Prop := ∀ i, (x i : EReal) = ((EReal.toReal (x i) : ℝ) : EReal)

/-- The score of the key at `s` for the query at `t`: the scaled product, and the log-forget between them. -/
def logit (q k : Vec Ideal SQ .f32) (c : Vec Ideal SC .f32) (b : Fin 2) (h : Fin 8) (t : Fin 16384) (s : ℕ) : ℝ :=
  if hs : s < 16384 then (∑ d : Fin 128, EReal.toReal (q (ix4 b t h d)) * EReal.toReal (k (ix4 b ⟨s, hs⟩ h d))) * (Real.sqrt 128)⁻¹
    + (EReal.toReal (c (ix3 b h t)) - EReal.toReal (c (ix3 b h ⟨s, hs⟩))) else 0

/-- Column `d` of the values, by position. -/
def value (v : Vec Ideal SQ .f32) (b : Fin 2) (h : Fin 8) (d : Fin 128) (s : ℕ) : EReal :=
  if hs : s < 16384 then v (ix4 b ⟨s, hs⟩ h d) else 0

/-- The attention at one place. -/
def foxAt (q k v : Vec Ideal SQ .f32) (c : Vec Ideal SC .f32) (b : Fin 2) (h : Fin 8) (t : Fin 16384) (d : Fin 128) : EReal :=
  attn (logit q k c b h t) t.val (value v b h d)

/-- The attention, the heads side by side. -/
def fox (q k v : Vec Ideal SQ .f32) (c : Vec Ideal SC .f32) : Vec Ideal SO .bf16 := fun i =>
  foxAt q k v c ⟨(i 0).val, (i 0).isLt⟩ ⟨(i 2).val / 128, by have : (i 2).val < 1024 := (i 2).isLt; omega⟩ ⟨(i 1).val, (i 1).isLt⟩
    ⟨(i 2).val % 128, by omega⟩

theorem fox_at (q k v : Vec Ideal SQ .f32) (g : Vec Ideal SC .f32) (b : Fin 2) (s : Fin 16384) (h : Fin 8) (d : Fin 128) :
    fox q k v g (ix3 b s ⟨128 * h.val + d.val, by omega⟩) = foxAt q k v g b h s d := by
  show foxAt q k v g b ⟨(128 * h.val + d.val) / 128, _⟩ s ⟨(128 * h.val + d.val) % 128, _⟩ = _
  congr 1
  · exact Fin.ext (by show (128 * h.val + d.val) / 128 = h.val; omega)
  · exact Fin.ext (by show (128 * h.val + d.val) % 128 = d.val; omega)

theorem f32_128 : Ideal.ofBits .f32 0x43000000#32 = ((128 : ℝ) : EReal) := by
  simp [Ideal.ofBits, Ideal.ieee]
  rw [← EReal.coe_mul]
  norm_num

theorem scale_recip : Ideal.div 1 (Ideal.sqrt (Ideal.ofBits .f32 0x43000000#32)) = (((Real.sqrt 128)⁻¹ : ℝ) : EReal) := by
  have h2 : Real.sqrt 128 ≠ 0 := (Real.sqrt_pos.mpr (by norm_num)).ne'
  rw [f32_128, Ideal.sqrt_coe, if_neg (by norm_num), Ideal.div_coe h2, one_mul, one_div]

theorem inf_f32 : Ideal.ofBits .f32 0xFF800000#32 = ⊥ := by
  simp [Ideal.ofBits, Ideal.ieee]

end Cert.Online
-- ==== Proof.HostRead.lean ====
/- The attention kernel's operands as the launch finds them, read at an index: the queries scaled, the keys with
   the parts of the cumulative log-forget beside them, the values with rows of ones under them. -/
module

public import proofs.«01_k».proof.Proof.Point
public import proofs.«01_k».proof.Proof.Spec
public import proofs.«01_k».proof.Proof.Gen.KernelIdeal.Frame
public import Idealize.ShloMosaic.Lib.StableHlo.ReadAt
public import Idealize.ShloMosaic.Lib.Claim

@[expose] public section

set_option maxRecDepth 65536

noncomputable section

namespace Cert.KernelIdeal.Fox

open Cert.KernelIdeal Cert.KernelIdeal.Gen Cert.Online
open Idealize.ShloMosaic Idealize.ShloMosaic.TcCoe

variable (m : (ℓ : Loc nD τ sig) → Buf (Elt Ideal) ℓ) (c : Dev nD)

/-- The argument arrays as launched: the queries, the keys, the values and the cumulative log-forget. -/
def argQ : Vec Ideal S2x16384x8x128 .f32 := m ((c : Thread nD τ).loc main_arg0)
def argK : Vec Ideal S2x16384x8x128 .f32 := m ((c : Thread nD τ).loc main_arg1)
def argV : Vec Ideal S2x16384x8x128 .f32 := m ((c : Thread nD τ).loc main_arg2)
def argC : Vec Ideal S2x8x16384 .f32 := m ((c : Thread nD τ).loc main_arg3)
/-- The operands of the launch. -/
def opQ : Vec Ideal S2x8x32x128x512 .bf16 := V m c main_v9
def opK : Vec Ideal S2x8x16384x256 .bf16 := V m c main_v31
def opV : Vec Ideal S2x8x32x144x512 .bf16 := V m c main_v36

theorem two_f32 : Ideal.ofBits .f32 0x40000000#32 = ((2 : ℝ) : EReal) := by
  simp [Ideal.ofBits, Ideal.ieee]
  rw [← EReal.coe_mul]
  norm_num
theorem log2_recip : Ideal.div 1 (Ideal.log (Ideal.ofBits .f32 0x40000000#32)) = l2e := by
  have h2 : Real.log 2 ≠ 0 := (Real.log_pos (by norm_num)).ne'
  rw [two_f32, Ideal.log_coe, if_neg (by norm_num), Ideal.div_coe h2, one_mul, one_div]
  rfl
theorem opQ_apply (b : Fin 2) (h : Fin 8) (n : Fin 32) (k : Fin 128) (l : Fin 512) :
    opQ m c (ix5 b h n k l) = argQ m c (ix4 b ⟨512 * n.val + l.val, by omega⟩ h k) * ((((Real.sqrt 128)⁻¹ : ℝ) : EReal) * l2e) := by
  unfold opQ V
  after_reads_at
  rw [log2_recip, scale_recip]
  congr 2
  exact congrArg (fun x => ix4 b x h k) (Fin.ext (by show n.val * 512 + l.val = 512 * n.val + l.val; omega))

theorem opV_apply (b : Fin 2) (h : Fin 8) (n : Fin 32) (k : Fin 144) (l : Fin 512) :
    opV m c (ix5 b h n k l) = if hk : k.val < 128 then argV m c (ix4 b ⟨512 * n.val + l.val, by omega⟩ h ⟨k.val, hk⟩) else 1 := by
  unfold opV V
  after_reads_at
  split
  · after_reads_at
    exact congrArg (fun x => argV m c (ix4 b x h _)) (Fin.ext (by show n.val * 512 + l.val = 512 * n.val + l.val; omega))
  · after_reads_at

theorem opK_key (b : Fin 2) (h : Fin 8) (n : Fin 16384) (k : Fin 256) (hk : k.val < 128) :
    opK m c (ix4 b h n k) = argK m c (ix4 b n h ⟨k.val, hk⟩) := by
  unfold opK V
  after_reads_at
  refine (dif_pos hk).trans ?_
  after_reads_at
  rfl

theorem opK_one (b : Fin 2) (h : Fin 8) (n : Fin 16384) (k : Fin 256) (hk : 128 ≤ k.val) (hk' : k.val < 131) :
    opK m c (ix4 b h n k) = 1 := by
  unfold opK V
  after_reads_at
  refine (dif_neg (by omega)).trans ((dif_pos (by omega)).trans ?_)
  after_reads_at

theorem opK_zero (b : Fin 2) (h : Fin 8) (n : Fin 16384) (k : Fin 256) (hk : 134 ≤ k.val) :
    opK m c (ix4 b h n k) = 0 := by
  unfold opK V
  after_reads_at
  refine (dif_neg (by omega)).trans ((dif_neg (by omega)).trans ((dif_neg (by omega)).trans ?_))
  after_reads_at

theorem opK_c (b : Fin 2) (h : Fin 8) (n : Fin 16384) (k : Fin 256) (hk : 131 ≤ k.val) (hk' : k.val < 134) (g : ℝ)
    (hg : argC m c (ix3 b h n) = (g : EReal)) :
    opK m c (ix4 b h n k) = if k.val = 131 then ((-(g * (Real.log 2)⁻¹) : ℝ) : EReal) else 0 := by
  have hx : argC m c (ix3 b h n) * l2e = ((g * (Real.log 2)⁻¹ : ℝ) : EReal) := by
    rw [hg, l2e, ← EReal.coe_mul]
  unfold opK V
  after_reads_at
  refine (dif_neg (by omega)).trans ((dif_neg (by omega)).trans ((dif_pos (by omega)).trans ?_))
  after_reads_at
  rcases (show k.val = 131 ∨ k.val = 132 ∨ k.val = 133 by omega) with e | e | e
  · refine Eq.trans ((dif_pos (by omega)).trans ?_) (if_pos e).symm
    after_reads_at
    rw [log2_recip]
    exact (congrArg Neg.neg hx).trans (EReal.coe_neg _).symm
  · have hk1 : k.val - 128 - 3 - 1 < 1 := by omega
    have hk0 : ¬ k.val - 128 - 3 < 1 := by omega
    refine Eq.trans ((dif_neg hk0).trans ((dif_pos hk1).trans ?_)) (if_neg (by omega)).symm
    after_reads_at
    rw [log2_recip]
    change -(argC m c (ix3 b h n) * l2e - argC m c (ix3 b h n) * l2e) = 0
    rw [hx]
    simp only [← EReal.coe_sub, ← EReal.coe_neg, sub_self, neg_zero, EReal.coe_zero]
  · have hk1 : ¬ k.val - 128 - 3 - 1 < 1 := by omega
    have hk0 : ¬ k.val - 128 - 3 < 1 := by omega
    refine Eq.trans ((dif_neg hk0).trans ((dif_neg hk1).trans ?_)) (if_neg (by omega)).symm
    after_reads_at
    rw [log2_recip]
    change -(argC m c (ix3 b h n) * l2e - argC m c (ix3 b h n) * l2e - (argC m c (ix3 b h n) * l2e - argC m c (ix3 b h n) * l2e)) = 0
    rw [hx]
    simp only [← EReal.coe_sub, sub_self, EReal.coe_zero, sub_zero, neg_zero]

theorem word_of (x : ℕ) (hx : x < 16) : (BitVec.ofNat 32 x).toNat = x := by
  rw [BitVec.toNat_ofNat]; omega

/-- The coordinates of a grid point: the batch, the head, the block of queries. -/
def ptB (t : Fin cfg0.N) : Fin 2 := cfg0.grid.coords t 0
def ptH (t : Fin cfg0.N) : Fin 8 := cfg0.grid.coords t 1
def ptI (t : Fin cfg0.N) : Fin 8 := cfg0.grid.coords t 2

theorem blk_q (t : Fin cfg0.N) (n : Fin 4) (k : Fin 128) (l : Fin 512) :
    iblk m c 0 t (ix5 0 0 n k l) = opQ m c (ix5 (ptB t) (ptH t) ⟨4 * (ptI t).val + n.val, by have := (ptI t).isLt; omega⟩ k l) := by
  unfold iblk
  rw [View.read_apply]
  have e : ((cfg0.win 0).blk t).view.emb (ix5 0 0 n k l) = ix5 (ptB t) (ptH t) ⟨4 * (ptI t).val + n.val, by have := (ptI t).isLt; omega⟩ k l := by
    refine funext fun x => Fin.ext ?_
    refine (Pipeline.Window.rect_emb_val win0_0 t _ x).trans ?_
    match x with
    | ⟨0, _⟩ => show (BitVec.ofNat 32 (ptB t).val).toNat * 1 + 0 = (ptB t).val; rw [word_of _ (by omega)]; omega
    | ⟨1, _⟩ => show (BitVec.ofNat 32 (ptH t).val).toNat * 1 + 0 = (ptH t).val; rw [word_of _ (by omega)]; omega
    | ⟨2, _⟩ => show (BitVec.ofNat 32 (ptI t).val).toNat * 4 + n.val = 4 * (ptI t).val + n.val; rw [word_of _ (by omega)]; omega
    | ⟨3, _⟩ => show 0 * 128 + k.val = k.val; omega
    | ⟨4, _⟩ => show 0 * 512 + l.val = l.val; omega
  rw [e]
  rfl

theorem blk_c (t : Fin cfg0.N) (h : Fin 8) (l : Fin 2048) :
    iblk m c 1 t (ix3 0 h l) = argC m c (ix3 (ptB t) h ⟨2048 * (ptI t).val + l.val, by have := (ptI t).isLt; omega⟩) := by
  unfold iblk
  rw [View.read_apply]
  have e : ((cfg0.win 1).blk t).view.emb (ix3 0 h l) = ix3 (ptB t) h ⟨2048 * (ptI t).val + l.val, by have := (ptI t).isLt; omega⟩ := by
    refine funext fun x => Fin.ext ?_
    refine (Pipeline.Window.rect_emb_val win0_1 t _ x).trans ?_
    match x with
    | ⟨0, _⟩ => show (BitVec.ofNat 32 (ptB t).val).toNat * 1 + 0 = (ptB t).val; rw [word_of _ (by omega)]; omega
    | ⟨1, _⟩ => show 0 * 8 + h.val = h.val; omega
    | ⟨2, _⟩ => show (BitVec.ofNat 32 (ptI t).val).toNat * 2048 + l.val = 2048 * (ptI t).val + l.val; rw [word_of _ (by omega)]; omega
  rw [e]
  exact congrFun (V_main_arg3 m c) _

theorem blk_k (t : Fin cfg0.N) (n : Fin 16384) (k : Fin 256) :
    iblk m c 2 t (ix4 0 0 n k) = opK m c (ix4 (ptB t) (ptH t) n k) := by
  unfold iblk
  rw [View.read_apply]
  have e : ((cfg0.win 2).blk t).view.emb (ix4 0 0 n k) = ix4 (ptB t) (ptH t) n k := by
    refine funext fun x => Fin.ext ?_
    refine (Pipeline.Window.rect_emb_val win0_2 t _ x).trans ?_
    match x with
    | ⟨0, _⟩ => show (BitVec.ofNat 32 (ptB t).val).toNat * 1 + 0 = (ptB t).val; rw [word_of _ (by omega)]; omega
    | ⟨1, _⟩ => show (BitVec.ofNat 32 (ptH t).val).toNat * 1 + 0 = (ptH t).val; rw [word_of _ (by omega)]; omega
    | ⟨2, _⟩ => show 0 * 16384 + n.val = n.val; omega
    | ⟨3, _⟩ => show 0 * 256 + k.val = k.val; omega
  rw [e]
  rfl

theorem blk_v (t : Fin cfg0.N) (n : Fin 32) (k : Fin 144) (l : Fin 512) :
    iblk m c 3 t (ix5 0 0 n k l) = opV m c (ix5 (ptB t) (ptH t) n k l) := by
  unfold iblk
  rw [View.read_apply]
  have e : ((cfg0.win 3).blk t).view.emb (ix5 0 0 n k l) = ix5 (ptB t) (ptH t) n k l := by
    refine funext fun x => Fin.ext ?_
    refine (Pipeline.Window.rect_emb_val win0_3 t _ x).trans ?_
    match x with
    | ⟨0, _⟩ => show (BitVec.ofNat 32 (ptB t).val).toNat * 1 + 0 = (ptB t).val; rw [word_of _ (by omega)]; omega
    | ⟨1, _⟩ => show (BitVec.ofNat 32 (ptH t).val).toNat * 1 + 0 = (ptH t).val; rw [word_of _ (by omega)]; omega
    | ⟨2, _⟩ => show 0 * 32 + n.val = n.val; omega
    | ⟨3, _⟩ => show 0 * 144 + k.val = k.val; omega
    | ⟨4, _⟩ => show 0 * 512 + l.val = l.val; omega
  rw [e]
  rfl

/-- Where the output's block lies. -/
theorem blk_out (t : Fin cfg0.N) (l : Fin 2048) (d : Fin 128) :
    ((cfg0.win 4).blk t).view.emb (ix3 0 l d) = ix3 (ptB t) ⟨2048 * (ptI t).val + l.val, by have := (ptI t).isLt; omega⟩
      ⟨128 * (ptH t).val + d.val, by have := (ptH t).isLt; omega⟩ := by
  refine funext fun x => Fin.ext ?_
  refine (Pipeline.Window.rect_emb_val win0_4 t _ x).trans ?_
  match x with
  | ⟨0, _⟩ => show (BitVec.ofNat 32 (ptB t).val).toNat * 1 + 0 = (ptB t).val; rw [word_of _ (by omega)]; omega
  | ⟨1, _⟩ => show (BitVec.ofNat 32 (ptI t).val).toNat * 2048 + l.val = 2048 * (ptI t).val + l.val; rw [word_of _ (by omega)]; omega
  | ⟨2, _⟩ => show (BitVec.ofNat 32 (ptH t).val).toNat * 128 + d.val = 128 * (ptH t).val + d.val; rw [word_of _ (by omega)]; omega

end Cert.KernelIdeal.Fox
-- ==== Proof.Score.lean ====
/- What a grid point of the attention kernel writes out: the attention of its queries. -/
module

public import proofs.«01_k».proof.Proof.HostRead
public import proofs.«01_k».proof.Proof.Spec

@[expose] public section

set_option maxRecDepth 65536

noncomputable section

namespace Cert.KernelIdeal.Fox

open Cert.KernelIdeal Cert.KernelIdeal.Gen Cert.Online
open Idealize.ShloMosaic Idealize.ShloMosaic.TcCoe

theorem ac_congr (s w w' : ℕ → Fin 512 → EReal) (N : ℕ) (h : ∀ n, n < N → w n = w' n) : Ac s w N = Ac s w' N := by
  induction N with
  | zero => rfl
  | succ N ih => rw [Ac, Ac, ih fun n hn => h n (by omega), h N (by omega)]

variable (m : (ℓ : Loc nD τ sig) → Buf (Elt Ideal) ℓ) (c : Dev nD) (t : Fin cfg0.N)
variable {σ : St Ideal}

/-- Where query `q` of the point's block stands in the sequence. -/
def pos (q : Fin 2048) : Fin 16384 := ⟨2048 * (ptI t).val + q.val, by have := (ptI t).isLt; omega⟩

/-- The scores of query `q`. -/
def lg (q : Fin 2048) : ℕ → ℝ := logit (argQ m c) (argK m c) (argC m c) (ptB t) (ptH t) (pos t q)

theorem key_term (hQ : Real' (argQ m c)) (hK : Real' (argK m c)) (h3 : σ.x3 = iblk m c 0 t) (h5 : σ.x5 = iblk m c 2 t)
    (q : Fin 2048) (s : Fin 16384) (k : Fin 128) :
    (σ.x5 (ix4 0 0 s ⟨k.val, by omega⟩) * (init (cfg0.grid.coords t) σ).x8 (ix2 ⟨k.val, by omega⟩ q) : EReal) =
      ((EReal.toReal (argQ m c (ix4 (ptB t) (pos t q) (ptH t) k)) * EReal.toReal (argK m c (ix4 (ptB t) s (ptH t) k))
        * ((Real.sqrt 128)⁻¹ * (Real.log 2)⁻¹) : ℝ) : EReal) := by
  have e : (⟨512 * (4 * (ptI t).val + q.val / 512) + q.val % 512, by have := (ptI t).isLt; omega⟩ : Fin 16384) = pos t q :=
    Fin.ext (by show 512 * (4 * (ptI t).val + q.val / 512) + q.val % 512 = 2048 * (ptI t).val + q.val; omega)
  rw [init_x8, h3, h5, blk_k, blk_q, opK_key _ _ _ _ _ _ k.isLt, opQ_apply, e]
  show argK m c (ix4 (ptB t) s (ptH t) k) * (argQ m c (ix4 (ptB t) (pos t q) (ptH t) k) * _) = _
  rw [hK, hQ]
  unfold l2e
  rw [← EReal.coe_mul, ← EReal.coe_mul, ← EReal.coe_mul]
  congr 1
  simp only [EReal.toReal_coe]
  ring

theorem extra_term (hC : Real' (argC m c)) (h4 : σ.x4 = iblk m c 1 t) (h5 : σ.x5 = iblk m c 2 t)
    (q : Fin 2048) (s : Fin 16384) (k : Fin 128) :
    (σ.x5 (ix4 0 0 s ⟨128 + k.val, by omega⟩) * (init (cfg0.grid.coords t) σ).x8 (ix2 ⟨128 + k.val, by omega⟩ q) : EReal) =
      ((if k = 0 then EReal.toReal (argC m c (ix3 (ptB t) (ptH t) (pos t q))) * (Real.log 2)⁻¹
        else if k = 3 then -(EReal.toReal (argC m c (ix3 (ptB t) (ptH t) s)) * (Real.log 2)⁻¹) else 0 : ℝ) : EReal) := by
  have hx : (σ.x4 (ix3 0 ((cfg0.grid.coords t) 1) q) * l2e : EReal) =
      ((EReal.toReal (argC m c (ix3 (ptB t) (ptH t) (pos t q))) * (Real.log 2)⁻¹ : ℝ) : EReal) := by
    rw [h4]
    refine (congrArg (· * l2e) ((blk_c m c t (ptH t) q).trans (hC _))).trans ?_
    unfold l2e
    rw [← EReal.coe_mul]
    rfl
  rw [init_x8_extra, hx, h5, blk_k]
  by_cases h0 : k.val < 3
  · rw [opK_one _ _ _ _ _ _ (by show 128 ≤ 128 + k.val; omega) (by show 128 + k.val < 131; omega), one_mul]
    unfold extra
    by_cases e0 : k.val = 0
    · rw [if_pos e0, if_pos (Fin.ext e0)]
    · have n0 : k ≠ 0 := fun h => e0 (congrArg Fin.val h)
      have n3 : k ≠ 3 := fun h => by rw [h] at h0; exact absurd h0 (by decide)
      rw [if_neg e0, if_neg n0, if_neg n3]
      split
      · rw [← EReal.coe_sub, sub_self]
      · rw [if_pos (by omega), ← EReal.coe_sub, ← EReal.coe_sub, sub_self]
  · have n0 : k ≠ 0 := fun h => h0 (by rw [h]; decide)
    rw [if_neg n0]
    unfold extra
    rw [if_neg (by omega), if_neg (by omega), if_neg (by omega)]
    by_cases h6 : k.val < 6
    · rw [if_pos h6, mul_one, opK_c _ _ _ _ _ _ (by show 131 ≤ 128 + k.val; omega) (by show 128 + k.val < 134; omega) _ (hC _)]
      by_cases e3 : k.val = 3
      · rw [if_pos (show 128 + k.val = 131 by omega), if_pos (Fin.ext e3)]
      · rw [if_neg (show ¬ 128 + k.val = 131 by omega), if_neg (fun h => e3 (congrArg Fin.val h)), EReal.coe_zero]
    · rw [if_neg h6, mul_zero, if_neg (fun h => by rw [h] at h6; exact absurd h6 (by decide)), EReal.coe_zero]

/-- The kernel's product of a key with a query is the score, in base two. -/
theorem raw_score (hQ : Real' (argQ m c)) (hK : Real' (argK m c)) (hC : Real' (argC m c)) (h3 : σ.x3 = iblk m c 0 t)
    (h4 : σ.x4 = iblk m c 1 t) (h5 : σ.x5 = iblk m c 2 t) (q : Fin 2048) (n : ℕ) (hn : n < 32) (r : Fin 512) :
    raw σ.x5 (init (cfg0.grid.coords t) σ).x8 q n r = ((lg m c t q (512 * n + r.val) * (Real.log 2)⁻¹ : ℝ) : EReal) := by
  rw [raw, dif_pos (by omega)]
  unfold dots
  refine (Fin.sum_univ_add (a := 128) (b := 128) _).trans ?_
  refine (congrArg₂ (· + ·) (Finset.sum_congr rfl fun k _ => key_term m c t hQ hK h3 h5 q ⟨512 * n + r.val, by omega⟩ k)
    (Finset.sum_congr rfl fun k _ => extra_term m c t hC h4 h5 q ⟨512 * n + r.val, by omega⟩ k)).trans ?_
  rw [← coe_sum, ← coe_sum, ← EReal.coe_add]
  congr 1
  have e : ∀ a b : ℝ, (∑ k : Fin 128, if k = 0 then a else if k = 3 then b else 0) = a + b := by
    intro a b
    rw [Finset.sum_eq_add (0 : Fin 128) 3 (by decide)]
    · simp
    · intro k _ hk; simp [hk.1, hk.2]
    · simp
    · simp
  rw [e, lg, logit, dif_pos (show 512 * n + r.val < 16384 by omega), ← Finset.sum_mul]
  ring

/-- What the body leaves in the output. -/
theorem leaves_fox (hQ : Real' (argQ m c)) (hK : Real' (argK m c)) (hC : Real' (argC m c)) (h3 : σ.x3 = iblk m c 0 t)
    (h4 : σ.x4 = iblk m c 1 t) (h5 : σ.x5 = iblk m c 2 t) (h6 : σ.x6 = iblk m c 3 t) (q : Fin 2048) (d : Fin 128) :
    (bodyF (cfg0.grid.coords t) σ).x7 (ix3 0 q d) = foxAt (argQ m c) (argK m c) (argV m c) (argC m c) (ptB t) (ptH t) (pos t q) d := by
  have hI := (ptI t).isLt
  have hq := q.isLt
  have hp : (pos t q).val = 2048 * (ptI t).val + q.val := rfl
  have hs : ∀ n, n < 4 * (ptI t).val → raw σ.x5 (init (cfg0.grid.coords t) σ).x8 q n = score (lg m c t q) (pos t q).val n := by
    intro n hn
    funext r
    rw [raw_score m c t hQ hK hC h3 h4 h5 q n (by omega) r, score, if_pos (by omega)]
  have hd : ∀ d, 512 * d ≤ q.val → ∀ r : Fin 512, score (lg m c t q) (pos t q).val (4 * (ptI t).val + d) r =
      if r.val ≤ q.val - 512 * d then raw σ.x5 (init (cfg0.grid.coords t) σ).x8 q (4 * (ptI t).val + d) r else ⊥ := by
    intro d hd r
    rw [score, raw_score m c t hQ hK hC h3 h4 h5 q _ (by omega) r]
    by_cases hr : r.val ≤ q.val - 512 * d
    · rw [if_pos hr, if_pos (by omega)]
    · rw [if_neg hr, if_neg (by omega)]
  refine (body_x7 (cfg0.grid.coords t) σ q _ hs hd d).trans ?_
  show Ideal.div (Ac _ _ (4 * (ptI t).val + q.val / 512 + 1)) (Ac _ _ (4 * (ptI t).val + q.val / 512 + 1)) = _
  rw [ac_congr _ (row σ.x6 ⟨d.val, _⟩) (fun n r => value (argV m c) (ptB t) (ptH t) d (512 * n + r.val)) _ ?_,
    ac_congr _ (row σ.x6 128) (fun _ _ => 1) _ ?_]
  · exact online _ _ _ _ (by omega) (by omega)
  · intro n hn
    funext r
    rw [row, dif_pos (show n < 32 by omega), h6, blk_v, opV_apply, dif_neg (by decide)]
  · intro n hn
    funext r
    rw [row, dif_pos (show n < 32 by omega), h6, blk_v, opV_apply, dif_pos d.isLt, value, dif_pos (show 512 * n + r.val < 16384 by omega)]

end Cert.KernelIdeal.Fox
-- ==== Proof.Result.lean ====
/- The attention kernel's run ends with its result at the attention of its arguments, and the arguments as they were. -/
module

public import proofs.«01_k».proof.Proof.Score
public import proofs.«01_k».proof.Proof.FoxFrame
public import Idealize.ShloMosaic.Lib.Pipeline.Value
public import Idealize.ShloMosaic.Lib.Pipeline.ValueKit.Geometry
public import Idealize.ShloMosaic.Lib.Pipeline.Covers

@[expose] public section

set_option maxRecDepth 65536

noncomputable section

namespace Cert.KernelIdeal.Fox

open Cert.KernelIdeal Cert.KernelIdeal.Gen Cert.Online
open Idealize.ShloMosaic Idealize.ShloMosaic.TcCoe

variable (m : (ℓ : Loc nD τ sig) → Buf (Elt Ideal) ℓ)

/-- What a grid point leaves in its block of the output. -/
def leftAt (c : Dev nD) (t : Fin cfg0.N) : Vec Ideal S1x2048x128 .bf16 := fun y =>
  foxAt (argQ m c) (argK m c) (argV m c) (argC m c) (ptB t) (ptH t) (pos t ⟨(y 1).val, (y 1).isLt⟩) ⟨(y 2).val, (y 2).isLt⟩

/-- The result: the attention of the arguments. -/
def result (c : Dev nD) : Vec Ideal S2x16384x1024 .bf16 := fox (argQ m c) (argK m c) (argV m c) (argC m c)

theorem block_idx (y : S1x2048x128.Idx) : ∃ (q : Fin 2048) (d : Fin 128), y = ix3 0 q d :=
  ⟨⟨(y 1).val, (y 1).isLt⟩, ⟨(y 2).val, (y 2).isLt⟩, funext fun a => Fin.ext (by
    match a with
    | ⟨0, _⟩ => have : (y 0).val < 1 := (y 0).isLt; show (y 0).val = 0; omega
    | ⟨1, _⟩ => rfl
    | ⟨2, _⟩ => rfl)⟩

theorem left_eq (hm : ∀ c, Real' (argQ m c) ∧ Real' (argK m c) ∧ Real' (argC m c)) (c : Dev nD) (t : Fin cfg0.N)
    (X : Vec Ideal S1x2048x128 .bf16)
    (h : Leaves (cfg0.grid.coords t) (iblk m c 0 t) (iblk m c 1 t) (iblk m c 2 t) (iblk m c 3 t) X) : X = leftAt m c t := by
  obtain ⟨σ, h3, h4, h5, h6, rfl⟩ := h
  funext y
  obtain ⟨q, d, rfl⟩ := block_idx y
  exact leaves_fox m c t (hm c).1 (hm c).2.1 (hm c).2.2 h3 h4 h5 h6 q d

theorem flushed_eq (c : Dev nD) (t : Fin cfg0.N) :
    (dats m (leftAt m) 0 c).flushed 4 t = ((cfg0.win 4).blk t).view.read (Elt Ideal) (result m c) := by
  funext y
  rw [Pipeline.Dat.flushed_apply, after0_4, View.read_apply]
  obtain ⟨q, d, e⟩ := block_idx y
  rw [e, blk_out]
  exact (fox_at _ _ _ _ (ptB t) (pos t q) (ptH t) d).symm

theorem covered (i : S2x16384x1024.Idx) : ∃ t : Fin cfg0.N, (cfg0.win 4).flush t = true ∧ i ∈ ((cfg0.win 4).blk t).view.set := by
  have h0 : (i 0).val < 2 := (i 0).isLt
  have h1 : (i 1).val < 16384 := (i 1).isLt
  have h2 : (i 2).val < 1024 := (i 2).isLt
  obtain ⟨t, ht⟩ := Pipeline.Grid.coords_surjective cfg0.grid (fun
    | ⟨0, _⟩ => (⟨(i 0).val, h0⟩ : Fin 2)
    | ⟨1, _⟩ => (⟨(i 2).val / 128, by omega⟩ : Fin 8)
    | ⟨2, _⟩ => (⟨(i 1).val / 2048, by omega⟩ : Fin 8))
  have e0 : (ptB t).val = (i 0).val := congrArg (fun x : cfg0.grid.Coords => (x 0).val) ht
  have e1 : (ptH t).val = (i 2).val / 128 := congrArg (fun x : cfg0.grid.Coords => (x 1).val) ht
  have e2 : (ptI t).val = (i 1).val / 2048 := congrArg (fun x : cfg0.grid.Coords => (x 2).val) ht
  refine ⟨t, flush0_4 t, Finset.mem_map.mpr ⟨ix3 0 ⟨(i 1).val % 2048, by omega⟩ ⟨(i 2).val % 128, by omega⟩, Finset.mem_univ _, ?_⟩⟩
  refine (blk_out t _ _).trans (funext fun a => Fin.ext ?_)
  match a with
  | ⟨0, _⟩ => exact e0
  | ⟨1, _⟩ => show 2048 * (ptI t).val + (i 1).val % 2048 = (i 1).val; omega
  | ⟨2, _⟩ => show 128 * (ptH t).val + (i 2).val % 128 = (i 2).val; omega

theorem arr_eq (c : Dev nD) : (dats m (leftAt m) 0 c).arrAt 4 cfg0.N = result m c :=
  (dats m (leftAt m) 0 c).arrAt_eq_of_cover 4 (result m c) (fun t _ => flushed_eq m c t) covered

/-- The run, on finite queries, keys and log-forgets. -/
theorem value_run (ρ : Dev nD → PrngReg) (hm : ∀ c, Real' (argQ m c) ∧ Real' (argK m c) ∧ Real' (argC m c)) :
    θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (arr_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 1).trans (((dats m (leftAt m) 0 c).arrAt_in 1 rfl _).trans ((A_eq m (leftAt m) c 1).trans (V_main_arg3 m c)))⟩)
    (run_exact m ρ (leftAt m) (left_eq m hm))

end Cert.KernelIdeal.Fox
-- ==== Proof.RefValue.lean ====
/- The reference read at an index: the softmax of the scores of a query over the keys up to it, weighting the values. -/
module

public import proofs.«01_k».proof.Proof.Spec
public import proofs.«01_k».proof.Proof.Gen.ReferenceIdeal.Run
public import Idealize.ShloMosaic.Lib.Tactic.CleanTypes

@[expose] public section

set_option maxRecDepth 65536

noncomputable section

namespace Cert.ReferenceIdeal.Fox

open Cert.ReferenceIdeal Cert.ReferenceIdeal.Value Cert.ReferenceIdeal.Gen Cert.Online
open Idealize.ShloMosaic Idealize.ShloMosaic.TcCoe

variable (q k v : FVec Ideal S2x16384x8x128 .f32) (g : FVec Ideal S2x8x16384 .f32)

/-- The masked scores. -/
def scores : FVec Ideal S2x8x16384x16384 .f32 :=
  (select (broadcastInDim S2x8x16384x16384 ![2, 3] bcast_S16384x16384_S2x8x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (addf (mulf (Host.dotGeneral dot_S2x8x16384x128_S2x8x16384x128_S2x8x16384x16384_3_3_2_2_01_01 none (transpose S2x8x16384x128 [0, 2, 1, 3] q transposes_S2x16384x8x128_S2x8x16384x128_0_2_1_3) (transpose S2x8x16384x128 [0, 2, 1, 3] k transposes_S2x16384x8x128_S2x8x16384x128_0_2_1_3)) (broadcastInDim S2x8x16384x16384 ![] bcast_S_S2x8x16384x16384 (Host.divf (constant S_ .f32 0x3F800000#32) (Host.sqrt (constant S_ .f32 0x43000000#32))))) (subf (broadcastInDim S2x8x16384x16384 ![0, 1, 2, 3] bcast_S2x8x16384x1_S2x8x16384x16384_0_1_2_3 (broadcastInDim S2x8x16384x1 ![0, 1, 2] bcast_S2x8x16384_S2x8x16384x1_0_1_2 g)) (broadcastInDim S2x8x16384x16384 ![0, 1, 2, 3] bcast_S2x8x1x16384_S2x8x16384x16384_0_1_2_3 (broadcastInDim S2x8x1x16384 ![0, 1, 3] bcast_S2x8x16384_S2x8x1x16384_0_1_3 g)))) (broadcastInDim S2x8x16384x16384 ![] bcast_S_S2x8x16384x16384 (id (constant (F := Ideal) S_ .f32 0xFF800000#32))))

/-- The largest score of a query. -/
def peak (x : FVec Ideal S2x8x16384x16384 .f32) : FVec Ideal S2x8x16384 .f32 :=
  maximumf (broadcastInDim S2x8x16384 ![] bcast_S_S2x8x16384 (constant S_ .f32 0xFF800000#32)) (Host.reduce FloatOps.maximumf x (constant S_ .f32 0xFF800000#32) reducesTo_S2x8x16384x16384_S2x8x16384_d3 h_S_)

/-- The weights before they are divided by their sum. -/
def weights (x : FVec Ideal S2x8x16384x16384 .f32) (p : FVec Ideal S2x8x16384 .f32) : FVec Ideal S2x8x16384x16384 .f32 :=
  Host.exp (subf x (broadcastInDim S2x8x16384x16384 ![0, 1, 2, 3] bcast_S2x8x16384x1_S2x8x16384x16384_0_1_2_3 (broadcastInDim S2x8x16384x1 ![0, 1, 2] bcast_S2x8x16384_S2x8x16384x1_0_1_2 p)))

/-- The weighted values, the heads side by side. -/
def mixed (w : FVec Ideal S2x8x16384x16384 .f32) : FVec Ideal S2x16384x1024 .bf16 :=
  truncf .bf16 (shapeCast S2x16384x1024 (transpose S2x16384x8x128 [0, 2, 1, 3] (Host.dotGeneral dot_S2x8x16384x16384_S2x8x16384x128_S2x8x16384x128_3_2_2_3_01_01 none (Host.divf w (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd w (constant S_ .f32 0x00000000#32) reducesTo_S2x8x16384x16384_S2x8x16384_d3 h_S_)))) (transpose S2x8x16384x128 [0, 2, 1, 3] v transposes_S2x16384x8x128_S2x8x16384x128_0_2_1_3)) transposes_S2x8x16384x128_S2x16384x8x128_0_2_1_3) shapeCasts_S2x16384x8x128_S2x16384x1024) bitsLt_bf16_f32

theorem res_eq (m : (ℓ : Loc nD τ sig) → Buf (Elt Ideal) ℓ) (c : Dev nD) : res_main_v35 m c =
    mixed (m ((c.tc : Thread nD τ).loc main_arg2))
      (weights (scores (m ((c.tc : Thread nD τ).loc main_arg0)) (m ((c.tc : Thread nD τ).loc main_arg1)) (m ((c.tc : Thread nD τ).loc main_arg3)))
        (peak (scores (m ((c.tc : Thread nD τ).loc main_arg0)) (m ((c.tc : Thread nD τ).loc main_arg1)) (m ((c.tc : Thread nD τ).loc main_arg3))))) := rfl

/-- A maximum along the last of four axes, and with −∞. -/
theorem reduce_max {n0 n1 n2 n3 : ℕ} (x : FVec Ideal ⟨4, ![n0, n1, n2, n3]⟩ .f32) (z : EReal) (zs : FVec Ideal S_ .f32) (hz : ∀ i, zs i = z)
    (hb : S_.BroadcastsInDim (⟨3, ![n0, n1, n2]⟩ : Shape) (![] : Fin 0 → Fin 3))
    (hr : (⟨4, ![n0, n1, n2, n3]⟩ : Shape).ReducesTo [3] ⟨3, ![n0, n1, n2]⟩) (hu : 0 < S_.numel) (a : Fin n0) (b : Fin n1) (c : Fin n2) :
    maximumf (broadcastInDim ⟨3, ![n0, n1, n2]⟩ ![] hb zs) (Host.reduce FloatOps.maximumf x zs hr hu) (ix3 a b c) =
      max z ((Finset.univ : Finset (Fin n3)).fold max z fun k => x (ix4 a b c k)) := by
  simp only [pointwise, hz]

theorem peak_apply (x : FVec Ideal S2x8x16384x16384 .f32) (b : Fin 2) (h : Fin 8) (t : Fin 16384) :
    peak x (ix3 b h t) = max (⊥ : EReal) ((Finset.univ : Finset (Fin 16384)).fold max ⊥ fun s => x (ix4 b h t s)) :=
  reduce_max (n0 := 2) (n1 := 8) (n2 := 16384) (n3 := 16384) x ⊥ (constant S_ .f32 0xFF800000#32) (fun _ => inf_f32) _ _ _ b h t

theorem word_int (s : Fin 16384) : (BitVec.ofNat 32 s.val).toInt = s.val := by
  have hs := s.isLt
  rw [BitVec.toInt_eq_toNat_of_lt (by rw [BitVec.toNat_ofNat]; omega), BitVec.toNat_ofNat]
  omega

theorem scores_apply (b : Fin 2) (h : Fin 8) (t s : Fin 16384) : scores q k g (ix4 b h t s) =
    if s.val ≤ t.val then (∑ d : Fin 128, (q (ix4 b t h d) * k (ix4 b s h d) : EReal)) * (((Real.sqrt 128)⁻¹ : ℝ) : EReal) + (g (ix3 b h t) - g (ix3 b h s)) else ⊥ := by
  unfold scores
  pointwise
  rw [scale_recip]
  refine (congrArg (fun z => Scalar.select _ _ z) (inf_f32 : _ = (⊥ : EReal))).trans ?_
  have hc : IntOp.cmpi .sle (BitVec.ofNat 32 s.val) (BitVec.ofNat 32 t.val) = 1#1 ↔ s.val ≤ t.val := by
    rw [IntOp.cmpi_sle, word_int s, word_int t]
    omega
  unfold Scalar.select
  split <;> rename_i hi
  · rw [if_pos (hc.mp hi)]
  · rw [if_neg fun hh => hi (hc.mpr hh)]

theorem weights_apply (x : FVec Ideal S2x8x16384x16384 .f32) (p) (b : Fin 2) (h : Fin 8) (t s : Fin 16384) : weights x p (ix4 b h t s) =
    Ideal.exp (x (ix4 b h t s) - p (ix3 b h t)) := by
  unfold weights
  pointwise

theorem mixed_apply (w : FVec Ideal S2x8x16384x16384 .f32) (b : Fin 2) (h : Fin 8) (t : Fin 16384) (d : Fin 128) :
    mixed v w (ix3 b t ⟨128 * h.val + d.val, by omega⟩) = ∑ s : Fin 16384, Ideal.div (w (ix4 b h t s)) (∑ s : Fin 16384, w (ix4 b h t s)) * v (ix4 b s h d) := by
  unfold mixed
  pointwise

theorem scores_real (hq : Real' q) (hk : Real' k) (hg : Real' g) (b : Fin 2) (h : Fin 8) (t s : Fin 16384) :
    scores q k g (ix4 b h t s) = if s.val ≤ t.val then ((logit q k g b h t s.val : ℝ) : EReal) else ⊥ := by
  rw [scores_apply]
  by_cases hs : s.val ≤ t.val
  · rw [if_pos hs, if_pos hs, logit, dif_pos s.isLt, hg, hg (ix3 b h s), Finset.sum_congr rfl fun d _ => congrArg₂ (· * ·) (hq (ix4 b t h d)) (hk (ix4 b s h d))]
    simp only [← EReal.coe_mul, ← coe_sum, ← EReal.coe_sub, ← EReal.coe_add, EReal.toReal_coe]
  · rw [if_neg hs, if_neg hs]

/-- The largest score of a query is a real: its own key is seen. -/
theorem peak_real (hq : Real' q) (hk : Real' k) (hg : Real' g) (b : Fin 2) (h : Fin 8) (t : Fin 16384) :
    ∃ μ : ℝ, peak (scores q k g) (ix3 b h t) = (μ : EReal) := by
  rw [peak_apply]
  have e := scores_real q k g hq hk hg b h t
  have h1 : (Finset.univ : Finset (Fin 16384)).fold max ⊥ (fun s => (scores q k g (ix4 b h t s) : EReal)) < ⊤ :=
    (Finset.fold_max_lt ⊤).mpr ⟨bot_lt_top, fun s _ => by
      rw [e]; split
      · exact EReal.coe_lt_top _
      · exact bot_lt_top⟩
  have h2 : ((logit q k g b h t t.val : ℝ) : EReal) ≤ (Finset.univ : Finset (Fin 16384)).fold max ⊥ (fun s => (scores q k g (ix4 b h t s) : EReal)) :=
    (Finset.le_fold_max _).mpr (.inr ⟨t, Finset.mem_univ t, by rw [e, if_pos le_rfl]⟩)
  rw [max_eq_right bot_le]
  exact ⟨_, (EReal.coe_toReal h1.ne (lt_of_lt_of_le (EReal.bot_lt_coe _) h2).ne').symm⟩

/-- The reference is the attention of its arguments. -/
theorem reference_fox (hq : Real' q) (hk : Real' k) (hg : Real' g) : mixed v (weights (scores q k g) (peak (scores q k g))) = fox q k v g := by
  funext i
  obtain ⟨b, t, h, d, e⟩ : ∃ (b : Fin 2) (t : Fin 16384) (h : Fin 8) (d : Fin 128), i = ix3 b t ⟨128 * h.val + d.val, by omega⟩ :=
    have h2 : (i 2).val < 1024 := (i 2).isLt
    ⟨⟨(i 0).val, (i 0).isLt⟩, ⟨(i 1).val, (i 1).isLt⟩, ⟨(i 2).val / 128, by omega⟩, ⟨(i 2).val % 128, by omega⟩, funext fun a => Fin.ext (by
      match a with
      | ⟨0, _⟩ => rfl
      | ⟨1, _⟩ => rfl
      | ⟨2, _⟩ => show (i 2).val = 128 * ((i 2).val / 128) + (i 2).val % 128; omega)⟩
  rw [e]
  obtain ⟨μ, hμ⟩ := peak_real q k g hq hk hg b h t
  have ew : ∀ s, weights (scores q k g) (peak (scores q k g)) (ix4 b h t s) =
      Ideal.exp ((if s.val ≤ t.val then ((logit q k g b h t s.val : ℝ) : EReal) else ⊥) - (μ : EReal)) := fun s => by
    rw [weights_apply, hμ, scores_real q k g hq hk hg]
  rw [mixed_apply, fox_at, foxAt, ← softmax _ _ _ μ, Finset.sum_congr rfl fun s _ => ew s]
  refine Finset.sum_congr rfl fun s _ => ?_
  rw [ew s, value, dif_pos s.isLt]

end Cert.ReferenceIdeal.Fox
-- ==== Proof.Finite.lean ====
/- The precondition read: every query, key and cumulative log-forget is a real. -/
module

public import proofs.«01_k».proof.Pre_finite
public import proofs.«01_k».proof.Proof.Spec
public import Idealize.ShloMosaic.Lib.ReduceAll

@[expose] public section

set_option maxRecDepth 65536

noncomputable section

namespace Cert.Pre_finite

open Idealize.ShloMosaic Cert.Online

instance facts : Facts where
  bcast_S_S2x16384x8x128 := by decide
  reducesTo_S2x16384x8x128_S_d0_1_2_3 := by decide
  h_S_ := by decide
  bcast_S_S2x8x16384 := by decide
  reducesTo_S2x8x16384_S_d0_1_2 := by decide

instance : Subsingleton S_.Idx := ⟨fun _ _ => funext fun a => a.elim0⟩

theorem top_f32 : Ideal.ofBits .f32 0x7F800000#32 = ⊤ := by
  simp [Ideal.ofBits, Ideal.ieee]

/-- A value whose magnitude is below +∞ is a real. -/
theorem real_of_abs (x : EReal) (h : Ideal.cmp .olt (max x (-x)) (Ideal.ofBits .f32 0x7F800000#32) = 1#1) : x = ((EReal.toReal x : ℝ) : EReal) := by
  rw [top_f32] at h
  have h' : max x (-x) < ⊤ := by
    by_contra hn
    rw [Ideal.cmp, decide_eq_false hn] at h
    exact absurd h (by decide)
  obtain ⟨h1, h2⟩ := max_lt_iff.mp h'
  refine (EReal.coe_toReal h1.ne fun hb => ?_).symm
  rw [hb] at h2
  simp at h2

/-- An array all of whose magnitudes are below +∞. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) :
    Real' x := fun i => real_of_abs (x i) (Host.reduce_andi_all _ _ hr hu j h i)

theorem reals (q k v : FVec Ideal S2x16384x8x128 .f32) (g : FVec Ideal S2x8x16384 .f32) (h : fn (F := Ideal) q k v g = fun _ => 1#1) :
    Real' q ∧ Real' k ∧ Real' g := by
  have h0 := congrFun h ix0
  obtain ⟨h1, h2⟩ := IntOp.andi_eq_one.mp h0
  obtain ⟨h3, h4⟩ := IntOp.andi_eq_one.mp h1
  exact ⟨real_of_all q _ _ _ _ h3, real_of_all k _ _ _ _ h4, real_of_all g _ _ _ _ h2⟩

end Cert.Pre_finite
-- ==== Proof.Swiglu.lean ====
/- The gated feed-forward half of a layer, written at one token: the root-mean-square norm of the token's row, the
   gated hidden units over it, their weighted sum, half of which is added to the row. -/
module

public import Idealize.ShloMosaic.PureOps
public import Idealize.ShloMosaic.PureOps.Ideal
public import Idealize.ShloMosaic.Lib.Pointwise
public import Idealize.ShloMosaic.Lib.Pipeline.FrameBody

@[expose] public section

noncomputable section

namespace Cert.Swiglu

open Idealize.ShloMosaic

/-- The normed row, scaled by the norm's weights. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- A hidden unit: its gate through the logistic, times the gate, times its linear part. -/
def gated (h g u : Fin 1024 → EReal) : EReal :=
  (∑ k, h k * g k) * Ideal.logistic (∑ k, h k * g k) * ∑ k, h k * u k

/-- The hidden units' weighted sum. -/
def mixed (h : Fin 1024 → EReal) (wg wu : Fin 1024 → Fin 2816 → EReal) (wd : Fin 2816 → EReal) : EReal :=
  ∑ i, gated h (fun k => wg k i) (fun k => wu k i) * wd i

/-- The feed-forward half at one entry of the token's row. -/
def half (x g : Fin 1024 → EReal) (wg wu : Fin 1024 → Fin 2816 → EReal) (wd : Fin 2816 → Fin 1024 → EReal) (j : Fin 1024) : EReal :=
  x j + Ideal.ofBits .f32 0x3F000000#32 * mixed (normed x g) wg wu fun i => wd i j

/-- The row of a token, its batch's tokens one after another. -/
def row {φ : EltTy} (x : Vec Ideal ⟨3, ![2, 16384, 1024]⟩ φ) (n : Fin 32768) (k : Fin 1024) : Elt Ideal φ :=
  x (ix3 ⟨n.val / 16384, by omega⟩ ⟨n.val % 16384, by omega⟩ k)

/-- The feed-forward half of every token, with the weights of layer `l`. -/
def halves (x : Fin 32768 → Fin 1024 → EReal) (g : Vec Ideal ⟨2, ![4, 1024]⟩ .f32) (wg wu : Vec Ideal ⟨3, ![4, 1024, 2816]⟩ .f32)
    (wd : Vec Ideal ⟨3, ![4, 2816, 1024]⟩ .f32) (l : Fin 4) : Vec Ideal ⟨2, ![32768, 1024]⟩ .f32 := fun i =>
  half (x ⟨(i 0).val, (i 0).isLt⟩) (fun k => g (ix2 l k)) (fun k n => wg (ix3 l k n)) (fun k n => wu (ix3 l k n)) (fun n j => wd (ix3 l n j)) ⟨(i 1).val, (i 1).isLt⟩

/-- A token's row after its two branches: the attention's row through its own projection and its gate, the recurrent
    branch added, both through the combined projection, and the row itself. -/
def merged (x a s r : Fin 1024 → EReal) (wo w : Fin 1024 → Fin 1024 → EReal) (j : Fin 1024) : EReal :=
  x j + ∑ k, (s k * (∑ l, a l * wo l k) + r k) * w k j

/-- The merged row of every token, with the weights of layer `l`. -/
def merges (x a s r : Fin 32768 → Fin 1024 → EReal) (wo w : Vec Ideal ⟨3, ![4, 1024, 1024]⟩ .f32) (l : Fin 4) (n : Fin 32768) : Fin 1024 → EReal :=
  merged (x n) (a n) (s n) (r n) (fun k j => wo (ix3 l k j)) fun k j => w (ix3 l k j)

/-- A sum over `a + b` indices is the sum over the first `a` and over the rest. -/
theorem sum_split {n : ℕ} (a b : ℕ) (e : a + b = n) (f : Fin n → EReal) :
    ∑ i, f i = (∑ i : Fin a, f ⟨i.val, by omega⟩) + ∑ i : Fin b, f ⟨a + i.val, by omega⟩ := by
  subst e
  exact Fin.sum_univ_add f

/-- The hidden units' weighted sum, taken in six runs of units. -/
theorem mixed_runs (f : Fin 2816 → EReal) :
    ∑ i, f i = (((((∑ i : Fin 512, f ⟨i.val, by omega⟩) + ∑ i : Fin 512, f ⟨512 + i.val, by omega⟩) + ∑ i : Fin 512, f ⟨1024 + i.val, by omega⟩)
      + ∑ i : Fin 512, f ⟨1536 + i.val, by omega⟩) + ∑ i : Fin 512, f ⟨2048 + i.val, by omega⟩) + ∑ i : Fin 256, f ⟨2560 + i.val, by omega⟩ := by
  rw [sum_split 2560 256 rfl f, sum_split 2048 512 rfl, sum_split 1536 512 rfl, sum_split 1024 512 rfl, sum_split 512 512 rfl]

/-- A run of columns of a staged matrix, read at an entry. -/
theorem ld_cols {φ : EltTy} {K N w : ℕ} (x : Vec Ideal ⟨3, ![1, K, N]⟩ φ) (o : ℕ)
    (inb : ∀ a, ![0, 0, o] a + (⟨3, ![1, K, w]⟩ : Shape).size a ≤ (⟨3, ![1, K, N]⟩ : Shape).size a) (k : Fin K) (i : Fin w) :
    View.ld x (Rect.unit (s := ⟨3, ![1, K, N]⟩) ![0, 0, o] (⟨3, ![1, K, w]⟩ : Shape).size inb) (ix3 0 k i) =
      x (ix3 0 k ⟨o + i.val, by have h : o + w ≤ N := inb 2; omega⟩) :=
  congrArg x (funext fun a => Fin.ext (by
    match a with
    | ⟨0, _⟩ => rfl
    | ⟨1, _⟩ => show 0 + 1 * k.val = k.val; omega
    | ⟨2, _⟩ => show o + 1 * i.val = o + i.val; omega))

/-- A run of rows of a staged matrix, read at an entry. -/
theorem ld_rows {φ : EltTy} {K N w : ℕ} (x : Vec Ideal ⟨3, ![1, N, K]⟩ φ) (o : ℕ)
    (inb : ∀ a, ![0, o, 0] a + (⟨3, ![1, w, K]⟩ : Shape).size a ≤ (⟨3, ![1, N, K]⟩ : Shape).size a) (i : Fin w) (k : Fin K) :
    View.ld x (Rect.unit (s := ⟨3, ![1, N, K]⟩) ![0, o, 0] (⟨3, ![1, w, K]⟩ : Shape).size inb) (ix3 0 i k) =
      x (ix3 0 ⟨o + i.val, by have h : o + w ≤ N := inb 1; omega⟩ k) :=
  congrArg x (funext fun a => Fin.ext (by
    match a with
    | ⟨0, _⟩ => rfl
    | ⟨1, _⟩ => show o + 1 * i.val = o + i.val; omega
    | ⟨2, _⟩ => show 0 + 1 * k.val = k.val; omega))

/-- A staged block loaded whole. -/
theorem whole2 {M N : ℕ} (inb : ∀ a, ![0, 0] a + (⟨2, ![M, N]⟩ : Shape).size a ≤ (⟨2, ![M, N]⟩ : Shape).size a)
    (r : Fin M) (k : Fin N) :
    (Rect.unit (s := ⟨2, ![M, N]⟩) ![0, 0] (⟨2, ![M, N]⟩ : Shape).size inb).emb (ix2 r k) = ix2 r k :=
  funext fun a => Fin.ext (by
    match a with
    | ⟨0, _⟩ => show 0 + 1 * r.val = r.val; omega
    | ⟨1, _⟩ => show 0 + 1 * k.val = k.val; omega)

theorem ld_whole {φ : EltTy} {M N : ℕ} (x : Vec Ideal ⟨2, ![M, N]⟩ φ)
    (inb : ∀ a, ![0, 0] a + (⟨2, ![M, N]⟩ : Shape).size a ≤ (⟨2, ![M, N]⟩ : Shape).size a) (r : Fin M) (k : Fin N) :
    View.ld x (Rect.unit (s := ⟨2, ![M, N]⟩) ![0, 0] (⟨2, ![M, N]⟩ : Shape).size inb) (ix2 r k) = x (ix2 r k) :=
  congrArg x (whole2 inb r k)

end Cert.Swiglu
-- ==== Proof.Tile2.lean ====
/- What a grid point of the output-and-feed-forward kernel leaves in its block, read at an entry. -/
module

public import proofs.«01_k».proof.Proof.Swiglu
public import proofs.«01_k».proof.Proof.Gen.Kernel2Ideal.Value
public import Idealize.ShloMosaic.Lib.StableHlo.ReadAt

@[expose] public section

set_option maxRecDepth 65536

noncomputable section

namespace Cert.Kernel2Ideal.Half

open Cert.Kernel2Ideal Cert.Kernel2Ideal.Gen Cert.Swiglu
open Idealize.ShloMosaic Idealize.ShloMosaic.TcCoe

/-- The merged row. -/
theorem merge_at (a : Vec Ideal S512x1024 .bf16) (wo w : Vec Ideal S1x1024x1024 .bf16) (s r x : Vec Ideal S512x1024 .f32) (n : Fin 512) (k : Fin 1024) :
    k0_pay2 a wo s r x w (ix2 n k) =
      merged (fun j => x (ix2 n j)) (fun j => a (ix2 n j)) (fun j => s (ix2 n j)) (fun j => r (ix2 n j)) (fun l j => wo (ix3 0 l j)) (fun l j => w (ix3 0 l j)) k := by
  unfold k0_pay2
  pointwise
  rfl

/-- The merged row's norm. -/
theorem norm_at (a : Vec Ideal S512x1024 .bf16) (wo w : Vec Ideal S1x1024x1024 .bf16) (s r x : Vec Ideal S512x1024 .f32) (g : Vec Ideal S1x1x1024 .f32) (n : Fin 512) (k : Fin 1024) :
    k0_pay3 a wo s r x w g (ix2 n k) = normed (fun j => k0_pay2 a wo s r x w (ix2 n j)) (fun j => g (ix3 0 0 j)) k := by
  unfold k0_pay3
  pointwise
  rfl

theorem pay4_at (h : Vec Ideal S512x1024 .bf16) (wg wu vg vu : Vec Ideal S1x1024x512 .bf16) (wd vd : Vec Ideal S1x512x1024 .bf16) (n : Fin 512) (j : Fin 1024) :
    k0_pay4 h wg wu wd vg vu vd (ix2 n j) =
      (∑ i : Fin 512, gated (fun k => h (ix2 n k)) (fun k => wg (ix3 0 k i)) (fun k => wu (ix3 0 k i)) * wd (ix3 0 i j))
        + ∑ i : Fin 512, gated (fun k => h (ix2 n k)) (fun k => vg (ix3 0 k i)) (fun k => vu (ix3 0 k i)) * vd (ix3 0 i j) := by
  unfold k0_pay4
  pointwise
  rfl

theorem pay5_at (h : Vec Ideal S512x1024 .bf16) (wg : Vec Ideal S1x1024x512 .bf16) (n i : Fin 512) :
    k0_pay5 h wg (ix2 n i) = ∑ k : Fin 1024, (h (ix2 n k) * wg (ix3 0 k i) : EReal) := by
  unfold k0_pay5
  pointwise

theorem pay6_at (wu : Vec Ideal S1x1024x512 .bf16) (k : Fin 1024) (i : Fin 512) : k0_pay6 wu (ix2 k i) = wu (ix3 0 k i) := by
  unfold k0_pay6
  pointwise

theorem pay7_at (h : Vec Ideal S512x1024 .bf16) (a : Vec Ideal S512x1024 .f32) (g : Vec Ideal S512x512 .f32) (u : Vec Ideal S1024x512 .bf16)
    (wg wu : Vec Ideal S1x1024x512 .bf16) (wd vd : Vec Ideal S1x512x1024 .bf16) (n : Fin 512) (j : Fin 1024) :
    k0_pay7 h a g u (constant S512x512 .f32 0x00000000#32) vd wg wu wd (ix2 n j) = (a (ix2 n j)
        + ∑ i : Fin 512, g (ix2 n i) * Ideal.logistic (g (ix2 n i)) * (∑ k : Fin 1024, h (ix2 n k) * u (ix2 k i)) * vd (ix3 0 i j) : EReal)
      + ∑ i : Fin 512, gated (fun k => h (ix2 n k)) (fun k => wg (ix3 0 k i)) (fun k => wu (ix3 0 k i)) * wd (ix3 0 i j) := by
  unfold k0_pay7
  pointwise
  rfl

theorem pay8_at (h : Vec Ideal S512x1024 .bf16) (wg wu : Vec Ideal S1x1024x512 .bf16) (n i : Fin 512) :
    k0_pay8 h wg wu (ix2 n i) = gated (fun k => h (ix2 n k)) (fun k => wg (ix3 0 k i)) (fun k => wu (ix3 0 k i)) := by
  unfold k0_pay8
  pointwise
  rfl

theorem pay1_at (x : Vec Ideal S512x1024 .f32) (h : Vec Ideal S512x1024 .bf16) (a : Vec Ideal S512x1024 .f32) (g : Vec Ideal S512x512 .bf16)
    (vd : Vec Ideal S1x512x1024 .bf16) (wg wu : Vec Ideal S1x1024x256 .bf16) (wd : Vec Ideal S1x256x1024 .bf16) (n : Fin 512) (j : Fin 1024) :
    k0_pay1 x h a g vd wg wu wd (ix2 n j) = (x (ix2 n j) + Ideal.ofBits .f32 0x3F000000#32 * ((a (ix2 n j) + ∑ i : Fin 512, g (ix2 n i) * vd (ix3 0 i j) : EReal)
      + ∑ i : Fin 256, gated (fun k => h (ix2 n k)) (fun k => wg (ix3 0 k i)) (fun k => wu (ix3 0 k i)) * wd (ix3 0 i j)) : EReal) := by
  unfold k0_pay1
  pointwise
  rfl

/-- The block a grid point writes: the feed-forward half of each of its merged rows. -/
theorem out_at (x : Vec Ideal S512x1024 .f32) (a : Vec Ideal S512x1024 .bf16) (s r : Vec Ideal S512x1024 .f32) (wo w : Vec Ideal S1x1024x1024 .bf16)
    (g : Vec Ideal S1x1x1024 .f32) (wg wu : Vec Ideal S1x1024x2816 .bf16) (wd : Vec Ideal S1x2816x1024 .bf16) (n : Fin 512) (j : Fin 1024) :
    out0_10 x a s r wo w g wg wu wd (ix2 n j) =
      half (merged (fun k => x (ix2 n k)) (fun k => a (ix2 n k)) (fun k => s (ix2 n k)) (fun k => r (ix2 n k)) (fun l k => wo (ix3 0 l k)) (fun l k => w (ix3 0 l k)))
        (fun k => g (ix3 0 0 k)) (fun k i => wg (ix3 0 k i)) (fun k i => wu (ix3 0 k i)) (fun i j => wd (ix3 0 i j)) j := by
  unfold out0_10 k0_pay9
  refine (congrArg _ (whole2 (M := 512) (N := 1024) inb_S512x1024_S512x1024_0_0 n j).symm).trans ((View.canon_cons_emb r0_0 _ [] (ix2 n j)).trans ?_)
  simp only [pay1_at, pay8_at, pay7_at, pay6_at, pay5_at, pay4_at, norm_at, merge_at]
  have ef (v : Vec Ideal S512x1024 .f32) (k : Fin 1024) : View.ld v r0_0 (ix2 n k) = v (ix2 n k) := ld_whole v _ n k
  have ea (k : Fin 1024) : View.ld a r0_0 (ix2 n k) = a (ix2 n k) := ld_whole a _ n k
  have ew (v : Vec Ideal S1x1024x1024 .bf16) (l k : Fin 1024) : View.ld v r0_1 (ix3 0 l k) = v (ix3 0 l k) :=
    (ld_cols (w := 1024) v 0 _ l k).trans (congrArg (fun i => v (ix3 0 l i)) (Fin.ext (Nat.zero_add _)))
  have eg (k : Fin 1024) : View.ld g r0_2 (ix3 0 0 k) = g (ix3 0 0 k) :=
    (ld_cols (w := 1024) g 0 _ 0 k).trans (congrArg (fun i => g (ix3 0 0 i)) (Fin.ext (Nat.zero_add _)))
  have c3 (w : Vec Ideal S1x1024x2816 .bf16) (k : Fin 1024) (i : Fin 512) : View.ld w r0_3 (ix3 0 k i) = w (ix3 0 k ⟨i.val, by omega⟩) :=
    (ld_cols (w := 512) w 0 _ k i).trans (congrArg (fun i => w (ix3 0 k i)) (Fin.ext (Nat.zero_add _)))
  have c4 (i : Fin 512) : View.ld wd r0_4 (ix3 0 i j) = wd (ix3 0 ⟨i.val, by omega⟩ j) :=
    (ld_rows (w := 512) wd 0 _ i j).trans (congrArg (fun i => wd (ix3 0 i j)) (Fin.ext (Nat.zero_add _)))
  have c5 (w : Vec Ideal S1x1024x2816 .bf16) (k : Fin 1024) (i : Fin 512) : View.ld w r0_5 (ix3 0 k i) = _ := ld_cols (w := 512) w 512 _ k i
  have c6 (i : Fin 512) : View.ld wd r0_6 (ix3 0 i j) = _ := ld_rows (w := 512) wd 512 _ i j
  have c7 (w : Vec Ideal S1x1024x2816 .bf16) (k : Fin 1024) (i : Fin 512) : View.ld w r0_7 (ix3 0 k i) = _ := ld_cols (w := 512) w 1024 _ k i
  have c8 (i : Fin 512) : View.ld wd r0_8 (ix3 0 i j) = _ := ld_rows (w := 512) wd 1024 _ i j
  have c9 (w : Vec Ideal S1x1024x2816 .bf16) (k : Fin 1024) (i : Fin 512) : View.ld w r0_9 (ix3 0 k i) = _ := ld_cols (w := 512) w 1536 _ k i
  have c10 (i : Fin 512) : View.ld wd r0_10 (ix3 0 i j) = _ := ld_rows (w := 512) wd 1536 _ i j
  have c11 (w : Vec Ideal S1x1024x2816 .bf16) (k : Fin 1024) (i : Fin 512) : View.ld w r0_11 (ix3 0 k i) = _ := ld_cols (w := 512) w 2048 _ k i
  have c12 (i : Fin 512) : View.ld wd r0_12 (ix3 0 i j) = _ := ld_rows (w := 512) wd 2048 _ i j
  have c13 (w : Vec Ideal S1x1024x2816 .bf16) (k : Fin 1024) (i : Fin 256) : View.ld w r0_13 (ix3 0 k i) = _ := ld_cols (w := 256) w 2560 _ k i
  have c14 (i : Fin 256) : View.ld wd r0_14 (ix3 0 i j) = _ := ld_rows (w := 256) wd 2560 _ i j
  simp only [ef x, ef s, ef r, ea, ew wo, ew w, eg, c3 wg, c3 wu, c4, c5 wg, c5 wu, c6, c7 wg, c7 wu, c8, c9 wg, c9 wu, c10, c11 wg, c11 wu, c12, c13 wg, c13 wu, c14]
  unfold half mixed
  rw [mixed_runs]
  rfl

end Cert.Kernel2Ideal.Half
-- ==== Proof.Result2.lean ====
/- The output-and-feed-forward kernel's run ends with its result at the feed-forward half of its merged tokens, and the
   arguments as they were. -/
module

public import proofs.«01_k».proof.Proof.Tile2
public import Idealize.ShloMosaic.Lib.StableHlo.ReadAt
public import Idealize.ShloMosaic.Lib.Claim
public import Idealize.ShloMosaic.Lib.Pipeline.Covers
public import Idealize.ShloMosaic.Lib.Pipeline.ValueKit.Geometry

@[expose] public section

set_option maxRecDepth 65536

noncomputable section

namespace Cert.Kernel2Ideal.Half

open Cert.Kernel2Ideal Cert.Kernel2Ideal.Gen Cert.Swiglu
open Idealize.ShloMosaic Idealize.ShloMosaic.TcCoe

variable (m : (ℓ : Loc nD τ sig) → Buf (Elt Ideal) ℓ) (c : Dev nD)

/-- The argument arrays as launched: the tokens, the attention, its gate, the recurrent branch, the attention's
    projection, the combined projection, the norm's weights, the gate's, the linear part's, the output's. -/
def argX : Vec Ideal S2x16384x1024 .f32 := m ((c : Thread nD τ).loc main_arg0)
def argA : Vec Ideal S2x16384x1024 .bf16 := m ((c : Thread nD τ).loc main_arg1)
def argS : Vec Ideal S2x16384x1024 .f32 := m ((c : Thread nD τ).loc main_arg2)
def argR : Vec Ideal S2x16384x1024 .f32 := m ((c : Thread nD τ).loc main_arg3)
def argO : Vec Ideal S4x1024x1024 .f32 := m ((c : Thread nD τ).loc main_arg4)
def argW : Vec Ideal S4x1024x1024 .f32 := m ((c : Thread nD τ).loc main_arg5)
def argN : Vec Ideal S4x1024 .f32 := m ((c : Thread nD τ).loc main_arg6)
def argG : Vec Ideal S4x1024x2816 .f32 := m ((c : Thread nD τ).loc main_arg7)
def argU : Vec Ideal S4x1024x2816 .f32 := m ((c : Thread nD τ).loc main_arg8)
def argD : Vec Ideal S4x2816x1024 .f32 := m ((c : Thread nD τ).loc main_arg9)

/-- The operands of the launch. -/
def opX : Vec Ideal S32768x1024 .f32 := V m c main_v0
def opA : Vec Ideal S32768x1024 .bf16 := V m c main_v1
def opS : Vec Ideal S32768x1024 .f32 := V m c main_v2
def opR : Vec Ideal S32768x1024 .f32 := V m c main_v3
def opO : Vec Ideal S4x1024x1024 .bf16 := V m c main_v4
def opW : Vec Ideal S4x1024x1024 .bf16 := V m c main_v5
def opN : Vec Ideal S4x1x1024 .f32 := V m c main_v6
def opG : Vec Ideal S4x1024x2816 .bf16 := V m c main_v7
def opU : Vec Ideal S4x1024x2816 .bf16 := V m c main_v8
def opD : Vec Ideal S4x2816x1024 .bf16 := V m c main_v9

theorem opX_apply (n : Fin 32768) (k : Fin 1024) : opX m c (ix2 n k) = row (argX m c) n k := by
  unfold opX V
  after_reads_at
  rfl

theorem opA_apply (n : Fin 32768) (k : Fin 1024) : opA m c (ix2 n k) = row (argA m c) n k := by
  unfold opA V
  after_reads_at
  rfl

theorem opS_apply (n : Fin 32768) (k : Fin 1024) : opS m c (ix2 n k) = row (argS m c) n k := by
  unfold opS V
  after_reads_at
  rfl

theorem opR_apply (n : Fin 32768) (k : Fin 1024) : opR m c (ix2 n k) = row (argR m c) n k := by
  unfold opR V
  after_reads_at
  rfl

theorem opO_apply (l : Fin 4) (k i : Fin 1024) : opO m c (ix3 l k i) = argO m c (ix3 l k i) := by
  unfold opO V
  after_reads_at
  rfl

theorem opW_apply (l : Fin 4) (k i : Fin 1024) : opW m c (ix3 l k i) = argW m c (ix3 l k i) := by
  unfold opW V
  after_reads_at
  rfl

theorem opN_apply (l : Fin 4) (k : Fin 1024) : opN m c (ix3 l 0 k) = argN m c (ix2 l k) := by
  unfold opN V
  after_reads_at
  rfl

theorem opG_apply (l : Fin 4) (k : Fin 1024) (i : Fin 2816) : opG m c (ix3 l k i) = argG m c (ix3 l k i) := by
  unfold opG V
  after_reads_at
  rfl

theorem opU_apply (l : Fin 4) (k : Fin 1024) (i : Fin 2816) : opU m c (ix3 l k i) = argU m c (ix3 l k i) := by
  unfold opU V
  after_reads_at
  rfl

theorem opD_apply (l : Fin 4) (i : Fin 2816) (k : Fin 1024) : opD m c (ix3 l i k) = argD m c (ix3 l i k) := by
  unfold opD V
  after_reads_at
  rfl

/-- A grid point's number. -/
def pt (t : Fin cfg0.N) : Fin 64 := cfg0.grid.coords t 0

theorem word_of (x : ℕ) (hx : x < 64) : (BitVec.ofNat 32 x).toNat = x := by
  rw [BitVec.toNat_ofNat]; omega

/-- The token a row of a grid point's block is of. -/
def tok (t : Fin cfg0.N) (r : Fin 512) : Fin 32768 := ⟨512 * (pt t).val + r.val, by have := (pt t).isLt; omega⟩

theorem blk_x (t : Fin cfg0.N) (r : Fin 512) (k : Fin 1024) : iblk m c 0 t (ix2 r k) = row (argX m c) (tok t r) k := by
  unfold iblk
  rw [View.read_apply]
  have e : ((cfg0.win 0).blk t).view.emb (ix2 r k) = ix2 (tok t r) k := by
    refine funext fun x => Fin.ext ?_
    refine (Pipeline.Window.rect_emb_val win0_0 t _ x).trans ?_
    match x with
    | ⟨0, _⟩ => show (BitVec.ofNat 32 (pt t).val).toNat * 512 + r.val = 512 * (pt t).val + r.val; rw [word_of _ (pt t).isLt]; omega
    | ⟨1, _⟩ => show 0 * 1024 + k.val = k.val; omega
  rw [e]
  exact opX_apply m c _ _

theorem blk_a (t : Fin cfg0.N) (r : Fin 512) (k : Fin 1024) : iblk m c 1 t (ix2 r k) = row (argA m c) (tok t r) k := by
  unfold iblk
  rw [View.read_apply]
  have e : ((cfg0.win 1).blk t).view.emb (ix2 r k) = ix2 (tok t r) k := by
    refine funext fun x => Fin.ext ?_
    refine (Pipeline.Window.rect_emb_val win0_1 t _ x).trans ?_
    match x with
    | ⟨0, _⟩ => show (BitVec.ofNat 32 (pt t).val).toNat * 512 + r.val = 512 * (pt t).val + r.val; rw [word_of _ (pt t).isLt]; omega
    | ⟨1, _⟩ => show 0 * 1024 + k.val = k.val; omega
  rw [e]
  exact opA_apply m c _ _

theorem blk_s (t : Fin cfg0.N) (r : Fin 512) (k : Fin 1024) : iblk m c 2 t (ix2 r k) = row (argS m c) (tok t r) k := by
  unfold iblk
  rw [View.read_apply]
  have e : ((cfg0.win 2).blk t).view.emb (ix2 r k) = ix2 (tok t r) k := by
    refine funext fun x => Fin.ext ?_
    refine (Pipeline.Window.rect_emb_val win0_2 t _ x).trans ?_
    match x with
    | ⟨0, _⟩ => show (BitVec.ofNat 32 (pt t).val).toNat * 512 + r.val = 512 * (pt t).val + r.val; rw [word_of _ (pt t).isLt]; omega
    | ⟨1, _⟩ => show 0 * 1024 + k.val = k.val; omega
  rw [e]
  exact opS_apply m c _ _

theorem blk_r (t : Fin cfg0.N) (r : Fin 512) (k : Fin 1024) : iblk m c 3 t (ix2 r k) = row (argR m c) (tok t r) k := by
  unfold iblk
  rw [View.read_apply]
  have e : ((cfg0.win 3).blk t).view.emb (ix2 r k) = ix2 (tok t r) k := by
    refine funext fun x => Fin.ext ?_
    refine (Pipeline.Window.rect_emb_val win0_3 t _ x).trans ?_
    match x with
    | ⟨0, _⟩ => show (BitVec.ofNat 32 (pt t).val).toNat * 512 + r.val = 512 * (pt t).val + r.val; rw [word_of _ (pt t).isLt]; omega
    | ⟨1, _⟩ => show 0 * 1024 + k.val = k.val; omega
  rw [e]
  exact opR_apply m c _ _

theorem blk_o (t : Fin cfg0.N) (k i : Fin 1024) : iblk m c 4 t (ix3 0 k i) = argO m c (ix3 3 k i) := by
  unfold iblk
  rw [View.read_apply]
  have e : ((cfg0.win 4).blk t).view.emb (ix3 0 k i) = ix3 3 k i := by
    refine funext fun x => Fin.ext ?_
    refine (Pipeline.Window.rect_emb_val win0_4 t _ x).trans ?_
    match x with
    | ⟨0, _⟩ => rfl
    | ⟨1, _⟩ => show 0 * 1024 + k.val = k.val; omega
    | ⟨2, _⟩ => show 0 * 1024 + i.val = i.val; omega
  rw [e]
  exact opO_apply m c _ _ _

theorem blk_w (t : Fin cfg0.N) (k i : Fin 1024) : iblk m c 5 t (ix3 0 k i) = argW m c (ix3 3 k i) := by
  unfold iblk
  rw [View.read_apply]
  have e : ((cfg0.win 5).blk t).view.emb (ix3 0 k i) = ix3 3 k i := by
    refine funext fun x => Fin.ext ?_
    refine (Pipeline.Window.rect_emb_val win0_5 t _ x).trans ?_
    match x with
    | ⟨0, _⟩ => rfl
    | ⟨1, _⟩ => show 0 * 1024 + k.val = k.val; omega
    | ⟨2, _⟩ => show 0 * 1024 + i.val = i.val; omega
  rw [e]
  exact opW_apply m c _ _ _

theorem blk_g (t : Fin cfg0.N) (k : Fin 1024) (i : Fin 2816) : iblk m c 7 t (ix3 0 k i) = argG m c (ix3 3 k i) := by
  unfold iblk
  rw [View.read_apply]
  have e : ((cfg0.win 7).blk t).view.emb (ix3 0 k i) = ix3 3 k i := by
    refine funext fun x => Fin.ext ?_
    refine (Pipeline.Window.rect_emb_val win0_7 t _ x).trans ?_
    match x with
    | ⟨0, _⟩ => rfl
    | ⟨1, _⟩ => show 0 * 1024 + k.val = k.val; omega
    | ⟨2, _⟩ => show 0 * 2816 + i.val = i.val; omega
  rw [e]
  exact opG_apply m c _ _ _

theorem blk_u (t : Fin cfg0.N) (k : Fin 1024) (i : Fin 2816) : iblk m c 8 t (ix3 0 k i) = argU m c (ix3 3 k i) := by
  unfold iblk
  rw [View.read_apply]
  have e : ((cfg0.win 8).blk t).view.emb (ix3 0 k i) = ix3 3 k i := by
    refine funext fun x => Fin.ext ?_
    refine (Pipeline.Window.rect_emb_val win0_8 t _ x).trans ?_
    match x with
    | ⟨0, _⟩ => rfl
    | ⟨1, _⟩ => show 0 * 1024 + k.val = k.val; omega
    | ⟨2, _⟩ => show 0 * 2816 + i.val = i.val; omega
  rw [e]
  exact opU_apply m c _ _ _

theorem blk_d (t : Fin cfg0.N) (k : Fin 2816) (i : Fin 1024) : iblk m c 9 t (ix3 0 k i) = argD m c (ix3 3 k i) := by
  unfold iblk
  rw [View.read_apply]
  have e : ((cfg0.win 9).blk t).view.emb (ix3 0 k i) = ix3 3 k i := by
    refine funext fun x => Fin.ext ?_
    refine (Pipeline.Window.rect_emb_val win0_9 t _ x).trans ?_
    match x with
    | ⟨0, _⟩ => rfl
    | ⟨1, _⟩ => show 0 * 2816 + k.val = k.val; omega
    | ⟨2, _⟩ => show 0 * 1024 + i.val = i.val; omega
  rw [e]
  exact opD_apply m c _ _ _

theorem blk_n (t : Fin cfg0.N) (k : Fin 1024) : iblk m c 6 t (ix3 0 0 k) = argN m c (ix2 3 k) := by
  unfold iblk
  rw [View.read_apply]
  have e : ((cfg0.win 6).blk t).view.emb (ix3 0 0 k) = ix3 3 0 k := by
    refine funext fun x => Fin.ext ?_
    refine (Pipeline.Window.rect_emb_val win0_6 t _ x).trans ?_
    match x with
    | ⟨0, _⟩ => rfl
    | ⟨1, _⟩ => rfl
    | ⟨2, _⟩ => show 0 * 1024 + k.val = k.val; omega
  rw [e]
  exact opN_apply m c _ _

theorem blk_out (t : Fin cfg0.N) (r : Fin 512) (k : Fin 1024) : ((cfg0.win 10).blk t).view.emb (ix2 r k) = ix2 (tok t r) k := by
  refine funext fun x => Fin.ext ?_
  refine (Pipeline.Window.rect_emb_val win0_10 t _ x).trans ?_
  match x with
  | ⟨0, _⟩ => show (BitVec.ofNat 32 (pt t).val).toNat * 512 + r.val = 512 * (pt t).val + r.val; rw [word_of _ (pt t).isLt]; omega
  | ⟨1, _⟩ => show 0 * 1024 + k.val = k.val; omega

/-- The result: the feed-forward half of the merged tokens. -/
def result : Vec Ideal S32768x1024 .f32 :=
  halves (merges (row (argX m c)) (row (argA m c)) (row (argS m c)) (row (argR m c)) (argO m c) (argW m c) 3) (argN m c) (argG m c) (argU m c) (argD m c) 3

theorem block_idx (y : S512x1024.Idx) : ∃ (r : Fin 512) (k : Fin 1024), y = ix2 r k :=
  ⟨⟨(y 0).val, (y 0).isLt⟩, ⟨(y 1).val, (y 1).isLt⟩, funext fun a => Fin.ext (by
    match a with
    | ⟨0, _⟩ => rfl
    | ⟨1, _⟩ => rfl)⟩

theorem flushed_eq (t : Fin cfg0.N) :
    (dats m 0 c).flushed 10 t = ((cfg0.win 10).blk t).view.read (Elt Ideal) (result m c) := by
  funext y
  rw [Pipeline.Dat.flushed_apply, after0_10, View.read_apply]
  obtain ⟨r, k, e⟩ := block_idx y
  rw [e, blk_out]
  refine (out_at _ _ _ _ _ _ _ _ _ _ r k).trans ?_
  simp only [blk_x, blk_a, blk_s, blk_r, blk_o, blk_w, blk_n, blk_g, blk_u, blk_d]
  rfl

theorem covered (i : S32768x1024.Idx) : ∃ t : Fin cfg0.N, (cfg0.win 10).flush t = true ∧ i ∈ ((cfg0.win 10).blk t).view.set := by
  have h0 : (i 0).val < 32768 := (i 0).isLt
  have h1 : (i 1).val < 1024 := (i 1).isLt
  obtain ⟨t, ht⟩ := Pipeline.Grid.coords_surjective cfg0.grid (fun
    | ⟨0, _⟩ => (⟨(i 0).val / 512, by omega⟩ : Fin 64))
  have e0 : (pt t).val = (i 0).val / 512 := congrArg (fun x : cfg0.grid.Coords => (x 0).val) ht
  refine ⟨t, flush0_10 t, Finset.mem_map.mpr ⟨ix2 ⟨(i 0).val % 512, by omega⟩ ⟨(i 1).val, h1⟩, Finset.mem_univ _, ?_⟩⟩
  refine (blk_out t _ _).trans (funext fun a => Fin.ext ?_)
  match a with
  | ⟨0, _⟩ => show 512 * (pt t).val + (i 0).val % 512 = (i 0).val; omega
  | ⟨1, _⟩ => rfl

theorem arr_eq : (dats m 0 c).arrAt 10 cfg0.N = result m c :=
  (dats m 0 c).arrAt_eq_of_cover 10 (result m c) (fun t _ => flushed_eq m c t) covered

end Cert.Kernel2Ideal.Half
-- ==== Proof.RefHalf.lean ====
/- The feed-forward reference read at an index: the feed-forward half of every token. -/
module

public import proofs.«01_k».proof.Proof.Swiglu
public import proofs.«01_k».proof.Proof.Gen.Reference3Ideal.Run
public import Idealize.ShloMosaic.Lib.Tactic.CleanTypes

@[expose] public section

set_option maxRecDepth 65536

noncomputable section

namespace Cert.Reference3Ideal.Half

open Cert.Reference3Ideal Cert.Reference3Ideal.Value Cert.Reference3Ideal.Gen Cert.Swiglu
open Idealize.ShloMosaic Idealize.ShloMosaic.TcCoe

/-- The normed tokens. -/
def norms (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The normed tokens times a matrix. -/
def times (h : FVec Ideal S2x16384x1024 .f32) (w : FVec Ideal S1024x2816 .f32) : FVec Ideal S2x16384x2816 .f32 :=
  Host.dotGeneral dot_S2x16384x1024_S1024x2816_S2x16384x2816_2_0_01_1_n_n none h w

/-- The gate's values through their logistic. -/
def silu (g : FVec Ideal S2x16384x2816 .f32) : FVec Ideal S2x16384x2816 .f32 :=
  mulf g (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf g))))

/-- Half of the gated units' weighted sum, added to the tokens. -/
def finish (x : FVec Ideal S2x16384x1024 .f32) (g u : FVec Ideal S2x16384x2816 .f32) (w : FVec Ideal S2816x1024 .f32) : FVec Ideal S32768x1024 .f32 :=
  shapeCast _ (addf x (mulf (broadcastInDim S2x16384x1024 ![] bcast_S_S2x16384x1024 (constant S_ .f32 0x3F000000#32)) (Host.dotGeneral dot_S2x16384x2816_S2816x1024_S2x16384x1024_2_0_01_1_n_n none (mulf g u) w))) shapeCasts_S2x16384x1024_S32768x1024

theorem norms_apply (x : FVec Ideal S2x16384x1024 .f32) (g : FVec Ideal S1024 .f32) (b : Fin 2) (t : Fin 16384) (k : Fin 1024) :
    norms x g (ix3 b t k) = normed (fun k => x (ix3 b t k)) (fun k => g (ix1 k)) k := by
  unfold norms
  pointwise
  rfl

theorem times_apply (h : FVec Ideal S2x16384x1024 .f32) (w : FVec Ideal S1024x2816 .f32) (b : Fin 2) (t : Fin 16384) (i : Fin 2816) :
    times h w (ix3 b t i) = ∑ k : Fin 1024, (h (ix3 b t k) * w (ix2 k i) : EReal) := by
  unfold times
  pointwise

theorem silu_apply (g : FVec Ideal S2x16384x2816 .f32) (b : Fin 2) (t : Fin 16384) (i : Fin 2816) :
    silu g (ix3 b t i) = (g (ix3 b t i) * Ideal.logistic (g (ix3 b t i)) : EReal) := by
  unfold silu
  pointwise
  rfl

theorem finish_apply (x : Vec Ideal S2x16384x1024 .f32) (g u : FVec Ideal S2x16384x2816 .f32) (w : FVec Ideal S2816x1024 .f32) (n : Fin 32768) (j : Fin 1024) :
    finish x g u w (ix2 n j) = (row x n j + Ideal.ofBits .f32 0x3F000000#32
      * ∑ i : Fin 2816, (g (ix3 ⟨n.val / 16384, by omega⟩ ⟨n.val % 16384, by omega⟩ i) * u (ix3 ⟨n.val / 16384, by omega⟩ ⟨n.val % 16384, by omega⟩ i) * w (ix2 i j) : EReal) : EReal) := by
  unfold finish
  pointwise
  rfl

/-- The feed-forward half of the tokens, as the reference writes it. -/
def ffn (x : FVec Ideal S2x16384x1024 .f32) (g : FVec Ideal S1024 .f32) (wg wu : FVec Ideal S1024x2816 .f32) (wd : FVec Ideal S2816x1024 .f32) : FVec Ideal S32768x1024 .f32 :=
  finish x (silu (times (norms x g) wg)) (times (norms x g) wu) wd

theorem ffn_apply (x : Vec Ideal S2x16384x1024 .f32) (g : FVec Ideal S1024 .f32) (wg wu : FVec Ideal S1024x2816 .f32) (wd : FVec Ideal S2816x1024 .f32) (n : Fin 32768) (j : Fin 1024) :
    ffn x g wg wu wd (ix2 n j) = half (row x n) (fun k => g (ix1 k)) (fun k i => wg (ix2 k i)) (fun k i => wu (ix2 k i)) (fun i j => wd (ix2 i j)) j := by
  unfold ffn
  rw [finish_apply]
  simp only [silu_apply, times_apply, norms_apply]
  rfl

/-- A layer's norm weights and its matrices, cut out. -/
def norm0 (g : FVec Ideal S4x1024 .f32) : FVec Ideal S1024 .f32 :=
  shapeCast _ (extractStridedSlice S1x1024 ![0, 0] g slices_S4x1024_S1x1024_0_0) shapeCasts_S1x1024_S1024
def wide0 (w : FVec Ideal S4x1024x2816 .f32) : FVec Ideal S1024x2816 .f32 :=
  shapeCast _ (extractStridedSlice S1x1024x2816 ![0, 0, 0] w slices_S4x1024x2816_S1x1024x2816_0_0_0) shapeCasts_S1x1024x2816_S1024x2816
def tall0 (w : FVec Ideal S4x2816x1024 .f32) : FVec Ideal S2816x1024 .f32 :=
  shapeCast _ (extractStridedSlice S1x2816x1024 ![0, 0, 0] w slices_S4x2816x1024_S1x2816x1024_0_0_0) shapeCasts_S1x2816x1024_S2816x1024

theorem norm0_apply (g : FVec Ideal S4x1024 .f32) (k : Fin 1024) : norm0 g (ix1 k) = g (ix2 0 k) := by
  unfold norm0
  pointwise

theorem wide0_apply (w : FVec Ideal S4x1024x2816 .f32) (k : Fin 1024) (i : Fin 2816) : wide0 w (ix2 k i) = w (ix3 0 k i) := by
  unfold wide0
  pointwise

theorem tall0_apply (w : FVec Ideal S4x2816x1024 .f32) (i : Fin 2816) (k : Fin 1024) : tall0 w (ix2 i k) = w (ix3 0 i k) := by
  unfold tall0
  pointwise

theorem res_eq (m : (ℓ : Loc nD τ sig) → Buf (Elt Ideal) ℓ) (c : Dev nD) : res_main_v29 m c =
    ffn (m ((c.tc : Thread nD τ).loc main_arg0)) (norm0 (m ((c.tc : Thread nD τ).loc main_arg1))) (wide0 (m ((c.tc : Thread nD τ).loc main_arg2)))
      (wide0 (m ((c.tc : Thread nD τ).loc main_arg3))) (tall0 (m ((c.tc : Thread nD τ).loc main_arg4))) := rfl

/-- The reference is the feed-forward half of its tokens. -/
theorem reference_half (x : Vec Ideal S2x16384x1024 .f32) (g : FVec Ideal S4x1024 .f32) (wg wu : FVec Ideal S4x1024x2816 .f32) (wd : FVec Ideal S4x2816x1024 .f32) :
    ffn x (norm0 g) (wide0 wg) (wide0 wu) (tall0 wd) = halves (row x) g wg wu wd 0 := by
  funext i
  obtain ⟨n, j, e⟩ : ∃ (n : Fin 32768) (j : Fin 1024), i = ix2 n j :=
    ⟨⟨(i 0).val, (i 0).isLt⟩, ⟨(i 1).val, (i 1).isLt⟩, funext fun a => Fin.ext (by
      match a with
      | ⟨0, _⟩ => rfl
      | ⟨1, _⟩ => rfl)⟩
  rw [e, ffn_apply]
  simp only [norm0_apply, wide0_apply, tall0_apply]
  rfl

end Cert.Reference3Ideal.Half
-- ==== Proof.RefHalf2.lean ====
/- The output-and-feed-forward reference read at an index: the feed-forward half of every merged token. -/
module

public import proofs.«01_k».proof.Proof.RefHalf
public import proofs.«01_k».proof.Proof.Gen.Reference2Ideal.Run

@[expose] public section

set_option maxRecDepth 65536

noncomputable section

namespace Cert.Reference2Ideal.Half

open Cert.Reference2Ideal Cert.Reference2Ideal.Value Cert.Reference2Ideal.Gen Cert.Swiglu
open Idealize.ShloMosaic Idealize.ShloMosaic.TcCoe
open Cert.Reference3Ideal.Half (ffn ffn_apply)

/-- The tokens after their two branches, as the reference writes it. -/
def merge (x : FVec Ideal S2x16384x1024 .f32) (a : FVec Ideal S2x16384x1024 .bf16) (s r : FVec Ideal S2x16384x1024 .f32) (wo w : FVec Ideal S1024x1024 .f32) :
    FVec Ideal S2x16384x1024 .f32 :=
  addf x (Host.dotGeneral dot_S2x16384x1024_S1024x1024_S2x16384x1024_2_0_01_1_n_n none (addf (mulf s (Host.dotGeneral dot_S2x16384x1024_S1024x1024_S2x16384x1024_2_0_01_1_n_n none (extf .f32 a bitsLt_bf16_f32) wo)) r) w)

theorem merge_apply (x : Vec Ideal S2x16384x1024 .f32) (a : Vec Ideal S2x16384x1024 .bf16) (s r : Vec Ideal S2x16384x1024 .f32) (wo w : FVec Ideal S1024x1024 .f32)
    (n : Fin 32768) : row (φ := .f32) (merge x a s r wo w) n =
      merged (row x n) (row a n) (row s n) (row r n) (fun k j => wo (ix2 k j)) fun k j => w (ix2 k j) := by
  funext j
  unfold row merge
  pointwise
  rfl

/-- A layer's norm weights and its matrices, cut out. -/
def norm3 (g : FVec Ideal S4x1024 .f32) : FVec Ideal S1024 .f32 :=
  shapeCast _ (extractStridedSlice S1x1024 ![3, 0] g slices_S4x1024_S1x1024_3_0) shapeCasts_S1x1024_S1024
def square3 (w : FVec Ideal S4x1024x1024 .f32) : FVec Ideal S1024x1024 .f32 :=
  shapeCast _ (extractStridedSlice S1x1024x1024 ![3, 0, 0] w slices_S4x1024x1024_S1x1024x1024_3_0_0) shapeCasts_S1x1024x1024_S1024x1024
def wide3 (w : FVec Ideal S4x1024x2816 .f32) : FVec Ideal S1024x2816 .f32 :=
  shapeCast _ (extractStridedSlice S1x1024x2816 ![3, 0, 0] w slices_S4x1024x2816_S1x1024x2816_3_0_0) shapeCasts_S1x1024x2816_S1024x2816
def tall3 (w : FVec Ideal S4x2816x1024 .f32) : FVec Ideal S2816x1024 .f32 :=
  shapeCast _ (extractStridedSlice S1x2816x1024 ![3, 0, 0] w slices_S4x2816x1024_S1x2816x1024_3_0_0) shapeCasts_S1x2816x1024_S2816x1024

theorem norm3_apply (g : FVec Ideal S4x1024 .f32) (k : Fin 1024) : norm3 g (ix1 k) = g (ix2 3 k) := by
  unfold norm3
  pointwise

theorem square3_apply (w : FVec Ideal S4x1024x1024 .f32) (k i : Fin 1024) : square3 w (ix2 k i) = w (ix3 3 k i) := by
  unfold square3
  pointwise

theorem wide3_apply (w : FVec Ideal S4x1024x2816 .f32) (k : Fin 1024) (i : Fin 2816) : wide3 w (ix2 k i) = w (ix3 3 k i) := by
  unfold wide3
  pointwise

theorem tall3_apply (w : FVec Ideal S4x2816x1024 .f32) (i : Fin 2816) (k : Fin 1024) : tall3 w (ix2 i k) = w (ix3 3 i k) := by
  unfold tall3
  pointwise

theorem res_eq (m : (ℓ : Loc nD τ sig) → Buf (Elt Ideal) ℓ) (c : Dev nD) : res_main_v39 m c =
    ffn (merge (m ((c.tc : Thread nD τ).loc main_arg0)) (m ((c.tc : Thread nD τ).loc main_arg1)) (m ((c.tc : Thread nD τ).loc main_arg2))
        (m ((c.tc : Thread nD τ).loc main_arg3)) (square3 (m ((c.tc : Thread nD τ).loc main_arg4))) (square3 (m ((c.tc : Thread nD τ).loc main_arg5))))
      (norm3 (m ((c.tc : Thread nD τ).loc main_arg6))) (wide3 (m ((c.tc : Thread nD τ).loc main_arg7)))
      (wide3 (m ((c.tc : Thread nD τ).loc main_arg8))) (tall3 (m ((c.tc : Thread nD τ).loc main_arg9))) := rfl

/-- The reference is the feed-forward half of its merged tokens. -/
theorem reference_half (x : Vec Ideal S2x16384x1024 .f32) (a : Vec Ideal S2x16384x1024 .bf16) (s r : Vec Ideal S2x16384x1024 .f32)
    (wo w : FVec Ideal S4x1024x1024 .f32) (g : FVec Ideal S4x1024 .f32) (wg wu : FVec Ideal S4x1024x2816 .f32) (wd : FVec Ideal S4x2816x1024 .f32) :
    ffn (merge x a s r (square3 wo) (square3 w)) (norm3 g) (wide3 wg) (wide3 wu) (tall3 wd) =
      halves (merges (row x) (row a) (row s) (row r) wo w 3) g wg wu wd 3 := by
  funext i
  obtain ⟨n, j, e⟩ : ∃ (n : Fin 32768) (j : Fin 1024), i = ix2 n j :=
    ⟨⟨(i 0).val, (i 0).isLt⟩, ⟨(i 1).val, (i 1).isLt⟩, funext fun a => Fin.ext (by
      match a with
      | ⟨0, _⟩ => rfl
      | ⟨1, _⟩ => rfl)⟩
  rw [e, ffn_apply, merge_apply]
  simp only [norm3_apply, square3_apply, wide3_apply, tall3_apply]
  rfl

end Cert.Reference2Ideal.Half
-- ==== Proof.Tile3.lean ====
/- What a grid point of the feed-forward kernel leaves in its block, read at an entry. -/
module

public import proofs.«01_k».proof.Proof.Swiglu
public import proofs.«01_k».proof.Proof.Gen.Kernel3Ideal.Value
public import Idealize.ShloMosaic.Lib.StableHlo.ReadAt

@[expose] public section

set_option maxRecDepth 65536

noncomputable section

namespace Cert.Kernel3Ideal.Half

open Cert.Kernel3Ideal Cert.Kernel3Ideal.Gen Cert.Swiglu
open Idealize.ShloMosaic Idealize.ShloMosaic.TcCoe

/-- The normed row. -/
theorem norm_at (x : Vec Ideal S1024x1024 .f32) (g : Vec Ideal S1x1x1024 .f32) (r k : Fin 1024) :
    k0_pay3 x g (ix2 r k) = normed (fun j => x (ix2 r j)) (fun j => g (ix3 0 0 j)) k := by
  unfold k0_pay3 k0_pay2
  pointwise
  rfl

theorem pay4_at (x : Vec Ideal S1024x1024 .f32) (g : Vec Ideal S1x1x1024 .f32) (wg wu : Vec Ideal S1x1024x512 .bf16) (wd : Vec Ideal S1x512x1024 .bf16) (r j : Fin 1024) :
    k0_pay4 x g wg wu wd (ix2 r j) = ∑ i : Fin 512, gated (fun k => k0_pay3 x g (ix2 r k)) (fun k => wg (ix3 0 k i)) (fun k => wu (ix3 0 k i)) * wd (ix3 0 i j) := by
  unfold k0_pay4
  pointwise
  rfl

theorem pay9_at (h : Vec Ideal S1024x1024 .bf16) (wg wu : Vec Ideal S1x1024x256 .bf16) (wd : Vec Ideal S1x256x1024 .bf16) (r j : Fin 1024) :
    k0_pay9 h wg wu wd (ix2 r j) = ∑ i : Fin 256, gated (fun k => h (ix2 r k)) (fun k => wg (ix3 0 k i)) (fun k => wu (ix3 0 k i)) * wd (ix3 0 i j) := by
  unfold k0_pay9
  pointwise
  rfl

theorem pay5_at (x : Vec Ideal S1024x1024 .f32) (g : Vec Ideal S1x1x1024 .f32) (wg : Vec Ideal S1x1024x512 .bf16) (r : Fin 1024) (i : Fin 512) :
    k0_pay5 x g wg (ix2 r i) = ∑ k : Fin 1024, (k0_pay3 x g (ix2 r k) * wg (ix3 0 k i) : EReal) := by
  unfold k0_pay5
  pointwise

theorem pay6_at (h : Vec Ideal S1024x1024 .bf16) (a : Vec Ideal S1024x1024 .f32) (g : Vec Ideal S1024x512 .f32) (wg wu vu : Vec Ideal S1x1024x512 .bf16)
    (wd vd : Vec Ideal S1x512x1024 .bf16) (r j : Fin 1024) :
    k0_pay6 h a g vu vd wg wu wd (ix2 r j) = (a (ix2 r j)
        + ∑ i : Fin 512, g (ix2 r i) * Ideal.logistic (g (ix2 r i)) * (∑ k : Fin 1024, h (ix2 r k) * vu (ix3 0 k i)) * vd (ix3 0 i j) : EReal)
      + ∑ i : Fin 512, gated (fun k => h (ix2 r k)) (fun k => wg (ix3 0 k i)) (fun k => wu (ix3 0 k i)) * wd (ix3 0 i j) := by
  unfold k0_pay6
  pointwise
  rfl

theorem pay7_at (h : Vec Ideal S1024x1024 .bf16) (wg wu : Vec Ideal S1x1024x512 .bf16) (r : Fin 1024) (i : Fin 512) :
    k0_pay7 h wg wu (ix2 r i) = gated (fun k => h (ix2 r k)) (fun k => wg (ix3 0 k i)) (fun k => wu (ix3 0 k i)) := by
  unfold k0_pay7
  pointwise
  rfl

theorem pay8_at (h : Vec Ideal S1024x1024 .bf16) (a : Vec Ideal S1024x1024 .f32) (g : Vec Ideal S1024x512 .f32) (wg wu : Vec Ideal S1x1024x512 .bf16)
    (wd vd : Vec Ideal S1x512x1024 .bf16) (r j : Fin 1024) :
    k0_pay8 h a g vd wg wu wd (ix2 r j) = (a (ix2 r j) + ∑ i : Fin 512, g (ix2 r i) * vd (ix3 0 i j) : EReal)
      + ∑ i : Fin 512, gated (fun k => h (ix2 r k)) (fun k => wg (ix3 0 k i)) (fun k => wu (ix3 0 k i)) * wd (ix3 0 i j) := by
  unfold k0_pay8
  pointwise
  rfl

/-- The block a grid point writes: the feed-forward half of each of its rows. -/
theorem out_at (x : Vec Ideal S1024x1024 .f32) (g : Vec Ideal S1x1x1024 .f32) (wg wu : Vec Ideal S1x1024x2816 .bf16) (wd : Vec Ideal S1x2816x1024 .bf16) (r j : Fin 1024) :
    out0_5 x g wg wu wd (ix2 r j) =
      half (fun k => x (ix2 r k)) (fun k => g (ix3 0 0 k)) (fun k i => wg (ix3 0 k i)) (fun k i => wu (ix3 0 k i)) (fun i j => wd (ix3 0 i j)) j := by
  unfold out0_5 k0_pay10
  refine (congrArg _ (whole2 (M := 1024) (N := 1024) inb_S1024x1024_S1024x1024_0_0 r j).symm).trans ((View.canon_cons_emb r0_0 _ [] (ix2 r j)).trans ?_)
  unfold k0_pay1 k0_pay2
  pointwise
  simp only [pay8_at, pay6_at, pay7_at, pay5_at, pay4_at, pay9_at, norm_at]
  have ex (k : Fin 1024) : View.ld x r0_0 (ix2 r k) = x (ix2 r k) := ld_whole x _ r k
  have eg (k : Fin 1024) : View.ld g r0_1 (ix3 0 0 k) = g (ix3 0 0 k) :=
    (ld_cols (w := 1024) g 0 _ 0 k).trans (congrArg (fun i => g (ix3 0 0 i)) (Fin.ext (Nat.zero_add _)))
  have c2 (w : Vec Ideal S1x1024x2816 .bf16) (k : Fin 1024) (i : Fin 512) : View.ld w r0_2 (ix3 0 k i) = w (ix3 0 k ⟨i.val, by omega⟩) :=
    (ld_cols (w := 512) w 0 _ k i).trans (congrArg (fun i => w (ix3 0 k i)) (Fin.ext (Nat.zero_add _)))
  have c3 (i : Fin 512) : View.ld wd r0_3 (ix3 0 i j) = wd (ix3 0 ⟨i.val, by omega⟩ j) :=
    (ld_rows (w := 512) wd 0 _ i j).trans (congrArg (fun i => wd (ix3 0 i j)) (Fin.ext (Nat.zero_add _)))
  have c4 (w : Vec Ideal S1x1024x2816 .bf16) (k : Fin 1024) (i : Fin 512) : View.ld w r0_4 (ix3 0 k i) = _ := ld_cols (w := 512) w 512 _ k i
  have c5 (i : Fin 512) : View.ld wd r0_5 (ix3 0 i j) = _ := ld_rows (w := 512) wd 512 _ i j
  have c6 (w : Vec Ideal S1x1024x2816 .bf16) (k : Fin 1024) (i : Fin 512) : View.ld w r0_6 (ix3 0 k i) = _ := ld_cols (w := 512) w 1024 _ k i
  have c7 (i : Fin 512) : View.ld wd r0_7 (ix3 0 i j) = _ := ld_rows (w := 512) wd 1024 _ i j
  have c8 (w : Vec Ideal S1x1024x2816 .bf16) (k : Fin 1024) (i : Fin 512) : View.ld w r0_8 (ix3 0 k i) = _ := ld_cols (w := 512) w 1536 _ k i
  have c9 (i : Fin 512) : View.ld wd r0_9 (ix3 0 i j) = _ := ld_rows (w := 512) wd 1536 _ i j
  have c10 (w : Vec Ideal S1x1024x2816 .bf16) (k : Fin 1024) (i : Fin 512) : View.ld w r0_10 (ix3 0 k i) = _ := ld_cols (w := 512) w 2048 _ k i
  have c11 (i : Fin 512) : View.ld wd r0_11 (ix3 0 i j) = _ := ld_rows (w := 512) wd 2048 _ i j
  have c12 (w : Vec Ideal S1x1024x2816 .bf16) (k : Fin 1024) (i : Fin 256) : View.ld w r0_12 (ix3 0 k i) = _ := ld_cols (w := 256) w 2560 _ k i
  have c13 (i : Fin 256) : View.ld wd r0_13 (ix3 0 i j) = _ := ld_rows (w := 256) wd 2560 _ i j
  simp only [ex, eg, c2 wg, c2 wu, c3, c4 wg, c4 wu, c5, c6 wg, c6 wu, c7, c8 wg, c8 wu, c9, c10 wg, c10 wu, c11, c12 wg, c12 wu, c13]
  unfold half mixed
  rw [mixed_runs]
  rfl

end Cert.Kernel3Ideal.Half
-- ==== Proof.Result3.lean ====
/- The feed-forward kernel's run ends with its result at the feed-forward half of its tokens, and the arguments as they were. -/
module

public import proofs.«01_k».proof.Proof.Tile3
public import Idealize.ShloMosaic.Lib.StableHlo.ReadAt
public import Idealize.ShloMosaic.Lib.Claim
public import Idealize.ShloMosaic.Lib.Pipeline.Covers
public import Idealize.ShloMosaic.Lib.Pipeline.ValueKit.Geometry

@[expose] public section

set_option maxRecDepth 65536

noncomputable section

namespace Cert.Kernel3Ideal.Half

open Cert.Kernel3Ideal Cert.Kernel3Ideal.Gen Cert.Swiglu
open Idealize.ShloMosaic Idealize.ShloMosaic.TcCoe

variable (m : (ℓ : Loc nD τ sig) → Buf (Elt Ideal) ℓ) (c : Dev nD)

/-- The argument arrays as launched: the tokens, the norm's weights, the gate's, the linear part's, the output's. -/
def argX : Vec Ideal S2x16384x1024 .f32 := m ((c : Thread nD τ).loc main_arg0)
def argN : Vec Ideal S4x1024 .f32 := m ((c : Thread nD τ).loc main_arg1)
def argG : Vec Ideal S4x1024x2816 .f32 := m ((c : Thread nD τ).loc main_arg2)
def argU : Vec Ideal S4x1024x2816 .f32 := m ((c : Thread nD τ).loc main_arg3)
def argD : Vec Ideal S4x2816x1024 .f32 := m ((c : Thread nD τ).loc main_arg4)

/-- The operands of the launch. -/
def opX : Vec Ideal S32768x1024 .f32 := V m c main_v0
def opN : Vec Ideal S4x1x1024 .f32 := V m c main_v1
def opG : Vec Ideal S4x1024x2816 .bf16 := V m c main_v2
def opU : Vec Ideal S4x1024x2816 .bf16 := V m c main_v3
def opD : Vec Ideal S4x2816x1024 .bf16 := V m c main_v4

theorem opX_apply (n : Fin 32768) (k : Fin 1024) : opX m c (ix2 n k) = row (argX m c) n k := by
  unfold opX V
  after_reads_at
  rfl

theorem opN_apply (l : Fin 4) (k : Fin 1024) : opN m c (ix3 l 0 k) = argN m c (ix2 l k) := by
  unfold opN V
  after_reads_at
  rfl

theorem opG_apply (l : Fin 4) (k : Fin 1024) (i : Fin 2816) : opG m c (ix3 l k i) = argG m c (ix3 l k i) := by
  unfold opG V
  after_reads_at
  rfl

theorem opU_apply (l : Fin 4) (k : Fin 1024) (i : Fin 2816) : opU m c (ix3 l k i) = argU m c (ix3 l k i) := by
  unfold opU V
  after_reads_at
  rfl

theorem opD_apply (l : Fin 4) (i : Fin 2816) (k : Fin 1024) : opD m c (ix3 l i k) = argD m c (ix3 l i k) := by
  unfold opD V
  after_reads_at
  rfl

/-- A grid point's number. -/
def pt (t : Fin cfg0.N) : Fin 32 := cfg0.grid.coords t 0

theorem word_of (x : ℕ) (hx : x < 32) : (BitVec.ofNat 32 x).toNat = x := by
  rw [BitVec.toNat_ofNat]; omega

/-- The token a row of a grid point's block is of. -/
def tok (t : Fin cfg0.N) (r : Fin 1024) : Fin 32768 := ⟨1024 * (pt t).val + r.val, by have := (pt t).isLt; omega⟩

theorem blk_x (t : Fin cfg0.N) (r k : Fin 1024) : iblk m c 0 t (ix2 r k) = row (argX m c) (tok t r) k := by
  unfold iblk
  rw [View.read_apply]
  have e : ((cfg0.win 0).blk t).view.emb (ix2 r k) = ix2 (tok t r) k := by
    refine funext fun x => Fin.ext ?_
    refine (Pipeline.Window.rect_emb_val win0_0 t _ x).trans ?_
    match x with
    | ⟨0, _⟩ => show (BitVec.ofNat 32 (pt t).val).toNat * 1024 + r.val = 1024 * (pt t).val + r.val; rw [word_of _ (pt t).isLt]; omega
    | ⟨1, _⟩ => show 0 * 1024 + k.val = k.val; omega
  rw [e]
  exact opX_apply m c _ _

theorem blk_g (t : Fin cfg0.N) (k : Fin 1024) : iblk m c 1 t (ix3 0 0 k) = argN m c (ix2 0 k) := by
  unfold iblk
  rw [View.read_apply]
  have e : ((cfg0.win 1).blk t).view.emb (ix3 0 0 k) = ix3 0 0 k := by
    refine funext fun x => Fin.ext ?_
    refine (Pipeline.Window.rect_emb_val win0_1 t _ x).trans ?_
    match x with
    | ⟨0, _⟩ => rfl
    | ⟨1, _⟩ => rfl
    | ⟨2, _⟩ => show 0 * 1024 + k.val = k.val; omega
  rw [e]
  exact opN_apply m c _ _

theorem blk_wg (t : Fin cfg0.N) (k : Fin 1024) (i : Fin 2816) : iblk m c 2 t (ix3 0 k i) = argG m c (ix3 0 k i) := by
  unfold iblk
  rw [View.read_apply]
  have e : ((cfg0.win 2).blk t).view.emb (ix3 0 k i) = ix3 0 k i := by
    refine funext fun x => Fin.ext ?_
    refine (Pipeline.Window.rect_emb_val win0_2 t _ x).trans ?_
    match x with
    | ⟨0, _⟩ => rfl
    | ⟨1, _⟩ => show 0 * 1024 + k.val = k.val; omega
    | ⟨2, _⟩ => show 0 * 2816 + i.val = i.val; omega
  rw [e]
  exact opG_apply m c _ _ _

theorem blk_wu (t : Fin cfg0.N) (k : Fin 1024) (i : Fin 2816) : iblk m c 3 t (ix3 0 k i) = argU m c (ix3 0 k i) := by
  unfold iblk
  rw [View.read_apply]
  have e : ((cfg0.win 3).blk t).view.emb (ix3 0 k i) = ix3 0 k i := by
    refine funext fun x => Fin.ext ?_
    refine (Pipeline.Window.rect_emb_val win0_3 t _ x).trans ?_
    match x with
    | ⟨0, _⟩ => rfl
    | ⟨1, _⟩ => show 0 * 1024 + k.val = k.val; omega
    | ⟨2, _⟩ => show 0 * 2816 + i.val = i.val; omega
  rw [e]
  exact opU_apply m c _ _ _

theorem blk_wd (t : Fin cfg0.N) (i : Fin 2816) (k : Fin 1024) : iblk m c 4 t (ix3 0 i k) = argD m c (ix3 0 i k) := by
  unfold iblk
  rw [View.read_apply]
  have e : ((cfg0.win 4).blk t).view.emb (ix3 0 i k) = ix3 0 i k := by
    refine funext fun x => Fin.ext ?_
    refine (Pipeline.Window.rect_emb_val win0_4 t _ x).trans ?_
    match x with
    | ⟨0, _⟩ => rfl
    | ⟨1, _⟩ => show 0 * 2816 + i.val = i.val; omega
    | ⟨2, _⟩ => show 0 * 1024 + k.val = k.val; omega
  rw [e]
  exact opD_apply m c _ _ _

theorem blk_out (t : Fin cfg0.N) (r k : Fin 1024) : ((cfg0.win 5).blk t).view.emb (ix2 r k) = ix2 (tok t r) k := by
  refine funext fun x => Fin.ext ?_
  refine (Pipeline.Window.rect_emb_val win0_5 t _ x).trans ?_
  match x with
  | ⟨0, _⟩ => show (BitVec.ofNat 32 (pt t).val).toNat * 1024 + r.val = 1024 * (pt t).val + r.val; rw [word_of _ (pt t).isLt]; omega
  | ⟨1, _⟩ => show 0 * 1024 + k.val = k.val; omega

/-- The result: the feed-forward half of the tokens. -/
def result : Vec Ideal S32768x1024 .f32 := halves (row (argX m c)) (argN m c) (argG m c) (argU m c) (argD m c) 0

theorem block_idx (y : S1024x1024.Idx) : ∃ r k : Fin 1024, y = ix2 r k :=
  ⟨⟨(y 0).val, (y 0).isLt⟩, ⟨(y 1).val, (y 1).isLt⟩, funext fun a => Fin.ext (by
    match a with
    | ⟨0, _⟩ => rfl
    | ⟨1, _⟩ => rfl)⟩

theorem flushed_eq (t : Fin cfg0.N) :
    (dats m 0 c).flushed 5 t = ((cfg0.win 5).blk t).view.read (Elt Ideal) (result m c) := by
  funext y
  rw [Pipeline.Dat.flushed_apply, after0_5, View.read_apply]
  obtain ⟨r, k, e⟩ := block_idx y
  rw [e, blk_out]
  refine (out_at _ _ _ _ _ r k).trans ?_
  simp only [blk_x, blk_g, blk_wg, blk_wu, blk_wd]
  rfl

theorem covered (i : S32768x1024.Idx) : ∃ t : Fin cfg0.N, (cfg0.win 5).flush t = true ∧ i ∈ ((cfg0.win 5).blk t).view.set := by
  have h0 : (i 0).val < 32768 := (i 0).isLt
  have h1 : (i 1).val < 1024 := (i 1).isLt
  obtain ⟨t, ht⟩ := Pipeline.Grid.coords_surjective cfg0.grid (fun
    | ⟨0, _⟩ => (⟨(i 0).val / 1024, by omega⟩ : Fin 32))
  have e0 : (pt t).val = (i 0).val / 1024 := congrArg (fun x : cfg0.grid.Coords => (x 0).val) ht
  refine ⟨t, flush0_5 t, Finset.mem_map.mpr ⟨ix2 ⟨(i 0).val % 1024, by omega⟩ ⟨(i 1).val, h1⟩, Finset.mem_univ _, ?_⟩⟩
  refine (blk_out t _ _).trans (funext fun a => Fin.ext ?_)
  match a with
  | ⟨0, _⟩ => show 1024 * (pt t).val + (i 0).val % 1024 = (i 0).val; omega
  | ⟨1, _⟩ => rfl

theorem arr_eq : (dats m 0 c).arrAt 5 cfg0.N = result m c :=
  (dats m 0 c).arrAt_eq_of_cover 5 (result m c) (fun t _ => flushed_eq m c t) covered

end Cert.Kernel3Ideal.Half
-- ==== Proof.Project.lean ====
/- The attention's projections, written at one token: a column of the normed row's products, the root-mean-square norm of
   a head's columns, the logarithm of the forget gate. -/
module

public import proofs.«01_k».proof.Proof.Swiglu

@[expose] public section

noncomputable section

namespace Cert.Project

open Idealize.ShloMosaic Cert.Swiglu

/-- A column of a projection: the row's products with the column's weights, and its bias. -/
def column (h w : Fin 1024 → EReal) (b : EReal) : EReal := (∑ k, h k * w k) + b

/-- A head's columns normed, scaled by the norm's weights. -/
def headNorm (r g : Fin 128 → EReal) (d : Fin 128) : EReal :=
  r d * Ideal.rsqrt (Ideal.div (∑ j, r j * r j) (Ideal.ofBits .f32 0x43000000#32) + Ideal.ofBits .f32 0x358637BD#32) * g d

/-- A head's column among the projection's: the queries' start at column 0, the keys' at 1024, the values' at 2048. -/
def headCol (o : Fin 3) (h : Fin 8) (d : Fin 128) : Fin 7176 := ⟨1024 * o.val + 128 * h.val + d.val, by omega⟩

/-- The column of a head's forget gate. -/
def gateCol (h : Fin 8) : Fin 7176 := ⟨3072 + h.val, by omega⟩

variable (x : Vec Ideal ⟨3, ![2, 16384, 1024]⟩ .f32) (g : Vec Ideal ⟨2, ![4, 1024]⟩ .f32) (w : Vec Ideal ⟨3, ![4, 1024, 7176]⟩ .f32)
  (b : Vec Ideal ⟨2, ![4, 7176]⟩ .f32) (n : Vec Ideal ⟨2, ![4, 128]⟩ .f32)

/-- A column of a token's projection, by the first layer's weights. -/
def projected (i : Fin 2) (s : Fin 16384) (j : Fin 7176) : EReal :=
  column (normed (fun k => x (ix3 i s k)) fun k => g (ix2 0 k)) (fun k => w (ix3 0 k j)) (b (ix2 0 j))

/-- The queries' scale: one over the square root of a head's width times the logarithm of two. -/
def headScale : EReal := Ideal.div 1 (Ideal.sqrt (Ideal.ofBits .f32 0x43000000#32) * Ideal.log (Ideal.ofBits .f32 0x40000000#32))

/-- The keys: each head's columns normed, -/
def keys (o : Fin 3) : Vec Ideal ⟨4, ![2, 16384, 8, 128]⟩ .bf16 := fun i =>
  headNorm (fun d => projected x g w b ⟨(i 0).val, (i 0).isLt⟩ ⟨(i 1).val, (i 1).isLt⟩ (headCol o ⟨(i 2).val, (i 2).isLt⟩ d)) (fun d => n (ix2 0 d)) ⟨(i 3).val, (i 3).isLt⟩

/-- the queries, scaled besides, -/
def queries : Vec Ideal ⟨4, ![2, 16384, 8, 128]⟩ .bf16 := fun i => (keys x g w b n 0 i * headScale : EReal)

/-- and the values: their columns as they are. -/
def values : Vec Ideal ⟨4, ![2, 16384, 8, 128]⟩ .bf16 := fun i =>
  projected x g w b ⟨(i 0).val, (i 0).isLt⟩ ⟨(i 1).val, (i 1).isLt⟩ (headCol 2 ⟨(i 2).val, (i 2).isLt⟩ ⟨(i 3).val, (i 3).isLt⟩)

/-- The logarithm of a gate's logistic. -/
def logGate (f : EReal) : EReal := min f 0 - Ideal.log1p (Ideal.exp (0 - max f (-f)))

/-- A head's logarithm of its forget gate at a token, zero past the last token. -/
def gateAt (i : Fin 2) (h : Fin 8) (s : ℕ) : EReal := if e : s < 16384 then logGate (projected x g w b i ⟨s, e⟩ (gateCol h)) else 0

/-- The logarithms of the forget gates summed up to each token. -/
def decays : Vec Ideal ⟨3, ![2, 8, 16384]⟩ .f32 := fun i =>
  ∑ s ∈ Finset.range ((i 2).val + 1), gateAt x g w b ⟨(i 0).val, (i 0).isLt⟩ ⟨(i 1).val, (i 1).isLt⟩ s

end Cert.Project
-- ==== Proof.Tile4.lean ====
/- What a grid point of the projection kernel leaves in its blocks, read at an entry. -/
module

public import proofs.«01_k».proof.Proof.Project
public import proofs.«01_k».proof.Proof.Gen.Kernel4Ideal.Frame
public import Idealize.ShloMosaic.Lib.Pipeline.ValueKit
public import Idealize.ShloMosaic.Lib.Pipeline.ReadBack

@[expose] public section

set_option maxRecDepth 65536

noncomputable section

namespace Cert.Kernel4Ideal.Heads

open Cert.Kernel4Ideal Cert.Kernel4Ideal.Gen Cert.Swiglu Cert.Project
open Idealize.ShloMosaic Idealize.ShloMosaic.TcCoe

/-- A column of a head's part of the projected block; the queries' parts start at column 0, the keys' at 1024, the values' at 2048. -/
def part (Q : FVec Ideal S512x3072 .f32) (o : Fin 3) (h : ℕ) (hh : h < 8) (n : Fin 512) (d : Fin 128) : EReal :=
  Q (ix2 n ⟨1024 * o.val + 128 * h + d.val, by omega⟩)

theorem part_zero (Q : FVec Ideal S512x3072 .f32) (hh : 0 < 8) (n : Fin 512) (d : Fin 128) : part Q 0 0 hh n d = Q (ix2 n ⟨d.val, by omega⟩) :=
  congrArg (fun i => Q (ix2 n i)) (Fin.ext (by show 1024 * 0 + 128 * 0 + d.val = d.val; omega))

/-- A query's entry: its head's columns normed, and scaled. -/
def query (Q : FVec Ideal S512x3072 .f32) (g : Vec Ideal S1x1x128 .f32) (h : ℕ) (hh : h < 8) (n : Fin 512) (d : Fin 128) : EReal :=
  headNorm (part Q 0 h hh n) (fun j => g (ix3 0 0 j)) d * (Named.named κ "scale" 0x3E0293EE#32 : Ideal .f32)

/-- A key's entry: its head's columns normed. -/
def key (Q : FVec Ideal S512x3072 .f32) (g : Vec Ideal S1x1x128 .f32) (h : ℕ) (hh : h < 8) (n : Fin 512) (d : Fin 128) : EReal :=
  headNorm (part Q 1 h hh n) (fun j => g (ix3 0 0 j)) d

/-- A stored head read at the entry it lands on: a block of rows over tokens, -/
theorem piece5 (P : S1x1x1x128x512.Idx → EReal) (f : (h : ℕ) → h < 8 → Fin 512 → Fin 128 → EReal) (k : ℕ) (hk : k < 8)
    (hP : ∀ d n, P (ix5 0 0 0 d n) = f k hk n d) (h : Fin 8) (d : Fin 128) (n : Fin 512) (x : S1x1x1x128x512.Idx)
    (e1 : h.val = k + (x 1).val) (e3 : d.val = (x 3).val) (e4 : n.val = (x 4).val) : P x = f h.val h.isLt n d := by
  have l0 : (x 0).val < 1 := (x 0).isLt
  have l1 : (x 1).val < 1 := (x 1).isLt
  have l2 : (x 2).val < 1 := (x 2).isLt
  obtain rfl : k = h.val := by omega
  refine Eq.trans (congrArg P ?_) (hP d n)
  funext a
  refine Fin.ext ?_
  match a with
  | ⟨0, _⟩ => show (x 0).val = 0; omega
  | ⟨1, _⟩ => show (x 1).val = 0; omega
  | ⟨2, _⟩ => show (x 2).val = 0; omega
  | ⟨3, _⟩ => exact e3.symm
  | ⟨4, _⟩ => exact e4.symm

/-- and one of tokens over columns. -/
theorem piece4 (P : S1x1x512x128.Idx → EReal) (f : (h : ℕ) → h < 8 → Fin 512 → Fin 128 → EReal) (k : ℕ) (hk : k < 8)
    (hP : ∀ n d, P (ix4 0 0 n d) = f k hk n d) (h : Fin 8) (d : Fin 128) (n : Fin 512) (x : S1x1x512x128.Idx)
    (e1 : h.val = k + (x 1).val) (e2 : n.val = (x 2).val) (e3 : d.val = (x 3).val) : P x = f h.val h.isLt n d := by
  have l0 : (x 0).val < 1 := (x 0).isLt
  have l1 : (x 1).val < 1 := (x 1).isLt
  obtain rfl : k = h.val := by omega
  refine Eq.trans (congrArg P ?_) (hP n d)
  funext a
  refine Fin.ext ?_
  match a with
  | ⟨0, _⟩ => show (x 0).val = 0; omega
  | ⟨1, _⟩ => show (x 1).val = 0; omega
  | ⟨2, _⟩ => exact e2.symm
  | ⟨3, _⟩ => exact e3.symm

variable (m : (ℓ : Loc nD τ sig) → Buf (Elt Ideal) ℓ) (c : Dev nD)

/-- The projected block of a grid point, and its head norms' weights. -/
def qkv (t : Fin cfg0.N) : FVec Ideal S512x3072 .f32 := k0_pay21 (k0_pay5 (iblk m c 0 t) (iblk m c 1 t)) (iblk m c 2 t) (iblk m c 3 t)

set_option maxHeartbeats 1000000 in
/-- The block of queries. -/
theorem queries_at (t : Fin cfg0.N) (h : Fin 8) (d : Fin 128) (n : Fin 512) :
    (outsAt0 m c t.val t.isLt).1 (ix5 0 h 0 d n) = query (qkv m c t) (iblk m c 6 t) h.val h.isLt n d := by
  rcases em (t.val % 32 = 0) with h0 | h0
  all_goals
    first | rw [outsAt0_A m c t h0] | rw [outsAt0_B m c t h0]
    frame_out
    canon_tiles x hx
    · refine piece5 _ _ 7 (by omega) (fun d n => ?_) h d n x hx1 hx3 hx4
      unfold k0_pay71 k0_pay70 k0_pay69; unfold qkv; generalize (k0_pay21 _ _ _ : FVec Ideal S512x3072 .f32) = Q; pointwise; rfl
    · refine piece5 _ _ 6 (by omega) (fun d n => ?_) h d n x hx1 hx3 hx4
      unfold k0_pay62; unfold qkv; generalize (k0_pay21 _ _ _ : FVec Ideal S512x3072 .f32) = Q; pointwise; rfl
    · refine piece5 _ _ 5 (by omega) (fun d n => ?_) h d n x hx1 hx3 hx4
      unfold k0_pay56 k0_pay55; unfold qkv; generalize (k0_pay21 _ _ _ : FVec Ideal S512x3072 .f32) = Q; pointwise; rfl
    · refine piece5 _ _ 4 (by omega) (fun d n => ?_) h d n x hx1 hx3 hx4
      unfold k0_pay49; unfold qkv; generalize (k0_pay21 _ _ _ : FVec Ideal S512x3072 .f32) = Q; pointwise; rfl
    · refine piece5 _ _ 3 (by omega) (fun d n => ?_) h d n x hx1 hx3 hx4
      unfold k0_pay42; unfold qkv; generalize (k0_pay21 _ _ _ : FVec Ideal S512x3072 .f32) = Q; pointwise; rfl
    · refine piece5 _ _ 2 (by omega) (fun d n => ?_) h d n x hx1 hx3 hx4
      unfold k0_pay37 k0_pay36; unfold qkv; generalize (k0_pay21 _ _ _ : FVec Ideal S512x3072 .f32) = Q; pointwise; rfl
    · refine piece5 _ _ 1 (by omega) (fun d n => ?_) h d n x hx1 hx3 hx4
      unfold k0_pay30; unfold qkv; generalize (k0_pay21 _ _ _ : FVec Ideal S512x3072 .f32) = Q; pointwise; rfl
    · refine piece5 _ _ 0 (by omega) (fun d n => ?_) h d n x (hx1.trans (Nat.zero_add _).symm) hx3 hx4
      unfold k0_pay24 k0_pay23; unfold qkv; generalize (k0_pay21 _ _ _ : FVec Ideal S512x3072 .f32) = Q; pointwise; unfold query headNorm; simp only [part_zero]

set_option maxHeartbeats 1000000 in
/-- The block of keys, the first columns of each head. -/
theorem keys_at (t : Fin cfg0.N) (h : Fin 8) (n : Fin 512) (d : Fin 128) :
    (outsAt0 m c t.val t.isLt).2.1 (ix4 0 h n ⟨d.val, by omega⟩) = key (qkv m c t) (iblk m c 7 t) h.val h.isLt n d := by
  rcases em (t.val % 32 = 0) with h0 | h0
  all_goals
    first | rw [outsAt0_A m c t h0] | rw [outsAt0_B m c t h0]
    frame_out
    canon_tiles x hx
    all_goals first | exact absurd hx3 (by show ¬ d.val = 128 + (x 3).val; omega) | skip
    · refine piece4 _ _ 7 (by omega) (fun n d => ?_) h d n x hx1 hx2 hx3
      unfold k0_pay72; unfold qkv; generalize (k0_pay21 _ _ _ : FVec Ideal S512x3072 .f32) = Q; pointwise; rfl
    · refine piece4 _ _ 6 (by omega) (fun n d => ?_) h d n x hx1 hx2 hx3
      unfold k0_pay65 k0_pay64 k0_pay63; unfold qkv; generalize (k0_pay21 _ _ _ : FVec Ideal S512x3072 .f32) = Q; pointwise; rfl
    · refine piece4 _ _ 5 (by omega) (fun n d => ?_) h d n x hx1 hx2 hx3
      unfold k0_pay57; unfold qkv; generalize (k0_pay21 _ _ _ : FVec Ideal S512x3072 .f32) = Q; pointwise; rfl
    · refine piece4 _ _ 4 (by omega) (fun n d => ?_) h d n x hx1 hx2 hx3
      unfold k0_pay51 k0_pay50; unfold qkv; generalize (k0_pay21 _ _ _ : FVec Ideal S512x3072 .f32) = Q; pointwise; rfl
    · refine piece4 _ _ 3 (by omega) (fun n d => ?_) h d n x hx1 hx2 hx3
      unfold k0_pay45 k0_pay44 k0_pay43; unfold qkv; generalize (k0_pay21 _ _ _ : FVec Ideal S512x3072 .f32) = Q; pointwise; rfl
    · refine piece4 _ _ 2 (by omega) (fun n d => ?_) h d n x hx1 hx2 hx3
      unfold k0_pay38; unfold qkv; generalize (k0_pay21 _ _ _ : FVec Ideal S512x3072 .f32) = Q; pointwise; rfl
    · refine piece4 _ _ 1 (by omega) (fun n d => ?_) h d n x hx1 hx2 hx3
      unfold k0_pay32 k0_pay31; unfold qkv; generalize (k0_pay21 _ _ _ : FVec Ideal S512x3072 .f32) = Q; pointwise; rfl
    · refine piece4 _ _ 0 (by omega) (fun n d => ?_) h d n x (hx1.trans (Nat.zero_add _).symm) hx2 hx3
      unfold k0_pay25; unfold qkv; generalize (k0_pay21 _ _ _ : FVec Ideal S512x3072 .f32) = Q; pointwise; rfl

set_option maxHeartbeats 1000000 in
/-- The block of values, the first rows of each head. -/
theorem values_at (t : Fin cfg0.N) (h : Fin 8) (d : Fin 128) (n : Fin 512) :
    (outsAt0 m c t.val t.isLt).2.2.1 (ix5 0 h 0 ⟨d.val, by omega⟩ n) = part (qkv m c t) 2 h.val h.isLt n d := by
  rcases em (t.val % 32 = 0) with h0 | h0
  all_goals
    first | rw [outsAt0_A m c t h0] | rw [outsAt0_B m c t h0]
    frame_out
    canon_tiles x hx using (View.cover_of_tiledBy _ ![1, 1, 1, 16, 512] (by sl_kernel_rfl) _)
    all_goals first | exact absurd hx3 (by show ¬ d.val = 128 + (x 3).val; omega) | skip
    · refine piece5 _ _ 7 (by omega) (fun d n => ?_) h d n x hx1 hx3 hx4
      unfold k0_pay2; unfold qkv; generalize (k0_pay21 _ _ _ : FVec Ideal S512x3072 .f32) = Q; pointwise; rfl
    · refine piece5 _ _ 6 (by omega) (fun d n => ?_) h d n x hx1 hx3 hx4
      unfold k0_pay67; unfold qkv; generalize (k0_pay21 _ _ _ : FVec Ideal S512x3072 .f32) = Q; pointwise; rfl
    · refine piece5 _ _ 5 (by omega) (fun d n => ?_) h d n x hx1 hx3 hx4
      unfold k0_pay60 k0_pay59; unfold qkv; generalize (k0_pay21 _ _ _ : FVec Ideal S512x3072 .f32) = Q; pointwise; rfl
    · refine piece5 _ _ 4 (by omega) (fun d n => ?_) h d n x hx1 hx3 hx4
      unfold k0_pay53; unfold qkv; generalize (k0_pay21 _ _ _ : FVec Ideal S512x3072 .f32) = Q; pointwise; rfl
    · refine piece5 _ _ 3 (by omega) (fun d n => ?_) h d n x hx1 hx3 hx4
      unfold k0_pay47; unfold qkv; generalize (k0_pay21 _ _ _ : FVec Ideal S512x3072 .f32) = Q; pointwise; rfl
    · refine piece5 _ _ 2 (by omega) (fun d n => ?_) h d n x hx1 hx3 hx4
      unfold k0_pay40; unfold qkv; generalize (k0_pay21 _ _ _ : FVec Ideal S512x3072 .f32) = Q; pointwise; rfl
    · refine piece5 _ _ 1 (by omega) (fun d n => ?_) h d n x hx1 hx3 hx4
      unfold k0_pay34; unfold qkv; generalize (k0_pay21 _ _ _ : FVec Ideal S512x3072 .f32) = Q; pointwise; rfl
    · refine piece5 _ _ 0 (by omega) (fun d n => ?_) h d n x (hx1.trans (Nat.zero_add _).symm) hx3 hx4
      unfold k0_pay27; unfold qkv; generalize (k0_pay21 _ _ _ : FVec Ideal S512x3072 .f32) = Q; pointwise; rfl
end Cert.Kernel4Ideal.Heads
-- ==== Proof.Result4.lean ====
/- What the projection kernel leaves in its arrays: every token's queries, keys and values. -/
module

public import proofs.«01_k».proof.Proof.Tile4
public import proofs.«01_k».proof.Proof.Spec
public import Idealize.ShloMosaic.Lib.StableHlo.ReadAt
public import Idealize.ShloMosaic.Lib.Claim
public import Idealize.ShloMosaic.Lib.Pipeline.Covers
public import Idealize.ShloMosaic.Lib.Pipeline.ValueKit.Geometry

@[expose] public section

set_option maxRecDepth 65536

noncomputable section

namespace Cert.Kernel4Ideal.Heads

open Cert.Kernel4Ideal Cert.Kernel4Ideal.Gen Cert.Swiglu Cert.Project
open Idealize.ShloMosaic Idealize.ShloMosaic.TcCoe

variable (m : (ℓ : Loc nD τ sig) → Buf (Elt Ideal) ℓ) (c : Dev nD)

/-- The kernel's arguments. -/
def argX : Vec Ideal S2x16384x1024 .f32 := m ((c : Thread nD τ).loc main_arg0)
def argN : Vec Ideal S4x1024 .f32 := m ((c : Thread nD τ).loc main_arg1)
def argW : Vec Ideal S4x1024x7176 .f32 := m ((c : Thread nD τ).loc main_arg2)
def argB : Vec Ideal S4x7176 .f32 := m ((c : Thread nD τ).loc main_arg3)
def argG : Vec Ideal S4x128 .f32 := m ((c : Thread nD τ).loc main_arg4)
def argK : Vec Ideal S4x128 .f32 := m ((c : Thread nD τ).loc main_arg5)

theorem opN_apply (l : Fin 4) (k : Fin 1024) : V m c main_v33 (ix3 l 0 k) = argN m c (ix2 l k) := by
  unfold V
  after_reads_at
  rfl

theorem opW_apply (l : Fin 4) (k : Fin 1024) (j : Fin 3072) : V m c main_v35 (ix3 l k j) = argW m c (ix3 l k ⟨j.val, by omega⟩) := by
  unfold V
  after_reads_at
  rfl

theorem opB_apply (l : Fin 4) (j : Fin 3072) : V m c main_v37 (ix3 l 0 j) = argB m c (ix2 l ⟨j.val, by omega⟩) := by
  unfold V
  after_reads_at
  rfl

theorem opF_apply (l : Fin 4) (h : Fin 8) : V m c main_v39 (ix3 l h 0) = argB m c (ix2 l ⟨3072 + h.val, by omega⟩) := by
  unfold V
  after_reads_at
  rfl

theorem opG_apply (l : Fin 4) (d : Fin 128) : V m c main_v40 (ix3 l 0 d) = argG m c (ix2 l d) := by
  unfold V
  after_reads_at
  rfl

theorem opK_apply (l : Fin 4) (d : Fin 128) : V m c main_v41 (ix3 l 0 d) = argK m c (ix2 l d) := by
  unfold V
  after_reads_at
  rfl

/-- A grid point's batch and its tile of tokens, and the tokens in it. -/
def bt (t : Fin cfg0.N) : Fin 2 := ⟨t.val / 32, by have h : t.val < 64 := t.isLt; omega⟩
def tl (t : Fin cfg0.N) : Fin 32 := ⟨t.val % 32, by omega⟩
def tok (t : Fin cfg0.N) (n : Fin 512) : Fin 16384 := ⟨512 * (t.val % 32) + n.val, by omega⟩

theorem idx_x : ∀ t : Fin cfg0.N, win0_0.index t = ![t.val / 32, t.val % 32, 0] := by decide +kernel
theorem idx_n : ∀ t : Fin cfg0.N, win0_1.index t = ![0, 0, 0] := by decide +kernel
theorem idx_w : ∀ t : Fin cfg0.N, win0_2.index t = ![0, 0, 0] := by decide +kernel
theorem idx_b : ∀ t : Fin cfg0.N, win0_3.index t = ![0, 0, 0] := by decide +kernel
theorem idx_u : ∀ t : Fin cfg0.N, win0_4.index t = ![0, 0, 0] := by decide +kernel
theorem idx_f : ∀ t : Fin cfg0.N, win0_5.index t = ![0, 0, 0] := by decide +kernel
theorem idx_g : ∀ t : Fin cfg0.N, win0_6.index t = ![0, 0, 0] := by decide +kernel
theorem idx_k : ∀ t : Fin cfg0.N, win0_7.index t = ![0, 0, 0] := by decide +kernel
theorem idx_q : ∀ t : Fin cfg0.N, win0_9.index t = ![t.val / 32, 0, t.val % 32, 0, 0] := by decide +kernel
theorem idx_a : ∀ t : Fin cfg0.N, win0_10.index t = ![t.val / 32, 0, t.val % 32, 0] := by decide +kernel
theorem idx_v : ∀ t : Fin cfg0.N, win0_11.index t = ![t.val / 32, 0, t.val % 32, 0, 0] := by decide +kernel
theorem idx_c : ∀ t : Fin cfg0.N, win0_12.index t = ![t.val / 32, 0, t.val % 32] := by decide +kernel

theorem blkX (t : Fin cfg0.N) (n : Fin 512) (k : Fin 1024) : iblk m c 0 t (ix3 0 n k) = argX m c (ix3 (bt t) (tok t n) k) := by
  unfold argX
  rw [← V_main_arg0 m c]
  blk_ext [iblk, idx_x, bt, tok]

theorem blkN (t : Fin cfg0.N) (k : Fin 1024) : iblk m c 1 t (ix3 0 0 k) = argN m c (ix2 0 k) := by
  rw [← opN_apply]
  blk_ext [iblk, idx_n]

theorem blkW (t : Fin cfg0.N) (k : Fin 1024) (j : Fin 3072) : iblk m c 2 t (ix3 0 k j) = argW m c (ix3 0 k ⟨j.val, by omega⟩) := by
  rw [← opW_apply]
  blk_ext [iblk, idx_w]

theorem blkB (t : Fin cfg0.N) (j : Fin 3072) : iblk m c 3 t (ix3 0 0 j) = argB m c (ix2 0 ⟨j.val, by omega⟩) := by
  rw [← opB_apply]
  blk_ext [iblk, idx_b]

theorem blkF (t : Fin cfg0.N) (h : Fin 8) : iblk m c 5 t (ix3 0 h 0) = argB m c (ix2 0 ⟨3072 + h.val, by omega⟩) := by
  rw [← opF_apply]
  blk_ext [iblk, idx_f]

theorem blkG (t : Fin cfg0.N) (d : Fin 128) : iblk m c 6 t (ix3 0 0 d) = argG m c (ix2 0 d) := by
  rw [← opG_apply]
  blk_ext [iblk, idx_g]

theorem blkK (t : Fin cfg0.N) (d : Fin 128) : iblk m c 7 t (ix3 0 0 d) = argK m c (ix2 0 d) := by
  rw [← opK_apply]
  blk_ext [iblk, idx_k]

/-- The projected block: its tokens' columns. -/
theorem qkv_at (t : Fin cfg0.N) (n : Fin 512) (j : Fin 3072) :
    qkv m c t (ix2 n j) = projected (argX m c) (argN m c) (argW m c) (argB m c) (bt t) (tok t n) ⟨j.val, by omega⟩ := by
  unfold qkv k0_pay21 k0_pay5
  pointwise
  simp only [blkX, blkN, blkW, blkB]
  rfl

theorem part_at (t : Fin cfg0.N) (o : Fin 3) (h : Fin 8) (n : Fin 512) (d : Fin 128) :
    part (qkv m c t) o h.val h.isLt n d = projected (argX m c) (argN m c) (argW m c) (argB m c) (bt t) (tok t n) (headCol o h d) :=
  qkv_at m c t n _

/-- The kernel's scale is the queries'. -/
theorem named_scale : (Named.named κ "scale" 0x3E0293EE#32 : Ideal .f32) = headScale := by
  have h2 : Real.sqrt 128 ≠ 0 := (Real.sqrt_pos.mpr (by norm_num)).ne'
  have h3 : Real.log 2 ≠ 0 := (Real.log_pos (by norm_num)).ne'
  have e2 : Ideal.ofBits .f32 0x40000000#32 = ((2 : ℝ) : EReal) := by
    simp [Ideal.ofBits, Ideal.ieee]
    rw [← EReal.coe_mul]
    norm_num
  rw [show (Named.named κ "scale" 0x3E0293EE#32 : Ideal .f32) = ((((Real.sqrt 128) * (Real.log 2))⁻¹ : ℝ) : EReal) from rfl]
  unfold headScale
  rw [Online.f32_128, e2, Ideal.sqrt_coe, if_neg (by norm_num), Ideal.log_coe, if_neg (by norm_num), ← EReal.coe_mul,
    Ideal.div_coe (mul_ne_zero h2 h3), one_mul, one_div]

theorem queries_left (t : Fin cfg0.N) (h : Fin 8) (d : Fin 128) (n : Fin 512) :
    (outsAt0 m c t.val t.isLt).1 (ix5 0 h 0 d n) = queries (argX m c) (argN m c) (argW m c) (argB m c) (argG m c) (ix4 (bt t) (tok t n) h d) := by
  rw [queries_at]
  unfold query
  rw [named_scale, show part (qkv m c t) 0 h.val h.isLt n = _ from funext fun d => part_at m c t 0 h n d, show (fun j => iblk m c 6 t (ix3 0 0 j)) = _ from funext fun j => blkG m c t j]
  rfl

theorem keys_left (t : Fin cfg0.N) (h : Fin 8) (n : Fin 512) (d : Fin 128) :
    (outsAt0 m c t.val t.isLt).2.1 (ix4 0 h n ⟨d.val, by omega⟩) = keys (argX m c) (argN m c) (argW m c) (argB m c) (argK m c) 1 (ix4 (bt t) (tok t n) h d) := by
  rw [keys_at]
  unfold key
  rw [show part (qkv m c t) 1 h.val h.isLt n = _ from funext fun d => part_at m c t 1 h n d, show (fun j => iblk m c 7 t (ix3 0 0 j)) = _ from funext fun j => blkK m c t j]
  rfl

theorem values_left (t : Fin cfg0.N) (h : Fin 8) (d : Fin 128) (n : Fin 512) :
    (outsAt0 m c t.val t.isLt).2.2.1 (ix5 0 h 0 ⟨d.val, by omega⟩ n) = values (argX m c) (argN m c) (argW m c) (argB m c) (ix4 (bt t) (tok t n) h d) := by
  rw [values_at, part_at]
  rfl

/-- The token and head an entry of the queries' array holds, and of the keys', and of the values'. -/
def spotQ (i : S2x8x32x128x512.Idx) : S2x16384x8x128.Idx :=
  ix4 ⟨(i 0).val, (i 0).isLt⟩ ⟨512 * (i 2).val + (i 4).val, by have h2 : (i 2).val < 32 := (i 2).isLt; have h4 : (i 4).val < 512 := (i 4).isLt; omega⟩ ⟨(i 1).val, (i 1).isLt⟩ ⟨(i 3).val, (i 3).isLt⟩
def spotK (i : S2x8x16384x256.Idx) (hd : (i 3).val < 128) : S2x16384x8x128.Idx :=
  ix4 ⟨(i 0).val, (i 0).isLt⟩ ⟨(i 2).val, (i 2).isLt⟩ ⟨(i 1).val, (i 1).isLt⟩ ⟨(i 3).val, hd⟩
def spotV (i : S2x8x32x144x512.Idx) (hd : (i 3).val < 128) : S2x16384x8x128.Idx :=
  ix4 ⟨(i 0).val, (i 0).isLt⟩ ⟨512 * (i 2).val + (i 4).val, by have h2 : (i 2).val < 32 := (i 2).isLt; have h4 : (i 4).val < 512 := (i 4).isLt; omega⟩ ⟨(i 1).val, (i 1).isLt⟩ ⟨(i 3).val, hd⟩

/-- The array of queries, tile by tile, -/
theorem arr_q (i : S2x8x32x128x512.Idx) :
    (dats m 0 c).arrAt 9 cfg0.N i = queries (argX m c) (argN m c) (argW m c) (argB m c) (argG m c) (spotQ i) := by
  refine (dats m 0 c).arrAt_forall_of_covers 9 (fun (i : S2x8x32x128x512.Idx) v => v = queries (argX m c) (argN m c) (argW m c) (argB m c) (argG m c) (spotQ i))
    (by decide +kernel) (fun t hf y => ?_) i
  obtain ⟨h, d, n, rfl⟩ : ∃ (h : Fin 8) (d : Fin 128) (n : Fin 512), y = ix5 0 h 0 d n :=
    ⟨⟨(y 1).val, (y 1).isLt⟩, ⟨(y 3).val, (y 3).isLt⟩, ⟨(y 4).val, (y 4).isLt⟩, funext fun a => Fin.ext (by
      match a with
      | ⟨0, _⟩ => exact Nat.lt_one_iff.1 (y 0).isLt
      | ⟨1, _⟩ => rfl
      | ⟨2, _⟩ => exact Nat.lt_one_iff.1 (y 2).isLt
      | ⟨3, _⟩ => rfl
      | ⟨4, _⟩ => rfl)⟩
  unfold spotQ
  blk_simp
  rw [after0_9]
  refine (queries_left m c t h d n).trans (congrArg (queries (argX m c) (argN m c) (argW m c) (argB m c) (argG m c)) (funext fun a => Fin.ext ?_))
  have e := idx_q t
  match a with
  | ⟨0, _⟩ => show t.val / 32 = win0_9.index t 0 + 0; rw [e]; rfl
  | ⟨1, _⟩ => show 512 * (t.val % 32) + n.val = 512 * (win0_9.index t 2 + 0) + (win0_9.index t 4 * 512 + n.val); rw [e]; show _ = 512 * (t.val % 32 + 0) + (0 * 512 + n.val); omega
  | ⟨2, _⟩ => show h.val = win0_9.index t 1 * 8 + h.val; rw [e]; show _ = 0 * 8 + h.val; omega
  | ⟨3, _⟩ => show d.val = win0_9.index t 3 * 128 + d.val; rw [e]; show _ = 0 * 128 + d.val; omega

/-- the array of keys, its first columns, -/
theorem arr_k (i : S2x8x16384x256.Idx) (hd : (i 3).val < 128) :
    (dats m 0 c).arrAt 10 cfg0.N i = keys (argX m c) (argN m c) (argW m c) (argB m c) (argK m c) 1 (spotK i hd) := by
  refine ((dats m 0 c).arrAt_forall_of_covers 10 (fun (i : S2x8x16384x256.Idx) v => ∀ hd : (i 3).val < 128, v = keys (argX m c) (argN m c) (argW m c) (argB m c) (argK m c) 1 (spotK i hd))
    (by decide +kernel) (fun t hf y => ?_) i) hd
  obtain ⟨h, n, d, rfl⟩ : ∃ (h : Fin 8) (n : Fin 512) (d : Fin 256), y = ix4 0 h n d :=
    ⟨⟨(y 1).val, (y 1).isLt⟩, ⟨(y 2).val, (y 2).isLt⟩, ⟨(y 3).val, (y 3).isLt⟩, funext fun a => Fin.ext (by
      match a with
      | ⟨0, _⟩ => exact Nat.lt_one_iff.1 (y 0).isLt
      | ⟨1, _⟩ => rfl
      | ⟨2, _⟩ => rfl
      | ⟨3, _⟩ => rfl)⟩
  unfold spotK
  blk_simp
  rw [after0_10]
  intro hd
  have e := idx_a t
  have e3 : win0_10.index t 3 = 0 := by rw [e]; rfl
  have hd' : d.val < 128 := by
    have := hd
    rw [e3] at this
    omega
  refine (keys_left m c t h n ⟨d.val, hd'⟩).trans (congrArg (keys (argX m c) (argN m c) (argW m c) (argB m c) (argK m c) 1) (funext fun a => Fin.ext ?_))
  match a with
  | ⟨0, _⟩ => show t.val / 32 = win0_10.index t 0 + 0; rw [e]; rfl
  | ⟨1, _⟩ => show 512 * (t.val % 32) + n.val = win0_10.index t 2 * 512 + n.val; rw [e]; show _ = t.val % 32 * 512 + n.val; omega
  | ⟨2, _⟩ => show h.val = win0_10.index t 1 * 8 + h.val; rw [e]; show _ = 0 * 8 + h.val; omega
  | ⟨3, _⟩ => show d.val = win0_10.index t 3 * 256 + d.val; rw [e3]; omega

/-- and the array of values, its first rows, tile by tile. -/
theorem arr_v (i : S2x8x32x144x512.Idx) (hd : (i 3).val < 128) :
    (dats m 0 c).arrAt 11 cfg0.N i = values (argX m c) (argN m c) (argW m c) (argB m c) (spotV i hd) := by
  refine ((dats m 0 c).arrAt_forall_of_covers 11 (fun (i : S2x8x32x144x512.Idx) v => ∀ hd : (i 3).val < 128, v = values (argX m c) (argN m c) (argW m c) (argB m c) (spotV i hd))
    (by decide +kernel) (fun t hf y => ?_) i) hd
  obtain ⟨h, d, n, rfl⟩ : ∃ (h : Fin 8) (d : Fin 144) (n : Fin 512), y = ix5 0 h 0 d n :=
    ⟨⟨(y 1).val, (y 1).isLt⟩, ⟨(y 3).val, (y 3).isLt⟩, ⟨(y 4).val, (y 4).isLt⟩, funext fun a => Fin.ext (by
      match a with
      | ⟨0, _⟩ => exact Nat.lt_one_iff.1 (y 0).isLt
      | ⟨1, _⟩ => rfl
      | ⟨2, _⟩ => exact Nat.lt_one_iff.1 (y 2).isLt
      | ⟨3, _⟩ => rfl
      | ⟨4, _⟩ => rfl)⟩
  unfold spotV
  blk_simp
  rw [after0_11]
  intro hd
  have e := idx_v t
  have e3 : win0_11.index t 3 = 0 := by rw [e]; rfl
  have hd' : d.val < 128 := by
    have := hd
    rw [e3] at this
    omega
  refine (values_left m c t h ⟨d.val, hd'⟩ n).trans (congrArg (values (argX m c) (argN m c) (argW m c) (argB m c)) (funext fun a => Fin.ext ?_))
  match a with
  | ⟨0, _⟩ => show t.val / 32 = win0_11.index t 0 + 0; rw [e]; rfl
  | ⟨1, _⟩ => show 512 * (t.val % 32) + n.val = 512 * (win0_11.index t 2 + 0) + (win0_11.index t 4 * 512 + n.val); rw [e]; show _ = 512 * (t.val % 32 + 0) + (0 * 512 + n.val); omega
  | ⟨2, _⟩ => show h.val = win0_11.index t 1 * 8 + h.val; rw [e]; show _ = 0 * 8 + h.val; omega
  | ⟨3, _⟩ => show d.val = win0_11.index t 3 * 144 + d.val; rw [e3]; omega

/-- The values after the call and what follows it. -/
abbrev endAt (r : Ref sig .tc) := Pipeline.afterTail₀ cfgs (dats m) 0 (V0 m) [hostOps1] c r

theorem exists_ix4 (i : S2x16384x8x128.Idx) : ∃ (b : Fin 2) (s : Fin 16384) (h : Fin 8) (d : Fin 128), i = ix4 b s h d :=
  ⟨⟨(i 0).val, (i 0).isLt⟩, ⟨(i 1).val, (i 1).isLt⟩, ⟨(i 2).val, (i 2).isLt⟩, ⟨(i 3).val, (i 3).isLt⟩, funext fun a => Fin.ext (by
    match a with
    | ⟨0, _⟩ => rfl
    | ⟨1, _⟩ => rfl
    | ⟨2, _⟩ => rfl
    | ⟨3, _⟩ => rfl)⟩

theorem end_q : endAt m c main_v44 = queries (argX m c) (argN m c) (argW m c) (argB m c) (argG m c) := by
  funext i
  obtain ⟨b, s, h, d, rfl⟩ := exists_ix4 i
  unfold endAt Pipeline.afterTail₀
  simp only [List.flatten_cons, List.flatten_nil, List.append_nil]
  after_reads_at
  refine (congrFun (Pipeline.withArrays_arr (cfgs 0).spec (by decide) c (V0 m c) _ 9) _).trans ((arr_q m c _).trans ?_)
  refine congrArg (queries (argX m c) (argN m c) (argW m c) (argB m c) (argG m c)) (funext fun a => Fin.ext ?_)
  match a with
  | ⟨0, _⟩ => rfl
  | ⟨1, _⟩ => show 512 * (s.val / 512) + s.val % 512 = s.val; omega
  | ⟨2, _⟩ => rfl
  | ⟨3, _⟩ => rfl

theorem end_k : endAt m c main_v46 = keys (argX m c) (argN m c) (argW m c) (argB m c) (argK m c) 1 := by
  funext i
  obtain ⟨b, s, h, d, rfl⟩ := exists_ix4 i
  unfold endAt Pipeline.afterTail₀
  simp only [List.flatten_cons, List.flatten_nil, List.append_nil]
  after_reads_at
  refine (congrFun (Pipeline.withArrays_arr (cfgs 0).spec (by decide) c (V0 m c) _ 10) _).trans ((arr_k m c _ d.isLt).trans ?_)
  rfl

theorem end_v : endAt m c main_v49 = values (argX m c) (argN m c) (argW m c) (argB m c) := by
  funext i
  obtain ⟨b, s, h, d, rfl⟩ := exists_ix4 i
  unfold endAt Pipeline.afterTail₀
  simp only [List.flatten_cons, List.flatten_nil, List.append_nil]
  after_reads_at
  refine (congrFun (Pipeline.withArrays_arr (cfgs 0).spec (by decide) c (V0 m c) _ 11) _).trans ((arr_v m c _ d.isLt).trans ?_)
  refine congrArg (values (argX m c) (argN m c) (argW m c) (argB m c)) (funext fun a => Fin.ext ?_)
  match a with
  | ⟨0, _⟩ => rfl
  | ⟨1, _⟩ => show 512 * (s.val / 512) + s.val % 512 = s.val; omega
  | ⟨2, _⟩ => rfl
  | ⟨3, _⟩ => rfl

end Cert.Kernel4Ideal.Heads
-- ==== Proof.Running.lean ====
/- Running sums: by steps that double, each adding what lies as far back as is already summed; and as a window of the whole
   length over a row padded low. -/
module

public import proofs.«01_k».proof.Proof.Project
public import Idealize.ShloMosaic.Lib.Routing.Ops

@[expose] public section

noncomputable section

namespace Cert.Running

open Idealize.ShloMosaic

/-- The last `d` entries up to `n`, summed. -/
def back (g : ℕ → EReal) (d n : ℕ) : EReal := ∑ k ∈ Finset.range d, if k ≤ n then g (n - k) else 0

theorem back_one (g : ℕ → EReal) (n : ℕ) : back g 1 n = g n := by
  unfold back
  rw [Finset.sum_range_one, if_pos (Nat.zero_le n), Nat.sub_zero]

/-- Twice as many are those and as many from further back, where there are any. -/
theorem back_double (g : ℕ → EReal) (d n : ℕ) : back g (d + d) n = back g d n + if d ≤ n then back g d (n - d) else 0 := by
  unfold back
  rw [Finset.sum_range_add]
  congr 1
  split
  · refine Finset.sum_congr rfl fun k _ => ?_
    by_cases h : d + k ≤ n
    · rw [if_pos h, if_pos (by omega), Nat.sub_sub]
    · rw [if_neg h, if_neg (by omega)]
  · exact Finset.sum_eq_zero fun k _ => if_neg (by omega)

/-- Enough of them are all. -/
theorem back_all (g : ℕ → EReal) (d n : ℕ) (h : n < d) : back g d n = ∑ s ∈ Finset.range (n + 1), g s := by
  obtain ⟨e, rfl⟩ : ∃ e, d = (n + 1) + e := ⟨d - (n + 1), by omega⟩
  unfold back
  rw [Finset.sum_range_add, Finset.sum_eq_zero (s := Finset.range e) fun k _ => if_neg (by omega), add_zero,
    ← Finset.sum_range_reflect g (n + 1)]
  exact Finset.sum_congr rfl fun k hk => by
    have := Finset.mem_range.1 hk
    rw [if_pos (by omega)]
    congr 1

/-- A window of the whole length at `j`, over entries padded low by one less than it. -/
theorem window_sum (f : ℕ → EReal) (M j : ℕ) (hj : j ≤ M) :
    (∑ n ∈ Finset.range (M + 1), if M ≤ j + n then f (j + n - M) else 0) = ∑ s ∈ Finset.range (j + 1), f s := by
  obtain ⟨d, rfl⟩ : ∃ d, M = j + d := ⟨M - j, by omega⟩
  rw [show j + d + 1 = d + (j + 1) by omega, Finset.sum_range_add,
    Finset.sum_eq_zero (s := Finset.range d) fun n hn => if_neg (by have := Finset.mem_range.1 hn; omega), zero_add]
  refine Finset.sum_congr rfl fun n _ => ?_
  rw [if_pos (by omega)]
  congr 1
  omega

theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

theorem list_sum (f : ℕ → EReal) (K : ℕ) : ((List.range K).map f).sum = ∑ n ∈ Finset.range K, f n := by
  induction K with
  | zero => rfl
  | succ K ih => rw [List.range_succ, List.map_append, List.sum_append, ih, Finset.sum_range_succ]; simp

theorem numel3 (N : ℕ) : (⟨3, ![1, N, 1]⟩ : Shape).numel = N := by
  show ∏ a : Fin 3, (![1, N, 1] : Fin 3 → ℕ) a = N
  rw [Fin.prod_univ_three]
  show 1 * N * 1 = N
  omega

theorem symm3 {N : ℕ} (n : Fin (⟨3, ![1, N, 1]⟩ : Shape).numel) :
    (⟨3, ![1, N, 1]⟩ : Shape).rowMajor.symm n = ix3 (0 : Fin 1) (n.cast (numel3 N)) (0 : Fin 1) :=
  ((⟨3, ![1, N, 1]⟩ : Shape).rowMajor.symm_apply_eq).2 (Fin.ext (by
    rw [Shape.rowMajor_val_three]
    show n.val = (0 * N + n.val) * 1 + 0
    omega))

/-- The sums of a row's entries up to each, the row along the middle axis. -/
theorem cumsum3 {B N M H : ℕ} (hN : M + 1 = N) (x : (⟨3, ![B, N, H]⟩ : Shape).Idx → EReal) (b : Fin B) (c : Fin H) (f : ℕ → EReal)
    (hx : ∀ i : Fin N, x (ix3 b i c) = f i.val)
    (h : (⟨3, ![B, N, H]⟩ : Shape).ReduceWindows (![1, N, 1] : Fin 3 → ℕ) ![1, 1, 1] ![0, M, 0] ![0, 0, 0] ⟨3, ![B, N, H]⟩) (j : Fin N) :
    Ideal.hostReduceWindowAdd (s := ⟨3, ![B, N, H]⟩) ![1, N, 1] ![1, 1, 1] ![0, M, 0] ![0, 0, 0] h x 0 (ix3 b j c) = ∑ s ∈ Finset.range (j.val + 1), f s := by
  subst hN
  have hj := j.isLt
  have hb := b.isLt
  have hc := c.isLt
  unfold Ideal.hostReduceWindowAdd Host.reduceWindow
  refine (foldl_sum _ _ _).trans ?_
  rw [zero_add]
  refine Eq.trans (congrArg List.sum (List.map_congr_left (g := fun n => (fun k => if M ≤ j.val + k then f (j.val + k - M) else 0) n.val) fun n _ => ?_)) ?_
  · have hw0 : ((⟨3, ![1, M + 1, 1]⟩ : Shape).rowMajor.symm n 0).val = 0 := by rw [symm3]; rfl
    have hw : ((⟨3, ![1, M + 1, 1]⟩ : Shape).rowMajor.symm n 1).val = n.val := by rw [symm3]; rfl
    have hw2 : ((⟨3, ![1, M + 1, 1]⟩ : Shape).rowMajor.symm n 2).val = 0 := by rw [symm3]; rfl
    have hn : n.val < M + 1 := (n.cast (numel3 _)).isLt
    dsimp only
    split
    · next hin =>
      have h1 := hin 1
      change M ≤ j.val * 1 + ((⟨3, ![1, M + 1, 1]⟩ : Shape).rowMajor.symm n 1).val
        ∧ j.val * 1 + ((⟨3, ![1, M + 1, 1]⟩ : Shape).rowMajor.symm n 1).val - M < M + 1 at h1
      rw [hw] at h1
      rw [if_pos (by omega)]
      refine (congrArg x (funext fun a => Fin.ext ?_)).trans (hx ⟨j.val + n.val - M, by omega⟩)
      match a with
      | ⟨0, _⟩ =>
        show b.val * 1 + ((⟨3, ![1, M + 1, 1]⟩ : Shape).rowMajor.symm n 0).val - 0 = b.val
        rw [hw0]; omega
      | ⟨1, _⟩ =>
        show j.val * 1 + ((⟨3, ![1, M + 1, 1]⟩ : Shape).rowMajor.symm n 1).val - M = j.val + n.val - M
        rw [hw, Nat.mul_one]
      | ⟨2, _⟩ =>
        show c.val * 1 + ((⟨3, ![1, M + 1, 1]⟩ : Shape).rowMajor.symm n 2).val - 0 = c.val
        rw [hw2]; omega
    · next hin =>
      rw [if_neg fun hle => hin fun a => by
        match a with
        | ⟨0, _⟩ =>
          show 0 ≤ b.val * 1 + ((⟨3, ![1, M + 1, 1]⟩ : Shape).rowMajor.symm n 0).val ∧ b.val * 1 + ((⟨3, ![1, M + 1, 1]⟩ : Shape).rowMajor.symm n 0).val - 0 < B
          rw [hw0]
          omega
        | ⟨1, _⟩ =>
          show M ≤ j.val * 1 + ((⟨3, ![1, M + 1, 1]⟩ : Shape).rowMajor.symm n 1).val
            ∧ j.val * 1 + ((⟨3, ![1, M + 1, 1]⟩ : Shape).rowMajor.symm n 1).val - M < M + 1
          rw [hw]
          omega
        | ⟨2, _⟩ =>
          show 0 ≤ c.val * 1 + ((⟨3, ![1, M + 1, 1]⟩ : Shape).rowMajor.symm n 2).val ∧ c.val * 1 + ((⟨3, ![1, M + 1, 1]⟩ : Shape).rowMajor.symm n 2).val - 0 < H
          rw [hw2]
          omega]
  · rw [Routing.map_finRange_val _ (fun k => if M ≤ j.val + k then f (j.val + k - M) else 0), list_sum]
    exact (congrArg (fun K => ∑ n ∈ Finset.range K, if M ≤ j.val + n then f (j.val + n - M) else 0) (numel3 (M + 1))).trans (window_sum f M j.val (by omega))

end Cert.Running
-- ==== Proof.Gates4.lean ====
/- The sums of the forget gates' logarithms: one program sums its 512 tokens in nine doubling steps, adds what its batch row
   has so far and hands the total on. -/
module

public import proofs.«01_k».proof.Proof.Result4
public import proofs.«01_k».proof.Proof.Running
public import Idealize.ShloMosaic.Lib.Routing.OpsPair
public import Idealize.ShloMosaic.Lib.Routing.OpsSet
public import Idealize.ShloMosaic.Lib.WordCmp

@[expose] public section

set_option maxRecDepth 65536

noncomputable section

namespace Cert.Kernel4Ideal.Heads

open Cert.Kernel4Ideal Cert.Kernel4Ideal.Gen Cert.Swiglu Cert.Project Cert.Running
open Idealize.ShloMosaic Idealize.ShloMosaic.TcCoe

variable (m : (ℓ : Loc nD τ sig) → Buf (Elt Ideal) ℓ) (c : Dev nD)

/-- The rows written into the gates' padded weights land where they are. -/
theorem resultIdx_eq (l : Fin 4) (r : Fin 8) (k : Fin 1024) (u : S4x8x1024.Idx) :
    scatter_S4x16x1024_S1_S4x8x1024_012_n_1_0.resultIdx? u (broadcastInDim S1 ![] bcast_S_S1 (constantI S_ 32 0#32)) = some (ix3 l ⟨r.val, by omega⟩ k) ↔ u = ix3 l r k := by
  rw [Routing.resultIdx?_eq_some]
  have e0 : scatter_S4x16x1024_S1_S4x8x1024_012_n_1_0.start u (broadcastInDim S1 ![] bcast_S_S1 (constantI S_ 32 0#32)) 0 = 0 := rfl
  have e1 : scatter_S4x16x1024_S1_S4x8x1024_012_n_1_0.start u (broadcastInDim S1 ![] bcast_S_S1 (constantI S_ 32 0#32)) 1 = 0 := rfl
  have e2 : scatter_S4x16x1024_S1_S4x8x1024_012_n_1_0.start u (broadcastInDim S1 ![] bcast_S_S1 (constantI S_ 32 0#32)) 2 = 0 := rfl
  have w0 : scatter_S4x16x1024_S1_S4x8x1024_012_n_1_0.window u 0 = (u 0).val := rfl
  have w1 : scatter_S4x16x1024_S1_S4x8x1024_012_n_1_0.window u 1 = (u 1).val := rfl
  have w2 : scatter_S4x16x1024_S1_S4x8x1024_012_n_1_0.window u 2 = (u 2).val := rfl
  constructor
  · intro h
    have h0 := h 0
    have h1 := h 1
    have h2 := h 2
    rw [e0, w0] at h0
    rw [e1, w1] at h1
    rw [e2, w2] at h2
    change (0 : Int) + ((u 0).val : Int) = (l.val : Int) at h0
    change (0 : Int) + ((u 1).val : Int) = (r.val : Int) at h1
    change (0 : Int) + ((u 2).val : Int) = (k.val : Int) at h2
    funext a
    refine Fin.ext ?_
    match a with
    | ⟨0, _⟩ => show (u 0).val = l.val; omega
    | ⟨1, _⟩ => show (u 1).val = r.val; omega
    | ⟨2, _⟩ => show (u 2).val = k.val; omega
  · rintro rfl a
    match a with
    | ⟨0, _⟩ => exact (congrArg₂ (fun (a : Int) (b : ℕ) => a + (b : Int)) e0 w0).trans (Int.zero_add _)
    | ⟨1, _⟩ => exact (congrArg₂ (fun (a : Int) (b : ℕ) => a + (b : Int)) e1 w1).trans (Int.zero_add _)
    | ⟨2, _⟩ => exact (congrArg₂ (fun (a : Int) (b : ℕ) => a + (b : Int)) e2 w2).trans (Int.zero_add _)

theorem padded (x0 : S4x16x1024.Idx → EReal) (upd : S4x8x1024.Idx → EReal) (l : Fin 4) (r : Fin 8) (k : Fin 1024) :
    Host.scatter scatter_S4x16x1024_S1_S4x8x1024_012_n_1_0 (fun _ b => b) x0 (broadcastInDim S1 ![] bcast_S_S1 (constantI S_ 32 0#32)) upd
      (ix3 l ⟨r.val, by omega⟩ k) = upd (ix3 l r k) :=
  Routing.scatter_set_hit _ _ _ _ _ _ (fun u hu => congrArg upd ((resultIdx_eq l r k u).1 hu)) (ix3 l r k) ((resultIdx_eq l r k _).2 rfl)

/-- The forget gates' weights: the first rows of the padded operand. -/
theorem opU_apply (l : Fin 4) (r : Fin 8) (k : Fin 1024) :
    V m c main_v32 (ix3 l ⟨r.val, by omega⟩ k) = argW m c (ix3 l k ⟨3072 + r.val, by omega⟩) := by
  unfold V
  after_reads_at
  refine (padded _ _ l r k).trans ?_
  pointwise
  rfl

theorem row_read (t : Fin cfg0.N) (X : S4x16x1024.Idx → Elt Ideal .bf16) (r : Fin 16) (k : Fin 1024) :
    View.read (Elt Ideal) ((cfg0.win 4).blk t).view X (ix3 0 r k) = X (ix3 0 r k) := by
  refine congrArg X (funext fun a => Fin.ext ?_)
  have e := idx_u t
  match a with
  | ⟨0, _⟩ => show win0_4.index t 0 * 1 + 1 * 0 = 0; rw [e]; rfl
  | ⟨1, _⟩ => show win0_4.index t 1 * 16 + 1 * r.val = r.val; rw [e]; show 0 * 16 + 1 * r.val = r.val; omega
  | ⟨2, _⟩ => show win0_4.index t 2 * 1024 + 1 * k.val = k.val; rw [e]; show 0 * 1024 + 1 * k.val = k.val; omega

theorem blkU_row (t : Fin cfg0.N) (r : Fin 16) (k : Fin 1024) : iblk m c 4 t (ix3 0 r k) = V m c main_v32 (ix3 0 r k) := by
  unfold iblk
  exact row_read t (V m c main_v32) r k

theorem blkU (t : Fin cfg0.N) (r : Fin 8) (k : Fin 1024) :
    iblk m c 4 t (ix3 0 ⟨r.val, by omega⟩ k) = argW m c (ix3 0 k ⟨3072 + r.val, by omega⟩) :=
  (blkU_row m c t _ k).trans (opU_apply m c 0 r k)

/-- A token's logarithm of its forget gate, as one program computes it. -/
theorem logs_at (t : Fin cfg0.N) (h : Fin 8) (n : Fin 512) :
    k0_pay6 (iblk m c 0 t) (iblk m c 1 t) (iblk m c 4 t) (iblk m c 5 t) (ix2 h n) =
      gateAt (argX m c) (argN m c) (argW m c) (argB m c) (bt t) h (512 * (t.val % 32) + n.val) := by
  unfold gateAt
  rw [dif_pos (by have := n.isLt; omega)]
  unfold k0_pay6 k0_pay5
  pointwise
  simp only [blkX, blkN, blkU, blkF]
  rw [Finset.sum_congr rfl fun k _ => mul_comm (argW m c _) _]
  rfl

/-- A step of the running sums: what lies `d` tokens back, added. -/
def step (d : BitVec 32) (L : FVec Ideal S8x512 .f32) : FVec Ideal S8x512 .f32 :=
  addf L (select (cmpi .sge (iota Kind.tc S8x512 32 [1] iota_S8x512_d1_w32) (broadcast S8x512 d))
    (dynamicRotate 1 d none L rotates_S8x512_d1) (broadcast S8x512 (Scalar.ofBits .f32 0x00000000#32)))

theorem step_apply (e : ℕ) (he : e < 512) (L : FVec Ideal S8x512 .f32) (h : Fin 8) (n : Fin 512) :
    step (BitVec.ofNat 32 e) L (ix2 h n) = (L (ix2 h n) + (if e ≤ n.val then L (ix2 h ⟨n.val - e, by omega⟩) else 0) : EReal) := by
  unfold step
  pointwise
  have hn := n.isLt
  rw [WordCmp.cmpi_sge_ofNat (by omega) (by omega), Scalar.select_ofBool]
  simp only [decide_eq_true_eq]
  refine congrArg (fun v : EReal => L (ix2 h n) + v) ?_
  by_cases hen : e ≤ n.val
  · rw [if_pos hen, if_pos hen]
    refine congrArg (fun j => L (ix2 h j)) (Fin.ext ?_)
    show (n.val + 512 - (BitVec.ofNat 32 e).toNat % 512) % 512 = n.val - e
    rw [BitVec.toNat_ofNat]
    omega
  · rw [if_neg hen, if_neg hen]

theorem step_back (g : ℕ → EReal) (e : ℕ) (he : e < 512) (L : FVec Ideal S8x512 .f32) (h : Fin 8)
    (hL : ∀ n : Fin 512, L (ix2 h n) = back g e n.val) (n : Fin 512) : step (BitVec.ofNat 32 e) L (ix2 h n) = back g (e + e) n.val := by
  rw [step_apply e he, hL, back_double]
  refine congrArg (fun v : EReal => back g e n.val + v) ?_
  split
  · exact hL _
  · rfl

/-- The program's sums: its gates', up to each token, and what it was handed. -/
def sums (L : FVec Ideal S8x512 .f32) (p : Vec Ideal S8x1 .f32) : FVec Ideal S8x512 .f32 :=
  k0_pay10 (iota Kind.tc S8x512 32 [1] iota_S8x512_d1_w32) (k0_pay7 L (iota Kind.tc S8x512 32 [1] iota_S8x512_d1_w32))
    (k0_pay8 (iota Kind.tc S8x512 32 [1] iota_S8x512_d1_w32)) (k0_pay9 L (iota Kind.tc S8x512 32 [1] iota_S8x512_d1_w32))
    (FloatOps.ofBits FTy.f32 0#32) p

theorem sums_steps (L : FVec Ideal S8x512 .f32) (p : Vec Ideal S8x1 .f32) :
    sums L p = addf (step 256#32 (step 128#32 (step 64#32 (step 32#32 (step 16#32 (step 8#32 (step 4#32 (step 2#32 (step 1#32 L)))))))))
      (broadcastTo S8x512 p broadcasts_S8x1_S8x512) := rfl

theorem sums_apply (L : FVec Ideal S8x512 .f32) (p : Vec Ideal S8x1 .f32) (g : ℕ → EReal) (h : Fin 8)
    (hL : ∀ n : Fin 512, L (ix2 h n) = g n.val) (n : Fin 512) :
    sums L p (ix2 h n) = ((∑ s ∈ Finset.range (n.val + 1), g s) + p (ix2 h 0) : EReal) := by
  rw [sums_steps]
  have h1 := step_back g 1 (by omega) L h fun n => (hL n).trans (back_one g n.val).symm
  have h2 := step_back g 2 (by omega) _ h h1
  have h3 := step_back g 4 (by omega) _ h h2
  have h4 := step_back g 8 (by omega) _ h h3
  have h5 := step_back g 16 (by omega) _ h h4
  have h6 := step_back g 32 (by omega) _ h h5
  have h7 := step_back g 64 (by omega) _ h h6
  have h8 := step_back g 128 (by omega) _ h h7
  have h9 := step_back g 256 (by omega) _ h h8 n
  rw [back_all g _ _ (by have := n.isLt; omega)] at h9
  pointwise
  exact congrArg (fun v : EReal => v + p (ix2 h 0)) h9

/-- What a program sums, and what it was handed: the sum of its batch row's earlier gates. -/
theorem sums_at (t : Fin cfg0.N) (p : Vec Ideal S8x1 .f32) (h : Fin 8)
    (hp : p (ix2 h 0) = ∑ s ∈ Finset.range (512 * (t.val % 32)), gateAt (argX m c) (argN m c) (argW m c) (argB m c) (bt t) h s) (n : Fin 512) :
    sums (k0_pay6 (iblk m c 0 t) (iblk m c 1 t) (iblk m c 4 t) (iblk m c 5 t)) p (ix2 h n) =
      ∑ s ∈ Finset.range (512 * (t.val % 32) + n.val + 1), gateAt (argX m c) (argN m c) (argW m c) (argB m c) (bt t) h s := by
  rw [sums_apply _ p (fun s => gateAt (argX m c) (argN m c) (argW m c) (argB m c) (bt t) h (512 * (t.val % 32) + s)) h (fun n => logs_at m c t h n), hp,
    show 512 * (t.val % 32) + n.val + 1 = 512 * (t.val % 32) + (n.val + 1) by omega, Finset.sum_range_add _ (512 * (t.val % 32))]
  exact add_comm (G := EReal) _ _

theorem pay11_apply (i : IVec S8x512 32) (a : FVec Ideal S8x512 .f32) (b : IVec S8x512 1) (d : FVec Ideal S8x512 .f32) (z : Ideal .f32) (p : Vec Ideal S8x1 .f32)
    (h : Fin 8) (l : Fin 128) : k0_pay11 i a b d z p (ix2 h l) = k0_pay10 i a b d z p (ix2 h 511) := by
  unfold k0_pay11
  pointwise

theorem pay12_apply (i : IVec S8x512 32) (a : FVec Ideal S8x512 .f32) (b : IVec S8x512 1) (d : FVec Ideal S8x512 .f32) (z : Ideal .f32) (p : Vec Ideal S8x1 .f32)
    (h : Fin 8) (n : Fin 512) : k0_pay12 i a b d z p (ix3 0 h n) = k0_pay10 i a b d z p (ix2 h n) := by
  unfold k0_pay12
  pointwise

/-- The block of sums and the total handed on, from what was handed in: nothing at a batch row's first tile, -/
theorem left_A (t : Fin cfg0.N) (h0 : t.val % 32 = 0) :
    ∃ p : Vec Ideal S8x1 .f32, (∀ h, p (ix2 h 0) = 0) ∧
      (∀ (h : Fin 8) (n : Fin 512), (outsAt0 m c t.val t.isLt).2.2.2.1 (ix3 0 h n) = sums (k0_pay6 (iblk m c 0 t) (iblk m c 1 t) (iblk m c 4 t) (iblk m c 5 t)) p (ix2 h n)) ∧
      ∀ (h : Fin 8) (l : Fin 128), (outsAt0 m c t.val t.isLt).2.2.2.2 (ix2 h l) = sums (k0_pay6 (iblk m c 0 t) (iblk m c 1 t) (iblk m c 4 t) (iblk m c 5 t)) p (ix2 h 511) := by
  refine ⟨fun _ => (0 : EReal), fun h => rfl, fun h n => ?_, fun h l => ?_⟩
  · rw [outsAt0_A m c t h0]
    frame_out
    refine (pay12_apply _ _ _ _ _ _ h n).trans (congrArg (fun p => sums _ p (ix2 h n)) ?_)
    rw [View.readCov_fill _ _ _ _ _ (by decide)]
    funext i
    exact Ideal.ofBits_zero_f32
  · rw [outsAt0_A m c t h0]
    frame_out
    refine (pay11_apply _ _ _ _ _ _ h l).trans (congrArg (fun p => sums _ p (ix2 h 511)) ?_)
    rw [View.readCov_fill _ _ _ _ _ (by decide)]
    funext i
    exact Ideal.ofBits_zero_f32

/-- the total so far, elsewhere. -/
theorem left_B (t : Fin cfg0.N) (h0 : ¬t.val % 32 = 0) :
    ∃ p : Vec Ideal S8x1 .f32, (∀ h, p (ix2 h 0) = (outsAt0 m c (t.val - 1) (by omega)).2.2.2.2 (ix2 h 0)) ∧
      (∀ (h : Fin 8) (n : Fin 512), (outsAt0 m c t.val t.isLt).2.2.2.1 (ix3 0 h n) = sums (k0_pay6 (iblk m c 0 t) (iblk m c 1 t) (iblk m c 4 t) (iblk m c 5 t)) p (ix2 h n)) ∧
      ∀ (h : Fin 8) (l : Fin 128), (outsAt0 m c t.val t.isLt).2.2.2.2 (ix2 h l) = sums (k0_pay6 (iblk m c 0 t) (iblk m c 1 t) (iblk m c 4 t) (iblk m c 5 t)) p (ix2 h 511) := by
  refine ⟨View.ld (outsAt0 m c (t.val - 1) (by omega)).2.2.2.2 (Rect.unit ![0, 0] ![8, 1] inb_S8x128_S8x1_0_0), fun h => ?_, fun h n => ?_, fun h l => ?_⟩
  · refine congrArg (outsAt0 m c (t.val - 1) (by omega)).2.2.2.2 (funext fun a => Fin.ext ?_)
    match a with
    | ⟨0, _⟩ => show 0 + 1 * h.val = h.val; omega
    | ⟨1, _⟩ => rfl
  · rw [outsAt0_B m c t h0]
    frame_out
    refine (pay12_apply _ _ _ _ _ _ h n).trans ?_
    rw [read_unread_whole]
    rfl
  · rw [outsAt0_B m c t h0]
    frame_out
    refine (pay11_apply _ _ _ _ _ _ h l).trans ?_
    rw [read_unread_whole]
    rfl

/-- The logarithm of a forget gate of the arguments, by batch row and head. -/
abbrev gate (b : Fin 2) (h : Fin 8) (s : ℕ) : EReal := gateAt (argX m c) (argN m c) (argW m c) (argB m c) b h s

/-- A program's block and total, its batch row's total so far handed to it. -/
theorem left_of (t : Fin cfg0.N) (ih : ¬t.val % 32 = 0 → ∀ h : Fin 8, (outsAt0 m c (t.val - 1) (by omega)).2.2.2.2 (ix2 h 0) =
      ∑ s ∈ Finset.range (512 * (t.val % 32)), gate m c (bt t) h s) :
    (∀ (h : Fin 8) (n : Fin 512), (outsAt0 m c t.val t.isLt).2.2.2.1 (ix3 0 h n) = ∑ s ∈ Finset.range (512 * (t.val % 32) + n.val + 1), gate m c (bt t) h s) ∧
      ∀ (h : Fin 8) (l : Fin 128), (outsAt0 m c t.val t.isLt).2.2.2.2 (ix2 h l) = ∑ s ∈ Finset.range (512 * (t.val % 32) + 512), gate m c (bt t) h s := by
  by_cases h0 : t.val % 32 = 0
  · obtain ⟨p, hp, hc, hs⟩ := left_A m c t h0
    have hp' (h : Fin 8) : p (ix2 h 0) = ∑ s ∈ Finset.range (512 * (t.val % 32)), gate m c (bt t) h s := by
      rw [hp, h0, Nat.mul_zero, Finset.sum_range_zero]
    exact ⟨fun h n => (hc h n).trans (sums_at m c t p h (hp' h) n), fun h l => (hs h l).trans (sums_at m c t p h (hp' h) 511)⟩
  · obtain ⟨p, hp, hc, hs⟩ := left_B m c t h0
    have hp' (h : Fin 8) : p (ix2 h 0) = ∑ s ∈ Finset.range (512 * (t.val % 32)), gate m c (bt t) h s := (hp h).trans (ih h0 h)
    exact ⟨fun h n => (hc h n).trans (sums_at m c t p h (hp' h) n), fun h l => (hs h l).trans (sums_at m c t p h (hp' h) 511)⟩

theorem total_at (k : ℕ) : ∀ (hk : k < cfg0.N) (h : Fin 8) (l : Fin 128),
    (outsAt0 m c k hk).2.2.2.2 (ix2 h l) = ∑ s ∈ Finset.range (512 * (k % 32) + 512), gate m c (bt ⟨k, hk⟩) h s := by
  induction k with
  | zero => exact fun hk h l => (left_of m c ⟨0, hk⟩ fun hne => absurd rfl hne).2 h l
  | succ k ih =>
    intro hk h l
    refine (left_of m c ⟨k + 1, hk⟩ fun hne h => (ih (by omega) h 0).trans ?_).2 h l
    change ¬(k + 1) % 32 = 0 at hne
    show _ = ∑ s ∈ Finset.range (512 * ((k + 1) % 32)), gate m c (bt ⟨k + 1, hk⟩) h s
    rw [show 512 * (k % 32) + 512 = 512 * ((k + 1) % 32) by omega,
      show bt ⟨k, by omega⟩ = bt ⟨k + 1, hk⟩ from Fin.ext (show k / 32 = (k + 1) / 32 by omega)]

/-- A program's block of sums. -/
theorem sums_left (t : Fin cfg0.N) (h : Fin 8) (n : Fin 512) :
    (outsAt0 m c t.val t.isLt).2.2.2.1 (ix3 0 h n) = decays (argX m c) (argN m c) (argW m c) (argB m c) (ix3 (bt t) h (tok t n)) := by
  refine ((left_of m c t fun hne h => (total_at m c (t.val - 1) (by omega) h 0).trans ?_).1 h n).trans rfl
  rw [show 512 * ((t.val - 1) % 32) + 512 = 512 * (t.val % 32) by omega,
    show bt ⟨t.val - 1, by omega⟩ = bt t from Fin.ext (show (t.val - 1) / 32 = t.val / 32 by omega)]

/-- The array of sums. -/
theorem arr_c : (dats m 0 c).arrAt 12 cfg0.N = decays (argX m c) (argN m c) (argW m c) (argB m c) := by
  funext i
  refine (dats m 0 c).arrAt_forall_of_covers 12 (fun (i : S2x8x16384.Idx) v => v = decays (argX m c) (argN m c) (argW m c) (argB m c) i)
    (by decide +kernel) (fun t hf y => ?_) i
  obtain ⟨h, n, rfl⟩ : ∃ (h : Fin 8) (n : Fin 512), y = ix3 0 h n :=
    ⟨⟨(y 1).val, (y 1).isLt⟩, ⟨(y 2).val, (y 2).isLt⟩, funext fun a => Fin.ext (by
      match a with
      | ⟨0, _⟩ => exact Nat.lt_one_iff.1 (y 0).isLt
      | ⟨1, _⟩ => rfl
      | ⟨2, _⟩ => rfl)⟩
  rw [after0_12]
  refine (sums_left m c t h n).trans (congrArg (decays (argX m c) (argN m c) (argW m c) (argB m c)) (funext fun a => Fin.ext ?_))
  have e := idx_c t
  match a with
  | ⟨0, _⟩ => show t.val / 32 = win0_12.index t 0 * 1 + 1 * 0; rw [e]; show _ = t.val / 32 * 1 + 1 * 0; omega
  | ⟨1, _⟩ => show h.val = win0_12.index t 1 * 8 + 1 * h.val; rw [e]; show _ = 0 * 8 + 1 * h.val; omega
  | ⟨2, _⟩ => show 512 * (t.val % 32) + n.val = win0_12.index t 2 * 512 + 1 * n.val; rw [e]; show _ = t.val % 32 * 512 + 1 * n.val; omega

/-- The run: queries, keys, values and sums of the forget gates' logarithms, the arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v44) = queries (argX m c) (argN m c) (argW m c) (argB m c) (argG m c)
      ∧ r.2.mem ((c.tc : Thread nD τ).loc main_v46) = keys (argX m c) (argN m c) (argW m c) (argB m c) (argK m c) 1
      ∧ r.2.mem ((c.tc : Thread nD τ).loc main_v49) = values (argX m c) (argN m c) (argW m c) (argB m c)
      ∧ r.2.mem ((c.tc : Thread nD τ).loc main_v42_3) = decays (argX m c) (argN m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).2 main_v44 (Pipeline.mem_restRefs_of main_v44 (by decide) (by decide))).trans (end_q m c),
      ((h.1 c).2 main_v46 (Pipeline.mem_restRefs_of main_v46 (by decide) (by decide))).trans (end_k m c),
      ((h.1 c).2 main_v49 (Pipeline.mem_restRefs_of main_v49 (by decide) (by decide))).trans (end_v m c),
      ((h.1 c).1 12).trans (arr_c m c), h.2 c⟩)
    (θ_run_and (Gen.run_main m ρ) (Gen.unchanged m ρ))

end Cert.Kernel4Ideal.Heads
-- ==== Proof.RefProject.lean ====
/- The projection's reference read at an index: the queries, the keys, the values, and the summed forget gates of every token. -/
module

public import proofs.«01_k».proof.Proof.Running
public import proofs.«01_k».proof.Proof.Gen.Reference4Ideal.Run
public import Idealize.ShloMosaic.Lib.Tactic.CleanTypes

@[expose] public section

set_option maxRecDepth 65536

noncomputable section

namespace Cert.Reference4Ideal.Heads

open Cert.Reference4Ideal Cert.Reference4Ideal.Value Cert.Reference4Ideal.Gen Cert.Swiglu Cert.Project Cert.Running
open Idealize.ShloMosaic Idealize.ShloMosaic.TcCoe

/-- The normed tokens. -/
def norms (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The normed tokens' projection, the attention's columns of it. -/
def proj (h : FVec Ideal S2x16384x1024 .f32) (w : FVec Ideal S1024x7176 .f32) (b : FVec Ideal S7176 .f32) : FVec Ideal S2x16384x3080 .f32 :=
  extractStridedSlice S2x16384x3080 ![0, 0, 0] (addf (Host.dotGeneral dot_S2x16384x1024_S1024x7176_S2x16384x7176_2_0_01_1_n_n none h w) (broadcastInDim S2x16384x7176 ![0, 1, 2] bcast_S1x1x7176_S2x16384x7176_0_1_2 (broadcastInDim S1x1x7176 ![2] bcast_S7176_S1x1x7176_2 b))) slices_S2x16384x7176_S2x16384x3080_0_0_0

/-- The columns of the queries, of the keys, of the values, by heads. -/
def headsQ (p : FVec Ideal S2x16384x3080 .f32) : FVec Ideal S2x16384x8x128 .f32 :=
  shapeCast _ (extractStridedSlice S2x16384x1024 ![0, 0, 0] p slices_S2x16384x3080_S2x16384x1024_0_0_0) shapeCasts_S2x16384x1024_S2x16384x8x128
def headsK (p : FVec Ideal S2x16384x3080 .f32) : FVec Ideal S2x16384x8x128 .f32 :=
  shapeCast _ (extractStridedSlice S2x16384x1024 ![0, 0, 1024] p slices_S2x16384x3080_S2x16384x1024_0_0_1024) shapeCasts_S2x16384x1024_S2x16384x8x128
def headsV (p : FVec Ideal S2x16384x3080 .f32) : FVec Ideal S2x16384x8x128 .f32 :=
  shapeCast _ (extractStridedSlice S2x16384x1024 ![0, 0, 2048] p slices_S2x16384x3080_S2x16384x1024_0_0_2048) shapeCasts_S2x16384x1024_S2x16384x8x128

/-- A head's columns normed. -/
def hnorm (r : FVec Ideal S2x16384x8x128 .f32) (g : FVec Ideal S128 .f32) : FVec Ideal S2x16384x8x128 .f32 :=
  mulf (mulf r (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf r r) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 g))

/-- The queries' scale. -/
def scaled (r : FVec Ideal S2x16384x8x128 .f32) : FVec Ideal S2x16384x8x128 .f32 :=
  mulf r (broadcastInDim S2x16384x8x128 ![] bcast_S_S2x16384x8x128 (Host.divf (constant S_ .f32 0x3F800000#32) (mulf (Host.sqrt (constant S_ .f32 0x43000000#32)) (Host.log (constant S_ .f32 0x40000000#32)))))

/-- The forget gates' columns, -/
def gates (p : FVec Ideal S2x16384x3080 .f32) : FVec Ideal S2x16384x8 .f32 :=
  extractStridedSlice S2x16384x8 ![0, 0, 3072] p slices_S2x16384x3080_S2x16384x8_0_0_3072

/-- their logarithms, -/
def logs (f : FVec Ideal S2x16384x8 .f32) : FVec Ideal S2x16384x8 .f32 :=
  Host.negf (select (cmpf .une (subf (Host.negf f) (broadcastInDim S2x16384x8 ![] bcast_S_S2x16384x8 (constant S_ .f32 0x00000000#32))) (subf (Host.negf f) (broadcastInDim S2x16384x8 ![] bcast_S_S2x16384x8 (constant S_ .f32 0x00000000#32))))
    (addf (Host.negf f) (broadcastInDim S2x16384x8 ![] bcast_S_S2x16384x8 (constant S_ .f32 0x00000000#32)))
    (addf (maximumf (Host.negf f) (broadcastInDim S2x16384x8 ![] bcast_S_S2x16384x8 (constant S_ .f32 0x00000000#32))) (Host.log1p (Host.exp (Host.negf (Host.absf (subf (Host.negf f) (broadcastInDim S2x16384x8 ![] bcast_S_S2x16384x8 (constant S_ .f32 0x00000000#32)))))))))

/-- and their running sums, laid out by head. -/
def running (f : FVec Ideal S2x16384x8 .f32) : FVec Ideal S2x8x16384 .f32 :=
  transpose S2x8x16384 [0, 2, 1] (Host.reduceWindowAdd ![1, 16384, 1] ![1, 1, 1] ![0, 16383, 0] ![0, 0, 0] f (broadcastInDim S_ ![] bcast_S_S_ (constant S_ .f32 0x00000000#32)) reduceWindows_S2x16384x8_S2x16384x8_w1s1p0_0_w16384s1p16383_0_w1s1p0_0 h_S_) transposes_S2x16384x8_S2x8x16384_0_2_1

theorem norms_apply (x : FVec Ideal S2x16384x1024 .f32) (g : FVec Ideal S1024 .f32) (b : Fin 2) (t : Fin 16384) (k : Fin 1024) :
    norms x g (ix3 b t k) = normed (fun k => x (ix3 b t k)) (fun k => g (ix1 k)) k := by
  unfold norms
  pointwise
  rfl

theorem proj_apply (h : FVec Ideal S2x16384x1024 .f32) (w : FVec Ideal S1024x7176 .f32) (v : FVec Ideal S7176 .f32) (b : Fin 2) (t : Fin 16384) (j : Fin 3080) :
    proj h w v (ix3 b t j) = column (fun k => h (ix3 b t k)) (fun k => w (ix2 k ⟨j.val, by omega⟩)) (v (ix1 ⟨j.val, by omega⟩)) := by
  unfold proj
  pointwise
  rfl

theorem headsQ_apply (p : FVec Ideal S2x16384x3080 .f32) (b : Fin 2) (t : Fin 16384) (h : Fin 8) (d : Fin 128) :
    headsQ p (ix4 b t h d) = p (ix3 b t ⟨1024 * 0 + 128 * h.val + d.val, by omega⟩) := by
  unfold headsQ
  pointwise
  exact congrArg (fun i => p (ix3 b t i)) (Fin.ext (by dsimp only; omega))

theorem headsK_apply (p : FVec Ideal S2x16384x3080 .f32) (b : Fin 2) (t : Fin 16384) (h : Fin 8) (d : Fin 128) :
    headsK p (ix4 b t h d) = p (ix3 b t ⟨1024 * 1 + 128 * h.val + d.val, by omega⟩) := by
  unfold headsK
  pointwise
  exact congrArg (fun i => p (ix3 b t i)) (Fin.ext (by dsimp only; omega))

theorem headsV_apply (p : FVec Ideal S2x16384x3080 .f32) (b : Fin 2) (t : Fin 16384) (h : Fin 8) (d : Fin 128) :
    headsV p (ix4 b t h d) = p (ix3 b t ⟨1024 * 2 + 128 * h.val + d.val, by omega⟩) := by
  unfold headsV
  pointwise
  exact congrArg (fun i => p (ix3 b t i)) (Fin.ext (by dsimp only; omega))

theorem hnorm_apply (r : FVec Ideal S2x16384x8x128 .f32) (g : FVec Ideal S128 .f32) (b : Fin 2) (t : Fin 16384) (h : Fin 8) (d : Fin 128) :
    hnorm r g (ix4 b t h d) = headNorm (fun d => r (ix4 b t h d)) (fun d => g (ix1 d)) d := by
  unfold hnorm
  pointwise
  rfl

theorem scaled_apply (r : FVec Ideal S2x16384x8x128 .f32) (b : Fin 2) (t : Fin 16384) (h : Fin 8) (d : Fin 128) :
    scaled r (ix4 b t h d) = (r (ix4 b t h d) * headScale : EReal) := by
  unfold scaled
  pointwise
  rfl

theorem gates_apply (p : FVec Ideal S2x16384x3080 .f32) (b : Fin 2) (t : Fin 16384) (h : Fin 8) :
    gates p (ix3 b t h) = p (ix3 b t ⟨3072 + h.val, by omega⟩) := by
  unfold gates
  pointwise

theorem log_one : Ideal.log 1 = 0 := by
  rw [← EReal.coe_one, Ideal.log_coe, if_neg (by norm_num), Real.log_one, EReal.coe_zero]

/-- The negated softplus of a negated number is the logarithm of its logistic. -/
theorem neg_softplus (f : EReal) : -(max (-f) 0 + Ideal.log1p (Ideal.exp (-max (-f) (- -f)))) = logGate f := by
  unfold logGate
  rw [neg_neg, max_comm (-f) f, zero_sub]
  have h : Ideal.log1p (Ideal.exp (-max f (-f))) ≠ ⊥ ∧ Ideal.log1p (Ideal.exp (-max f (-f))) ≠ ⊤ := by
    induction f with
    | bot => simp [Ideal.log1p, log_one]
    | top => simp [Ideal.log1p, log_one]
    | coe r =>
      rw [← EReal.coe_neg, ← EReal.coe_strictMono.monotone.map_max, ← EReal.coe_neg, Ideal.exp_coe]
      unfold Ideal.log1p
      rw [← EReal.coe_one, ← EReal.coe_add, Ideal.log_coe, if_neg (not_le.2 (by positivity))]
      exact ⟨EReal.coe_ne_bot _, EReal.coe_ne_top _⟩
  rw [EReal.neg_add (Or.inr h.2) (Or.inr h.1)]
  congr 1
  rcases le_total f 0 with h0 | h0
  · rw [max_eq_left (EReal.neg_nonneg.2 h0), min_eq_left h0, neg_neg]
  · rw [max_eq_right (by simpa using EReal.neg_le_neg_iff.2 h0), min_eq_right h0, neg_zero]

theorem logs_apply (f : FVec Ideal S2x16384x8 .f32) (b : Fin 2) (t : Fin 16384) (h : Fin 8) :
    logs f (ix3 b t h) = logGate (f (ix3 b t h)) := by
  unfold logs
  pointwise
  rw [if_neg (fun e => e rfl)]
  exact neg_softplus _

/-- The first layer's weights, cut out. -/
def norm0 (g : FVec Ideal S4x1024 .f32) : FVec Ideal S1024 .f32 :=
  shapeCast _ (extractStridedSlice S1x1024 ![0, 0] g slices_S4x1024_S1x1024_0_0) shapeCasts_S1x1024_S1024
def wide0 (w : FVec Ideal S4x1024x7176 .f32) : FVec Ideal S1024x7176 .f32 :=
  shapeCast _ (extractStridedSlice S1x1024x7176 ![0, 0, 0] w slices_S4x1024x7176_S1x1024x7176_0_0_0) shapeCasts_S1x1024x7176_S1024x7176
def bias0 (b : FVec Ideal S4x7176 .f32) : FVec Ideal S7176 .f32 :=
  shapeCast _ (extractStridedSlice S1x7176 ![0, 0] b slices_S4x7176_S1x7176_0_0) shapeCasts_S1x7176_S7176
def head0 (g : FVec Ideal S4x128 .f32) : FVec Ideal S128 .f32 :=
  shapeCast _ (extractStridedSlice S1x128 ![0, 0] g slices_S4x128_S1x128_0_0) shapeCasts_S1x128_S128

theorem norm0_apply (g : FVec Ideal S4x1024 .f32) (k : Fin 1024) : norm0 g (ix1 k) = g (ix2 0 k) := by
  unfold norm0
  pointwise

theorem wide0_apply (w : FVec Ideal S4x1024x7176 .f32) (k : Fin 1024) (i : Fin 7176) : wide0 w (ix2 k i) = w (ix3 0 k i) := by
  unfold wide0
  pointwise

theorem bias0_apply (b : FVec Ideal S4x7176 .f32) (i : Fin 7176) : bias0 b (ix1 i) = b (ix2 0 i) := by
  unfold bias0
  pointwise

theorem head0_apply (g : FVec Ideal S4x128 .f32) (i : Fin 128) : head0 g (ix1 i) = g (ix2 0 i) := by
  unfold head0
  pointwise

/-- The tokens' projection by the first layer's weights. -/
def whole (x : FVec Ideal S2x16384x1024 .f32) (g : FVec Ideal S4x1024 .f32) (w : FVec Ideal S4x1024x7176 .f32) (b : FVec Ideal S4x7176 .f32) : FVec Ideal S2x16384x3080 .f32 :=
  proj (norms x (norm0 g)) (wide0 w) (bias0 b)

theorem whole_apply (x : Vec Ideal S2x16384x1024 .f32) (g : Vec Ideal S4x1024 .f32) (w : Vec Ideal S4x1024x7176 .f32) (b : Vec Ideal S4x7176 .f32) (i : Fin 2) (s : Fin 16384) (j : Fin 3080) :
    whole x g w b (ix3 i s j) = projected x g w b i s ⟨j.val, by omega⟩ := by
  unfold whole
  rw [proj_apply]
  simp only [norms_apply, norm0_apply, wide0_apply, bias0_apply]
  rfl

theorem resQ_eq (m : (ℓ : Loc nD τ sig) → Buf (Elt Ideal) ℓ) (c : Dev nD) : res_main_v67 m c =
    truncf .bf16 (scaled (hnorm (headsQ (whole (m ((c.tc : Thread nD τ).loc main_arg0)) (m ((c.tc : Thread nD τ).loc main_arg1)) (m ((c.tc : Thread nD τ).loc main_arg2)) (m ((c.tc : Thread nD τ).loc main_arg3))))
      (head0 (m ((c.tc : Thread nD τ).loc main_arg4))))) bitsLt_bf16_f32 := rfl

theorem resK_eq (m : (ℓ : Loc nD τ sig) → Buf (Elt Ideal) ℓ) (c : Dev nD) : res_main_v68 m c =
    truncf .bf16 (hnorm (headsK (whole (m ((c.tc : Thread nD τ).loc main_arg0)) (m ((c.tc : Thread nD τ).loc main_arg1)) (m ((c.tc : Thread nD τ).loc main_arg2)) (m ((c.tc : Thread nD τ).loc main_arg3))))
      (head0 (m ((c.tc : Thread nD τ).loc main_arg5)))) bitsLt_bf16_f32 := rfl

theorem resC_eq (m : (ℓ : Loc nD τ sig) → Buf (Elt Ideal) ℓ) (c : Dev nD) : res_main_v72 m c =
    running (logs (gates (whole (m ((c.tc : Thread nD τ).loc main_arg0)) (m ((c.tc : Thread nD τ).loc main_arg1)) (m ((c.tc : Thread nD τ).loc main_arg2)) (m ((c.tc : Thread nD τ).loc main_arg3))))) := rfl

/-- An index over tokens by heads, by its coordinates. -/
theorem exists_ix4 (i : S2x16384x8x128.Idx) : ∃ (b : Fin 2) (t : Fin 16384) (h : Fin 8) (d : Fin 128), i = ix4 b t h d :=
  ⟨⟨(i 0).val, (i 0).isLt⟩, ⟨(i 1).val, (i 1).isLt⟩, ⟨(i 2).val, (i 2).isLt⟩, ⟨(i 3).val, (i 3).isLt⟩, funext fun a => Fin.ext (by
    match a with
    | ⟨0, _⟩ => rfl
    | ⟨1, _⟩ => rfl
    | ⟨2, _⟩ => rfl
    | ⟨3, _⟩ => rfl)⟩

section Equal

variable (x : Vec Ideal S2x16384x1024 .f32) (g : Vec Ideal S4x1024 .f32) (w : Vec Ideal S4x1024x7176 .f32) (b : Vec Ideal S4x7176 .f32) (n : Vec Ideal S4x128 .f32)

/-- The reference's queries, keys and values. -/
theorem reference_queries : truncf .bf16 (scaled (hnorm (headsQ (whole x g w b)) (head0 n))) bitsLt_bf16_f32 = queries x g w b n := by
  funext i
  obtain ⟨i, t, h, d, rfl⟩ := exists_ix4 i
  refine (scaled_apply _ i t h d).trans ?_
  rw [hnorm_apply]
  simp only [headsQ_apply, whole_apply, head0_apply]
  rfl

theorem reference_keys : truncf .bf16 (hnorm (headsK (whole x g w b)) (head0 n)) bitsLt_bf16_f32 = keys x g w b n 1 := by
  funext i
  obtain ⟨i, t, h, d, rfl⟩ := exists_ix4 i
  refine (hnorm_apply _ _ i t h d).trans ?_
  simp only [headsK_apply, whole_apply, head0_apply]
  rfl

theorem reference_values : truncf .bf16 (headsV (whole x g w b)) bitsLt_bf16_f32 = values x g w b := by
  funext i
  obtain ⟨i, t, h, d, rfl⟩ := exists_ix4 i
  have e : truncf .bf16 (headsV (whole x g w b)) bitsLt_bf16_f32 (ix4 i t h d) = headsV (whole x g w b) (ix4 i t h d) := rfl
  rw [e, headsV_apply, whole_apply]
  rfl

theorem running_apply (f : FVec Ideal S2x16384x8 .f32) (i : Fin 2) (h : Fin 8) (t : Fin 16384) (e : ℕ → EReal) (he : ∀ s : Fin 16384, f (ix3 i s h) = e s.val) :
    running f (ix3 i h t) = ∑ s ∈ Finset.range (t.val + 1), e s := by
  have key := cumsum3 (B := 2) (N := 16384) (M := 16383) (H := 8) (by norm_num) f i h e he reduceWindows_S2x16384x8_S2x16384x8_w1s1p0_0_w16384s1p16383_0_w1s1p0_0 t
  have z : broadcastInDim S_ ![] bcast_S_S_ (constant (F := Ideal) S_ .f32 0x00000000#32) (Shape.Idx.first h_S_) = (0 : EReal) := Ideal.ofBits_zero_f32
  unfold running
  pointwise
  unfold Host.reduceWindowAdd
  rw [z]
  exact key

/-- The reference's summed forget gates. -/
theorem reference_decays : running (logs (gates (whole x g w b))) = decays x g w b := by
  funext i
  obtain ⟨i, h, t, rfl⟩ : ∃ (b : Fin 2) (h : Fin 8) (t : Fin 16384), i = ix3 b h t :=
    ⟨⟨(i 0).val, (i 0).isLt⟩, ⟨(i 1).val, (i 1).isLt⟩, ⟨(i 2).val, (i 2).isLt⟩, funext fun a => Fin.ext (by
      match a with
      | ⟨0, _⟩ => rfl
      | ⟨1, _⟩ => rfl
      | ⟨2, _⟩ => rfl)⟩
  refine running_apply _ i h t (gateAt x g w b i h) fun s => ?_
  rw [logs_apply, gates_apply, whole_apply]
  unfold gateAt
  rw [dif_pos s.isLt]
  rfl

end Equal

end Cert.Reference4Ideal.Heads
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FoxFrame
public import proofs.«01_k».proof.Proof.KFoxFrame
public import proofs.«01_k».proof.Proof.Result
public import proofs.«01_k».proof.Proof.RefValue
public import proofs.«01_k».proof.Proof.Finite
public import proofs.«01_k».proof.Proof.Result2
public import proofs.«01_k».proof.Proof.RefHalf2
public import proofs.«01_k».proof.Proof.Result3
public import proofs.«01_k».proof.Proof.RefHalf
public import proofs.«01_k».proof.Proof.Gen.Kernel2.Frame
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gates4
public import proofs.«01_k».proof.Proof.RefProject
public import proofs.«01_k».proof.Proof.Gen.Kernel4.Frame
public import proofs.«01_k».proof.Proof.Gen.Kernel4Ideal.Frame
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The kernel's frame at bits. -/
theorem frame_k : Cert.quiescent_Kernel := fun m g _ => Cert.Kernel.Fox.frame_run m g

/-- The idealized kernel's frame. -/
theorem frame_ki : Cert.quiescent_KernelIdeal := fun m g _ => Cert.KernelIdeal.Fox.frame_run m g

/-- The reference's frame: a straight line of host operations that declares no semaphore. -/
theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The two named constants. -/
theorem preserves : Cert.preserves_Kernel_KernelIdeal :=
  ⟨IdealRules.named_const.statement Cert.KernelIdeal.κ "log2e" .f32 0x3FB8AA3B#32 _ rfl,
   IdealRules.named_const.statement Cert.KernelIdeal.κ "mask" .f32 0xF149F2CA#32 _ rfl⟩

/-- On finite queries, keys and log-forgets the kernel and the reference end with the same array: the attention. -/
theorem algebraic : Cert.algebraic_KernelIdeal_ReferenceIdeal_pre_finite := fun m g m' g' hm hagree => by
  have hr : ∀ c, Cert.Online.Real' (Cert.KernelIdeal.Fox.argQ m c) ∧ Cert.Online.Real' (Cert.KernelIdeal.Fox.argK m c)
      ∧ Cert.Online.Real' (Cert.KernelIdeal.Fox.argC m c) := fun c => Cert.Pre_finite.reals _ _ _ _ (hm c)
  refine ⟨Cert.KernelIdeal.Fox.result m, Cert.KernelIdeal.Fox.value_run m g hr,
    (θ_run Cert.ReferenceIdeal.defs _ _).mono (fun r h c => ⟨(h c).1.trans ?_, (h c).2⟩) (Cert.ReferenceIdeal.Value.run (F := Ideal) m' g')⟩
  obtain ⟨e0, e1, e2, e3⟩ := hagree c
  rw [Cert.ReferenceIdeal.Fox.res_eq, e0, e1, e2, e3]
  exact Cert.ReferenceIdeal.Fox.reference_fox (Cert.KernelIdeal.Fox.argQ m c) (Cert.KernelIdeal.Fox.argK m c) (Cert.KernelIdeal.Fox.argV m c)
    (Cert.KernelIdeal.Fox.argC m c) (hr c).1 (hr c).2.1 (hr c).2.2

/-- The frames of call 2: at bits, idealized, and its reference's. -/
theorem frame_k2 : Cert.quiescent_Kernel2 := fun m g _ => Cert.Kernel2.Gen.frame m g

theorem frame_ki2 : Cert.quiescent_Kernel2Ideal := fun m g _ => Cert.Kernel2Ideal.Gen.frame m g

theorem frame_ri2 : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- The second call and its reference end with the same array: the feed-forward half of the merged tokens. -/
theorem algebraic2 : Cert.algebraic_Kernel2Ideal_Reference2Ideal := fun m g m' g' _ hagree => by
  refine ⟨Cert.Kernel2Ideal.Half.result m,
    (θ_run Cert.Kernel2Ideal.defs _ _).mono (fun r h c => ⟨(h c).1.trans (Cert.Kernel2Ideal.Half.arr_eq m c), (h c).2⟩)
      (Cert.Kernel2Ideal.Value.run_blocks m g),
    (θ_run Cert.Reference2Ideal.defs _ _).mono (fun r h c => ⟨(h c).1.trans ?_, (h c).2⟩) (Cert.Reference2Ideal.Value.run (F := Ideal) m' g')⟩
  obtain ⟨e0, e1, e2, e3, e4, e5, e6, e7, e8, e9⟩ := hagree c
  rw [Cert.Reference2Ideal.Half.res_eq, e0, e1, e2, e3, e4, e5, e6, e7, e8, e9]
  exact Cert.Reference2Ideal.Half.reference_half (Cert.Kernel2Ideal.Half.argX m c) (Cert.Kernel2Ideal.Half.argA m c) (Cert.Kernel2Ideal.Half.argS m c) (Cert.Kernel2Ideal.Half.argR m c) (Cert.Kernel2Ideal.Half.argO m c) (Cert.Kernel2Ideal.Half.argW m c) (Cert.Kernel2Ideal.Half.argN m c) (Cert.Kernel2Ideal.Half.argG m c) (Cert.Kernel2Ideal.Half.argU m c) (Cert.Kernel2Ideal.Half.argD m c)

/-- The frames of call 3: at bits, idealized, and its reference's. -/
theorem frame_k3 : Cert.quiescent_Kernel3 := fun m g _ => Cert.Kernel3.Gen.frame m g

theorem frame_ki3 : Cert.quiescent_Kernel3Ideal := fun m g _ => Cert.Kernel3Ideal.Gen.frame m g

theorem frame_ri3 : Cert.quiescent_Reference3Ideal := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

/-- The third call and its reference end with the same array: the feed-forward half of the tokens. -/
theorem algebraic3 : Cert.algebraic_Kernel3Ideal_Reference3Ideal := fun m g m' g' _ hagree => by
  refine ⟨Cert.Kernel3Ideal.Half.result m,
    (θ_run Cert.Kernel3Ideal.defs _ _).mono (fun r h c => ⟨(h c).1.trans (Cert.Kernel3Ideal.Half.arr_eq m c), (h c).2⟩)
      (Cert.Kernel3Ideal.Value.run_blocks m g),
    (θ_run Cert.Reference3Ideal.defs _ _).mono (fun r h c => ⟨(h c).1.trans ?_, (h c).2⟩) (Cert.Reference3Ideal.Value.run (F := Ideal) m' g')⟩
  obtain ⟨e0, e1, e2, e3, e4⟩ := hagree c
  rw [Cert.Reference3Ideal.Half.res_eq, e0, e1, e2, e3, e4]
  exact Cert.Reference3Ideal.Half.reference_half (Cert.Kernel3Ideal.Half.argX m c) (Cert.Kernel3Ideal.Half.argN m c) (Cert.Kernel3Ideal.Half.argG m c) (Cert.Kernel3Ideal.Half.argU m c) (Cert.Kernel3Ideal.Half.argD m c)

/-- The frames of call 4: at bits, idealized, and its reference's. -/
theorem frame_k4 : Cert.quiescent_Kernel4 := fun m g _ => Cert.Kernel4.Gen.frame m g

theorem frame_ki4 : Cert.quiescent_Kernel4Ideal := fun m g _ => Cert.Kernel4Ideal.Gen.frame m g

theorem frame_ri4 : Cert.quiescent_Reference4Ideal := fun m g _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m g)

/-- Call 4's named constants. -/
theorem preserves4 : Cert.preserves_Kernel4_Kernel4Ideal :=
  ⟨IdealRules.named_const.statement Cert.Kernel4Ideal.κ "log2e" .f32 0x3FB8AA3B#32 _ rfl,
   IdealRules.named_const.statement Cert.Kernel4Ideal.κ "scale" .f32 0x3E0293EE#32 _ rfl⟩

/-- The fourth call and its reference end with the same queries, keys, values and sums of the forget gates' logarithms. -/
theorem algebraic4 : Cert.algebraic_Kernel4Ideal_Reference4Ideal := fun m g m' g' _ hagree => by
  refine ⟨_, _, _, _, Cert.Kernel4Ideal.Heads.value_run m g,
    (θ_run Cert.Reference4Ideal.defs _ _).mono (fun r h c => ⟨(h c).1.trans ?_, (h c).2.1.trans ?_, (h c).2.2.1.trans ?_, (h c).2.2.2.1.trans ?_, (h c).2.2.2.2⟩)
      (Cert.Reference4Ideal.Value.run (F := Ideal) m' g')⟩
  · obtain ⟨e0, e1, e2, e3, e4, e5⟩ := hagree c
    rw [Cert.Reference4Ideal.Heads.resQ_eq, e0, e1, e2, e3, e4]
    exact Cert.Reference4Ideal.Heads.reference_queries (Cert.Kernel4Ideal.Heads.argX m c) (Cert.Kernel4Ideal.Heads.argN m c)
      (Cert.Kernel4Ideal.Heads.argW m c) (Cert.Kernel4Ideal.Heads.argB m c) (Cert.Kernel4Ideal.Heads.argG m c)
  · obtain ⟨e0, e1, e2, e3, e4, e5⟩ := hagree c
    rw [Cert.Reference4Ideal.Heads.resK_eq, e0, e1, e2, e3, e5]
    exact Cert.Reference4Ideal.Heads.reference_keys (Cert.Kernel4Ideal.Heads.argX m c) (Cert.Kernel4Ideal.Heads.argN m c)
      (Cert.Kernel4Ideal.Heads.argW m c) (Cert.Kernel4Ideal.Heads.argB m c) (Cert.Kernel4Ideal.Heads.argK m c)
  · obtain ⟨e0, e1, e2, e3, e4, e5⟩ := hagree c
    rw [e0, e1, e2, e3]
    exact Cert.Reference4Ideal.Heads.reference_values (Cert.Kernel4Ideal.Heads.argX m c) (Cert.Kernel4Ideal.Heads.argN m c)
      (Cert.Kernel4Ideal.Heads.argW m c) (Cert.Kernel4Ideal.Heads.argB m c)
  · obtain ⟨e0, e1, e2, e3, e4, e5⟩ := hagree c
    rw [Cert.Reference4Ideal.Heads.resC_eq, e0, e1, e2, e3]
    exact Cert.Reference4Ideal.Heads.reference_decays (Cert.Kernel4Ideal.Heads.argX m c) (Cert.Kernel4Ideal.Heads.argN m c)
      (Cert.Kernel4Ideal.Heads.argW m c) (Cert.Kernel4Ideal.Heads.argB m c)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.facts,
    frame_k, frame_ki, fun m g _ => frame_ki m g trivial, frame_ri, fun m g _ => frame_ri m g trivial,
    frame_k2, frame_ki2, frame_ri2, frame_k3, frame_ki3, frame_ri3, frame_k4, frame_ki4, frame_ri4,
    preserves, algebraic, trivial, algebraic2, trivial, algebraic3, preserves4, algebraic4⟩

end Cert.Proof

end
